-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1)
      ∧ r.2.mem ((c.tc : Thread Cert.InDwReferenceIdeal.nD Cert.InDwReferenceIdeal.τ).loc Cert.InDwReferenceIdeal.main_arg2) = m ((c.tc : Thread Cert.InDwReferenceIdeal.nD Cert.InDwReferenceIdeal.τ).loc Cert.InDwReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v6)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v3) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)
      ∧ m' ((c.tc : Thread Cert.UpDwReferenceIdeal.nD Cert.UpDwReferenceIdeal.τ).loc Cert.UpDwReferenceIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v4_0)) (v1 : (c : Dev Cert.UpDwIdeal.nD) → Buf (Elt Ideal) ((c.tc : Thread Cert.UpDwIdeal.nD Cert.UpDwIdeal.τ).loc Cert.UpDwIdeal.main_v4_1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v4_0) = v0 c
          ∧ r.2.mem ((c.tc : Thread Cert.UpDwIdeal.nD Cert.UpDwIdeal.τ).loc Cert.UpDwIdeal.main_v4_1) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v5) = v0 c
          ∧ r.2.mem ((c.tc : Thread Cert.UpDwReferenceIdeal.nD Cert.UpDwReferenceIdeal.τ).loc Cert.UpDwReferenceIdeal.main_v6) = v1 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v3) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v1_0)) (v1 : (c : Dev Cert.DownDwIdeal.nD) → Buf (Elt Ideal) ((c.tc : Thread Cert.DownDwIdeal.nD Cert.DownDwIdeal.τ).loc Cert.DownDwIdeal.main_v1_1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1_0) = v0 c
          ∧ r.2.mem ((c.tc : Thread Cert.DownDwIdeal.nD Cert.DownDwIdeal.τ).loc Cert.DownDwIdeal.main_v1_1) = v1 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v2) = v0 c
          ∧ r.2.mem ((c.tc : Thread Cert.DownDwReferenceIdeal.nD Cert.DownDwReferenceIdeal.τ).loc Cert.DownDwReferenceIdeal.main_v4) = v1 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v3) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)
      ∧ m' ((c.tc : Thread Cert.InDwReferenceIdeal.nD Cert.InDwReferenceIdeal.τ).loc Cert.InDwReferenceIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v4) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1)
          ∧ r.2.mem ((c.tc : Thread Cert.InDwReferenceIdeal.nD Cert.InDwReferenceIdeal.τ).loc Cert.InDwReferenceIdeal.main_arg2) = m' ((c.tc : Thread Cert.InDwReferenceIdeal.nD Cert.InDwReferenceIdeal.τ).loc Cert.InDwReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v1_0)) (v1 : (c : Dev Cert.OutDwIdeal.nD) → Buf (Elt Ideal) ((c.tc : Thread Cert.OutDwIdeal.nD Cert.OutDwIdeal.τ).loc Cert.OutDwIdeal.main_v1_1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1_0) = v0 c
          ∧ r.2.mem ((c.tc : Thread Cert.OutDwIdeal.nD Cert.OutDwIdeal.τ).loc Cert.OutDwIdeal.main_v1_1) = v1 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v2) = v0 c
          ∧ r.2.mem ((c.tc : Thread Cert.OutDwReferenceIdeal.nD Cert.OutDwReferenceIdeal.τ).loc Cert.OutDwReferenceIdeal.main_v4) = v1 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v3) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v0) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1))

def preserves_UpFwd_UpFwdIdeal : Prop :=
  True

def algebraic_UpFwdIdeal_UpFwdReferenceIdeal [hUpFwdIdeal : Cert.UpFwdIdeal.Facts] [hUpFwdReferenceIdeal : Cert.UpFwdReferenceIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdIdeal m →
    (∀ c : Dev Cert.UpFwdIdeal.nD,
      m' ((c.tc : Thread Cert.UpFwdReferenceIdeal.nD Cert.UpFwdReferenceIdeal.τ).loc Cert.UpFwdReferenceIdeal.main_arg0) = m ((c.tc : Thread Cert.UpFwdIdeal.nD Cert.UpFwdIdeal.τ).loc Cert.UpFwdIdeal.main_arg0)
      ∧ m' ((c.tc : Thread Cert.UpFwdReferenceIdeal.nD Cert.UpFwdReferenceIdeal.τ).loc Cert.UpFwdReferenceIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v4)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v4) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v2) = v0 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hInFwd : Cert.InFwd.Facts) (hInFwdIdeal : Cert.InFwdIdeal.Facts) (hInFwdReferenceIdeal : Cert.InFwdReferenceIdeal.Facts) (hUpFwd : Cert.UpFwd.Facts) (hUpFwdIdeal : Cert.UpFwdIdeal.Facts) (hUpFwdReferenceIdeal : Cert.UpFwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_UpFwd (hUpFwd := hUpFwd)
    ∧ quiescent_UpFwdIdeal (hUpFwdIdeal := hUpFwdIdeal)
    ∧ quiescent_UpFwdReferenceIdeal (hUpFwdReferenceIdeal := hUpFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_InFwd_InFwdIdeal
    ∧ algebraic_InFwdIdeal_InFwdReferenceIdeal (hInFwdIdeal := hInFwdIdeal) (hInFwdReferenceIdeal := hInFwdReferenceIdeal)
    ∧ preserves_UpFwd_UpFwdIdeal
    ∧ algebraic_UpFwdIdeal_UpFwdReferenceIdeal (hUpFwdIdeal := hUpFwdIdeal) (hUpFwdReferenceIdeal := hUpFwdReferenceIdeal)
-- ==== Pre_finite.lean ====
abbrev S2x2048x8x192 : Shape := ⟨4, ![2, 2048, 8, 192]⟩
abbrev S2x2048x8x128 : Shape := ⟨4, ![2, 2048, 8, 128]⟩
abbrev S2x2048x8x384 : Shape := ⟨4, ![2, 2048, 8, 384]⟩
abbrev S2x2048x8x256 : Shape := ⟨4, ![2, 2048, 8, 256]⟩
abbrev S2x2048x8x640 : Shape := ⟨4, ![2, 2048, 8, 640]⟩
abbrev S_ : Shape := ⟨0, ![]⟩

class Facts : Prop where
  concatenates_S2x2048x8x192_S2x2048x8x192_S2x2048x8x384_d3 : Shape.Concatenates [S2x2048x8x192, S2x2048x8x192] S2x2048x8x384 3
  concatenates_S2x2048x8x128_S2x2048x8x128_S2x2048x8x256_d3 : Shape.Concatenates [S2x2048x8x128, S2x2048x8x128] S2x2048x8x256 3
  concatenates_S2x2048x8x384_S2x2048x8x256_S2x2048x8x640_d3 : Shape.Concatenates [S2x2048x8x384, S2x2048x8x256] S2x2048x8x640 3
  bcast_S_S2x2048x8x640 : S_.BroadcastsInDim S2x2048x8x640 (![] : Fin 0 → Fin S2x2048x8x640.rank)

variable [Facts]

def fn {F : FTy → Type} [FloatOps F] (main_arg0 : FVec F S2x2048x8x192 .f32) (main_arg1 : FVec F S2x2048x8x192 .f32) (main_arg2 : FVec F S2x2048x8x128 .f32) (main_arg3 : FVec F S2x2048x8x128 .f32) : IVec S2x2048x8x640 1 :=
  let main_v0 : FVec F S2x2048x8x384 .f32 := (fun a b => concatenate S2x2048x8x384 3 [⟨S2x2048x8x192, a⟩, ⟨S2x2048x8x192, b⟩] concatenates_S2x2048x8x192_S2x2048x8x192_S2x2048x8x384_d3) main_arg0 main_arg1
  let main_v1 : FVec F S2x2048x8x256 .f32 := (fun a b => concatenate S2x2048x8x256 3 [⟨S2x2048x8x128, a⟩, ⟨S2x2048x8x128, b⟩] concatenates_S2x2048x8x128_S2x2048x8x128_S2x2048x8x256_d3) main_arg2 main_arg3
  let main_v2 : FVec F S2x2048x8x640 .f32 := (fun a b => concatenate S2x2048x8x640 3 [⟨S2x2048x8x384, a⟩, ⟨S2x2048x8x256, b⟩] concatenates_S2x2048x8x384_S2x2048x8x256_S2x2048x8x640_d3) main_v0 main_v1
  let main_v3 : FVec F S2x2048x8x640 .f32 := Host.absf main_v2
  let main_cst : FVec F S_ .f32 := constant S_ .f32 0x7F800000#32
  let main_v4 : FVec F S2x2048x8x640 .f32 := broadcastInDim S2x2048x8x640 ![] bcast_S_S2x2048x8x640 main_cst
  let main_v5 : IVec S2x2048x8x640 1 := cmpf .olt main_v3 main_v4
  main_v5
-- ==== Kernel.lean ====
abbrev S2x2048x8x192 : Shape := ⟨4, ![2, 2048, 8, 192]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8 : Shape := ⟨3, ![2, 2048, 8]⟩
abbrev S2x1x2048 : Shape := ⟨3, ![2, 1, 2048]⟩
abbrev S2x2048 : Shape := ⟨2, ![2, 2048]⟩
abbrev S16x1x256 : Shape := ⟨3, ![16, 1, 256]⟩
abbrev S8x2x2048 : Shape := ⟨3, ![8, 2, 2048]⟩
abbrev S128x1x256 : Shape := ⟨3, ![128, 1, 256]⟩
abbrev S2x2048x8x256 : Shape := ⟨4, ![2, 2048, 8, 256]⟩
abbrev S4096x2048 : Shape := ⟨2, ![4096, 2048]⟩
abbrev S4096x1024 : Shape := ⟨2, ![4096, 1024]⟩
abbrev S2048x1024 : Shape := ⟨2, ![2048, 1024]⟩
abbrev S256x1024 : Shape := ⟨2, ![256, 1024]⟩
abbrev S256x512 : Shape := ⟨2, ![256, 512]⟩
abbrev S2048x512 : Shape := ⟨2, ![2048, 512]⟩
abbrev S8x1x256 : Shape := ⟨3, ![8, 1, 256]⟩
abbrev S256x256 : Shape := ⟨2, ![256, 256]⟩
abbrev S256x128 : Shape := ⟨2, ![256, 128]⟩
abbrev S1x1x256 : Shape := ⟨3, ![1, 1, 256]⟩
abbrev S1x256 : Shape := ⟨2, ![1, 256]⟩

abbrev nBuf : Space → Nat
  | .hbm => 81
  | .vmem => 39
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x128, .f32⟩
  | .hbm, ⟨3, _⟩ => ⟨S2x2048x8x128, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S2x8x2048x1, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S2x8x2048, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x128x2048, .f32⟩
  | .hbm, ⟨34, _⟩ => ⟨S2x2048x8x128, .f32⟩
  | .hbm, ⟨35, _⟩ => ⟨S2x2048x8x128, .f32⟩
  | .hbm, ⟨36, _⟩ => ⟨S_, .f32⟩
  | .hbm, ⟨37, _⟩ => ⟨S2x2048x8, .f32⟩
  | .hbm, ⟨38, _⟩ => ⟨S2x1x2048, .f32⟩
  | .hbm, ⟨39, _⟩ => ⟨S2x2048, .f32⟩
  | .hbm, ⟨40, _⟩ => ⟨S16x1x256, .f32⟩
  | .hbm, ⟨41, _⟩ => ⟨S2x1x2048, .f32⟩
  | .hbm, ⟨42, _⟩ => ⟨S2x2048, .f32⟩
  | .hbm, ⟨43, _⟩ => ⟨S16x1x256, .f32⟩
  | .hbm, ⟨44, _⟩ => ⟨S2x1x2048, .f32⟩
  | .hbm, ⟨45, _⟩ => ⟨S2x2048, .f32⟩
  | .hbm, ⟨46, _⟩ => ⟨S16x1x256, .f32⟩
  | .hbm, ⟨47, _⟩ => ⟨S2x1x2048, .f32⟩
  | .hbm, ⟨48, _⟩ => ⟨S2x2048, .f32⟩
  | .hbm, ⟨49, _⟩ => ⟨S16x1x256, .f32⟩
  | .hbm, ⟨50, _⟩ => ⟨S2x1x2048, .f32⟩
  | .hbm, ⟨51, _⟩ => ⟨S2x2048, .f32⟩
  | .hbm, ⟨52, _⟩ => ⟨S16x1x256, .f32⟩
  | .hbm, ⟨53, _⟩ => ⟨S2x1x2048, .f32⟩
  | .hbm, ⟨54, _⟩ => ⟨S2x2048, .f32⟩
  | .hbm, ⟨55, _⟩ => ⟨S16x1x256, .f32⟩
  | .hbm, ⟨56, _⟩ => ⟨S2x1x2048, .f32⟩
  | .hbm, ⟨57, _⟩ => ⟨S2x2048, .f32⟩
  | .hbm, ⟨58, _⟩ => ⟨S16x1x256, .f32⟩
  | .hbm, ⟨59, _⟩ => ⟨S2x1x2048, .f32⟩
  | .hbm, ⟨60, _⟩ => ⟨S2x2048, .f32⟩
  | .hbm, ⟨61, _⟩ => ⟨S16x1x256, .f32⟩
  | .hbm, ⟨62, _⟩ => ⟨S8x2x2048, .f32⟩
  | .hbm, ⟨63, _⟩ => ⟨S128x1x256, .f32⟩
  | .hbm, ⟨64, _⟩ => ⟨S_, .i32⟩
  | .hbm, ⟨65, _⟩ => ⟨S_, .f32⟩
  | .hbm, ⟨66, _⟩ => ⟨S2x2048x8x256, .f32⟩
  | .hbm, ⟨67, _⟩ => ⟨S4096x2048, .f32⟩
  | .hbm, ⟨68, _⟩ => ⟨S4096x2048, .bf16⟩
  | .hbm, ⟨69, _⟩ => ⟨S_, .i32⟩
  | .hbm, ⟨70, _⟩ => ⟨S_, .f32⟩
  | .hbm, ⟨71, _⟩ => ⟨S2x2048x8x256, .f32⟩
  | .hbm, ⟨72, _⟩ => ⟨S4096x2048, .f32⟩
  | .hbm, ⟨73, _⟩ => ⟨S4096x2048, .bf16⟩
  | .hbm, ⟨74, _⟩ => ⟨S4096x1024, .f32⟩
  | .hbm, ⟨75, _⟩ => ⟨S4096x1024, .bf16⟩
  | .hbm, ⟨76, _⟩ => ⟨S4096x1024, .f32⟩
  | .hbm, ⟨77, _⟩ => ⟨S4096x1024, .bf16⟩
  | .hbm, ⟨78, _⟩ => ⟨S4096x2048, .bf16⟩
  | .hbm, ⟨79, _⟩ => ⟨S4096x2048, .bf16⟩
  | .hbm, ⟨80, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S2048x512, .bf16⟩
  | .local _ .vmem, ⟨7, _⟩ => ⟨S2048x512, .bf16⟩
  | .local _ .vmem, ⟨8, _⟩ => ⟨S8x1x256, .f32⟩
  | .local _ .vmem, ⟨9, _⟩ => ⟨S8x1x256, .f32⟩
  | .local _ .vmem, ⟨10, _⟩ => ⟨S8x1x256, .f32⟩
  | .local _ .vmem, ⟨11, _⟩ => ⟨S8x1x256, .f32⟩
  | .local _ .vmem, ⟨12, _⟩ => ⟨S8x1x256, .f32⟩
  | .local _ .vmem, ⟨13, _⟩ => ⟨S8x1x256, .f32⟩
  | .local _ .vmem, ⟨14, _⟩ => ⟨S8x1x256, .f32⟩
  | .local _ .vmem, ⟨15, _⟩ => ⟨S8x1x256, .f32⟩
  | .local _ .vmem, ⟨16, _⟩ => ⟨S8x1x256, .f32⟩
  | .local _ .vmem, ⟨17, _⟩ => ⟨S8x1x256, .f32⟩
  | .local _ .vmem, ⟨18, _⟩ => ⟨S8x1x256, .f32⟩
  | .local _ .vmem, ⟨19, _⟩ => ⟨S8x1x256, .f32⟩
  | .local _ .vmem, ⟨20, _⟩ => ⟨S8x1x256, .f32⟩
  | .local _ .vmem, ⟨21, _⟩ => ⟨S8x1x256, .f32⟩
  | .local _ .vmem, ⟨22, _⟩ => ⟨S8x1x256, .f32⟩
  | .local _ .vmem, ⟨23, _⟩ => ⟨S8x1x256, .f32⟩
  | .local _ .vmem, ⟨24, _⟩ => ⟨S8x1x256, .f32⟩
  | .local _ .vmem, ⟨25, _⟩ => ⟨S8x1x256, .f32⟩
  | .local _ .vmem, ⟨26, _⟩ => ⟨S8x1x256, .f32⟩
  | .local _ .vmem, ⟨27, _⟩ => ⟨S8x1x256, .f32⟩
  | .local _ .vmem, ⟨28, _⟩ => ⟨S8x1x256, .f32⟩
  | .local _ .vmem, ⟨29, _⟩ => ⟨S8x1x256, .f32⟩
  | .local _ .vmem, ⟨30, _⟩ => ⟨S8x1x256, .f32⟩
  | .local _ .vmem, ⟨31, _⟩ => ⟨S8x1x256, .f32⟩
  | .local _ .vmem, ⟨32, _⟩ => ⟨S2048x1024, .bf16⟩
  | .local _ .vmem, ⟨33, _⟩ => ⟨S2048x1024, .bf16⟩
  | .local _ .vmem, ⟨34, _⟩ => ⟨S256x1024, .bf16⟩
  | .local _ .vmem, ⟨35, _⟩ => ⟨S256x1024, .bf16⟩
  | .local _ .vmem, ⟨36, _⟩ => ⟨S256x512, .bf16⟩
  | .local _ .vmem, ⟨37, _⟩ => ⟨S256x512, .bf16⟩
  | .local _ .vmem, ⟨38, _⟩ => ⟨S2048x1024, .f32⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c : Ref sig .tc := ⟨.hbm, 64, rfl⟩
abbrev main_call1_v0 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_4 : Ref sig .tc := ⟨.hbm, 69, rfl⟩
abbrev main_call2_v0 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v4 : BitVec 1 := Scalar.cmpi .slt arg2 c7_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let arg2 : BitVec 32 := BitVec.ofNat 32 (i 2).val
  let c256_i32 : BitVec 32 := 256#32
  let v12 : BitVec 32 := Scalar.muli arg2 c256_i32
  v12
def k0_off1 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v16 : Index := Scalar.indexCast v13
  let c0_6 : Index := 0#32
  ![v16.toNat, 0]
def k0_off2 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v22 : Index := Scalar.indexCast v13
  let c0_10 : Index := 0#32
  ![v22.toNat, 0]
def k0_mult2 (i : grid0.Coords) : BitVec 32 :=
  let arg2 : BitVec 32 := BitVec.ofNat 32 (i 2).val
  let c256_i32_14 : BitVec 32 := 256#32
  let v28 : BitVec 32 := Scalar.muli arg2 c256_i32_14
  v28
def k0_off3 (i : grid0.Coords) : Fin 2 → Nat :=
  let arg2 : BitVec 32 := BitVec.ofNat 32 (i 2).val
  let c256_i32_14 : BitVec 32 := 256#32
  let v28 : BitVec 32 := Scalar.muli arg2 c256_i32_14
  let v29 : BitVec 32 := v28
  let v32 : Index := Scalar.indexCast v29
  let c256_16 : Index := 256#32
  ![v32.toNat, 256]
def k0_off4 (i : grid0.Coords) : Fin 2 → Nat :=
  let arg2 : BitVec 32 := BitVec.ofNat 32 (i 2).val
  let c256_i32_14 : BitVec 32 := 256#32
  let v28 : BitVec 32 := Scalar.muli arg2 c256_i32_14
  let v29 : BitVec 32 := v28
  let v38 : Index := Scalar.indexCast v29
  let c128_19 : Index := 128#32
  ![v38.toNat, 128]
def k0_mult3 (i : grid0.Coords) : BitVec 32 :=
  let arg2 : BitVec 32 := BitVec.ofNat 32 (i 2).val
  let c256_i32_23 : BitVec 32 := 256#32
  let v44 : BitVec 32 := Scalar.muli arg2 c256_i32_23
  v44
def k0_off5 (i : grid0.Coords) : Fin 2 → Nat :=
  let arg2 : BitVec 32 := BitVec.ofNat 32 (i 2).val
  let c256_i32_23 : BitVec 32 := 256#32
  let v44 : BitVec 32 := Scalar.muli arg2 c256_i32_23
  let v45 : BitVec 32 := v44
  let v48 : Index := Scalar.indexCast v45
  let c512_25 : Index := 512#32
  ![v48.toNat, 512]
def k0_off6 (i : grid0.Coords) : Fin 2 → Nat :=
  let arg2 : BitVec 32 := BitVec.ofNat 32 (i 2).val
  let c256_i32_23 : BitVec 32 := 256#32
  let v44 : BitVec 32 := Scalar.muli arg2 c256_i32_23
  let v45 : BitVec 32 := v44
  let v54 : Index := Scalar.indexCast v45
  let c256_29 : Index := 256#32
  ![v54.toNat, 256]
def k0_mult4 (i : grid0.Coords) : BitVec 32 :=
  let arg2 : BitVec 32 := BitVec.ofNat 32 (i 2).val
  let c256_i32_33 : BitVec 32 := 256#32
  let v60 : BitVec 32 := Scalar.muli arg2 c256_i32_33
  v60
def k0_off7 (i : grid0.Coords) : Fin 2 → Nat :=
  let arg2 : BitVec 32 := BitVec.ofNat 32 (i 2).val
  let c256_i32_33 : BitVec 32 := 256#32
  let v60 : BitVec 32 := Scalar.muli arg2 c256_i32_33
  let v61 : BitVec 32 := v60
  let v64 : Index := Scalar.indexCast v61
  let c768_35 : Index := 768#32
  ![v64.toNat, 768]
def k0_off8 (i : grid0.Coords) : Fin 2 → Nat :=
  let arg2 : BitVec 32 := BitVec.ofNat 32 (i 2).val
  let c256_i32_33 : BitVec 32 := 256#32
  let v60 : BitVec 32 := Scalar.muli arg2 c256_i32_33
  let v61 : BitVec 32 := v60
  let v70 : Index := Scalar.indexCast v61
  let c384_38 : Index := 384#32
  ![v70.toNat, 384]
def k0_mult5 (i : grid0.Coords) : BitVec 32 :=
  let arg2 : BitVec 32 := BitVec.ofNat 32 (i 2).val
  let c256_i32_40 : BitVec 32 := 256#32
  let v74 : BitVec 32 := Scalar.muli arg2 c256_i32_40
  v74
def k0_mult6 (i : grid0.Coords) : BitVec 32 :=
  let arg2 : BitVec 32 := BitVec.ofNat 32 (i 2).val
  let c1_i32_41 : BitVec 32 := 1#32
  let v76 : BitVec 32 := Scalar.addi arg2 c1_i32_41
  let c256_i32_42 : BitVec 32 := 256#32
  let v77 : BitVec 32 := Scalar.muli v76 c256_i32_42
  v77
def k0_off9 (i : grid0.Coords) : Fin 2 → Nat :=
  let arg2 : BitVec 32 := BitVec.ofNat 32 (i 2).val
  let c1_i32_41 : BitVec 32 := 1#32
  let v76 : BitVec 32 := Scalar.addi arg2 c1_i32_41
  let c256_i32_42 : BitVec 32 := 256#32
  let v77 : BitVec 32 := Scalar.muli v76 c256_i32_42
  let v78 : BitVec 32 := v77
  let v81 : Index := Scalar.indexCast v78
  let c0_45 : Index := 0#32
  ![v81.toNat, 0]
def k0_off10 (i : grid0.Coords) : Fin 2 → Nat :=
  let arg2 : BitVec 32 := BitVec.ofNat 32 (i 2).val
  let c1_i32_41 : BitVec 32 := 1#32
  let v76 : BitVec 32 := Scalar.addi arg2 c1_i32_41
  let c256_i32_42 : BitVec 32 := 256#32
  let v77 : BitVec 32 := Scalar.muli v76 c256_i32_42
  let v78 : BitVec 32 := v77
  let v87 : Index := Scalar.indexCast v78
  let c0_49 : Index := 0#32
  ![v87.toNat, 0]
def k0_off11 (i : grid0.Coords) : Fin 3 → Nat :=
  let arg2 : BitVec 32 := BitVec.ofNat 32 (i 2).val
  let v93 : Index := Scalar.indexCast arg2
  let c0_52 : Index := 0#32
  let c0_53 : Index := 0#32
  ![v93.toNat, 0, 0]
def k0_mult7 (i : grid0.Coords) : BitVec 32 :=
  let arg2 : BitVec 32 := BitVec.ofNat 32 (i 2).val
  let c1_i32_69 : BitVec 32 := 1#32
  let v138 : BitVec 32 := Scalar.addi arg2 c1_i32_69
  let c256_i32_70 : BitVec 32 := 256#32
  let v139 : BitVec 32 := Scalar.muli v138 c256_i32_70
  v139
def k0_off12 (i : grid0.Coords) : Fin 2 → Nat :=
  let arg2 : BitVec 32 := BitVec.ofNat 32 (i 2).val
  let c1_i32_69 : BitVec 32 := 1#32
  let v138 : BitVec 32 := Scalar.addi arg2 c1_i32_69
  let c256_i32_70 : BitVec 32 := 256#32
  let v139 : BitVec 32 := Scalar.muli v138 c256_i32_70
  let v140 : BitVec 32 := v139
  let v143 : Index := Scalar.indexCast v140
  let c256_73 : Index := 256#32
  ![v143.toNat, 256]
def k0_off13 (i : grid0.Coords) : Fin 2 → Nat :=
  let arg2 : BitVec 32 := BitVec.ofNat 32 (i 2).val
  let c1_i32_69 : BitVec 32 := 1#32
  let v138 : BitVec 32 := Scalar.addi arg2 c1_i32_69
  let c256_i32_70 : BitVec 32 := 256#32
  let v139 : BitVec 32 := Scalar.muli v138 c256_i32_70
  let v140 : BitVec 32 := v139
  let v149 : Index := Scalar.indexCast v140
  let c128_77 : Index := 128#32
  ![v149.toNat, 128]
def k0_mult8 (i : grid0.Coords) : BitVec 32 :=
  let arg2 : BitVec 32 := BitVec.ofNat 32 (i 2).val
  let c1_i32_97 : BitVec 32 := 1#32
  let v200 : BitVec 32 := Scalar.addi arg2 c1_i32_97
  let c256_i32_98 : BitVec 32 := 256#32
  let v201 : BitVec 32 := Scalar.muli v200 c256_i32_98
  v201
def k0_off14 (i : grid0.Coords) : Fin 2 → Nat :=
  let arg2 : BitVec 32 := BitVec.ofNat 32 (i 2).val
  let c1_i32_97 : BitVec 32 := 1#32
  let v200 : BitVec 32 := Scalar.addi arg2 c1_i32_97
  let c256_i32_98 : BitVec 32 := 256#32
  let v201 : BitVec 32 := Scalar.muli v200 c256_i32_98
  let v202 : BitVec 32 := v201
  let v205 : Index := Scalar.indexCast v202
  let c512_101 : Index := 512#32
  ![v205.toNat, 512]
def k0_off15 (i : grid0.Coords) : Fin 2 → Nat :=
  let arg2 : BitVec 32 := BitVec.ofNat 32 (i 2).val
  let c1_i32_97 : BitVec 32 := 1#32
  let v200 : BitVec 32 := Scalar.addi arg2 c1_i32_97
  let c256_i32_98 : BitVec 32 := 256#32
  let v201 : BitVec 32 := Scalar.muli v200 c256_i32_98
  let v202 : BitVec 32 := v201
  let v211 : Index := Scalar.indexCast v202
  let c256_105 : Index := 256#32
  ![v211.toNat, 256]
def k0_mult9 (i : grid0.Coords) : BitVec 32 :=
  let arg2 : BitVec 32 := BitVec.ofNat 32 (i 2).val
  let c1_i32_125 : BitVec 32 := 1#32
  let v262 : BitVec 32 := Scalar.addi arg2 c1_i32_125
  let c256_i32_126 : BitVec 32 := 256#32
  let v263 : BitVec 32 := Scalar.muli v262 c256_i32_126
  v263
def k0_off16 (i : grid0.Coords) : Fin 2 → Nat :=
  let arg2 : BitVec 32 := BitVec.ofNat 32 (i 2).val
  let c1_i32_125 : BitVec 32 := 1#32
  let v262 : BitVec 32 := Scalar.addi arg2 c1_i32_125
  let c256_i32_126 : BitVec 32 := 256#32
  let v263 : BitVec 32 := Scalar.muli v262 c256_i32_126
  let v264 : BitVec 32 := v263
  let v267 : Index := Scalar.indexCast v264
  let c768_129 : Index := 768#32
  ![v267.toNat, 768]
def k0_off17 (i : grid0.Coords) : Fin 2 → Nat :=
  let arg2 : BitVec 32 := BitVec.ofNat 32 (i 2).val
  let c1_i32_125 : BitVec 32 := 1#32
  let v262 : BitVec 32 := Scalar.addi arg2 c1_i32_125
  let c256_i32_126 : BitVec 32 := 256#32
  let v263 : BitVec 32 := Scalar.muli v262 c256_i32_126
  let v264 : BitVec 32 := v263
  let v273 : Index := Scalar.indexCast v264
  let c384_133 : Index := 384#32
  ![v273.toNat, 384]
@[reducible] def k0_t1_loop (i : grid0.Coords) : Scf.Loop 32 :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_156 : BitVec 32 := 1#32
  ⟨v324, v329, c1_i32_156⟩
def k0_mult10 (i : grid0.Coords) (k0_t1 : Fin (k0_t1_loop i).trips) : BitVec 32 :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  v488
def k0_mult11 (i : grid0.Coords) (k0_t1 : Fin (k0_t1_loop i).trips) : BitVec 32 :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_269 : BitVec 32 := 1#32
  let v490 : BitVec 32 := Scalar.addi arg23 c1_i32_269
  let c256_i32_270 : BitVec 32 := 256#32
  let v491 : BitVec 32 := Scalar.muli v490 c256_i32_270
  v491
def k0_off18 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_269 : BitVec 32 := 1#32
  let v490 : BitVec 32 := Scalar.addi arg23 c1_i32_269
  let c256_i32_270 : BitVec 32 := 256#32
  let v491 : BitVec 32 := Scalar.muli v490 c256_i32_270
  let v492 : BitVec 32 := v491
  let v495 : Index := Scalar.indexCast v492
  let c0_273 : Index := 0#32
  ![v495.toNat, 0]
def k0_off19 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_269 : BitVec 32 := 1#32
  let v490 : BitVec 32 := Scalar.addi arg23 c1_i32_269
  let c256_i32_270 : BitVec 32 := 256#32
  let v491 : BitVec 32 := Scalar.muli v490 c256_i32_270
  let v492 : BitVec 32 := v491
  let v501 : Index := Scalar.indexCast v492
  let c0_277 : Index := 0#32
  ![v501.toNat, 0]
def k0_off20 (i : grid0.Coords) (k0_t1 : Fin (k0_t1_loop i).trips) : Fin 3 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let v507 : Index := Scalar.indexCast arg23
  let c0_280 : Index := 0#32
  let c0_281 : Index := 0#32
  ![v507.toNat, 0, 0]
def k0_off21 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v518 : Index := Scalar.indexCast v489
  let c0_284 : Index := 0#32
  ![v518.toNat, 0]
def k0_off22 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v532 : Index := Scalar.indexCast v489
  let c0_289 : Index := 0#32
  ![v532.toNat, 0]
def k0_mult12 (i : grid0.Coords) (k0_t1 : Fin (k0_t1_loop i).trips) : BitVec 32 :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_296 : BitVec 32 := 1#32
  let v547 : BitVec 32 := Scalar.addi arg23 c1_i32_296
  let c256_i32_297 : BitVec 32 := 256#32
  let v548 : BitVec 32 := Scalar.muli v547 c256_i32_297
  v548
def k0_off23 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_296 : BitVec 32 := 1#32
  let v547 : BitVec 32 := Scalar.addi arg23 c1_i32_296
  let c256_i32_297 : BitVec 32 := 256#32
  let v548 : BitVec 32 := Scalar.muli v547 c256_i32_297
  let v549 : BitVec 32 := v548
  let v552 : Index := Scalar.indexCast v549
  let c256_300 : Index := 256#32
  ![v552.toNat, 256]
def k0_off24 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_296 : BitVec 32 := 1#32
  let v547 : BitVec 32 := Scalar.addi arg23 c1_i32_296
  let c256_i32_297 : BitVec 32 := 256#32
  let v548 : BitVec 32 := Scalar.muli v547 c256_i32_297
  let v549 : BitVec 32 := v548
  let v558 : Index := Scalar.indexCast v549
  let c128_304 : Index := 128#32
  ![v558.toNat, 128]
def k0_off25 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v575 : Index := Scalar.indexCast v489
  let c128_311 : Index := 128#32
  ![v575.toNat, 128]
def k0_off26 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v589 : Index := Scalar.indexCast v489
  let c256_316 : Index := 256#32
  ![v589.toNat, 256]
def k0_mult13 (i : grid0.Coords) (k0_t1 : Fin (k0_t1_loop i).trips) : BitVec 32 :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_323 : BitVec 32 := 1#32
  let v604 : BitVec 32 := Scalar.addi arg23 c1_i32_323
  let c256_i32_324 : BitVec 32 := 256#32
  let v605 : BitVec 32 := Scalar.muli v604 c256_i32_324
  v605
def k0_off27 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_323 : BitVec 32 := 1#32
  let v604 : BitVec 32 := Scalar.addi arg23 c1_i32_323
  let c256_i32_324 : BitVec 32 := 256#32
  let v605 : BitVec 32 := Scalar.muli v604 c256_i32_324
  let v606 : BitVec 32 := v605
  let v609 : Index := Scalar.indexCast v606
  let c512_327 : Index := 512#32
  ![v609.toNat, 512]
def k0_off28 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_323 : BitVec 32 := 1#32
  let v604 : BitVec 32 := Scalar.addi arg23 c1_i32_323
  let c256_i32_324 : BitVec 32 := 256#32
  let v605 : BitVec 32 := Scalar.muli v604 c256_i32_324
  let v606 : BitVec 32 := v605
  let v615 : Index := Scalar.indexCast v606
  let c256_331 : Index := 256#32
  ![v615.toNat, 256]
def k0_off29 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v632 : Index := Scalar.indexCast v489
  let c256_338 : Index := 256#32
  ![v632.toNat, 256]
def k0_off30 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v646 : Index := Scalar.indexCast v489
  let c512_343 : Index := 512#32
  ![v646.toNat, 512]
def k0_mult14 (i : grid0.Coords) (k0_t1 : Fin (k0_t1_loop i).trips) : BitVec 32 :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_350 : BitVec 32 := 1#32
  let v661 : BitVec 32 := Scalar.addi arg23 c1_i32_350
  let c256_i32_351 : BitVec 32 := 256#32
  let v662 : BitVec 32 := Scalar.muli v661 c256_i32_351
  v662
def k0_off31 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_350 : BitVec 32 := 1#32
  let v661 : BitVec 32 := Scalar.addi arg23 c1_i32_350
  let c256_i32_351 : BitVec 32 := 256#32
  let v662 : BitVec 32 := Scalar.muli v661 c256_i32_351
  let v663 : BitVec 32 := v662
  let v666 : Index := Scalar.indexCast v663
  let c768_354 : Index := 768#32
  ![v666.toNat, 768]
def k0_off32 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c1_i32_350 : BitVec 32 := 1#32
  let v661 : BitVec 32 := Scalar.addi arg23 c1_i32_350
  let c256_i32_351 : BitVec 32 := 256#32
  let v662 : BitVec 32 := Scalar.muli v661 c256_i32_351
  let v663 : BitVec 32 := v662
  let v672 : Index := Scalar.indexCast v663
  let c384_358 : Index := 384#32
  ![v672.toNat, 384]
def k0_off33 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v689 : Index := Scalar.indexCast v489
  let c384_365 : Index := 384#32
  ![v689.toNat, 384]
def k0_off34 (i : grid0.Coords) (k0_t1 : Fin (k0_t1_loop i).trips) : Fin 2 → Nat :=
  let arg2 : BitVec 32 := BitVec.ofNat 32 (i 2).val
  let c1_i32_153 : BitVec 32 := 1#32
  let v324 : BitVec 32 := Scalar.addi arg2 c1_i32_153
  let c1_i32_156 : BitVec 32 := 1#32
  let arg23 : BitVec 32 := Scf.iv v324 c1_i32_156 k0_t1
  let c256_i32_268 : BitVec 32 := 256#32
  let v488 : BitVec 32 := Scalar.muli arg23 c256_i32_268
  let v489 : BitVec 32 := v488
  let v703 : Index := Scalar.indexCast v489
  let c768_370 : Index := 768#32
  ![v703.toNat, 768]
@[reducible] def k0_t2_loop (i : grid0.Coords) : Scf.Loop 32 :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let v326 : BitVec 32 := Scalar.addi v324 v325
  let c1_i32_157 : BitVec 32 := 1#32
  ⟨v329, v326, c1_i32_157⟩
def k0_mult15 (i : grid0.Coords) (k0_t2 : Fin (k0_t2_loop i).trips) : BitVec 32 :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  v488
def k0_mult16 (i : grid0.Coords) (k0_t2 : Fin (k0_t2_loop i).trips) : BitVec 32 :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_269 : BitVec 32 := 1#32
  let v490 : BitVec 32 := Scalar.addi arg23 c1_i32_269
  let c256_i32_270 : BitVec 32 := 256#32
  let v491 : BitVec 32 := Scalar.muli v490 c256_i32_270
  v491
def k0_off35 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_269 : BitVec 32 := 1#32
  let v490 : BitVec 32 := Scalar.addi arg23 c1_i32_269
  let c256_i32_270 : BitVec 32 := 256#32
  let v491 : BitVec 32 := Scalar.muli v490 c256_i32_270
  let v492 : BitVec 32 := v491
  let v495 : Index := Scalar.indexCast v492
  let c0_273 : Index := 0#32
  ![v495.toNat, 0]
def k0_off36 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_269 : BitVec 32 := 1#32
  let v490 : BitVec 32 := Scalar.addi arg23 c1_i32_269
  let c256_i32_270 : BitVec 32 := 256#32
  let v491 : BitVec 32 := Scalar.muli v490 c256_i32_270
  let v492 : BitVec 32 := v491
  let v501 : Index := Scalar.indexCast v492
  let c0_277 : Index := 0#32
  ![v501.toNat, 0]
def k0_off37 (i : grid0.Coords) (k0_t2 : Fin (k0_t2_loop i).trips) : Fin 3 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let v507 : Index := Scalar.indexCast arg23
  let c0_280 : Index := 0#32
  let c0_281 : Index := 0#32
  ![v507.toNat, 0, 0]
def k0_off38 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v518 : Index := Scalar.indexCast v489
  let c0_284 : Index := 0#32
  ![v518.toNat, 0]
def k0_off39 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v532 : Index := Scalar.indexCast v489
  let c0_289 : Index := 0#32
  ![v532.toNat, 0]
def k0_mult17 (i : grid0.Coords) (k0_t2 : Fin (k0_t2_loop i).trips) : BitVec 32 :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_296 : BitVec 32 := 1#32
  let v547 : BitVec 32 := Scalar.addi arg23 c1_i32_296
  let c256_i32_297 : BitVec 32 := 256#32
  let v548 : BitVec 32 := Scalar.muli v547 c256_i32_297
  v548
def k0_off40 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_296 : BitVec 32 := 1#32
  let v547 : BitVec 32 := Scalar.addi arg23 c1_i32_296
  let c256_i32_297 : BitVec 32 := 256#32
  let v548 : BitVec 32 := Scalar.muli v547 c256_i32_297
  let v549 : BitVec 32 := v548
  let v552 : Index := Scalar.indexCast v549
  let c256_300 : Index := 256#32
  ![v552.toNat, 256]
def k0_off41 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_296 : BitVec 32 := 1#32
  let v547 : BitVec 32 := Scalar.addi arg23 c1_i32_296
  let c256_i32_297 : BitVec 32 := 256#32
  let v548 : BitVec 32 := Scalar.muli v547 c256_i32_297
  let v549 : BitVec 32 := v548
  let v558 : Index := Scalar.indexCast v549
  let c128_304 : Index := 128#32
  ![v558.toNat, 128]
def k0_off42 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v575 : Index := Scalar.indexCast v489
  let c128_311 : Index := 128#32
  ![v575.toNat, 128]
def k0_off43 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v589 : Index := Scalar.indexCast v489
  let c256_316 : Index := 256#32
  ![v589.toNat, 256]
def k0_mult18 (i : grid0.Coords) (k0_t2 : Fin (k0_t2_loop i).trips) : BitVec 32 :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_323 : BitVec 32 := 1#32
  let v604 : BitVec 32 := Scalar.addi arg23 c1_i32_323
  let c256_i32_324 : BitVec 32 := 256#32
  let v605 : BitVec 32 := Scalar.muli v604 c256_i32_324
  v605
def k0_off44 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_323 : BitVec 32 := 1#32
  let v604 : BitVec 32 := Scalar.addi arg23 c1_i32_323
  let c256_i32_324 : BitVec 32 := 256#32
  let v605 : BitVec 32 := Scalar.muli v604 c256_i32_324
  let v606 : BitVec 32 := v605
  let v609 : Index := Scalar.indexCast v606
  let c512_327 : Index := 512#32
  ![v609.toNat, 512]
def k0_off45 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_323 : BitVec 32 := 1#32
  let v604 : BitVec 32 := Scalar.addi arg23 c1_i32_323
  let c256_i32_324 : BitVec 32 := 256#32
  let v605 : BitVec 32 := Scalar.muli v604 c256_i32_324
  let v606 : BitVec 32 := v605
  let v615 : Index := Scalar.indexCast v606
  let c256_331 : Index := 256#32
  ![v615.toNat, 256]
def k0_off46 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v632 : Index := Scalar.indexCast v489
  let c256_338 : Index := 256#32
  ![v632.toNat, 256]
def k0_off47 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v646 : Index := Scalar.indexCast v489
  let c512_343 : Index := 512#32
  ![v646.toNat, 512]
def k0_mult19 (i : grid0.Coords) (k0_t2 : Fin (k0_t2_loop i).trips) : BitVec 32 :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_350 : BitVec 32 := 1#32
  let v661 : BitVec 32 := Scalar.addi arg23 c1_i32_350
  let c256_i32_351 : BitVec 32 := 256#32
  let v662 : BitVec 32 := Scalar.muli v661 c256_i32_351
  v662
def k0_off48 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_350 : BitVec 32 := 1#32
  let v661 : BitVec 32 := Scalar.addi arg23 c1_i32_350
  let c256_i32_351 : BitVec 32 := 256#32
  let v662 : BitVec 32 := Scalar.muli v661 c256_i32_351
  let v663 : BitVec 32 := v662
  let v666 : Index := Scalar.indexCast v663
  let c768_354 : Index := 768#32
  ![v666.toNat, 768]
def k0_off49 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c1_i32_350 : BitVec 32 := 1#32
  let v661 : BitVec 32 := Scalar.addi arg23 c1_i32_350
  let c256_i32_351 : BitVec 32 := 256#32
  let v662 : BitVec 32 := Scalar.muli v661 c256_i32_351
  let v663 : BitVec 32 := v662
  let v672 : Index := Scalar.indexCast v663
  let c384_358 : Index := 384#32
  ![v672.toNat, 384]
def k0_off50 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v689 : Index := Scalar.indexCast v489
  let c384_365 : Index := 384#32
  ![v689.toNat, 384]
def k0_off51 (i : grid0.Coords) (k0_t2 : Fin (k0_t2_loop i).trips) : Fin 2 → Nat :=
  let arg2 : BitVec 32 := BitVec.ofNat 32 (i 2).val
  let c1_i32_153 : BitVec 32 := 1#32
  let v324 : BitVec 32 := Scalar.addi arg2 c1_i32_153
  let c7_i32_154 : BitVec 32 := 7#32
  let v325 : BitVec 32 := Scalar.subi c7_i32_154 v324
  let c1_i32_155 : BitVec 32 := 1#32
  let v327 : BitVec 32 := Scalar.divsi v325 c1_i32_155
  let v328 : BitVec 32 := Scalar.muli v327 c1_i32_155
  let v329 : BitVec 32 := Scalar.addi v324 v328
  let c1_i32_157 : BitVec 32 := 1#32
  let arg23 : BitVec 32 := Scf.iv v329 c1_i32_157 k0_t2
  let c256_i32_268 : BitVec 32 := 256#32
  let v488 : BitVec 32 := Scalar.muli arg23 c256_i32_268
  let v489 : BitVec 32 := v488
  let v703 : Index := Scalar.indexCast v489
  let c768_370 : Index := 768#32
  ![v703.toNat, 768]
def k0_cond3 (i : grid0.Coords) : BitVec 1 :=
  let arg2 : BitVec 32 := BitVec.ofNat 32 (i 2).val
  let c7_i32_2 : BitVec 32 := 7#32
  let v7 : BitVec 1 := Scalar.cmpi .eq arg2 c7_i32_2
  let v8 : BitVec 32 := Scalar.extui v7
  let c0_i32_3 : BitVec 32 := 0#32
  let v9 : BitVec 1 := Scalar.cmpi .ne v8 c0_i32_3
  v9

def k0_mult20 (i : grid0.Coords) : BitVec 32 :=
  let arg2 : BitVec 32 := BitVec.ofNat 32 (i 2).val
  let c256_i32 : BitVec 32 := 256#32
  let v12 : BitVec 32 := Scalar.muli arg2 c256_i32
  v12
def k0_off52 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v16 : Index := Scalar.indexCast v13
  let c0_6 : Index := 0#32
  ![v16.toNat, 0]
def k0_off53 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v22 : Index := Scalar.indexCast v13
  let c0_10 : Index := 0#32
  ![v22.toNat, 0]
def k0_mult21 (i : grid0.Coords) : BitVec 32 :=
  let arg2 : BitVec 32 := BitVec.ofNat 32 (i 2).val
  let c256_i32_14 : BitVec 32 := 256#32
  let v28 : BitVec 32 := Scalar.muli arg2 c256_i32_14
  v28
def k0_off54 (i : grid0.Coords) : Fin 2 → Nat :=
  let arg2 : BitVec 32 := BitVec.ofNat 32 (i 2).val
  let c256_i32_14 : BitVec 32 := 256#32
  let v28 : BitVec 32 := Scalar.muli arg2 c256_i32_14
  let v29 : BitVec 32 := v28
  let v32 : Index := Scalar.indexCast v29
  let c256_16 : Index := 256#32
  ![v32.toNat, 256]
def k0_off55 (i : grid0.Coords) : Fin 2 → Nat :=
  let arg2 : BitVec 32 := BitVec.ofNat 32 (i 2).val
  let c256_i32_14 : BitVec 32 := 256#32
  let v28 : BitVec 32 := Scalar.muli arg2 c256_i32_14
  let v29 : BitVec 32 := v28
  let v38 : Index := Scalar.indexCast v29
  let c128_19 : Index := 128#32
  ![v38.toNat, 128]
def k0_mult22 (i : grid0.Coords) : BitVec 32 :=
  let arg2 : BitVec 32 := BitVec.ofNat 32 (i 2).val
  let c256_i32_23 : BitVec 32 := 256#32
  let v44 : BitVec 32 := Scalar.muli arg2 c256_i32_23
  v44
def k0_off56 (i : grid0.Coords) : Fin 2 → Nat :=
  let arg2 : BitVec 32 := BitVec.ofNat 32 (i 2).val
  let c256_i32_23 : BitVec 32 := 256#32
  let v44 : BitVec 32 := Scalar.muli arg2 c256_i32_23
  let v45 : BitVec 32 := v44
  let v48 : Index := Scalar.indexCast v45
  let c512_25 : Index := 512#32
  ![v48.toNat, 512]
def k0_off57 (i : grid0.Coords) : Fin 2 → Nat :=
  let arg2 : BitVec 32 := BitVec.ofNat 32 (i 2).val
  let c256_i32_23 : BitVec 32 := 256#32
  let v44 : BitVec 32 := Scalar.muli arg2 c256_i32_23
  let v45 : BitVec 32 := v44
  let v54 : Index := Scalar.indexCast v45
  let c256_29 : Index := 256#32
  ![v54.toNat, 256]
def k0_mult23 (i : grid0.Coords) : BitVec 32 :=
  let arg2 : BitVec 32 := BitVec.ofNat 32 (i 2).val
  let c256_i32_33 : BitVec 32 := 256#32
  let v60 : BitVec 32 := Scalar.muli arg2 c256_i32_33
  v60
def k0_off58 (i : grid0.Coords) : Fin 2 → Nat :=
  let arg2 : BitVec 32 := BitVec.ofNat 32 (i 2).val
  let c256_i32_33 : BitVec 32 := 256#32
  let v60 : BitVec 32 := Scalar.muli arg2 c256_i32_33
  let v61 : BitVec 32 := v60
  let v64 : Index := Scalar.indexCast v61
  let c768_35 : Index := 768#32
  ![v64.toNat, 768]
def k0_off59 (i : grid0.Coords) : Fin 2 → Nat :=
  let arg2 : BitVec 32 := BitVec.ofNat 32 (i 2).val
  let c256_i32_33 : BitVec 32 := 256#32
  let v60 : BitVec 32 := Scalar.muli arg2 c256_i32_33
  let v61 : BitVec 32 := v60
  let v70 : Index := Scalar.indexCast v61
  let c384_38 : Index := 384#32
  ![v70.toNat, 384]
def k0_mult24 (i : grid0.Coords) : BitVec 32 :=
  let arg2 : BitVec 32 := BitVec.ofNat 32 (i 2).val
  let c256_i32_40 : BitVec 32 := 256#32
  let v74 : BitVec 32 := Scalar.muli arg2 c256_i32_40
  v74
def k0_off60 (i : grid0.Coords) : Fin 3 → Nat :=
  let arg2 : BitVec 32 := BitVec.ofNat 32 (i 2).val
  let v78 : Index := Scalar.indexCast arg2
  let c0_42 : Index := 0#32
  let c0_43 : Index := 0#32
  ![v78.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi v0 c0_i32
  let c2_i32 : BitVec 32 := 2#32
  let v2 : BitVec 32 := Scalar.muli v1 c2_i32
  let v3 : BitVec 32 := Scalar.addi v2 arg0
  let c0_i32_0 : BitVec 32 := 0#32
  let c0_i32_1 : BitVec 32 := 0#32
  let c0_i32_2 : BitVec 32 := 0#32
  ![v3.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.addi v0 c1_i32
  let c2_i32 : BitVec 32 := 2#32
  let v2 : BitVec 32 := Scalar.muli v1 c2_i32
  let v3 : BitVec 32 := Scalar.addi v2 arg0
  let c0_i32 : BitVec 32 := 0#32
  let c0_i32_0 : BitVec 32 := 0#32
  let c0_i32_1 : BitVec 32 := 0#32
  ![v3.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c2_i32 : BitVec 32 := 2#32
  let v1 : BitVec 32 := Scalar.addi v0 c2_i32
  let c2_i32_0 : BitVec 32 := 2#32
  let v2 : BitVec 32 := Scalar.muli v1 c2_i32_0
  let v3 : BitVec 32 := Scalar.addi v2 arg0
  let c0_i32 : BitVec 32 := 0#32
  let c0_i32_1 : BitVec 32 := 0#32
  let c0_i32_2 : BitVec 32 := 0#32
  ![v3.toNat, c0_i32.toNat, c0_i32_1.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.addi v0 c3_i32
  let c2_i32 : BitVec 32 := 2#32
  let v2 : BitVec 32 := Scalar.muli v1 c2_i32
  let v3 : BitVec 32 := Scalar.addi v2 arg0
  let c0_i32 : BitVec 32 := 0#32
  let c0_i32_0 : BitVec 32 := 0#32
  let c0_i32_1 : BitVec 32 := 0#32
  ![v3.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S8x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S8x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S8x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S8x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S8x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S8x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S8x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S8x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S8x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S2048x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== ReferenceIdeal.lean ====
abbrev S2x2048x8x192 : Shape := ⟨4, ![2, 2048, 8, 192]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x192 : Shape := ⟨4, ![2, 8, 2048, 192]⟩
abbrev S2x2048x8x256 : Shape := ⟨4, ![2, 2048, 8, 256]⟩
abbrev S4096x2048 : Shape := ⟨2, ![4096, 2048]⟩
abbrev S4096x1024 : Shape := ⟨2, ![4096, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x128, .f32⟩
  | .hbm, ⟨3, _⟩ => ⟨S2x2048x8x128, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S_, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .i1⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .i1⟩
  | .hbm, ⟨35, _⟩ => ⟨S_, .f32⟩
  | .hbm, ⟨36, _⟩ => ⟨S2x8x2048, .f32⟩
  | .hbm, ⟨37, _⟩ => ⟨S2x8x2048, .i1⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S2x8x2048, .f32⟩
  | .hbm, ⟨46, _⟩ => ⟨S2x8x2048x1, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S_, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x1, .f32⟩
  | .hbm, ⟨56, _⟩ => ⟨S_, .f32⟩
  | .hbm, ⟨57, _⟩ => ⟨S2x8x2048x1, .f32⟩
  | .hbm, ⟨58, _⟩ => ⟨S2x8x2048x1, .f32⟩
  | .hbm, ⟨59, _⟩ => ⟨S2x8x128x2048, .f32⟩
  | .hbm, ⟨60, _⟩ => ⟨S2x2048x8x128, .f32⟩
  | .hbm, ⟨61, _⟩ => ⟨S2x8x128x2048, .f32⟩
  | .hbm, ⟨62, _⟩ => ⟨S2x8x2048x2048, .f32⟩
  | .hbm, ⟨63, _⟩ => ⟨S2x8x128x2048, .f32⟩
  | .hbm, ⟨64, _⟩ => ⟨S2x2048x8x128, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S_, .f32⟩
  | .hbm, ⟨69, _⟩ => ⟨S2x8x2048, .f32⟩
  | .hbm, ⟨70, _⟩ => ⟨S2x8x2048x1, .f32⟩
  | .hbm, ⟨71, _⟩ => ⟨S2x8x2048x1, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S2x8x2048, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048x2048, .f32⟩
  | .hbm, ⟨81, _⟩ => ⟨S2x8x2048x2048, .f32⟩
  | .hbm, ⟨82, _⟩ => ⟨S_, .f32⟩
  | .hbm, ⟨83, _⟩ => ⟨S2x8x2048x2048, .f32⟩
  | .hbm, ⟨84, _⟩ => ⟨S2x8x2048x2048, .f32⟩
  | .hbm, ⟨85, _⟩ => ⟨S2x8x2048x192, .f32⟩
  | .hbm, ⟨86, _⟩ => ⟨S2x2048x8x192, .f32⟩
  | .hbm, ⟨87, _⟩ => ⟨S2x8x2048x192, .f32⟩
  | .hbm, ⟨88, _⟩ => ⟨S2x2048x8x192, .f32⟩
  | .hbm, ⟨89, _⟩ => ⟨S_, .i32⟩
  | .hbm, ⟨90, _⟩ => ⟨S_, .f32⟩
  | .hbm, ⟨91, _⟩ => ⟨S2x2048x8x256, .f32⟩
  | .hbm, ⟨92, _⟩ => ⟨S4096x2048, .f32⟩
  | .hbm, ⟨93, _⟩ => ⟨S4096x2048, .bf16⟩
  | .hbm, ⟨94, _⟩ => ⟨S_, .i32⟩
  | .hbm, ⟨95, _⟩ => ⟨S_, .f32⟩
  | .hbm, ⟨96, _⟩ => ⟨S2x2048x8x256, .f32⟩
  | .hbm, ⟨97, _⟩ => ⟨S4096x2048, .f32⟩
  | .hbm, ⟨98, _⟩ => ⟨S4096x2048, .bf16⟩
  | .hbm, ⟨99, _⟩ => ⟨S4096x1024, .f32⟩
  | .hbm, ⟨100, _⟩ => ⟨S4096x1024, .bf16⟩
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call3_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]
-- ==== UpDx.lean ====
abbrev S4096x1024 : Shape := ⟨2, ![4096, 1024]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2x2816, .f32⟩
  | .hbm, ⟨4, _⟩ => ⟨S2x4096x2816, .f32⟩
  | .hbm, ⟨5, _⟩ => ⟨S2x4096x2816, .bf16⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S4096x1024 : Shape := ⟨2, ![4096, 1024]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x2x2816, .f32⟩
  | .hbm, ⟨5, _⟩ => ⟨S2x4096x2816, .f32⟩
  | .hbm, ⟨6, _⟩ => ⟨S2x4096x2816, .bf16⟩
  | .hbm, ⟨7, _⟩ => ⟨S4x1024x1408, .f32⟩
  | .hbm, ⟨8, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== UpDwReferenceIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .f32⟩
  | .hbm, ⟨5, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDwReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S4096x1024 : Shape := ⟨2, ![4096, 1024]⟩
abbrev S1024x4608 : Shape := ⟨2, ![1024, 4608]⟩
abbrev S4096x4608 : Shape := ⟨2, ![4096, 4608]⟩
abbrev S4608x1024 : Shape := ⟨2, ![4608, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x4608, .f32⟩
  | .hbm, ⟨3, _⟩ => ⟨S4096x4608, .bf16⟩
  | .hbm, ⟨4, _⟩ => ⟨S4608x1024, .f32⟩
  | .hbm, ⟨5, _⟩ => ⟨S4608x1024, .bf16⟩
  | .hbm, ⟨6, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x1024 : Shape := ⟨2, ![4096, 1024]⟩
abbrev S1024x4608 : Shape := ⟨2, ![1024, 4608]⟩
abbrev S4096x4608 : Shape := ⟨2, ![4096, 4608]⟩
abbrev S4608x1024 : Shape := ⟨2, ![4608, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x4608, .f32⟩
  | .hbm, ⟨3, _⟩ => ⟨S4096x4608, .f32⟩
  | .hbm, ⟨4, _⟩ => ⟨S4608x1024, .f32⟩
  | .hbm, ⟨5, _⟩ => ⟨S1024x4608, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S4096x1024 : Shape := ⟨2, ![4096, 1024]⟩
abbrev S1024x4608 : Shape := ⟨2, ![1024, 4608]⟩
abbrev S4096x4608 : Shape := ⟨2, ![4096, 4608]⟩
abbrev S4608x1024 : Shape := ⟨2, ![4608, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x4608, .f32⟩
  | .hbm, ⟨3, _⟩ => ⟨S4096x4608, .bf16⟩
  | .hbm, ⟨4, _⟩ => ⟨S4096x1024, .bf16⟩
  | .hbm, ⟨5, _⟩ => ⟨S4608x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x1024 : Shape := ⟨2, ![4096, 1024]⟩
abbrev S1024x4608 : Shape := ⟨2, ![1024, 4608]⟩
abbrev S4096x4608 : Shape := ⟨2, ![4096, 4608]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x4608, .f32⟩
  | .hbm, ⟨3, _⟩ => ⟨S4096x4608, .f32⟩
  | .hbm, ⟨4, _⟩ => ⟨S4608x1024, .f32⟩
  | .hbm, ⟨5, _⟩ => ⟨S1024x4608, .f32⟩
  | .hbm, ⟨6, _⟩ => ⟨S4096x1024, .f32⟩
  | .hbm, ⟨7, _⟩ => ⟨S4608x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== OutDwReferenceIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFwd.lean ====
abbrev S4096x1024 : Shape := ⟨2, ![4096, 1024]⟩
abbrev S1024x4608 : Shape := ⟨2, ![1024, 4608]⟩
abbrev S4608x1024 : Shape := ⟨2, ![4608, 1024]⟩
abbrev S4096x4608 : Shape := ⟨2, ![4096, 4608]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x1024, .bf16⟩
  | .hbm, ⟨3, _⟩ => ⟨S4608x1024, .f32⟩
  | .hbm, ⟨4, _⟩ => ⟨S4608x1024, .bf16⟩
  | .hbm, ⟨5, _⟩ => ⟨S4096x4608, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdReferenceIdeal.lean ====
abbrev S4096x1024 : Shape := ⟨2, ![4096, 1024]⟩
abbrev S1024x4608 : Shape := ⟨2, ![1024, 4608]⟩
abbrev S4096x4608 : Shape := ⟨2, ![4096, 4608]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4608, .f32⟩
  | .hbm, ⟨2, _⟩ => ⟨S4096x4608, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpFwd.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S2x4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdReferenceIdeal.lean ====
abbrev S4096x1024 : Shape := ⟨2, ![4096, 1024]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2x2816, .f32⟩
  | .hbm, ⟨4, _⟩ => ⟨S2x4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.A.Offsets.lean ====
/- The offsets the inner loop of the attention's gradient computes, in closed form: trip `t` of grid point
    `i` works on query block `(i 2) + 1 + t` and prefetches the block after it. -/
module

public import proofs.«01_k».proof.Proof.Gen.KernelIdeal.Frame

@[expose] public section

set_option Elab.async false

namespace Cert.KernelIdeal.A

open Idealize.ShloMosaic Idealize.SL.Sem

/-- The loop runs once per query block strictly between the key block and the last block. -/
theorem trips1 : ∀ i : grid0.Coords, (k0_t1_loop i).trips = 6 - (i 2).val := by decide +kernel

/-- The loop's remainder never runs. -/
theorem trips2 : ∀ i : grid0.Coords, (k0_t2_loop i).trips = 0 := by decide +kernel

theorem off18_eq : ∀ (i : grid0.Coords) (t : Fin (k0_t1_loop i).trips), k0_off18 i t = ![256 * (i 2).val + 256 * t.val + 512, 0] := by decide +kernel
instance closedOff18 (i : grid0.Coords) (t : Fin (k0_t1_loop i).trips) : ClosedOff (k0_off18 i t) := ⟨![256 * (i 2).val + 256 * t.val + 512, 0], off18_eq i t⟩
theorem off19_eq : ∀ (i : grid0.Coords) (t : Fin (k0_t1_loop i).trips), k0_off19 i t = ![256 * (i 2).val + 256 * t.val + 512, 0] := by decide +kernel
instance closedOff19 (i : grid0.Coords) (t : Fin (k0_t1_loop i).trips) : ClosedOff (k0_off19 i t) := ⟨![256 * (i 2).val + 256 * t.val + 512, 0], off19_eq i t⟩
theorem off21_eq : ∀ (i : grid0.Coords) (t : Fin (k0_t1_loop i).trips), k0_off21 i t = ![256 * (i 2).val + 256 * t.val + 256, 0] := by decide +kernel
instance closedOff21 (i : grid0.Coords) (t : Fin (k0_t1_loop i).trips) : ClosedOff (k0_off21 i t) := ⟨![256 * (i 2).val + 256 * t.val + 256, 0], off21_eq i t⟩
theorem off22_eq : ∀ (i : grid0.Coords) (t : Fin (k0_t1_loop i).trips), k0_off22 i t = ![256 * (i 2).val + 256 * t.val + 256, 0] := by decide +kernel
instance closedOff22 (i : grid0.Coords) (t : Fin (k0_t1_loop i).trips) : ClosedOff (k0_off22 i t) := ⟨![256 * (i 2).val + 256 * t.val + 256, 0], off22_eq i t⟩
theorem off23_eq : ∀ (i : grid0.Coords) (t : Fin (k0_t1_loop i).trips), k0_off23 i t = ![256 * (i 2).val + 256 * t.val + 512, 256] := by decide +kernel
instance closedOff23 (i : grid0.Coords) (t : Fin (k0_t1_loop i).trips) : ClosedOff (k0_off23 i t) := ⟨![256 * (i 2).val + 256 * t.val + 512, 256], off23_eq i t⟩
theorem off24_eq : ∀ (i : grid0.Coords) (t : Fin (k0_t1_loop i).trips), k0_off24 i t = ![256 * (i 2).val + 256 * t.val + 512, 128] := by decide +kernel
instance closedOff24 (i : grid0.Coords) (t : Fin (k0_t1_loop i).trips) : ClosedOff (k0_off24 i t) := ⟨![256 * (i 2).val + 256 * t.val + 512, 128], off24_eq i t⟩
theorem off25_eq : ∀ (i : grid0.Coords) (t : Fin (k0_t1_loop i).trips), k0_off25 i t = ![256 * (i 2).val + 256 * t.val + 256, 128] := by decide +kernel
instance closedOff25 (i : grid0.Coords) (t : Fin (k0_t1_loop i).trips) : ClosedOff (k0_off25 i t) := ⟨![256 * (i 2).val + 256 * t.val + 256, 128], off25_eq i t⟩
theorem off26_eq : ∀ (i : grid0.Coords) (t : Fin (k0_t1_loop i).trips), k0_off26 i t = ![256 * (i 2).val + 256 * t.val + 256, 256] := by decide +kernel
instance closedOff26 (i : grid0.Coords) (t : Fin (k0_t1_loop i).trips) : ClosedOff (k0_off26 i t) := ⟨![256 * (i 2).val + 256 * t.val + 256, 256], off26_eq i t⟩
theorem off27_eq : ∀ (i : grid0.Coords) (t : Fin (k0_t1_loop i).trips), k0_off27 i t = ![256 * (i 2).val + 256 * t.val + 512, 512] := by decide +kernel
instance closedOff27 (i : grid0.Coords) (t : Fin (k0_t1_loop i).trips) : ClosedOff (k0_off27 i t) := ⟨![256 * (i 2).val + 256 * t.val + 512, 512], off27_eq i t⟩
theorem off28_eq : ∀ (i : grid0.Coords) (t : Fin (k0_t1_loop i).trips), k0_off28 i t = ![256 * (i 2).val + 256 * t.val + 512, 256] := by decide +kernel
instance closedOff28 (i : grid0.Coords) (t : Fin (k0_t1_loop i).trips) : ClosedOff (k0_off28 i t) := ⟨![256 * (i 2).val + 256 * t.val + 512, 256], off28_eq i t⟩
theorem off29_eq : ∀ (i : grid0.Coords) (t : Fin (k0_t1_loop i).trips), k0_off29 i t = ![256 * (i 2).val + 256 * t.val + 256, 256] := by decide +kernel
instance closedOff29 (i : grid0.Coords) (t : Fin (k0_t1_loop i).trips) : ClosedOff (k0_off29 i t) := ⟨![256 * (i 2).val + 256 * t.val + 256, 256], off29_eq i t⟩
theorem off30_eq : ∀ (i : grid0.Coords) (t : Fin (k0_t1_loop i).trips), k0_off30 i t = ![256 * (i 2).val + 256 * t.val + 256, 512] := by decide +kernel
instance closedOff30 (i : grid0.Coords) (t : Fin (k0_t1_loop i).trips) : ClosedOff (k0_off30 i t) := ⟨![256 * (i 2).val + 256 * t.val + 256, 512], off30_eq i t⟩
theorem off31_eq : ∀ (i : grid0.Coords) (t : Fin (k0_t1_loop i).trips), k0_off31 i t = ![256 * (i 2).val + 256 * t.val + 512, 768] := by decide +kernel
instance closedOff31 (i : grid0.Coords) (t : Fin (k0_t1_loop i).trips) : ClosedOff (k0_off31 i t) := ⟨![256 * (i 2).val + 256 * t.val + 512, 768], off31_eq i t⟩
theorem off32_eq : ∀ (i : grid0.Coords) (t : Fin (k0_t1_loop i).trips), k0_off32 i t = ![256 * (i 2).val + 256 * t.val + 512, 384] := by decide +kernel
instance closedOff32 (i : grid0.Coords) (t : Fin (k0_t1_loop i).trips) : ClosedOff (k0_off32 i t) := ⟨![256 * (i 2).val + 256 * t.val + 512, 384], off32_eq i t⟩
theorem off33_eq : ∀ (i : grid0.Coords) (t : Fin (k0_t1_loop i).trips), k0_off33 i t = ![256 * (i 2).val + 256 * t.val + 256, 384] := by decide +kernel
instance closedOff33 (i : grid0.Coords) (t : Fin (k0_t1_loop i).trips) : ClosedOff (k0_off33 i t) := ⟨![256 * (i 2).val + 256 * t.val + 256, 384], off33_eq i t⟩
theorem off34_eq : ∀ (i : grid0.Coords) (t : Fin (k0_t1_loop i).trips), k0_off34 i t = ![256 * (i 2).val + 256 * t.val + 256, 768] := by decide +kernel
instance closedOff34 (i : grid0.Coords) (t : Fin (k0_t1_loop i).trips) : ClosedOff (k0_off34 i t) := ⟨![256 * (i 2).val + 256 * t.val + 256, 768], off34_eq i t⟩
theorem off20_eq : ∀ (i : grid0.Coords) (t : Fin (k0_t1_loop i).trips), k0_off20 i t = ![(i 2).val + t.val + 1, 0, 0] := by decide +kernel
instance closedOff20 (i : grid0.Coords) (t : Fin (k0_t1_loop i).trips) : ClosedOff (k0_off20 i t) := ⟨![(i 2).val + t.val + 1, 0, 0], off20_eq i t⟩

end Cert.KernelIdeal.A

end
-- ==== Proof.A.Step.lean ====
module

public import proofs.«01_k».proof.Proof.A.Offsets
public import proofs.«01_k».proof.Proof.Gen.KernelIdeal.Skeleton

@[expose] public section

noncomputable section

namespace Cert.KernelIdeal.A

open Cert.KernelIdeal Cert.KernelIdeal.Gen
open Idealize.ShloMosaic Idealize.ShloMosaic.TcCoe

variable {F : FTy → Type} [FloatOps F]

/-- The scores of one head's key block against a query block, transposed: `k · qᵀ`. -/
def stF (k q : Vec F S256x256 .bf16) : FVec F S256x256 .f32 :=
  matmul dot_S256x256_S256x256_S256x256_1_1_0_0_n_n none (shapeCast S256x256 k shapeCasts_S256x256_S256x256)
    (shapeCast S256x256 q shapeCasts_S256x256_S256x256) (constant S256x256 .f32 0x00000000#32)

/-- The gradient of the probabilities, transposed: `v · doᵀ`. -/
def dptF (v d : Vec F S256x128 .bf16) : FVec F S256x256 .f32 :=
  matmul dot_S256x128_S256x128_S256x256_1_1_0_0_n_n none (shapeCast S256x128 v shapeCasts_S256x128_S256x128)
    (shapeCast S256x128 d shapeCasts_S256x128_S256x128) (constant S256x256 .f32 0x00000000#32)

/-- The probabilities `exp (st · scale − lse)`, the row of `lse` taken of the upper or the lower head. -/
def pF (v0 : BitVec 1) (st : FVec F S256x256 .f32) (hi lo : Vec F S1x1x256 .f32) : FVec F S256x256 .f32 :=
  exp (subf (mulf st (broadcast S256x256 (Scalar.ofBits .f32 0x3D93CD3A#32)))
    (broadcastTo S256x256 (Scalar.select v0 (shapeCast S1x256 hi shapeCasts_S1x1x256_S1x256)
      (shapeCast S1x256 lo shapeCasts_S1x1x256_S1x256)) broadcasts_S1x256_S256x256))

/-- The gradient of `v` after one more query block: `dv + p · do`. -/
def dvF (dv : FVec F S256x128 .f32) (p : FVec F S256x256 .f32) (d : Vec F S256x128 .bf16) : FVec F S256x128 .f32 :=
  addf dv (matmul dot_S256x256_S256x128_S256x128_1_0_0_1_n_n none (truncf .bf16 p bitsLt_bf16_f32)
    (shapeCast S256x128 d shapeCasts_S256x128_S256x128) (constant S256x128 .f32 0x00000000#32))

/-- The gradient of the scores: `p · (dpt − delta) · scale`. -/
def dsF (p dpt : FVec F S256x256 .f32) (dl : Vec F S1x1x256 .f32) : FVec F S256x256 .bf16 :=
  truncf .bf16 (mulf (mulf p (subf dpt (broadcastTo S256x256 (shapeCast S1x256 dl shapeCasts_S1x1x256_S1x256) broadcasts_S1x256_S256x256)))
    (broadcast S256x256 (Scalar.ofBits .f32 0x3D93CD3A#32))) bitsLt_bf16_f32

/-- The gradient of `k` after one more query block: `dk + ds · q`. -/
def dkF (dk : FVec F S256x256 .f32) (ds : FVec F S256x256 .bf16) (q : Vec F S256x256 .bf16) : FVec F S256x256 .f32 :=
  addf dk (matmul dot_S256x256_S256x256_S256x256_1_0_0_1_n_n none ds (shapeCast S256x256 q shapeCasts_S256x256_S256x256)
    (constant S256x256 .f32 0x00000000#32))

/-- The gradient of a query block after one more key block: `dq + dsᵀ · k`. -/
def dqF (dq : Vec F S256x256 .f32) (ds : FVec F S256x256 .bf16) (k : Vec F S256x256 .bf16) : FVec F S256x256 .f32 :=
  shapeCast S256x256 (addf dq (matmul dot_S256x256_S256x256_S256x256_0_0_1_1_n_n none ds
    (shapeCast S256x256 k shapeCasts_S256x256_S256x256) (constant S256x256 .f32 0x00000000#32))) shapeCasts_S256x256_S256x256

end Cert.KernelIdeal.A

end
-- ==== Proof.A.Trip.lean ====
module

public import proofs.«01_k».proof.Proof.A.Step
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UR sig nD τ) ℕ

/-- What the loop carries: per head the gradients of `k` and `v` so far, and the next block's scores and `v · doᵀ`. -/
abbrev Carry (F : FTy → Type) : Type := FVec F S256x256 .f32 × FVec F S256x128 .f32 × FVec F S256x256 .f32 × FVec F S256x256 .f32 × FVec F S256x256 .f32 × FVec F S256x128 .f32 × FVec F S256x256 .f32 × FVec F S256x256 .f32 × FVec F S256x256 .f32 × FVec F S256x128 .f32 × FVec F S256x256 .f32 × FVec F S256x256 .f32 × FVec F S256x256 .f32 × FVec F S256x128 .f32 × FVec F S256x256 .f32 × FVec F S256x256 .f32

/-- What trip `k` carries on. -/
def tripY (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1) (k : Fin (k0_t1_loop i).trips) (acc : Carry F) : Carry F :=
  (dkF acc.1 (dsF (pF v0 acc.2.2.1 (arg11.view.readAt (Elt F) (Rect.unit (s := S8x1x256) (k0_off20 i k) S1x1x256.size (k0_off20_inb i k k0_h2)).toLoadRect X11) (arg7.view.readAt (Elt F) (Rect.unit (s := S8x1x256) (k0_off20 i k) S1x1x256.size (k0_off20_inb i k k0_h2)).toLoadRect X7)) acc.2.2.2.1 (arg15.view.readAt (Elt F) (Rect.unit (s := S8x1x256) (k0_off20 i k) S1x1x256.size (k0_off20_inb i k k0_h2)).toLoadRect X15)) (arg3.view.readAt (Elt F) (Rect.unit (s := S2048x1024) (k0_off22 i k) S256x256.size (k0_off22_inb i k k0_h2)).toLoadRect X3),
      dvF acc.2.1 (pF v0 acc.2.2.1 (arg11.view.readAt (Elt F) (Rect.unit (s := S8x1x256) (k0_off20 i k) S1x1x256.size (k0_off20_inb i k k0_h2)).toLoadRect X11) (arg7.view.readAt (Elt F) (Rect.unit (s := S8x1x256) (k0_off20 i k) S1x1x256.size (k0_off20_inb i k k0_h2)).toLoadRect X7)) (arg6.view.readAt (Elt F) (Rect.unit (s := S2048x512) (k0_off21 i k) S256x128.size (k0_off21_inb i k k0_h2)).toLoadRect X6),
      stF (arg4.view.readAt (Elt F) (Rect.unit (s := S256x1024) ![0, 0] S256x256.size inb_S256x1024_S256x256_0_0).toLoadRect X4) (arg3.view.readAt (Elt F) (Rect.unit (s := S2048x1024) (k0_off18 i k) S256x256.size (k0_off18_inb i k k0_h2)).toLoadRect X3),
      dptF (arg5.view.readAt (Elt F) (Rect.unit (s := S256x512) ![0, 0] S256x128.size inb_S256x512_S256x128_0_0).toLoadRect X5) (arg6.view.readAt (Elt F) (Rect.unit (s := S2048x512) (k0_off19 i k) S256x128.size (k0_off19_inb i k k0_h2)).toLoadRect X6),
      dkF acc.2.2.2.2.1 (dsF (pF v0 acc.2.2.2.2.2.2.1 (arg12.view.readAt (Elt F) (Rect.unit (s := S8x1x256) (k0_off20 i k) S1x1x256.size (k0_off20_inb i k k0_h2)).toLoadRect X12) (arg8.view.readAt (Elt F) (Rect.unit (s := S8x1x256) (k0_off20 i k) S1x1x256.size (k0_off20_inb i k k0_h2)).toLoadRect X8)) acc.2.2.2.2.2.2.2.1 (arg16.view.readAt (Elt F) (Rect.unit (s := S8x1x256) (k0_off20 i k) S1x1x256.size (k0_off20_inb i k k0_h2)).toLoadRect X16)) (arg3.view.readAt (Elt F) (Rect.unit (s := S2048x1024) (k0_off26 i k) S256x256.size (k0_off26_inb i k k0_h2)).toLoadRect X3),
      dvF acc.2.2.2.2.2.1 (pF v0 acc.2.2.2.2.2.2.1 (arg12.view.readAt (Elt F) (Rect.unit (s := S8x1x256) (k0_off20 i k) S1x1x256.size (k0_off20_inb i k k0_h2)).toLoadRect X12) (arg8.view.readAt (Elt F) (Rect.unit (s := S8x1x256) (k0_off20 i k) S1x1x256.size (k0_off20_inb i k k0_h2)).toLoadRect X8)) (arg6.view.readAt (Elt F) (Rect.unit (s := S2048x512) (k0_off25 i k) S256x128.size (k0_off25_inb i k k0_h2)).toLoadRect X6),
      stF (arg4.view.readAt (Elt F) (Rect.unit (s := S256x1024) ![0, 256] S256x256.size inb_S256x1024_S256x256_0_256).toLoadRect X4) (arg3.view.readAt (Elt F) (Rect.unit (s := S2048x1024) (k0_off23 i k) S256x256.size (k0_off23_inb i k k0_h2)).toLoadRect X3),
      dptF (arg5.view.readAt (Elt F) (Rect.unit (s := S256x512) ![0, 128] S256x128.size inb_S256x512_S256x128_0_128).toLoadRect X5) (arg6.view.readAt (Elt F) (Rect.unit (s := S2048x512) (k0_off24 i k) S256x128.size (k0_off24_inb i k k0_h2)).toLoadRect X6),
      dkF acc.2.2.2.2.2.2.2.2.1 (dsF (pF v0 acc.2.2.2.2.2.2.2.2.2.2.1 (arg13.view.readAt (Elt F) (Rect.unit (s := S8x1x256) (k0_off20 i k) S1x1x256.size (k0_off20_inb i k k0_h2)).toLoadRect X13) (arg9.view.readAt (Elt F) (Rect.unit (s := S8x1x256) (k0_off20 i k) S1x1x256.size (k0_off20_inb i k k0_h2)).toLoadRect X9)) acc.2.2.2.2.2.2.2.2.2.2.2.1 (arg17.view.readAt (Elt F) (Rect.unit (s := S8x1x256) (k0_off20 i k) S1x1x256.size (k0_off20_inb i k k0_h2)).toLoadRect X17)) (arg3.view.readAt (Elt F) (Rect.unit (s := S2048x1024) (k0_off30 i k) S256x256.size (k0_off30_inb i k k0_h2)).toLoadRect X3),
      dvF acc.2.2.2.2.2.2.2.2.2.1 (pF v0 acc.2.2.2.2.2.2.2.2.2.2.1 (arg13.view.readAt (Elt F) (Rect.unit (s := S8x1x256) (k0_off20 i k) S1x1x256.size (k0_off20_inb i k k0_h2)).toLoadRect X13) (arg9.view.readAt (Elt F) (Rect.unit (s := S8x1x256) (k0_off20 i k) S1x1x256.size (k0_off20_inb i k k0_h2)).toLoadRect X9)) (arg6.view.readAt (Elt F) (Rect.unit (s := S2048x512) (k0_off29 i k) S256x128.size (k0_off29_inb i k k0_h2)).toLoadRect X6),
      stF (arg4.view.readAt (Elt F) (Rect.unit (s := S256x1024) ![0, 512] S256x256.size inb_S256x1024_S256x256_0_512).toLoadRect X4) (arg3.view.readAt (Elt F) (Rect.unit (s := S2048x1024) (k0_off27 i k) S256x256.size (k0_off27_inb i k k0_h2)).toLoadRect X3),
      dptF (arg5.view.readAt (Elt F) (Rect.unit (s := S256x512) ![0, 256] S256x128.size inb_S256x512_S256x128_0_256).toLoadRect X5) (arg6.view.readAt (Elt F) (Rect.unit (s := S2048x512) (k0_off28 i k) S256x128.size (k0_off28_inb i k k0_h2)).toLoadRect X6),
      dkF acc.2.2.2.2.2.2.2.2.2.2.2.2.1 (dsF (pF v0 acc.2.2.2.2.2.2.2.2.2.2.2.2.2.2.1 (arg14.view.readAt (Elt F) (Rect.unit (s := S8x1x256) (k0_off20 i k) S1x1x256.size (k0_off20_inb i k k0_h2)).toLoadRect X14) (arg10.view.readAt (Elt F) (Rect.unit (s := S8x1x256) (k0_off20 i k) S1x1x256.size (k0_off20_inb i k k0_h2)).toLoadRect X10)) acc.2.2.2.2.2.2.2.2.2.2.2.2.2.2.2 (arg18.view.readAt (Elt F) (Rect.unit (s := S8x1x256) (k0_off20 i k) S1x1x256.size (k0_off20_inb i k k0_h2)).toLoadRect X18)) (arg3.view.readAt (Elt F) (Rect.unit (s := S2048x1024) (k0_off34 i k) S256x256.size (k0_off34_inb i k k0_h2)).toLoadRect X3),
      dvF acc.2.2.2.2.2.2.2.2.2.2.2.2.2.1 (pF v0 acc.2.2.2.2.2.2.2.2.2.2.2.2.2.2.1 (arg14.view.readAt (Elt F) (Rect.unit (s := S8x1x256) (k0_off20 i k) S1x1x256.size (k0_off20_inb i k k0_h2)).toLoadRect X14) (arg10.view.readAt (Elt F) (Rect.unit (s := S8x1x256) (k0_off20 i k) S1x1x256.size (k0_off20_inb i k k0_h2)).toLoadRect X10)) (arg6.view.readAt (Elt F) (Rect.unit (s := S2048x512) (k0_off33 i k) S256x128.size (k0_off33_inb i k k0_h2)).toLoadRect X6),
      stF (arg4.view.readAt (Elt F) (Rect.unit (s := S256x1024) ![0, 768] S256x256.size inb_S256x1024_S256x256_0_768).toLoadRect X4) (arg3.view.readAt (Elt F) (Rect.unit (s := S2048x1024) (k0_off31 i k) S256x256.size (k0_off31_inb i k k0_h2)).toLoadRect X3),
      dptF (arg5.view.readAt (Elt F) (Rect.unit (s := S256x512) ![0, 384] S256x128.size inb_S256x512_S256x128_0_384).toLoadRect X5) (arg6.view.readAt (Elt F) (Rect.unit (s := S2048x512) (k0_off32 i k) S256x128.size (k0_off32_inb i k k0_h2)).toLoadRect X6))

/-- What trip `k` stores: one block of `dq` rows per head. -/
def tripL (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1) (k : Fin (k0_t1_loop i).trips) (acc : Carry F)
    (G : Buf (Elt F) (arg22.view.loc (c : Thread nD τ))) : List (View.Piece (Elt F) S2048x1024 .f32) :=
  [⟨Rect.unit (s := S2048x1024) (k0_off34 i k) S256x256.size (k0_off34_inb i k k0_h2), dqF (arg22.view.readAt (Elt F) (Rect.unit (s := S2048x1024) (k0_off34 i k) S256x256.size (k0_off34_inb i k k0_h2)).toLoadRect G) (dsF (pF v0 acc.2.2.2.2.2.2.2.2.2.2.2.2.2.2.1 (arg14.view.readAt (Elt F) (Rect.unit (s := S8x1x256) (k0_off20 i k) S1x1x256.size (k0_off20_inb i k k0_h2)).toLoadRect X14) (arg10.view.readAt (Elt F) (Rect.unit (s := S8x1x256) (k0_off20 i k) S1x1x256.size (k0_off20_inb i k k0_h2)).toLoadRect X10)) acc.2.2.2.2.2.2.2.2.2.2.2.2.2.2.2 (arg18.view.readAt (Elt F) (Rect.unit (s := S8x1x256) (k0_off20 i k) S1x1x256.size (k0_off20_inb i k k0_h2)).toLoadRect X18)) (arg4.view.readAt (Elt F) (Rect.unit (s := S256x1024) ![0, 768] S256x256.size inb_S256x1024_S256x256_0_768).toLoadRect X4)⟩,
      ⟨Rect.unit (s := S2048x1024) (k0_off30 i k) S256x256.size (k0_off30_inb i k k0_h2), dqF (arg22.view.readAt (Elt F) (Rect.unit (s := S2048x1024) (k0_off30 i k) S256x256.size (k0_off30_inb i k k0_h2)).toLoadRect G) (dsF (pF v0 acc.2.2.2.2.2.2.2.2.2.2.1 (arg13.view.readAt (Elt F) (Rect.unit (s := S8x1x256) (k0_off20 i k) S1x1x256.size (k0_off20_inb i k k0_h2)).toLoadRect X13) (arg9.view.readAt (Elt F) (Rect.unit (s := S8x1x256) (k0_off20 i k) S1x1x256.size (k0_off20_inb i k k0_h2)).toLoadRect X9)) acc.2.2.2.2.2.2.2.2.2.2.2.1 (arg17.view.readAt (Elt F) (Rect.unit (s := S8x1x256) (k0_off20 i k) S1x1x256.size (k0_off20_inb i k k0_h2)).toLoadRect X17)) (arg4.view.readAt (Elt F) (Rect.unit (s := S256x1024) ![0, 512] S256x256.size inb_S256x1024_S256x256_0_512).toLoadRect X4)⟩,
      ⟨Rect.unit (s := S2048x1024) (k0_off26 i k) S256x256.size (k0_off26_inb i k k0_h2), dqF (arg22.view.readAt (Elt F) (Rect.unit (s := S2048x1024) (k0_off26 i k) S256x256.size (k0_off26_inb i k k0_h2)).toLoadRect G) (dsF (pF v0 acc.2.2.2.2.2.2.1 (arg12.view.readAt (Elt F) (Rect.unit (s := S8x1x256) (k0_off20 i k) S1x1x256.size (k0_off20_inb i k k0_h2)).toLoadRect X12) (arg8.view.readAt (Elt F) (Rect.unit (s := S8x1x256) (k0_off20 i k) S1x1x256.size (k0_off20_inb i k k0_h2)).toLoadRect X8)) acc.2.2.2.2.2.2.2.1 (arg16.view.readAt (Elt F) (Rect.unit (s := S8x1x256) (k0_off20 i k) S1x1x256.size (k0_off20_inb i k k0_h2)).toLoadRect X16)) (arg4.view.readAt (Elt F) (Rect.unit (s := S256x1024) ![0, 256] S256x256.size inb_S256x1024_S256x256_0_256).toLoadRect X4)⟩,
      ⟨Rect.unit (s := S2048x1024) (k0_off22 i k) S256x256.size (k0_off22_inb i k k0_h2), dqF (arg22.view.readAt (Elt F) (Rect.unit (s := S2048x1024) (k0_off22 i k) S256x256.size (k0_off22_inb i k k0_h2)).toLoadRect G) (dsF (pF v0 acc.2.2.1 (arg11.view.readAt (Elt F) (Rect.unit (s := S8x1x256) (k0_off20 i k) S1x1x256.size (k0_off20_inb i k k0_h2)).toLoadRect X11) (arg7.view.readAt (Elt F) (Rect.unit (s := S8x1x256) (k0_off20 i k) S1x1x256.size (k0_off20_inb i k k0_h2)).toLoadRect X7)) acc.2.2.2.1 (arg15.view.readAt (Elt F) (Rect.unit (s := S8x1x256) (k0_off20 i k) S1x1x256.size (k0_off20_inb i k k0_h2)).toLoadRect X15)) (arg4.view.readAt (Elt F) (Rect.unit (s := S256x1024) ![0, 0] S256x256.size inb_S256x1024_S256x256_0_0).toLoadRect X4)⟩]

/-- Before trip `k`: what is carried and what the scratch holds. -/
def st (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1) (init : Carry F) (G : Buf (Elt F) (arg22.view.loc (c : Thread nD τ))) :
    ℕ → Carry F × Buf (Elt F) (arg22.view.loc (c : Thread nD τ))
  | 0 => (init, G)
  | k + 1 =>
    let s := st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k
    if h : k < (k0_t1_loop i).trips then
      (tripY c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 ⟨k, h⟩ s.1, arg22.view.writes (Elt F) s.2 (tripL c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 ⟨k, h⟩ s.1 s.2))
    else s

theorem st_succ (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1) (init : Carry F) (G : Buf (Elt F) (arg22.view.loc (c : Thread nD τ)))
    (k : Fin (k0_t1_loop i).trips) :
    st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G (k.val + 1) =
      (tripY c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 k (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k.val).1,
        arg22.view.writes (Elt F) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k.val).2 (tripL c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 k (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k.val).1 (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k.val).2)) := by
  rw [st]; exact dif_pos k.isLt

/-- A sequence of which the first member is also written out. -/
abbrev at0 {α : Type} (x : α) (s : ℕ → α) (k : ℕ) : α := Nat.casesOn k x (fun k => s (k + 1))

theorem at0_eq {α : Type} (x : α) (s : ℕ → α) (h : s 0 = x) (k : ℕ) : at0 x s k = s k := by
  cases k with
  | zero => exact h.symm
  | succ k => rfl

theorem at0_succ {α : Type} (x : α) (s : ℕ → α) (k : ℕ) : at0 x s (k + 1) = s (k + 1) := rfl

section Trip
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole)
  {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

/-- One trip at a symbolic `k`: its carried values and its stores are `tripY` and `tripL`. -/
theorem trip (v0 : BitVec 1) (k0_h2 : k0_cond2 i = 1#1) (v84 : FVec F S256x256 .f32) (v90 : FVec F S256x256 .f32) (v113 : FVec F S256x128 .f32) (v127 : FVec F S256x256 .f32) (v146 : FVec F S256x256 .f32) (v152 : FVec F S256x256 .f32) (v175 : FVec F S256x128 .f32) (v189 : FVec F S256x256 .f32) (v208 : FVec F S256x256 .f32) (v214 : FVec F S256x256 .f32) (v237 : FVec F S256x128 .f32) (v251 : FVec F S256x256 .f32) (v270 : FVec F S256x256 .f32) (v276 : FVec F S256x256 .f32) (v299 : FVec F S256x128 .f32) (v313 : FVec F S256x256 .f32) (v324 v325 : BitVec 32)
    (k : Fin (k0_t1_loop i).trips) (acc : Carry F) (G : Buf (Elt F) (arg22.view.loc (c : Thread nD τ))) :
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg22.view.loc (c : Thread nD τ) ↦[arg22.view.set]{fullShare} G)) : sProp 𝕄)
      ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_h2 v84 v90 v113 v127 v146 v152 v175 v189 v208 v214 v237 v251 v270 v276 v299 v313 v324 v325 k acc)
        (fun yld => iprop(⌜yld = tripY c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 k acc⌝ ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg22.view.loc (c : Thread nD τ) ↦[arg22.view.set]{fullShare} arg22.view.writes (Elt F) G (tripL c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 k acc G)))) := by
  iintro ⟨H3, H4, H5, H6, H7, H8, H9, H10, H11, H12, H13, H14, H15, H16, H17, H18, HG⟩
  sl_unfold [k0_t1_body]
  sl_exec
  sl_step
  isplitr; · ipureintro; rfl
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HG

set_option warn.classDefReducibility false in
/-- The loop's invariant: the inputs unchanged, the scratch and the carried values as `st` has them. -/
@[sl_loop] def loopInv1 (v0 : BitVec 1) (k0_h2 : k0_cond2 i = 1#1) (v84 : FVec F S256x256 .f32) (v90 : FVec F S256x256 .f32) (v113 : FVec F S256x128 .f32) (v127 : FVec F S256x256 .f32) (v146 : FVec F S256x256 .f32) (v152 : FVec F S256x256 .f32) (v175 : FVec F S256x128 .f32) (v189 : FVec F S256x256 .f32) (v208 : FVec F S256x256 .f32) (v214 : FVec F S256x256 .f32) (v237 : FVec F S256x128 .f32) (v251 : FVec F S256x256 .f32) (v270 : FVec F S256x256 .f32) (v276 : FVec F S256x256 .f32) (v299 : FVec F S256x128 .f32) (v313 : FVec F S256x256 .f32) (v324 v325 : BitVec 32) (init : Carry F) (G : Buf (Elt F) (arg22.view.loc (c : Thread nD τ))) :
    LoopInvTy_k0_t1 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_h2 v84 v90 v113 v127 v146 v152 v175 v189 v208 v214 v237 v251 v270 v276 v299 v313 v324 v325 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg22.view.loc (c : Thread nD τ) ↦[arg22.view.set]{fullShare} at0 G (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).2) k) ∗ ⌜acc = (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).1⌝)
  step k acc := by
    simp only [at0_eq G (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).2) rfl]
    iintro ⟨H3, H4, H5, H6, H7, H8, H9, H10, H11, H12, H13, H14, H15, H16, H17, H18, HG, %h_acc⟩
    subst h_acc
    iapply (wp_wand_r Idealize.ShloMosaic.frame (wpE (defs₀ (F := F)) 𝒱₀ (c : Thread nD τ) none) Set.univ)
    isplitl [H3 H4 H5 H6 H7 H8 H9 H10 H11 H12 H13 H14 H15 H16 H17 H18 HG]
    · iapply (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_h2 v84 v90 v113 v127 v146 v152 v175 v189 v208 v214 v237 v251 v270 v276 v299 v313 v324 v325 k _ _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact HG
    · iintro %yld ⟨%h_y, H3, H4, H5, H6, H7, H8, H9, H10, H11, H12, H13, H14, H15, H16, H17, H18, HG⟩
      rw [at0_succ G (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).2) k.val]
      simp only [st_succ]
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HG]
      · iexact HG
      ipureintro; exact h_y

set_option warn.classDefReducibility false in
/-- The remainder loop: it has no trips. -/
@[sl_loop] def loopInv2 (v0 : BitVec 1) (k0_h2 : k0_cond2 i = 1#1) (v84 : FVec F S256x256 .f32) (v90 : FVec F S256x256 .f32) (v113 : FVec F S256x128 .f32) (v127 : FVec F S256x256 .f32) (v146 : FVec F S256x256 .f32) (v152 : FVec F S256x256 .f32) (v175 : FVec F S256x128 .f32) (v189 : FVec F S256x256 .f32) (v208 : FVec F S256x256 .f32) (v214 : FVec F S256x256 .f32) (v237 : FVec F S256x128 .f32) (v251 : FVec F S256x256 .f32) (v270 : FVec F S256x256 .f32) (v276 : FVec F S256x256 .f32) (v299 : FVec F S256x128 .f32) (v313 : FVec F S256x256 .f32) (v324 v325 : BitVec 32) (v329 : BitVec 32) (init : Carry F) (G : Buf (Elt F) (arg22.view.loc (c : Thread nD τ))) :
    LoopInvTy_k0_t2 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_h2 v84 v90 v113 v127 v146 v152 v175 v189 v208 v214 v237 v251 v270 v276 v299 v313 v324 v325 v329 init where
  inv k acc := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg22.view.loc (c : Thread nD τ) ↦[arg22.view.set]{fullShare} G) ∗ ⌜acc = init⌝)
  step k acc := (Nat.not_lt_zero _ (Nat.lt_of_lt_of_eq k.isLt (trips2 i))).elim

end Trip
end Cert.KernelIdeal.A
end
-- ==== Proof.A.Pure.lean ====
/- What one grid point of the attention's gradient computes, as functions of the blocks it reads: key block `j`
   meets the query blocks `j, j + 1, …, 7` in turn. -/
module

public import proofs.«01_k».proof.Proof.A.Step
public import Idealize.ShloMosaic.Lib.Pipeline.FrameBody
public import Idealize.ShloMosaic.Lib.ValueIdxCore

@[expose] public section

noncomputable section

namespace Cert.KernelIdeal.A

open Cert.KernelIdeal Cert.KernelIdeal.Gen
open Idealize.ShloMosaic Idealize.ShloMosaic.TcCoe Idealize.ShloMosaic.ValueIdx

variable {F : FTy → Type} [FloatOps F]

/-- The blocks a grid point reads: 2048 rows of `q` and `do`, 256 rows of `k` and `v`, per head the rows of `lse`
    (for the upper or the lower group of heads) and of `delta`, and which group it is. -/
structure Blks (F : FTy → Type) where
  q : Vec F S2048x1024 .bf16
  k : Vec F S256x1024 .bf16
  v : Vec F S256x512 .bf16
  d : Vec F S2048x512 .bf16
  hi : Fin 4 → Vec F S8x1x256 .f32
  lo : Fin 4 → Vec F S8x1x256 .f32
  dl : Fin 4 → Vec F S8x1x256 .f32
  up : BitVec 1

theorem inbQ (n : Fin 8) (t : Fin 4) : ∀ a, (![256 * n.val, 256 * t.val] : Fin 2 → Nat) a + S256x256.size a ≤ S2048x1024.size a := by
  revert n t; decide
theorem inbD (n : Fin 8) (t : Fin 4) : ∀ a, (![256 * n.val, 128 * t.val] : Fin 2 → Nat) a + S256x128.size a ≤ S2048x512.size a := by
  revert n t; decide
theorem inbK (t : Fin 4) : ∀ a, (![0, 256 * t.val] : Fin 2 → Nat) a + S256x256.size a ≤ S256x1024.size a := by
  revert t; decide
theorem inbV (t : Fin 4) : ∀ a, (![0, 128 * t.val] : Fin 2 → Nat) a + S256x128.size a ≤ S256x512.size a := by
  revert t; decide
theorem inbR (n : Fin 8) : ∀ a, (![n.val, 0, 0] : Fin 3 → Nat) a + S1x1x256.size a ≤ S8x1x256.size a := by
  revert n; decide

/-- Query block `n` of head `t`, as a rectangle of the query rows. -/
abbrev rQ (n : Fin 8) (t : Fin 4) : Rect S2048x1024 := Rect.unit ![256 * n.val, 256 * t.val] S256x256.size (inbQ n t)
abbrev rD (n : Fin 8) (t : Fin 4) : Rect S2048x512 := Rect.unit ![256 * n.val, 128 * t.val] S256x128.size (inbD n t)
abbrev rK (t : Fin 4) : Rect S256x1024 := Rect.unit ![0, 256 * t.val] S256x256.size (inbK t)
abbrev rV (t : Fin 4) : Rect S256x512 := Rect.unit ![0, 128 * t.val] S256x128.size (inbV t)
abbrev rR (n : Fin 8) : Rect S8x1x256 := Rect.unit ![n.val, 0, 0] S1x1x256.size (inbR n)

abbrev qT {e : EltTy} (X : Vec F S2048x1024 e) (n : Fin 8) (t : Fin 4) : Vec F S256x256 e := View.ld (Val := Elt F) X (rQ n t)
abbrev dT (X : Vec F S2048x512 .bf16) (n : Fin 8) (t : Fin 4) : Vec F S256x128 .bf16 := View.ld (Val := Elt F) X (rD n t)
abbrev kT (X : Vec F S256x1024 .bf16) (t : Fin 4) : Vec F S256x256 .bf16 := View.ld (Val := Elt F) X (rK t)
abbrev vT (X : Vec F S256x512 .bf16) (t : Fin 4) : Vec F S256x128 .bf16 := View.ld (Val := Elt F) X (rV t)
abbrev rT (X : Vec F S8x1x256 .f32) (n : Fin 8) : Vec F S1x1x256 .f32 := View.ld (Val := Elt F) X (rR n)

/-! A load at an offset that is one of those is the tile. -/

theorem ldQ {e : EltTy} (X : Vec F S2048x1024 e) (off : Fin 2 → Nat) (inb : ∀ a, off a + S256x256.size a ≤ S2048x1024.size a) (n : Fin 8) (t : Fin 4)
    (h : off = ![256 * n.val, 256 * t.val]) : View.ld (Val := Elt F) X (Rect.unit (s := S2048x1024) off S256x256.size inb) = qT X n t := by
  subst h; rfl
theorem ldD (X : Vec F S2048x512 .bf16) (off : Fin 2 → Nat) (inb : ∀ a, off a + S256x128.size a ≤ S2048x512.size a) (n : Fin 8) (t : Fin 4)
    (h : off = ![256 * n.val, 128 * t.val]) : View.ld (Val := Elt F) X (Rect.unit (s := S2048x512) off S256x128.size inb) = dT X n t := by
  subst h; rfl
theorem ldR (X : Vec F S8x1x256 .f32) (off : Fin 3 → Nat) (inb : ∀ a, off a + S1x1x256.size a ≤ S8x1x256.size a) (n : Fin 8)
    (h : off = ![n.val, 0, 0]) : View.ld (Val := Elt F) X (Rect.unit (s := S8x1x256) off S1x1x256.size inb) = rT X n := by
  subst h; rfl

/-- A diagonal block's probabilities: those of keys after the query are zero. -/
def maskF (p : FVec F S256x256 .f32) : FVec F S256x256 .f32 :=
  select (cmpi .sle (iota .tc S256x256 32 [0] iota_S256x256_d0_w32) (iota .tc S256x256 32 [1] iota_S256x256_d1_w32)) p
    (broadcast S256x256 (Scalar.ofBits .f32 0x00000000#32))

/-- The probabilities of head `t`'s keys against query block `n`, unmasked. -/
def pU (b : Blks F) (n : Fin 8) (t : Fin 4) : FVec F S256x256 .f32 :=
  pF b.up (stF (kT b.k t) (qT b.q n t)) (rT (b.hi t) n) (rT (b.lo t) n)

/-- The same, masked where the key block `j` is the query block. -/
def pP (b : Blks F) (j : ℕ) (n : Fin 8) (t : Fin 4) : FVec F S256x256 .f32 :=
  if n.val = j then maskF (pU b n t) else pU b n t

/-- The gradient of the scores. -/
def dsP (b : Blks F) (j : ℕ) (n : Fin 8) (t : Fin 4) : FVec F S256x256 .bf16 :=
  dsF (pP b j n t) (dptF (vT b.v t) (dT b.d n t)) (rT (b.dl t) n)

/-- Head `t`'s gradient of `k` after the first `m` query blocks. -/
def dkA (b : Blks F) (j : ℕ) (t : Fin 4) : ℕ → FVec F S256x256 .f32
  | 0 => broadcast S256x256 (Scalar.ofBits .f32 0x00000000#32)
  | m + 1 => if h : j + m < 8 then dkF (dkA b j t m) (dsP b j ⟨j + m, h⟩ t) (qT b.q ⟨j + m, h⟩ t) else dkA b j t m

/-- Head `t`'s gradient of `v` after the first `m` query blocks. -/
def dvA (b : Blks F) (j : ℕ) (t : Fin 4) : ℕ → FVec F S256x128 .f32
  | 0 => broadcast S256x128 (Scalar.ofBits .f32 0x00000000#32)
  | m + 1 => if h : j + m < 8 then dvF (dvA b j t m) (pP b j ⟨j + m, h⟩ t) (dT b.d ⟨j + m, h⟩ t) else dvA b j t m

theorem dkA_next (b : Blks F) (j : ℕ) (t : Fin 4) (m : ℕ) (h : j + m < 8) :
    dkF (dkA b j t m) (dsP b j ⟨j + m, h⟩ t) (qT b.q ⟨j + m, h⟩ t) = dkA b j t (m + 1) := by
  rw [dkA, dif_pos h]
theorem dvA_next (b : Blks F) (j : ℕ) (t : Fin 4) (m : ℕ) (h : j + m < 8) :
    dvF (dvA b j t m) (pP b j ⟨j + m, h⟩ t) (dT b.d ⟨j + m, h⟩ t) = dvA b j t (m + 1) := by
  rw [dvA, dif_pos h]

/-! The scratch is cut into tiles: an index's block of rows, its head, its place in the tile. -/

def rowB (x : S2048x1024.Idx) : Fin 8 := ⟨(x 0).val / 256, by have h : (x 0).val < 2048 := (x 0).isLt; omega⟩
def colB (x : S2048x1024.Idx) : Fin 4 := ⟨(x 1).val / 256, by have h : (x 1).val < 1024 := (x 1).isLt; omega⟩
def locB (x : S2048x1024.Idx) : S256x256.Idx :=
  ix2 ⟨(x 0).val % 256, Nat.mod_lt _ (by decide)⟩ ⟨(x 1).val % 256, Nat.mod_lt _ (by decide)⟩

theorem rowB_emb (n : Fin 8) (t : Fin 4) (x : S256x256.Idx) : rowB ((rQ n t).emb x) = n := by
  apply Fin.ext
  show (256 * n.val + 1 * (x 0).val) / 256 = n.val
  have h : (x 0).val < 256 := (x 0).isLt
  omega
theorem colB_emb (n : Fin 8) (t : Fin 4) (x : S256x256.Idx) : colB ((rQ n t).emb x) = t := by
  apply Fin.ext
  show (256 * t.val + 1 * (x 1).val) / 256 = t.val
  have h : (x 1).val < 256 := (x 1).isLt
  omega
theorem locB_emb (n : Fin 8) (t : Fin 4) (x : S256x256.Idx) : locB ((rQ n t).emb x) = x := by
  have h0 : (x 0).val < 256 := (x 0).isLt
  have h1 : (x 1).val < 256 := (x 1).isLt
  refine Eq.trans ?_ (eq_ix2 x).symm
  unfold locB
  congr 1
  · apply Fin.ext
    show (256 * n.val + 1 * (x 0).val) % 256 = (x 0).val
    omega
  · apply Fin.ext
    show (256 * t.val + 1 * (x 1).val) % 256 = (x 1).val
    omega
theorem emb_locB (x : S2048x1024.Idx) : (rQ (rowB x) (colB x)).emb (locB x) = x := by
  funext a
  apply Fin.ext
  match a with
  | ⟨0, _⟩ => show 256 * ((x 0).val / 256) + 1 * ((x 0).val % 256) = (x 0).val; omega
  | ⟨1, _⟩ => show 256 * ((x 1).val / 256) + 1 * ((x 1).val % 256) = (x 1).val; omega

def colK (x : S256x1024.Idx) : Fin 4 := ⟨(x 1).val / 256, by have h : (x 1).val < 1024 := (x 1).isLt; omega⟩
def locK (x : S256x1024.Idx) : S256x256.Idx := ix2 (x 0) ⟨(x 1).val % 256, Nat.mod_lt _ (by decide)⟩
theorem colK_emb (t : Fin 4) (x : S256x256.Idx) : colK ((rK t).emb x) = t := by
  apply Fin.ext
  show (256 * t.val + 1 * (x 1).val) / 256 = t.val
  have h : (x 1).val < 256 := (x 1).isLt
  omega
theorem locK_emb (t : Fin 4) (x : S256x256.Idx) : locK ((rK t).emb x) = x := by
  have h1 : (x 1).val < 256 := (x 1).isLt
  refine Eq.trans ?_ (eq_ix2 x).symm
  unfold locK
  congr 1
  · apply Fin.ext
    show 0 + 1 * (x 0).val = (x 0).val
    omega
  · apply Fin.ext
    show (256 * t.val + 1 * (x 1).val) % 256 = (x 1).val
    omega
theorem emb_locK (x : S256x1024.Idx) : (rK (colK x)).emb (locK x) = x := by
  funext a
  apply Fin.ext
  match a with
  | ⟨0, _⟩ => show 0 + 1 * (x 0).val = (x 0).val; omega
  | ⟨1, _⟩ => show 256 * ((x 1).val / 256) + 1 * ((x 1).val % 256) = (x 1).val; omega

def colV (x : S256x512.Idx) : Fin 4 := ⟨(x 1).val / 128, by have h : (x 1).val < 512 := (x 1).isLt; omega⟩
def locV (x : S256x512.Idx) : S256x128.Idx := ix2 (x 0) ⟨(x 1).val % 128, Nat.mod_lt _ (by decide)⟩
theorem colV_emb (t : Fin 4) (x : S256x128.Idx) : colV ((rV t).emb x) = t := by
  apply Fin.ext
  show (128 * t.val + 1 * (x 1).val) / 128 = t.val
  have h : (x 1).val < 128 := (x 1).isLt
  omega
theorem locV_emb (t : Fin 4) (x : S256x128.Idx) : locV ((rV t).emb x) = x := by
  have h1 : (x 1).val < 128 := (x 1).isLt
  refine Eq.trans ?_ (eq_ix2 x).symm
  unfold locV
  congr 1
  · apply Fin.ext
    show 0 + 1 * (x 0).val = (x 0).val
    omega
  · apply Fin.ext
    show (128 * t.val + 1 * (x 1).val) % 128 = (x 1).val
    omega
theorem emb_locV (x : S256x512.Idx) : (rV (colV x)).emb (locV x) = x := by
  funext a
  apply Fin.ext
  match a with
  | ⟨0, _⟩ => show 0 + 1 * (x 0).val = (x 0).val; omega
  | ⟨1, _⟩ => show 128 * ((x 1).val / 128) + 1 * ((x 1).val % 128) = (x 1).val; omega

/-- The scratch's `dq` rows after the first `m` query blocks: the tiles of those have gained `dsᵀ · k`. -/
def scA (b : Blks F) (j : ℕ) (G : Vec F S2048x1024 .f32) (m : ℕ) : Vec F S2048x1024 .f32 := fun x =>
  if j ≤ (rowB x).val ∧ (rowB x).val < j + m then
    dqF (qT G (rowB x) (colB x)) (dsP b j (rowB x) (colB x)) (kT b.k (colB x)) (locB x)
  else G x

theorem scA_zero (b : Blks F) (j : ℕ) (G : Vec F S2048x1024 .f32) : scA b j G 0 = G := by
  funext x
  exact if_neg (by omega)

/-- A tile not yet met is as it was. -/
theorem scA_tile (b : Blks F) (j : ℕ) (G : Vec F S2048x1024 .f32) (m : ℕ) (n : Fin 8) (t : Fin 4) (h : j + m ≤ n.val) :
    qT (scA b j G m) n t = qT G n t := by
  funext x
  show scA b j G m ((rQ n t).emb x) = G ((rQ n t).emb x)
  unfold scA
  rw [rowB_emb]
  exact if_neg (by omega)

/-- The block's gradient of `k`, of all eight query blocks. -/
def dkO (b : Blks F) (j : ℕ) : Vec F S256x1024 .bf16 := fun x => (truncf .bf16 (dkA b j (colK x) (8 - j)) bitsLt_bf16_f32 : FVec F S256x256 .bf16) (locK x)

/-- The block's gradient of `v`, of all eight query blocks. -/
def dvO (b : Blks F) (j : ℕ) : Vec F S256x512 .bf16 := fun x => (truncf .bf16 (dvA b j (colV x) (8 - j)) bitsLt_bf16_f32 : FVec F S256x128 .bf16) (locV x)

theorem fin4 : ∀ t : Fin 4, t = 0 ∨ t = 1 ∨ t = 2 ∨ t = 3 := by decide

section Writes
variable {sig : RefSig} {κ : Kind} {sp : Space}

/-- What a run of stores leaves is `R` when every store writes `R`'s part and the rest was `R` already. -/
theorem read_writes_eq {s : Shape} {e : EltTy} (v : View sig κ sp s e) (f : v.ty.Contents (Elt F)) (L : List (View.Piece (Elt F) s e)) (R : s.Idx → Elt F e)
    (hp : ∀ p ∈ L, ∀ x : p.1.shape.Idx, p.2 x = R (p.1.emb x)) (hn : ∀ y, (∀ p ∈ L, y ∉ p.1.set) → v.read (Elt F) f y = R y) :
    v.read (Elt F) (v.writes (Elt F) f L) = R := by
  funext y
  by_cases h : ∃ p ∈ L, y ∈ p.1.set
  · exact View.read_writes_apply_of_pieces v f R L hp y h
  · have h' : ∀ p ∈ L, y ∉ p.1.set := fun p hm hy => h ⟨p, hm, hy⟩
    rw [View.read_writes_apply_of_forall_not_mem v f y L h']
    exact hn y h'

theorem mem_rQ (x : S2048x1024.Idx) (n : Fin 8) (t : Fin 4) (hn : rowB x = n) (ht : colB x = t) : x ∈ (rQ n t).set := by
  subst hn; subst ht
  have := (rQ (rowB x) (colB x)).toLoadRect.idx_mem (locB x)
  rwa [show (rQ (rowB x) (colB x)).toLoadRect.idx (locB x) = x from emb_locB x] at this

/-- Four stores, one per head, of query block `j + m`'s new `dq` tiles. -/
theorem upd4 (v : View sig κ sp S2048x1024 .f32) (f : v.ty.Contents (Elt F)) (b : Blks F) (j : ℕ) (G : Vec F S2048x1024 .f32) (m : ℕ) (h : j + m < 8)
    (o0 o1 o2 o3 : Fin 2 → Nat) (i0 : ∀ a, o0 a + S256x256.size a ≤ S2048x1024.size a) (i1 : ∀ a, o1 a + S256x256.size a ≤ S2048x1024.size a)
    (i2 : ∀ a, o2 a + S256x256.size a ≤ S2048x1024.size a) (i3 : ∀ a, o3 a + S256x256.size a ≤ S2048x1024.size a)
    (h0 : o0 = ![256 * (j + m), 0]) (h1 : o1 = ![256 * (j + m), 256]) (h2 : o2 = ![256 * (j + m), 512]) (h3 : o3 = ![256 * (j + m), 768])
    (w0 w1 w2 w3 : Vec F S256x256 .f32) (hf : v.read (Elt F) f = scA b j G m)
    (e0 : w0 = dqF (qT G ⟨j + m, h⟩ 0) (dsP b j ⟨j + m, h⟩ 0) (kT b.k 0)) (e1 : w1 = dqF (qT G ⟨j + m, h⟩ 1) (dsP b j ⟨j + m, h⟩ 1) (kT b.k 1))
    (e2 : w2 = dqF (qT G ⟨j + m, h⟩ 2) (dsP b j ⟨j + m, h⟩ 2) (kT b.k 2)) (e3 : w3 = dqF (qT G ⟨j + m, h⟩ 3) (dsP b j ⟨j + m, h⟩ 3) (kT b.k 3)) :
    v.read (Elt F) (v.writes (Elt F) f [⟨Rect.unit (s := S2048x1024) o3 S256x256.size i3, w3⟩, ⟨Rect.unit (s := S2048x1024) o2 S256x256.size i2, w2⟩,
      ⟨Rect.unit (s := S2048x1024) o1 S256x256.size i1, w1⟩, ⟨Rect.unit (s := S2048x1024) o0 S256x256.size i0, w0⟩]) = scA b j G (m + 1) := by
  have key : ∀ (t : Fin 4) (x : S256x256.Idx), dqF (qT G ⟨j + m, h⟩ t) (dsP b j ⟨j + m, h⟩ t) (kT b.k t) x = scA b j G (m + 1) ((rQ ⟨j + m, h⟩ t).emb x) := by
    intro t x
    unfold scA
    rw [rowB_emb, colB_emb, locB_emb, if_pos (show j ≤ j + m ∧ j + m < j + (m + 1) by omega)]
  subst h0 h1 h2 h3 e0 e1 e2 e3
  refine read_writes_eq v f _ _ ?_ ?_
  · intro p hp x
    simp only [List.mem_cons, List.not_mem_nil, or_false] at hp
    rcases hp with rfl | rfl | rfl | rfl
    · exact key 3 x
    · exact key 2 x
    · exact key 1 x
    · exact key 0 x
  · intro y hy
    rw [hf]
    by_cases hr : (rowB y).val = j + m
    · exfalso
      have hr' : rowB y = ⟨j + m, h⟩ := Fin.ext hr
      have hm : ∀ t : Fin 4, colB y = t → y ∈ (rQ ⟨j + m, h⟩ t).set := fun t ht => mem_rQ y _ _ hr' ht
      have hy3 := hy _ List.mem_cons_self
      have hy2 := hy _ (List.mem_cons_of_mem _ List.mem_cons_self)
      have hy1 := hy _ (List.mem_cons_of_mem _ (List.mem_cons_of_mem _ List.mem_cons_self))
      have hy0 := hy _ (List.mem_cons_of_mem _ (List.mem_cons_of_mem _ (List.mem_cons_of_mem _ List.mem_cons_self)))
      rcases fin4 (colB y) with hc | hc | hc | hc
      · exact hy0 (hm 0 hc)
      · exact hy1 (hm 1 hc)
      · exact hy2 (hm 2 hc)
      · exact hy3 (hm 3 hc)
    · unfold scA
      by_cases hc : j ≤ (rowB y).val ∧ (rowB y).val < j + m
      · rw [if_pos hc, if_pos (by omega)]
      · rw [if_neg hc, if_neg (by omega)]

/-- Four stores, one per head, fill the block's gradient of `k`. -/
theorem outK4 (v : View sig κ sp S256x1024 .bf16) (f : v.ty.Contents (Elt F)) (b : Blks F) (j : ℕ)
    (i0 : ∀ a, (![0, 0] : Fin 2 → Nat) a + S256x256.size a ≤ S256x1024.size a) (i1 : ∀ a, (![0, 256] : Fin 2 → Nat) a + S256x256.size a ≤ S256x1024.size a)
    (i2 : ∀ a, (![0, 512] : Fin 2 → Nat) a + S256x256.size a ≤ S256x1024.size a) (i3 : ∀ a, (![0, 768] : Fin 2 → Nat) a + S256x256.size a ≤ S256x1024.size a)
    (w0 w1 w2 w3 : FVec F S256x256 .f32) (e0 : w0 = dkA b j 0 (8 - j)) (e1 : w1 = dkA b j 1 (8 - j)) (e2 : w2 = dkA b j 2 (8 - j)) (e3 : w3 = dkA b j 3 (8 - j)) :
    v.read (Elt F) (v.writes (Elt F) f [⟨Rect.unit (s := S256x1024) ![0, 768] S256x256.size i3, truncf .bf16 w3 bitsLt_bf16_f32⟩,
      ⟨Rect.unit (s := S256x1024) ![0, 512] S256x256.size i2, truncf .bf16 w2 bitsLt_bf16_f32⟩,
      ⟨Rect.unit (s := S256x1024) ![0, 256] S256x256.size i1, truncf .bf16 w1 bitsLt_bf16_f32⟩,
      ⟨Rect.unit (s := S256x1024) ![0, 0] S256x256.size i0, truncf .bf16 w0 bitsLt_bf16_f32⟩]) = dkO b j := by
  subst e0 e1 e2 e3
  have key : ∀ (t : Fin 4) (x : S256x256.Idx), (truncf .bf16 (dkA b j t (8 - j)) bitsLt_bf16_f32 : FVec F S256x256 .bf16) x = dkO b j ((rK t).emb x) := by
    intro t x
    unfold dkO
    rw [colK_emb, locK_emb]
  refine read_writes_eq v f _ _ ?_ ?_
  · intro p hp x
    simp only [List.mem_cons, List.not_mem_nil, or_false] at hp
    rcases hp with rfl | rfl | rfl | rfl
    · exact key 3 x
    · exact key 2 x
    · exact key 1 x
    · exact key 0 x
  · intro y hy
    exfalso
    have hm : ∀ t : Fin 4, colK y = t → y ∈ (rK t).set := by
      rintro t rfl
      have := (rK (colK y)).toLoadRect.idx_mem (locK y)
      rwa [show (rK (colK y)).toLoadRect.idx (locK y) = y from emb_locK y] at this
    have hy3 := hy _ List.mem_cons_self
    have hy2 := hy _ (List.mem_cons_of_mem _ List.mem_cons_self)
    have hy1 := hy _ (List.mem_cons_of_mem _ (List.mem_cons_of_mem _ List.mem_cons_self))
    have hy0 := hy _ (List.mem_cons_of_mem _ (List.mem_cons_of_mem _ (List.mem_cons_of_mem _ List.mem_cons_self)))
    rcases fin4 (colK y) with hc | hc | hc | hc
    · exact hy0 (hm 0 hc)
    · exact hy1 (hm 1 hc)
    · exact hy2 (hm 2 hc)
    · exact hy3 (hm 3 hc)

/-- Four stores, one per head, fill the block's gradient of `v`. -/
theorem outV4 (v : View sig κ sp S256x512 .bf16) (f : v.ty.Contents (Elt F)) (b : Blks F) (j : ℕ)
    (i0 : ∀ a, (![0, 0] : Fin 2 → Nat) a + S256x128.size a ≤ S256x512.size a) (i1 : ∀ a, (![0, 128] : Fin 2 → Nat) a + S256x128.size a ≤ S256x512.size a)
    (i2 : ∀ a, (![0, 256] : Fin 2 → Nat) a + S256x128.size a ≤ S256x512.size a) (i3 : ∀ a, (![0, 384] : Fin 2 → Nat) a + S256x128.size a ≤ S256x512.size a)
    (w0 w1 w2 w3 : FVec F S256x128 .f32) (e0 : w0 = dvA b j 0 (8 - j)) (e1 : w1 = dvA b j 1 (8 - j)) (e2 : w2 = dvA b j 2 (8 - j)) (e3 : w3 = dvA b j 3 (8 - j)) :
    v.read (Elt F) (v.writes (Elt F) f [⟨Rect.unit (s := S256x512) ![0, 384] S256x128.size i3, truncf .bf16 w3 bitsLt_bf16_f32⟩,
      ⟨Rect.unit (s := S256x512) ![0, 256] S256x128.size i2, truncf .bf16 w2 bitsLt_bf16_f32⟩,
      ⟨Rect.unit (s := S256x512) ![0, 128] S256x128.size i1, truncf .bf16 w1 bitsLt_bf16_f32⟩,
      ⟨Rect.unit (s := S256x512) ![0, 0] S256x128.size i0, truncf .bf16 w0 bitsLt_bf16_f32⟩]) = dvO b j := by
  subst e0 e1 e2 e3
  have key : ∀ (t : Fin 4) (x : S256x128.Idx), (truncf .bf16 (dvA b j t (8 - j)) bitsLt_bf16_f32 : FVec F S256x128 .bf16) x = dvO b j ((rV t).emb x) := by
    intro t x
    unfold dvO
    rw [colV_emb, locV_emb]
  refine read_writes_eq v f _ _ ?_ ?_
  · intro p hp x
    simp only [List.mem_cons, List.not_mem_nil, or_false] at hp
    rcases hp with rfl | rfl | rfl | rfl
    · exact key 3 x
    · exact key 2 x
    · exact key 1 x
    · exact key 0 x
  · intro y hy
    exfalso
    have hm : ∀ t : Fin 4, colV y = t → y ∈ (rV t).set := by
      rintro t rfl
      have := (rV (colV y)).toLoadRect.idx_mem (locV y)
      rwa [show (rV (colV y)).toLoadRect.idx (locV y) = y from emb_locV y] at this
    have hy3 := hy _ List.mem_cons_self
    have hy2 := hy _ (List.mem_cons_of_mem _ List.mem_cons_self)
    have hy1 := hy _ (List.mem_cons_of_mem _ (List.mem_cons_of_mem _ List.mem_cons_self))
    have hy0 := hy _ (List.mem_cons_of_mem _ (List.mem_cons_of_mem _ (List.mem_cons_of_mem _ List.mem_cons_self)))
    rcases fin4 (colV y) with hc | hc | hc | hc
    · exact hy0 (hm 0 hc)
    · exact hy1 (hm 1 hc)
    · exact hy2 (hm 2 hc)
    · exact hy3 (hm 3 hc)

end Writes
end Cert.KernelIdeal.A
end
-- ==== Proof.A.Explicit.lean ====
module

public import proofs.«01_k».proof.Proof.A.Trip
public import proofs.«01_k».proof.Proof.A.Pure
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks as a grid point's references hold them. -/
def blks (c : Dev nD) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (up : BitVec 1) : Blks F where
  q := arg3.view.read (Elt F) X3
  k := arg4.view.read (Elt F) X4
  v := arg5.view.read (Elt F) X5
  d := arg6.view.read (Elt F) X6
  hi := ![arg11.view.read (Elt F) X11, arg12.view.read (Elt F) X12, arg13.view.read (Elt F) X13, arg14.view.read (Elt F) X14]
  lo := ![arg7.view.read (Elt F) X7, arg8.view.read (Elt F) X8, arg9.view.read (Elt F) X9, arg10.view.read (Elt F) X10]
  dl := ![arg15.view.read (Elt F) X15, arg16.view.read (Elt F) X16, arg17.view.read (Elt F) X17, arg18.view.read (Elt F) X18]
  up := up

/-- The diagonal block's step, when blocks follow: what the loop starts with, -/
def firstY (b : Blks F) (i : grid0.Coords) (k0_h2 : k0_cond2 i = 1#1) : Carry F :=
  (dkF (broadcast S256x256 (Scalar.ofBits .f32 0x00000000#32)) (dsF (maskF (pF b.up (stF (kT b.k 0) (View.ld (Val := Elt F) b.q (Rect.unit (s := S2048x1024) (k0_off1 i) S256x256.size (k0_off1_inb i k0_h2)))) (View.ld (Val := Elt F) (b.hi 0) (Rect.unit (s := S8x1x256) (k0_off11 i) S1x1x256.size (k0_off11_inb i k0_h2))) (View.ld (Val := Elt F) (b.lo 0) (Rect.unit (s := S8x1x256) (k0_off11 i) S1x1x256.size (k0_off11_inb i k0_h2))))) (dptF (vT b.v 0) (View.ld (Val := Elt F) b.d (Rect.unit (s := S2048x512) (k0_off2 i) S256x128.size (k0_off2_inb i k0_h2)))) (View.ld (Val := Elt F) (b.dl 0) (Rect.unit (s := S8x1x256) (k0_off11 i) S1x1x256.size (k0_off11_inb i k0_h2)))) (View.ld (Val := Elt F) b.q (Rect.unit (s := S2048x1024) (k0_off1 i) S256x256.size (k0_off1_inb i k0_h2))),
    dvF (broadcast S256x128 (Scalar.ofBits .f32 0x00000000#32)) (maskF (pF b.up (stF (kT b.k 0) (View.ld (Val := Elt F) b.q (Rect.unit (s := S2048x1024) (k0_off1 i) S256x256.size (k0_off1_inb i k0_h2)))) (View.ld (Val := Elt F) (b.hi 0) (Rect.unit (s := S8x1x256) (k0_off11 i) S1x1x256.size (k0_off11_inb i k0_h2))) (View.ld (Val := Elt F) (b.lo 0) (Rect.unit (s := S8x1x256) (k0_off11 i) S1x1x256.size (k0_off11_inb i k0_h2))))) (View.ld (Val := Elt F) b.d (Rect.unit (s := S2048x512) (k0_off2 i) S256x128.size (k0_off2_inb i k0_h2))),
    stF (kT b.k 0) (View.ld (Val := Elt F) b.q (Rect.unit (s := S2048x1024) (k0_off9 i) S256x256.size (k0_off9_inb i k0_h2))),
    dptF (vT b.v 0) (View.ld (Val := Elt F) b.d (Rect.unit (s := S2048x512) (k0_off10 i) S256x128.size (k0_off10_inb i k0_h2))),
    dkF (broadcast S256x256 (Scalar.ofBits .f32 0x00000000#32)) (dsF (maskF (pF b.up (stF (kT b.k 1) (View.ld (Val := Elt F) b.q (Rect.unit (s := S2048x1024) (k0_off3 i) S256x256.size (k0_off3_inb i k0_h2)))) (View.ld (Val := Elt F) (b.hi 1) (Rect.unit (s := S8x1x256) (k0_off11 i) S1x1x256.size (k0_off11_inb i k0_h2))) (View.ld (Val := Elt F) (b.lo 1) (Rect.unit (s := S8x1x256) (k0_off11 i) S1x1x256.size (k0_off11_inb i k0_h2))))) (dptF (vT b.v 1) (View.ld (Val := Elt F) b.d (Rect.unit (s := S2048x512) (k0_off4 i) S256x128.size (k0_off4_inb i k0_h2)))) (View.ld (Val := Elt F) (b.dl 1) (Rect.unit (s := S8x1x256) (k0_off11 i) S1x1x256.size (k0_off11_inb i k0_h2)))) (View.ld (Val := Elt F) b.q (Rect.unit (s := S2048x1024) (k0_off3 i) S256x256.size (k0_off3_inb i k0_h2))),
    dvF (broadcast S256x128 (Scalar.ofBits .f32 0x00000000#32)) (maskF (pF b.up (stF (kT b.k 1) (View.ld (Val := Elt F) b.q (Rect.unit (s := S2048x1024) (k0_off3 i) S256x256.size (k0_off3_inb i k0_h2)))) (View.ld (Val := Elt F) (b.hi 1) (Rect.unit (s := S8x1x256) (k0_off11 i) S1x1x256.size (k0_off11_inb i k0_h2))) (View.ld (Val := Elt F) (b.lo 1) (Rect.unit (s := S8x1x256) (k0_off11 i) S1x1x256.size (k0_off11_inb i k0_h2))))) (View.ld (Val := Elt F) b.d (Rect.unit (s := S2048x512) (k0_off4 i) S256x128.size (k0_off4_inb i k0_h2))),
    stF (kT b.k 1) (View.ld (Val := Elt F) b.q (Rect.unit (s := S2048x1024) (k0_off12 i) S256x256.size (k0_off12_inb i k0_h2))),
    dptF (vT b.v 1) (View.ld (Val := Elt F) b.d (Rect.unit (s := S2048x512) (k0_off13 i) S256x128.size (k0_off13_inb i k0_h2))),
    dkF (broadcast S256x256 (Scalar.ofBits .f32 0x00000000#32)) (dsF (maskF (pF b.up (stF (kT b.k 2) (View.ld (Val := Elt F) b.q (Rect.unit (s := S2048x1024) (k0_off5 i) S256x256.size (k0_off5_inb i k0_h2)))) (View.ld (Val := Elt F) (b.hi 2) (Rect.unit (s := S8x1x256) (k0_off11 i) S1x1x256.size (k0_off11_inb i k0_h2))) (View.ld (Val := Elt F) (b.lo 2) (Rect.unit (s := S8x1x256) (k0_off11 i) S1x1x256.size (k0_off11_inb i k0_h2))))) (dptF (vT b.v 2) (View.ld (Val := Elt F) b.d (Rect.unit (s := S2048x512) (k0_off6 i) S256x128.size (k0_off6_inb i k0_h2)))) (View.ld (Val := Elt F) (b.dl 2) (Rect.unit (s := S8x1x256) (k0_off11 i) S1x1x256.size (k0_off11_inb i k0_h2)))) (View.ld (Val := Elt F) b.q (Rect.unit (s := S2048x1024) (k0_off5 i) S256x256.size (k0_off5_inb i k0_h2))),
    dvF (broadcast S256x128 (Scalar.ofBits .f32 0x00000000#32)) (maskF (pF b.up (stF (kT b.k 2) (View.ld (Val := Elt F) b.q (Rect.unit (s := S2048x1024) (k0_off5 i) S256x256.size (k0_off5_inb i k0_h2)))) (View.ld (Val := Elt F) (b.hi 2) (Rect.unit (s := S8x1x256) (k0_off11 i) S1x1x256.size (k0_off11_inb i k0_h2))) (View.ld (Val := Elt F) (b.lo 2) (Rect.unit (s := S8x1x256) (k0_off11 i) S1x1x256.size (k0_off11_inb i k0_h2))))) (View.ld (Val := Elt F) b.d (Rect.unit (s := S2048x512) (k0_off6 i) S256x128.size (k0_off6_inb i k0_h2))),
    stF (kT b.k 2) (View.ld (Val := Elt F) b.q (Rect.unit (s := S2048x1024) (k0_off14 i) S256x256.size (k0_off14_inb i k0_h2))),
    dptF (vT b.v 2) (View.ld (Val := Elt F) b.d (Rect.unit (s := S2048x512) (k0_off15 i) S256x128.size (k0_off15_inb i k0_h2))),
    dkF (broadcast S256x256 (Scalar.ofBits .f32 0x00000000#32)) (dsF (maskF (pF b.up (stF (kT b.k 3) (View.ld (Val := Elt F) b.q (Rect.unit (s := S2048x1024) (k0_off7 i) S256x256.size (k0_off7_inb i k0_h2)))) (View.ld (Val := Elt F) (b.hi 3) (Rect.unit (s := S8x1x256) (k0_off11 i) S1x1x256.size (k0_off11_inb i k0_h2))) (View.ld (Val := Elt F) (b.lo 3) (Rect.unit (s := S8x1x256) (k0_off11 i) S1x1x256.size (k0_off11_inb i k0_h2))))) (dptF (vT b.v 3) (View.ld (Val := Elt F) b.d (Rect.unit (s := S2048x512) (k0_off8 i) S256x128.size (k0_off8_inb i k0_h2)))) (View.ld (Val := Elt F) (b.dl 3) (Rect.unit (s := S8x1x256) (k0_off11 i) S1x1x256.size (k0_off11_inb i k0_h2)))) (View.ld (Val := Elt F) b.q (Rect.unit (s := S2048x1024) (k0_off7 i) S256x256.size (k0_off7_inb i k0_h2))),
    dvF (broadcast S256x128 (Scalar.ofBits .f32 0x00000000#32)) (maskF (pF b.up (stF (kT b.k 3) (View.ld (Val := Elt F) b.q (Rect.unit (s := S2048x1024) (k0_off7 i) S256x256.size (k0_off7_inb i k0_h2)))) (View.ld (Val := Elt F) (b.hi 3) (Rect.unit (s := S8x1x256) (k0_off11 i) S1x1x256.size (k0_off11_inb i k0_h2))) (View.ld (Val := Elt F) (b.lo 3) (Rect.unit (s := S8x1x256) (k0_off11 i) S1x1x256.size (k0_off11_inb i k0_h2))))) (View.ld (Val := Elt F) b.d (Rect.unit (s := S2048x512) (k0_off8 i) S256x128.size (k0_off8_inb i k0_h2))),
    stF (kT b.k 3) (View.ld (Val := Elt F) b.q (Rect.unit (s := S2048x1024) (k0_off16 i) S256x256.size (k0_off16_inb i k0_h2))),
    dptF (vT b.v 3) (View.ld (Val := Elt F) b.d (Rect.unit (s := S2048x512) (k0_off17 i) S256x128.size (k0_off17_inb i k0_h2))))

/-- and its stores into the scratch, each tile read as the scratch stands then. -/
def firstL (b : Blks F) (i : grid0.Coords) (k0_h2 : k0_cond2 i = 1#1) (G0 G1 G2 G3 : Vec F S2048x1024 .f32) : List (View.Piece (Elt F) S2048x1024 .f32) :=
  [⟨Rect.unit (s := S2048x1024) (k0_off7 i) S256x256.size (k0_off7_inb i k0_h2), dqF (View.ld (Val := Elt F) G3 (Rect.unit (s := S2048x1024) (k0_off7 i) S256x256.size (k0_off7_inb i k0_h2))) (dsF (maskF (pF b.up (stF (kT b.k 3) (View.ld (Val := Elt F) b.q (Rect.unit (s := S2048x1024) (k0_off7 i) S256x256.size (k0_off7_inb i k0_h2)))) (View.ld (Val := Elt F) (b.hi 3) (Rect.unit (s := S8x1x256) (k0_off11 i) S1x1x256.size (k0_off11_inb i k0_h2))) (View.ld (Val := Elt F) (b.lo 3) (Rect.unit (s := S8x1x256) (k0_off11 i) S1x1x256.size (k0_off11_inb i k0_h2))))) (dptF (vT b.v 3) (View.ld (Val := Elt F) b.d (Rect.unit (s := S2048x512) (k0_off8 i) S256x128.size (k0_off8_inb i k0_h2)))) (View.ld (Val := Elt F) (b.dl 3) (Rect.unit (s := S8x1x256) (k0_off11 i) S1x1x256.size (k0_off11_inb i k0_h2)))) (kT b.k 3)⟩,
    ⟨Rect.unit (s := S2048x1024) (k0_off5 i) S256x256.size (k0_off5_inb i k0_h2), dqF (View.ld (Val := Elt F) G2 (Rect.unit (s := S2048x1024) (k0_off5 i) S256x256.size (k0_off5_inb i k0_h2))) (dsF (maskF (pF b.up (stF (kT b.k 2) (View.ld (Val := Elt F) b.q (Rect.unit (s := S2048x1024) (k0_off5 i) S256x256.size (k0_off5_inb i k0_h2)))) (View.ld (Val := Elt F) (b.hi 2) (Rect.unit (s := S8x1x256) (k0_off11 i) S1x1x256.size (k0_off11_inb i k0_h2))) (View.ld (Val := Elt F) (b.lo 2) (Rect.unit (s := S8x1x256) (k0_off11 i) S1x1x256.size (k0_off11_inb i k0_h2))))) (dptF (vT b.v 2) (View.ld (Val := Elt F) b.d (Rect.unit (s := S2048x512) (k0_off6 i) S256x128.size (k0_off6_inb i k0_h2)))) (View.ld (Val := Elt F) (b.dl 2) (Rect.unit (s := S8x1x256) (k0_off11 i) S1x1x256.size (k0_off11_inb i k0_h2)))) (kT b.k 2)⟩,
    ⟨Rect.unit (s := S2048x1024) (k0_off3 i) S256x256.size (k0_off3_inb i k0_h2), dqF (View.ld (Val := Elt F) G1 (Rect.unit (s := S2048x1024) (k0_off3 i) S256x256.size (k0_off3_inb i k0_h2))) (dsF (maskF (pF b.up (stF (kT b.k 1) (View.ld (Val := Elt F) b.q (Rect.unit (s := S2048x1024) (k0_off3 i) S256x256.size (k0_off3_inb i k0_h2)))) (View.ld (Val := Elt F) (b.hi 1) (Rect.unit (s := S8x1x256) (k0_off11 i) S1x1x256.size (k0_off11_inb i k0_h2))) (View.ld (Val := Elt F) (b.lo 1) (Rect.unit (s := S8x1x256) (k0_off11 i) S1x1x256.size (k0_off11_inb i k0_h2))))) (dptF (vT b.v 1) (View.ld (Val := Elt F) b.d (Rect.unit (s := S2048x512) (k0_off4 i) S256x128.size (k0_off4_inb i k0_h2)))) (View.ld (Val := Elt F) (b.dl 1) (Rect.unit (s := S8x1x256) (k0_off11 i) S1x1x256.size (k0_off11_inb i k0_h2)))) (kT b.k 1)⟩,
    ⟨Rect.unit (s := S2048x1024) (k0_off1 i) S256x256.size (k0_off1_inb i k0_h2), dqF (View.ld (Val := Elt F) G0 (Rect.unit (s := S2048x1024) (k0_off1 i) S256x256.size (k0_off1_inb i k0_h2))) (dsF (maskF (pF b.up (stF (kT b.k 0) (View.ld (Val := Elt F) b.q (Rect.unit (s := S2048x1024) (k0_off1 i) S256x256.size (k0_off1_inb i k0_h2)))) (View.ld (Val := Elt F) (b.hi 0) (Rect.unit (s := S8x1x256) (k0_off11 i) S1x1x256.size (k0_off11_inb i k0_h2))) (View.ld (Val := Elt F) (b.lo 0) (Rect.unit (s := S8x1x256) (k0_off11 i) S1x1x256.size (k0_off11_inb i k0_h2))))) (dptF (vT b.v 0) (View.ld (Val := Elt F) b.d (Rect.unit (s := S2048x512) (k0_off2 i) S256x128.size (k0_off2_inb i k0_h2)))) (View.ld (Val := Elt F) (b.dl 0) (Rect.unit (s := S8x1x256) (k0_off11 i) S1x1x256.size (k0_off11_inb i k0_h2)))) (kT b.k 0)⟩]

/-- One trip's carried values over the blocks, -/
def tripYb (b : Blks F) (i : grid0.Coords) (k0_h2 : k0_cond2 i = 1#1) (k : Fin (k0_t1_loop i).trips) (acc : Carry F) : Carry F :=
  (dkF acc.1 (dsF (pF b.up acc.2.2.1 (View.ld (Val := Elt F) (b.hi 0) (Rect.unit (s := S8x1x256) (k0_off20 i k) S1x1x256.size (k0_off20_inb i k k0_h2))) (View.ld (Val := Elt F) (b.lo 0) (Rect.unit (s := S8x1x256) (k0_off20 i k) S1x1x256.size (k0_off20_inb i k k0_h2)))) acc.2.2.2.1 (View.ld (Val := Elt F) (b.dl 0) (Rect.unit (s := S8x1x256) (k0_off20 i k) S1x1x256.size (k0_off20_inb i k k0_h2)))) (View.ld (Val := Elt F) b.q (Rect.unit (s := S2048x1024) (k0_off22 i k) S256x256.size (k0_off22_inb i k k0_h2))),
    dvF acc.2.1 (pF b.up acc.2.2.1 (View.ld (Val := Elt F) (b.hi 0) (Rect.unit (s := S8x1x256) (k0_off20 i k) S1x1x256.size (k0_off20_inb i k k0_h2))) (View.ld (Val := Elt F) (b.lo 0) (Rect.unit (s := S8x1x256) (k0_off20 i k) S1x1x256.size (k0_off20_inb i k k0_h2)))) (View.ld (Val := Elt F) b.d (Rect.unit (s := S2048x512) (k0_off21 i k) S256x128.size (k0_off21_inb i k k0_h2))),
    stF (kT b.k 0) (View.ld (Val := Elt F) b.q (Rect.unit (s := S2048x1024) (k0_off18 i k) S256x256.size (k0_off18_inb i k k0_h2))),
    dptF (vT b.v 0) (View.ld (Val := Elt F) b.d (Rect.unit (s := S2048x512) (k0_off19 i k) S256x128.size (k0_off19_inb i k k0_h2))),
    dkF acc.2.2.2.2.1 (dsF (pF b.up acc.2.2.2.2.2.2.1 (View.ld (Val := Elt F) (b.hi 1) (Rect.unit (s := S8x1x256) (k0_off20 i k) S1x1x256.size (k0_off20_inb i k k0_h2))) (View.ld (Val := Elt F) (b.lo 1) (Rect.unit (s := S8x1x256) (k0_off20 i k) S1x1x256.size (k0_off20_inb i k k0_h2)))) acc.2.2.2.2.2.2.2.1 (View.ld (Val := Elt F) (b.dl 1) (Rect.unit (s := S8x1x256) (k0_off20 i k) S1x1x256.size (k0_off20_inb i k k0_h2)))) (View.ld (Val := Elt F) b.q (Rect.unit (s := S2048x1024) (k0_off26 i k) S256x256.size (k0_off26_inb i k k0_h2))),
    dvF acc.2.2.2.2.2.1 (pF b.up acc.2.2.2.2.2.2.1 (View.ld (Val := Elt F) (b.hi 1) (Rect.unit (s := S8x1x256) (k0_off20 i k) S1x1x256.size (k0_off20_inb i k k0_h2))) (View.ld (Val := Elt F) (b.lo 1) (Rect.unit (s := S8x1x256) (k0_off20 i k) S1x1x256.size (k0_off20_inb i k k0_h2)))) (View.ld (Val := Elt F) b.d (Rect.unit (s := S2048x512) (k0_off25 i k) S256x128.size (k0_off25_inb i k k0_h2))),
    stF (kT b.k 1) (View.ld (Val := Elt F) b.q (Rect.unit (s := S2048x1024) (k0_off23 i k) S256x256.size (k0_off23_inb i k k0_h2))),
    dptF (vT b.v 1) (View.ld (Val := Elt F) b.d (Rect.unit (s := S2048x512) (k0_off24 i k) S256x128.size (k0_off24_inb i k k0_h2))),
    dkF acc.2.2.2.2.2.2.2.2.1 (dsF (pF b.up acc.2.2.2.2.2.2.2.2.2.2.1 (View.ld (Val := Elt F) (b.hi 2) (Rect.unit (s := S8x1x256) (k0_off20 i k) S1x1x256.size (k0_off20_inb i k k0_h2))) (View.ld (Val := Elt F) (b.lo 2) (Rect.unit (s := S8x1x256) (k0_off20 i k) S1x1x256.size (k0_off20_inb i k k0_h2)))) acc.2.2.2.2.2.2.2.2.2.2.2.1 (View.ld (Val := Elt F) (b.dl 2) (Rect.unit (s := S8x1x256) (k0_off20 i k) S1x1x256.size (k0_off20_inb i k k0_h2)))) (View.ld (Val := Elt F) b.q (Rect.unit (s := S2048x1024) (k0_off30 i k) S256x256.size (k0_off30_inb i k k0_h2))),
    dvF acc.2.2.2.2.2.2.2.2.2.1 (pF b.up acc.2.2.2.2.2.2.2.2.2.2.1 (View.ld (Val := Elt F) (b.hi 2) (Rect.unit (s := S8x1x256) (k0_off20 i k) S1x1x256.size (k0_off20_inb i k k0_h2))) (View.ld (Val := Elt F) (b.lo 2) (Rect.unit (s := S8x1x256) (k0_off20 i k) S1x1x256.size (k0_off20_inb i k k0_h2)))) (View.ld (Val := Elt F) b.d (Rect.unit (s := S2048x512) (k0_off29 i k) S256x128.size (k0_off29_inb i k k0_h2))),
    stF (kT b.k 2) (View.ld (Val := Elt F) b.q (Rect.unit (s := S2048x1024) (k0_off27 i k) S256x256.size (k0_off27_inb i k k0_h2))),
    dptF (vT b.v 2) (View.ld (Val := Elt F) b.d (Rect.unit (s := S2048x512) (k0_off28 i k) S256x128.size (k0_off28_inb i k k0_h2))),
    dkF acc.2.2.2.2.2.2.2.2.2.2.2.2.1 (dsF (pF b.up acc.2.2.2.2.2.2.2.2.2.2.2.2.2.2.1 (View.ld (Val := Elt F) (b.hi 3) (Rect.unit (s := S8x1x256) (k0_off20 i k) S1x1x256.size (k0_off20_inb i k k0_h2))) (View.ld (Val := Elt F) (b.lo 3) (Rect.unit (s := S8x1x256) (k0_off20 i k) S1x1x256.size (k0_off20_inb i k k0_h2)))) acc.2.2.2.2.2.2.2.2.2.2.2.2.2.2.2 (View.ld (Val := Elt F) (b.dl 3) (Rect.unit (s := S8x1x256) (k0_off20 i k) S1x1x256.size (k0_off20_inb i k k0_h2)))) (View.ld (Val := Elt F) b.q (Rect.unit (s := S2048x1024) (k0_off34 i k) S256x256.size (k0_off34_inb i k k0_h2))),
    dvF acc.2.2.2.2.2.2.2.2.2.2.2.2.2.1 (pF b.up acc.2.2.2.2.2.2.2.2.2.2.2.2.2.2.1 (View.ld (Val := Elt F) (b.hi 3) (Rect.unit (s := S8x1x256) (k0_off20 i k) S1x1x256.size (k0_off20_inb i k k0_h2))) (View.ld (Val := Elt F) (b.lo 3) (Rect.unit (s := S8x1x256) (k0_off20 i k) S1x1x256.size (k0_off20_inb i k k0_h2)))) (View.ld (Val := Elt F) b.d (Rect.unit (s := S2048x512) (k0_off33 i k) S256x128.size (k0_off33_inb i k k0_h2))),
    stF (kT b.k 3) (View.ld (Val := Elt F) b.q (Rect.unit (s := S2048x1024) (k0_off31 i k) S256x256.size (k0_off31_inb i k k0_h2))),
    dptF (vT b.v 3) (View.ld (Val := Elt F) b.d (Rect.unit (s := S2048x512) (k0_off32 i k) S256x128.size (k0_off32_inb i k k0_h2))))

/-- and its stores. -/
def tripLb (b : Blks F) (i : grid0.Coords) (k0_h2 : k0_cond2 i = 1#1) (k : Fin (k0_t1_loop i).trips) (acc : Carry F) (G : Vec F S2048x1024 .f32) : List (View.Piece (Elt F) S2048x1024 .f32) :=
  [⟨Rect.unit (s := S2048x1024) (k0_off34 i k) S256x256.size (k0_off34_inb i k k0_h2), dqF (View.ld (Val := Elt F) G (Rect.unit (s := S2048x1024) (k0_off34 i k) S256x256.size (k0_off34_inb i k k0_h2))) (dsF (pF b.up acc.2.2.2.2.2.2.2.2.2.2.2.2.2.2.1 (View.ld (Val := Elt F) (b.hi 3) (Rect.unit (s := S8x1x256) (k0_off20 i k) S1x1x256.size (k0_off20_inb i k k0_h2))) (View.ld (Val := Elt F) (b.lo 3) (Rect.unit (s := S8x1x256) (k0_off20 i k) S1x1x256.size (k0_off20_inb i k k0_h2)))) acc.2.2.2.2.2.2.2.2.2.2.2.2.2.2.2 (View.ld (Val := Elt F) (b.dl 3) (Rect.unit (s := S8x1x256) (k0_off20 i k) S1x1x256.size (k0_off20_inb i k k0_h2)))) (kT b.k 3)⟩,
    ⟨Rect.unit (s := S2048x1024) (k0_off30 i k) S256x256.size (k0_off30_inb i k k0_h2), dqF (View.ld (Val := Elt F) G (Rect.unit (s := S2048x1024) (k0_off30 i k) S256x256.size (k0_off30_inb i k k0_h2))) (dsF (pF b.up acc.2.2.2.2.2.2.2.2.2.2.1 (View.ld (Val := Elt F) (b.hi 2) (Rect.unit (s := S8x1x256) (k0_off20 i k) S1x1x256.size (k0_off20_inb i k k0_h2))) (View.ld (Val := Elt F) (b.lo 2) (Rect.unit (s := S8x1x256) (k0_off20 i k) S1x1x256.size (k0_off20_inb i k k0_h2)))) acc.2.2.2.2.2.2.2.2.2.2.2.1 (View.ld (Val := Elt F) (b.dl 2) (Rect.unit (s := S8x1x256) (k0_off20 i k) S1x1x256.size (k0_off20_inb i k k0_h2)))) (kT b.k 2)⟩,
    ⟨Rect.unit (s := S2048x1024) (k0_off26 i k) S256x256.size (k0_off26_inb i k k0_h2), dqF (View.ld (Val := Elt F) G (Rect.unit (s := S2048x1024) (k0_off26 i k) S256x256.size (k0_off26_inb i k k0_h2))) (dsF (pF b.up acc.2.2.2.2.2.2.1 (View.ld (Val := Elt F) (b.hi 1) (Rect.unit (s := S8x1x256) (k0_off20 i k) S1x1x256.size (k0_off20_inb i k k0_h2))) (View.ld (Val := Elt F) (b.lo 1) (Rect.unit (s := S8x1x256) (k0_off20 i k) S1x1x256.size (k0_off20_inb i k k0_h2)))) acc.2.2.2.2.2.2.2.1 (View.ld (Val := Elt F) (b.dl 1) (Rect.unit (s := S8x1x256) (k0_off20 i k) S1x1x256.size (k0_off20_inb i k k0_h2)))) (kT b.k 1)⟩,
    ⟨Rect.unit (s := S2048x1024) (k0_off22 i k) S256x256.size (k0_off22_inb i k k0_h2), dqF (View.ld (Val := Elt F) G (Rect.unit (s := S2048x1024) (k0_off22 i k) S256x256.size (k0_off22_inb i k k0_h2))) (dsF (pF b.up acc.2.2.1 (View.ld (Val := Elt F) (b.hi 0) (Rect.unit (s := S8x1x256) (k0_off20 i k) S1x1x256.size (k0_off20_inb i k k0_h2))) (View.ld (Val := Elt F) (b.lo 0) (Rect.unit (s := S8x1x256) (k0_off20 i k) S1x1x256.size (k0_off20_inb i k k0_h2)))) acc.2.2.2.1 (View.ld (Val := Elt F) (b.dl 0) (Rect.unit (s := S8x1x256) (k0_off20 i k) S1x1x256.size (k0_off20_inb i k k0_h2)))) (kT b.k 0)⟩]

/-- The last query block's stores: into the scratch, -/
def lastL (b : Blks F) (acc : Carry F) (G : Vec F S2048x1024 .f32) : List (View.Piece (Elt F) S2048x1024 .f32) :=
  [⟨Rect.unit (s := S2048x1024) ![1792, 768] S256x256.size inb_S2048x1024_S256x256_1792_768, dqF (View.ld (Val := Elt F) G (Rect.unit (s := S2048x1024) ![1792, 768] S256x256.size inb_S2048x1024_S256x256_1792_768)) (dsF (pF b.up acc.2.2.2.2.2.2.2.2.2.2.2.2.2.2.1 (View.ld (Val := Elt F) (b.hi 3) (Rect.unit (s := S8x1x256) ![7, 0, 0] S1x1x256.size inb_S8x1x256_S1x1x256_7_0_0)) (View.ld (Val := Elt F) (b.lo 3) (Rect.unit (s := S8x1x256) ![7, 0, 0] S1x1x256.size inb_S8x1x256_S1x1x256_7_0_0))) acc.2.2.2.2.2.2.2.2.2.2.2.2.2.2.2 (View.ld (Val := Elt F) (b.dl 3) (Rect.unit (s := S8x1x256) ![7, 0, 0] S1x1x256.size inb_S8x1x256_S1x1x256_7_0_0))) (kT b.k 3)⟩,
    ⟨Rect.unit (s := S2048x1024) ![1792, 512] S256x256.size inb_S2048x1024_S256x256_1792_512, dqF (View.ld (Val := Elt F) G (Rect.unit (s := S2048x1024) ![1792, 512] S256x256.size inb_S2048x1024_S256x256_1792_512)) (dsF (pF b.up acc.2.2.2.2.2.2.2.2.2.2.1 (View.ld (Val := Elt F) (b.hi 2) (Rect.unit (s := S8x1x256) ![7, 0, 0] S1x1x256.size inb_S8x1x256_S1x1x256_7_0_0)) (View.ld (Val := Elt F) (b.lo 2) (Rect.unit (s := S8x1x256) ![7, 0, 0] S1x1x256.size inb_S8x1x256_S1x1x256_7_0_0))) acc.2.2.2.2.2.2.2.2.2.2.2.1 (View.ld (Val := Elt F) (b.dl 2) (Rect.unit (s := S8x1x256) ![7, 0, 0] S1x1x256.size inb_S8x1x256_S1x1x256_7_0_0))) (kT b.k 2)⟩,
    ⟨Rect.unit (s := S2048x1024) ![1792, 256] S256x256.size inb_S2048x1024_S256x256_1792_256, dqF (View.ld (Val := Elt F) G (Rect.unit (s := S2048x1024) ![1792, 256] S256x256.size inb_S2048x1024_S256x256_1792_256)) (dsF (pF b.up acc.2.2.2.2.2.2.1 (View.ld (Val := Elt F) (b.hi 1) (Rect.unit (s := S8x1x256) ![7, 0, 0] S1x1x256.size inb_S8x1x256_S1x1x256_7_0_0)) (View.ld (Val := Elt F) (b.lo 1) (Rect.unit (s := S8x1x256) ![7, 0, 0] S1x1x256.size inb_S8x1x256_S1x1x256_7_0_0))) acc.2.2.2.2.2.2.2.1 (View.ld (Val := Elt F) (b.dl 1) (Rect.unit (s := S8x1x256) ![7, 0, 0] S1x1x256.size inb_S8x1x256_S1x1x256_7_0_0))) (kT b.k 1)⟩,
    ⟨Rect.unit (s := S2048x1024) ![1792, 0] S256x256.size inb_S2048x1024_S256x256_1792_0, dqF (View.ld (Val := Elt F) G (Rect.unit (s := S2048x1024) ![1792, 0] S256x256.size inb_S2048x1024_S256x256_1792_0)) (dsF (pF b.up acc.2.2.1 (View.ld (Val := Elt F) (b.hi 0) (Rect.unit (s := S8x1x256) ![7, 0, 0] S1x1x256.size inb_S8x1x256_S1x1x256_7_0_0)) (View.ld (Val := Elt F) (b.lo 0) (Rect.unit (s := S8x1x256) ![7, 0, 0] S1x1x256.size inb_S8x1x256_S1x1x256_7_0_0))) acc.2.2.2.1 (View.ld (Val := Elt F) (b.dl 0) (Rect.unit (s := S8x1x256) ![7, 0, 0] S1x1x256.size inb_S8x1x256_S1x1x256_7_0_0))) (kT b.k 0)⟩]

/-- into the gradient of `k`, -/
def lastK (b : Blks F) (acc : Carry F) : List (View.Piece (Elt F) S256x1024 .bf16) :=
  [⟨Rect.unit (s := S256x1024) ![0, 768] S256x256.size inb_S256x1024_S256x256_0_768, truncf .bf16 (dkF acc.2.2.2.2.2.2.2.2.2.2.2.2.1 (dsF (pF b.up acc.2.2.2.2.2.2.2.2.2.2.2.2.2.2.1 (View.ld (Val := Elt F) (b.hi 3) (Rect.unit (s := S8x1x256) ![7, 0, 0] S1x1x256.size inb_S8x1x256_S1x1x256_7_0_0)) (View.ld (Val := Elt F) (b.lo 3) (Rect.unit (s := S8x1x256) ![7, 0, 0] S1x1x256.size inb_S8x1x256_S1x1x256_7_0_0))) acc.2.2.2.2.2.2.2.2.2.2.2.2.2.2.2 (View.ld (Val := Elt F) (b.dl 3) (Rect.unit (s := S8x1x256) ![7, 0, 0] S1x1x256.size inb_S8x1x256_S1x1x256_7_0_0))) (View.ld (Val := Elt F) b.q (Rect.unit (s := S2048x1024) ![1792, 768] S256x256.size inb_S2048x1024_S256x256_1792_768))) bitsLt_bf16_f32⟩,
    ⟨Rect.unit (s := S256x1024) ![0, 512] S256x256.size inb_S256x1024_S256x256_0_512, truncf .bf16 (dkF acc.2.2.2.2.2.2.2.2.1 (dsF (pF b.up acc.2.2.2.2.2.2.2.2.2.2.1 (View.ld (Val := Elt F) (b.hi 2) (Rect.unit (s := S8x1x256) ![7, 0, 0] S1x1x256.size inb_S8x1x256_S1x1x256_7_0_0)) (View.ld (Val := Elt F) (b.lo 2) (Rect.unit (s := S8x1x256) ![7, 0, 0] S1x1x256.size inb_S8x1x256_S1x1x256_7_0_0))) acc.2.2.2.2.2.2.2.2.2.2.2.1 (View.ld (Val := Elt F) (b.dl 2) (Rect.unit (s := S8x1x256) ![7, 0, 0] S1x1x256.size inb_S8x1x256_S1x1x256_7_0_0))) (View.ld (Val := Elt F) b.q (Rect.unit (s := S2048x1024) ![1792, 512] S256x256.size inb_S2048x1024_S256x256_1792_512))) bitsLt_bf16_f32⟩,
    ⟨Rect.unit (s := S256x1024) ![0, 256] S256x256.size inb_S256x1024_S256x256_0_256, truncf .bf16 (dkF acc.2.2.2.2.1 (dsF (pF b.up acc.2.2.2.2.2.2.1 (View.ld (Val := Elt F) (b.hi 1) (Rect.unit (s := S8x1x256) ![7, 0, 0] S1x1x256.size inb_S8x1x256_S1x1x256_7_0_0)) (View.ld (Val := Elt F) (b.lo 1) (Rect.unit (s := S8x1x256) ![7, 0, 0] S1x1x256.size inb_S8x1x256_S1x1x256_7_0_0))) acc.2.2.2.2.2.2.2.1 (View.ld (Val := Elt F) (b.dl 1) (Rect.unit (s := S8x1x256) ![7, 0, 0] S1x1x256.size inb_S8x1x256_S1x1x256_7_0_0))) (View.ld (Val := Elt F) b.q (Rect.unit (s := S2048x1024) ![1792, 256] S256x256.size inb_S2048x1024_S256x256_1792_256))) bitsLt_bf16_f32⟩,
    ⟨Rect.unit (s := S256x1024) ![0, 0] S256x256.size inb_S256x1024_S256x256_0_0, truncf .bf16 (dkF acc.1 (dsF (pF b.up acc.2.2.1 (View.ld (Val := Elt F) (b.hi 0) (Rect.unit (s := S8x1x256) ![7, 0, 0] S1x1x256.size inb_S8x1x256_S1x1x256_7_0_0)) (View.ld (Val := Elt F) (b.lo 0) (Rect.unit (s := S8x1x256) ![7, 0, 0] S1x1x256.size inb_S8x1x256_S1x1x256_7_0_0))) acc.2.2.2.1 (View.ld (Val := Elt F) (b.dl 0) (Rect.unit (s := S8x1x256) ![7, 0, 0] S1x1x256.size inb_S8x1x256_S1x1x256_7_0_0))) (View.ld (Val := Elt F) b.q (Rect.unit (s := S2048x1024) ![1792, 0] S256x256.size inb_S2048x1024_S256x256_1792_0))) bitsLt_bf16_f32⟩]

/-- into the gradient of `v`. -/
def lastV (b : Blks F) (acc : Carry F) : List (View.Piece (Elt F) S256x512 .bf16) :=
  [⟨Rect.unit (s := S256x512) ![0, 384] S256x128.size inb_S256x512_S256x128_0_384, truncf .bf16 (dvF acc.2.2.2.2.2.2.2.2.2.2.2.2.2.1 (pF b.up acc.2.2.2.2.2.2.2.2.2.2.2.2.2.2.1 (View.ld (Val := Elt F) (b.hi 3) (Rect.unit (s := S8x1x256) ![7, 0, 0] S1x1x256.size inb_S8x1x256_S1x1x256_7_0_0)) (View.ld (Val := Elt F) (b.lo 3) (Rect.unit (s := S8x1x256) ![7, 0, 0] S1x1x256.size inb_S8x1x256_S1x1x256_7_0_0))) (View.ld (Val := Elt F) b.d (Rect.unit (s := S2048x512) ![1792, 384] S256x128.size inb_S2048x512_S256x128_1792_384))) bitsLt_bf16_f32⟩,
    ⟨Rect.unit (s := S256x512) ![0, 256] S256x128.size inb_S256x512_S256x128_0_256, truncf .bf16 (dvF acc.2.2.2.2.2.2.2.2.2.1 (pF b.up acc.2.2.2.2.2.2.2.2.2.2.1 (View.ld (Val := Elt F) (b.hi 2) (Rect.unit (s := S8x1x256) ![7, 0, 0] S1x1x256.size inb_S8x1x256_S1x1x256_7_0_0)) (View.ld (Val := Elt F) (b.lo 2) (Rect.unit (s := S8x1x256) ![7, 0, 0] S1x1x256.size inb_S8x1x256_S1x1x256_7_0_0))) (View.ld (Val := Elt F) b.d (Rect.unit (s := S2048x512) ![1792, 256] S256x128.size inb_S2048x512_S256x128_1792_256))) bitsLt_bf16_f32⟩,
    ⟨Rect.unit (s := S256x512) ![0, 128] S256x128.size inb_S256x512_S256x128_0_128, truncf .bf16 (dvF acc.2.2.2.2.2.1 (pF b.up acc.2.2.2.2.2.2.1 (View.ld (Val := Elt F) (b.hi 1) (Rect.unit (s := S8x1x256) ![7, 0, 0] S1x1x256.size inb_S8x1x256_S1x1x256_7_0_0)) (View.ld (Val := Elt F) (b.lo 1) (Rect.unit (s := S8x1x256) ![7, 0, 0] S1x1x256.size inb_S8x1x256_S1x1x256_7_0_0))) (View.ld (Val := Elt F) b.d (Rect.unit (s := S2048x512) ![1792, 128] S256x128.size inb_S2048x512_S256x128_1792_128))) bitsLt_bf16_f32⟩,
    ⟨Rect.unit (s := S256x512) ![0, 0] S256x128.size inb_S256x512_S256x128_0_0, truncf .bf16 (dvF acc.2.1 (pF b.up acc.2.2.1 (View.ld (Val := Elt F) (b.hi 0) (Rect.unit (s := S8x1x256) ![7, 0, 0] S1x1x256.size inb_S8x1x256_S1x1x256_7_0_0)) (View.ld (Val := Elt F) (b.lo 0) (Rect.unit (s := S8x1x256) ![7, 0, 0] S1x1x256.size inb_S8x1x256_S1x1x256_7_0_0))) (View.ld (Val := Elt F) b.d (Rect.unit (s := S2048x512) ![1792, 0] S256x128.size inb_S2048x512_S256x128_1792_0))) bitsLt_bf16_f32⟩]

/-- The diagonal block's step when it is the last: its stores into the scratch, -/
def diagL (b : Blks F) (i : grid0.Coords) (k0_h3 : k0_cond3 i = 1#1) (G : Vec F S2048x1024 .f32) : List (View.Piece (Elt F) S2048x1024 .f32) :=
  [⟨Rect.unit (s := S2048x1024) (k0_off58 i) S256x256.size (k0_off58_inb i k0_h3), dqF (View.ld (Val := Elt F) G (Rect.unit (s := S2048x1024) (k0_off58 i) S256x256.size (k0_off58_inb i k0_h3))) (dsF (maskF (pF b.up (stF (kT b.k 3) (View.ld (Val := Elt F) b.q (Rect.unit (s := S2048x1024) (k0_off58 i) S256x256.size (k0_off58_inb i k0_h3)))) (View.ld (Val := Elt F) (b.hi 3) (Rect.unit (s := S8x1x256) (k0_off60 i) S1x1x256.size (k0_off60_inb i k0_h3))) (View.ld (Val := Elt F) (b.lo 3) (Rect.unit (s := S8x1x256) (k0_off60 i) S1x1x256.size (k0_off60_inb i k0_h3))))) (dptF (vT b.v 3) (View.ld (Val := Elt F) b.d (Rect.unit (s := S2048x512) (k0_off59 i) S256x128.size (k0_off59_inb i k0_h3)))) (View.ld (Val := Elt F) (b.dl 3) (Rect.unit (s := S8x1x256) (k0_off60 i) S1x1x256.size (k0_off60_inb i k0_h3)))) (kT b.k 3)⟩,
    ⟨Rect.unit (s := S2048x1024) (k0_off56 i) S256x256.size (k0_off56_inb i k0_h3), dqF (View.ld (Val := Elt F) G (Rect.unit (s := S2048x1024) (k0_off56 i) S256x256.size (k0_off56_inb i k0_h3))) (dsF (maskF (pF b.up (stF (kT b.k 2) (View.ld (Val := Elt F) b.q (Rect.unit (s := S2048x1024) (k0_off56 i) S256x256.size (k0_off56_inb i k0_h3)))) (View.ld (Val := Elt F) (b.hi 2) (Rect.unit (s := S8x1x256) (k0_off60 i) S1x1x256.size (k0_off60_inb i k0_h3))) (View.ld (Val := Elt F) (b.lo 2) (Rect.unit (s := S8x1x256) (k0_off60 i) S1x1x256.size (k0_off60_inb i k0_h3))))) (dptF (vT b.v 2) (View.ld (Val := Elt F) b.d (Rect.unit (s := S2048x512) (k0_off57 i) S256x128.size (k0_off57_inb i k0_h3)))) (View.ld (Val := Elt F) (b.dl 2) (Rect.unit (s := S8x1x256) (k0_off60 i) S1x1x256.size (k0_off60_inb i k0_h3)))) (kT b.k 2)⟩,
    ⟨Rect.unit (s := S2048x1024) (k0_off54 i) S256x256.size (k0_off54_inb i k0_h3), dqF (View.ld (Val := Elt F) G (Rect.unit (s := S2048x1024) (k0_off54 i) S256x256.size (k0_off54_inb i k0_h3))) (dsF (maskF (pF b.up (stF (kT b.k 1) (View.ld (Val := Elt F) b.q (Rect.unit (s := S2048x1024) (k0_off54 i) S256x256.size (k0_off54_inb i k0_h3)))) (View.ld (Val := Elt F) (b.hi 1) (Rect.unit (s := S8x1x256) (k0_off60 i) S1x1x256.size (k0_off60_inb i k0_h3))) (View.ld (Val := Elt F) (b.lo 1) (Rect.unit (s := S8x1x256) (k0_off60 i) S1x1x256.size (k0_off60_inb i k0_h3))))) (dptF (vT b.v 1) (View.ld (Val := Elt F) b.d (Rect.unit (s := S2048x512) (k0_off55 i) S256x128.size (k0_off55_inb i k0_h3)))) (View.ld (Val := Elt F) (b.dl 1) (Rect.unit (s := S8x1x256) (k0_off60 i) S1x1x256.size (k0_off60_inb i k0_h3)))) (kT b.k 1)⟩,
    ⟨Rect.unit (s := S2048x1024) (k0_off52 i) S256x256.size (k0_off52_inb i k0_h3), dqF (View.ld (Val := Elt F) G (Rect.unit (s := S2048x1024) (k0_off52 i) S256x256.size (k0_off52_inb i k0_h3))) (dsF (maskF (pF b.up (stF (kT b.k 0) (View.ld (Val := Elt F) b.q (Rect.unit (s := S2048x1024) (k0_off52 i) S256x256.size (k0_off52_inb i k0_h3)))) (View.ld (Val := Elt F) (b.hi 0) (Rect.unit (s := S8x1x256) (k0_off60 i) S1x1x256.size (k0_off60_inb i k0_h3))) (View.ld (Val := Elt F) (b.lo 0) (Rect.unit (s := S8x1x256) (k0_off60 i) S1x1x256.size (k0_off60_inb i k0_h3))))) (dptF (vT b.v 0) (View.ld (Val := Elt F) b.d (Rect.unit (s := S2048x512) (k0_off53 i) S256x128.size (k0_off53_inb i k0_h3)))) (View.ld (Val := Elt F) (b.dl 0) (Rect.unit (s := S8x1x256) (k0_off60 i) S1x1x256.size (k0_off60_inb i k0_h3)))) (kT b.k 0)⟩]

/-- into the gradient of `k`, -/
def diagK (b : Blks F) (i : grid0.Coords) (k0_h3 : k0_cond3 i = 1#1) : List (View.Piece (Elt F) S256x1024 .bf16) :=
  [⟨Rect.unit (s := S256x1024) ![0, 768] S256x256.size inb_S256x1024_S256x256_0_768, truncf .bf16 (dkF (broadcast S256x256 (Scalar.ofBits .f32 0x00000000#32)) (dsF (maskF (pF b.up (stF (kT b.k 3) (View.ld (Val := Elt F) b.q (Rect.unit (s := S2048x1024) (k0_off58 i) S256x256.size (k0_off58_inb i k0_h3)))) (View.ld (Val := Elt F) (b.hi 3) (Rect.unit (s := S8x1x256) (k0_off60 i) S1x1x256.size (k0_off60_inb i k0_h3))) (View.ld (Val := Elt F) (b.lo 3) (Rect.unit (s := S8x1x256) (k0_off60 i) S1x1x256.size (k0_off60_inb i k0_h3))))) (dptF (vT b.v 3) (View.ld (Val := Elt F) b.d (Rect.unit (s := S2048x512) (k0_off59 i) S256x128.size (k0_off59_inb i k0_h3)))) (View.ld (Val := Elt F) (b.dl 3) (Rect.unit (s := S8x1x256) (k0_off60 i) S1x1x256.size (k0_off60_inb i k0_h3)))) (View.ld (Val := Elt F) b.q (Rect.unit (s := S2048x1024) (k0_off58 i) S256x256.size (k0_off58_inb i k0_h3)))) bitsLt_bf16_f32⟩,
    ⟨Rect.unit (s := S256x1024) ![0, 512] S256x256.size inb_S256x1024_S256x256_0_512, truncf .bf16 (dkF (broadcast S256x256 (Scalar.ofBits .f32 0x00000000#32)) (dsF (maskF (pF b.up (stF (kT b.k 2) (View.ld (Val := Elt F) b.q (Rect.unit (s := S2048x1024) (k0_off56 i) S256x256.size (k0_off56_inb i k0_h3)))) (View.ld (Val := Elt F) (b.hi 2) (Rect.unit (s := S8x1x256) (k0_off60 i) S1x1x256.size (k0_off60_inb i k0_h3))) (View.ld (Val := Elt F) (b.lo 2) (Rect.unit (s := S8x1x256) (k0_off60 i) S1x1x256.size (k0_off60_inb i k0_h3))))) (dptF (vT b.v 2) (View.ld (Val := Elt F) b.d (Rect.unit (s := S2048x512) (k0_off57 i) S256x128.size (k0_off57_inb i k0_h3)))) (View.ld (Val := Elt F) (b.dl 2) (Rect.unit (s := S8x1x256) (k0_off60 i) S1x1x256.size (k0_off60_inb i k0_h3)))) (View.ld (Val := Elt F) b.q (Rect.unit (s := S2048x1024) (k0_off56 i) S256x256.size (k0_off56_inb i k0_h3)))) bitsLt_bf16_f32⟩,
    ⟨Rect.unit (s := S256x1024) ![0, 256] S256x256.size inb_S256x1024_S256x256_0_256, truncf .bf16 (dkF (broadcast S256x256 (Scalar.ofBits .f32 0x00000000#32)) (dsF (maskF (pF b.up (stF (kT b.k 1) (View.ld (Val := Elt F) b.q (Rect.unit (s := S2048x1024) (k0_off54 i) S256x256.size (k0_off54_inb i k0_h3)))) (View.ld (Val := Elt F) (b.hi 1) (Rect.unit (s := S8x1x256) (k0_off60 i) S1x1x256.size (k0_off60_inb i k0_h3))) (View.ld (Val := Elt F) (b.lo 1) (Rect.unit (s := S8x1x256) (k0_off60 i) S1x1x256.size (k0_off60_inb i k0_h3))))) (dptF (vT b.v 1) (View.ld (Val := Elt F) b.d (Rect.unit (s := S2048x512) (k0_off55 i) S256x128.size (k0_off55_inb i k0_h3)))) (View.ld (Val := Elt F) (b.dl 1) (Rect.unit (s := S8x1x256) (k0_off60 i) S1x1x256.size (k0_off60_inb i k0_h3)))) (View.ld (Val := Elt F) b.q (Rect.unit (s := S2048x1024) (k0_off54 i) S256x256.size (k0_off54_inb i k0_h3)))) bitsLt_bf16_f32⟩,
    ⟨Rect.unit (s := S256x1024) ![0, 0] S256x256.size inb_S256x1024_S256x256_0_0, truncf .bf16 (dkF (broadcast S256x256 (Scalar.ofBits .f32 0x00000000#32)) (dsF (maskF (pF b.up (stF (kT b.k 0) (View.ld (Val := Elt F) b.q (Rect.unit (s := S2048x1024) (k0_off52 i) S256x256.size (k0_off52_inb i k0_h3)))) (View.ld (Val := Elt F) (b.hi 0) (Rect.unit (s := S8x1x256) (k0_off60 i) S1x1x256.size (k0_off60_inb i k0_h3))) (View.ld (Val := Elt F) (b.lo 0) (Rect.unit (s := S8x1x256) (k0_off60 i) S1x1x256.size (k0_off60_inb i k0_h3))))) (dptF (vT b.v 0) (View.ld (Val := Elt F) b.d (Rect.unit (s := S2048x512) (k0_off53 i) S256x128.size (k0_off53_inb i k0_h3)))) (View.ld (Val := Elt F) (b.dl 0) (Rect.unit (s := S8x1x256) (k0_off60 i) S1x1x256.size (k0_off60_inb i k0_h3)))) (View.ld (Val := Elt F) b.q (Rect.unit (s := S2048x1024) (k0_off52 i) S256x256.size (k0_off52_inb i k0_h3)))) bitsLt_bf16_f32⟩]

/-- into the gradient of `v`. -/
def diagV (b : Blks F) (i : grid0.Coords) (k0_h3 : k0_cond3 i = 1#1) : List (View.Piece (Elt F) S256x512 .bf16) :=
  [⟨Rect.unit (s := S256x512) ![0, 384] S256x128.size inb_S256x512_S256x128_0_384, truncf .bf16 (dvF (broadcast S256x128 (Scalar.ofBits .f32 0x00000000#32)) (maskF (pF b.up (stF (kT b.k 3) (View.ld (Val := Elt F) b.q (Rect.unit (s := S2048x1024) (k0_off58 i) S256x256.size (k0_off58_inb i k0_h3)))) (View.ld (Val := Elt F) (b.hi 3) (Rect.unit (s := S8x1x256) (k0_off60 i) S1x1x256.size (k0_off60_inb i k0_h3))) (View.ld (Val := Elt F) (b.lo 3) (Rect.unit (s := S8x1x256) (k0_off60 i) S1x1x256.size (k0_off60_inb i k0_h3))))) (View.ld (Val := Elt F) b.d (Rect.unit (s := S2048x512) (k0_off59 i) S256x128.size (k0_off59_inb i k0_h3)))) bitsLt_bf16_f32⟩,
    ⟨Rect.unit (s := S256x512) ![0, 256] S256x128.size inb_S256x512_S256x128_0_256, truncf .bf16 (dvF (broadcast S256x128 (Scalar.ofBits .f32 0x00000000#32)) (maskF (pF b.up (stF (kT b.k 2) (View.ld (Val := Elt F) b.q (Rect.unit (s := S2048x1024) (k0_off56 i) S256x256.size (k0_off56_inb i k0_h3)))) (View.ld (Val := Elt F) (b.hi 2) (Rect.unit (s := S8x1x256) (k0_off60 i) S1x1x256.size (k0_off60_inb i k0_h3))) (View.ld (Val := Elt F) (b.lo 2) (Rect.unit (s := S8x1x256) (k0_off60 i) S1x1x256.size (k0_off60_inb i k0_h3))))) (View.ld (Val := Elt F) b.d (Rect.unit (s := S2048x512) (k0_off57 i) S256x128.size (k0_off57_inb i k0_h3)))) bitsLt_bf16_f32⟩,
    ⟨Rect.unit (s := S256x512) ![0, 128] S256x128.size inb_S256x512_S256x128_0_128, truncf .bf16 (dvF (broadcast S256x128 (Scalar.ofBits .f32 0x00000000#32)) (maskF (pF b.up (stF (kT b.k 1) (View.ld (Val := Elt F) b.q (Rect.unit (s := S2048x1024) (k0_off54 i) S256x256.size (k0_off54_inb i k0_h3)))) (View.ld (Val := Elt F) (b.hi 1) (Rect.unit (s := S8x1x256) (k0_off60 i) S1x1x256.size (k0_off60_inb i k0_h3))) (View.ld (Val := Elt F) (b.lo 1) (Rect.unit (s := S8x1x256) (k0_off60 i) S1x1x256.size (k0_off60_inb i k0_h3))))) (View.ld (Val := Elt F) b.d (Rect.unit (s := S2048x512) (k0_off55 i) S256x128.size (k0_off55_inb i k0_h3)))) bitsLt_bf16_f32⟩,
    ⟨Rect.unit (s := S256x512) ![0, 0] S256x128.size inb_S256x512_S256x128_0_0, truncf .bf16 (dvF (broadcast S256x128 (Scalar.ofBits .f32 0x00000000#32)) (maskF (pF b.up (stF (kT b.k 0) (View.ld (Val := Elt F) b.q (Rect.unit (s := S2048x1024) (k0_off52 i) S256x256.size (k0_off52_inb i k0_h3)))) (View.ld (Val := Elt F) (b.hi 0) (Rect.unit (s := S8x1x256) (k0_off60 i) S1x1x256.size (k0_off60_inb i k0_h3))) (View.ld (Val := Elt F) (b.lo 0) (Rect.unit (s := S8x1x256) (k0_off60 i) S1x1x256.size (k0_off60_inb i k0_h3))))) (View.ld (Val := Elt F) b.d (Rect.unit (s := S2048x512) (k0_off53 i) S256x128.size (k0_off53_inb i k0_h3)))) bitsLt_bf16_f32⟩]

set_option maxHeartbeats 2000000 in
theorem tripY_eq (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1) (k : Fin (k0_t1_loop i).trips) (acc : Carry F) :
    tripY c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 k acc = tripYb (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) i k0_h2 k acc := id rfl

set_option maxHeartbeats 2000000 in
theorem tripL_eq (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1) (k : Fin (k0_t1_loop i).trips) (acc : Carry F) (G : Buf (Elt F) (arg22.view.loc (c : Thread nD τ))) :
    tripL c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 k acc G = tripLb (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) i k0_h2 k acc (arg22.view.read (Elt F) G) := id rfl

end Cert.KernelIdeal.A
end
-- ==== Proof.A.BodyA0.lean ====
module

public import proofs.«01_k».proof.Proof.A.Trip
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole)
  {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

set_option backward.proofsInPublic true in
set_option maxHeartbeats 4000000 in
def bodyA (h1 : (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    Σ' (L20 : List (View.Piece (Elt F) S256x1024 .bf16)) (L21 : List (View.Piece (Elt F) S256x512 .bf16)), { H : Buf (Elt F) (arg22.view.loc (c : Thread nD τ)) //
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} G)) : sProp 𝕄)
      ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} f19) ∗ (arg20.view.loc (c : Thread nD τ) ↦[arg20.view.set]{fullShare} arg20.view.writes (Elt F) f20 L20) ∗ (arg21.view.loc (c : Thread nD τ) ↦[arg21.view.set]{fullShare} arg21.view.writes (Elt F) f21 L21) ∗ (arg22.view.loc (c : Thread nD τ) ↦[arg22.view.set]{fullShare} H))) } := by
  refine ⟨?_, ?_, ?_, ?run⟩
  case run =>
    iintro ⟨H3, H4, H5, H6, H7, H8, H9, H10, H11, H12, H13, H14, H15, H16, H17, H18, H19, H20, H21, HG⟩
    sl_unfold [cc0_attn_bwd]
    sl_exec
    sl_step
    sl_close

end Body
end Cert.KernelIdeal.A
end
-- ==== Proof.A.EqA.lean ====
module

public import proofs.«01_k».proof.Proof.A.Explicit
public import proofs.«01_k».proof.Proof.A.BodyA0
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The zeroing store, -/
def zero0 : List (View.Piece (Elt F) S2048x1024 .f32) :=
  [⟨Rect.unit (s := S2048x1024) ![0, 0] S2048x1024.size inb_S2048x1024_S2048x1024_0_0, k0_pay1⟩]

/-- then head 0's store, -/
def zero1 (b : Blks F) (i : grid0.Coords) (k0_h2 : k0_cond2 i = 1#1) (c : Dev nD) (arg22 : Memref sig .tc .vmem S2048x1024 .f32) : List (View.Piece (Elt F) S2048x1024 .f32) :=
  ⟨Rect.unit (s := S2048x1024) (k0_off1 i) S256x256.size (k0_off1_inb i k0_h2), dqF (View.ld (Val := Elt F) (arg22.view.read (Elt F) (arg22.view.writes (Elt F) arg22.view.junk zero0)) (Rect.unit (s := S2048x1024) (k0_off1 i) S256x256.size (k0_off1_inb i k0_h2))) (dsF (maskF (pF b.up (stF (kT b.k 0) (View.ld (Val := Elt F) b.q (Rect.unit (s := S2048x1024) (k0_off1 i) S256x256.size (k0_off1_inb i k0_h2)))) (View.ld (Val := Elt F) (b.hi 0) (Rect.unit (s := S8x1x256) (k0_off11 i) S1x1x256.size (k0_off11_inb i k0_h2))) (View.ld (Val := Elt F) (b.lo 0) (Rect.unit (s := S8x1x256) (k0_off11 i) S1x1x256.size (k0_off11_inb i k0_h2))))) (dptF (vT b.v 0) (View.ld (Val := Elt F) b.d (Rect.unit (s := S2048x512) (k0_off2 i) S256x128.size (k0_off2_inb i k0_h2)))) (View.ld (Val := Elt F) (b.dl 0) (Rect.unit (s := S8x1x256) (k0_off11 i) S1x1x256.size (k0_off11_inb i k0_h2)))) (kT b.k 0)⟩ ::
    zero0

/-- then head 1's store, -/
def zero2 (b : Blks F) (i : grid0.Coords) (k0_h2 : k0_cond2 i = 1#1) (c : Dev nD) (arg22 : Memref sig .tc .vmem S2048x1024 .f32) : List (View.Piece (Elt F) S2048x1024 .f32) :=
  ⟨Rect.unit (s := S2048x1024) (k0_off3 i) S256x256.size (k0_off3_inb i k0_h2), dqF (View.ld (Val := Elt F) (arg22.view.read (Elt F) (arg22.view.writes (Elt F) arg22.view.junk (zero1 b i k0_h2 c arg22))) (Rect.unit (s := S2048x1024) (k0_off3 i) S256x256.size (k0_off3_inb i k0_h2))) (dsF (maskF (pF b.up (stF (kT b.k 1) (View.ld (Val := Elt F) b.q (Rect.unit (s := S2048x1024) (k0_off3 i) S256x256.size (k0_off3_inb i k0_h2)))) (View.ld (Val := Elt F) (b.hi 1) (Rect.unit (s := S8x1x256) (k0_off11 i) S1x1x256.size (k0_off11_inb i k0_h2))) (View.ld (Val := Elt F) (b.lo 1) (Rect.unit (s := S8x1x256) (k0_off11 i) S1x1x256.size (k0_off11_inb i k0_h2))))) (dptF (vT b.v 1) (View.ld (Val := Elt F) b.d (Rect.unit (s := S2048x512) (k0_off4 i) S256x128.size (k0_off4_inb i k0_h2)))) (View.ld (Val := Elt F) (b.dl 1) (Rect.unit (s := S8x1x256) (k0_off11 i) S1x1x256.size (k0_off11_inb i k0_h2)))) (kT b.k 1)⟩ ::
    (zero1 b i k0_h2 c arg22)

/-- then head 2's store. -/
def zero3 (b : Blks F) (i : grid0.Coords) (k0_h2 : k0_cond2 i = 1#1) (c : Dev nD) (arg22 : Memref sig .tc .vmem S2048x1024 .f32) : List (View.Piece (Elt F) S2048x1024 .f32) :=
  ⟨Rect.unit (s := S2048x1024) (k0_off5 i) S256x256.size (k0_off5_inb i k0_h2), dqF (View.ld (Val := Elt F) (arg22.view.read (Elt F) (arg22.view.writes (Elt F) arg22.view.junk (zero2 b i k0_h2 c arg22))) (Rect.unit (s := S2048x1024) (k0_off5 i) S256x256.size (k0_off5_inb i k0_h2))) (dsF (maskF (pF b.up (stF (kT b.k 2) (View.ld (Val := Elt F) b.q (Rect.unit (s := S2048x1024) (k0_off5 i) S256x256.size (k0_off5_inb i k0_h2)))) (View.ld (Val := Elt F) (b.hi 2) (Rect.unit (s := S8x1x256) (k0_off11 i) S1x1x256.size (k0_off11_inb i k0_h2))) (View.ld (Val := Elt F) (b.lo 2) (Rect.unit (s := S8x1x256) (k0_off11 i) S1x1x256.size (k0_off11_inb i k0_h2))))) (dptF (vT b.v 2) (View.ld (Val := Elt F) b.d (Rect.unit (s := S2048x512) (k0_off6 i) S256x128.size (k0_off6_inb i k0_h2)))) (View.ld (Val := Elt F) (b.dl 2) (Rect.unit (s := S8x1x256) (k0_off11 i) S1x1x256.size (k0_off11_inb i k0_h2)))) (kT b.k 2)⟩ ::
    (zero2 b i k0_h2 c arg22)

/-- What the loop starts with, -/
abbrev rawAI (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))} (h2 : k0_cond2 i = 1#1) : Carry F := (bodyA.sl.r_13 (X3 := X3) (X4 := X4) (X5 := X5) (X6 := X6) (X7 := X7) (X11 := X11) (X15 := X15) c i arg3 arg4 arg5 arg6 arg7 arg11 arg15 h2, bodyA.sl.r_11 (X3 := X3) (X4 := X4) (X6 := X6) (X7 := X7) (X11 := X11) c i arg3 arg4 arg6 arg7 arg11 h2, bodyA.sl.r_9 (X3 := X3) (X4 := X4) c i arg3 arg4 h2, bodyA.sl.r_10 (X5 := X5) (X6 := X6) c i arg5 arg6 h2, bodyA.sl.r_20 (X3 := X3) (X4 := X4) (X5 := X5) (X6 := X6) (X8 := X8) (X12 := X12) (X16 := X16) c i arg3 arg4 arg5 arg6 arg8 arg12 arg16 h2, bodyA.sl.r_19 (X3 := X3) (X4 := X4) (X6 := X6) (X8 := X8) (X12 := X12) c i arg3 arg4 arg6 arg8 arg12 h2, bodyA.sl.r_14 (X3 := X3) (X4 := X4) c i arg3 arg4 h2, bodyA.sl.r_15 (X5 := X5) (X6 := X6) c i arg5 arg6 h2, bodyA.sl.r_25 (X3 := X3) (X4 := X4) (X5 := X5) (X6 := X6) (X9 := X9) (X13 := X13) (X17 := X17) c i arg3 arg4 arg5 arg6 arg9 arg13 arg17 h2, bodyA.sl.r_23 (X3 := X3) (X4 := X4) (X6 := X6) (X9 := X9) (X13 := X13) c i arg3 arg4 arg6 arg9 arg13 h2, bodyA.sl.r_21 (X3 := X3) (X4 := X4) c i arg3 arg4 h2, bodyA.sl.r_22 (X5 := X5) (X6 := X6) c i arg5 arg6 h2, bodyA.sl.r_31 (X3 := X3) (X4 := X4) (X5 := X5) (X6 := X6) (X10 := X10) (X14 := X14) (X18 := X18) c i arg3 arg4 arg5 arg6 arg10 arg14 arg18 h2, bodyA.sl.r_30 (X3 := X3) (X4 := X4) (X6 := X6) (X10 := X10) (X14 := X14) c i arg3 arg4 arg6 arg10 arg14 h2, bodyA.sl.r_26 (X3 := X3) (X4 := X4) c i arg3 arg4 h2, bodyA.sl.r_27 (X5 := X5) (X6 := X6) c i arg5 arg6 h2)
abbrev rawAG (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))} (h2 : k0_cond2 i = 1#1) (G : Buf (Elt F) (arg22.view.loc (c : Thread nD τ))) : Buf (Elt F) (arg22.view.loc (c : Thread nD τ)) := (arg22.view.writes (Elt F) arg22.view.junk (⟨Rect.unit (s := S2048x1024) (k0_off7 i) S256x256.size (k0_off7_inb i h2), k0_pay106 (bodyA.sl.v0 i) (bodyA.sl.r_7 (X5 := X5) (X6 := X6) c i arg5 arg6 h2) (bodyA.sl.r_28 (X3 := X3) (X4 := X4) c i arg3 arg4 h2) (bodyA.sl.r_29 (X14 := X14) c i arg14 h2) (View.readAt (Elt F) arg10.view (Rect.unit (s := S8x1x256) (k0_off11 i) S1x1x256.size (k0_off11_inb i h2)).toLoadRect X10) (View.readAt (Elt F) arg18.view (Rect.unit (s := S8x1x256) (k0_off11 i) S1x1x256.size (k0_off11_inb i h2)).toLoadRect X18) (View.readAt (Elt F) arg22.view (Rect.unit (s := S2048x1024) (k0_off7 i) S256x256.size (k0_off7_inb i h2)).toLoadRect (arg22.view.writes (Elt F) arg22.view.junk (bodyA.sl.HG_4 (X3 := X3) (X4 := X4) (X5 := X5) (X6 := X6) (X7 := X7) (X8 := X8) (X9 := X9) (X11 := X11) (X12 := X12) (X13 := X13) (X15 := X15) (X16 := X16) (X17 := X17) c i arg3 arg4 arg5 arg6 arg7 arg8 arg9 arg11 arg12 arg13 arg15 arg16 arg17 arg22 h2))) (View.readAt (Elt F) arg4.view (Rect.unit (s := S256x1024) ![0, 768] S256x256.size inb_S256x1024_S256x256_0_768).toLoadRect X4)⟩ :: bodyA.sl.HG_4 (X3 := X3) (X4 := X4) (X5 := X5) (X6 := X6) (X7 := X7) (X8 := X8) (X9 := X9) (X11 := X11) (X12 := X12) (X13 := X13) (X15 := X15) (X16 := X16) (X17 := X17) c i arg3 arg4 arg5 arg6 arg7 arg8 arg9 arg11 arg12 arg13 arg15 arg16 arg17 arg22 h2))

section
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole)
  {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

set_option maxHeartbeats 2000000 in
theorem bodyA_I (h2 : k0_cond2 i = 1#1) : rawAI c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 = (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) := id rfl

set_option maxHeartbeats 2000000 in
theorem bodyA_G (h2 : k0_cond2 i = 1#1) (G : Buf (Elt F) (arg22.view.loc (c : Thread nD τ))) : rawAG c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G = (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) := id rfl

attribute [local irreducible] st Scf.trips

set_option maxHeartbeats 1000000 in
theorem bodyA_K (h1 : (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).1 = lastK (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) (Scf.trips (k0_t1_loop i).lb (k0_t1_loop i).ub (k0_t1_loop i).st)).1 := by
  rw [← bodyA_I c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2, ← bodyA_G c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G]
  have e : (Scalar.cmpi .eq (BitVec.ofNat 32 (i 1).val) 1#32) = bodyA.sl.v0 i := rfl
  rw [e]
  unfold rawAI rawAG
  exact id rfl

set_option maxHeartbeats 1000000 in
theorem bodyA_V (h1 : (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.1 = lastV (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) (Scf.trips (k0_t1_loop i).lb (k0_t1_loop i).ub (k0_t1_loop i).st)).1 := by
  rw [← bodyA_I c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2, ← bodyA_G c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G]
  have e : (Scalar.cmpi .eq (BitVec.ofNat 32 (i 1).val) 1#32) = bodyA.sl.v0 i := rfl
  rw [e]
  unfold rawAI rawAG
  exact id rfl

set_option maxHeartbeats 1000000 in
theorem bodyA_H (h1 : (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.1 = arg22.view.writes (Elt F) (at0 (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) k).2) (Scf.trips (k0_t1_loop i).lb (k0_t1_loop i).ub (k0_t1_loop i).st)) (lastL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) (Scf.trips (k0_t1_loop i).lb (k0_t1_loop i).ub (k0_t1_loop i).st)).1 (arg22.view.read (Elt F) (at0 (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) k).2) (Scf.trips (k0_t1_loop i).lb (k0_t1_loop i).ub (k0_t1_loop i).st)))) := by
  rw [← bodyA_I c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2, ← bodyA_G c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G]
  have e : (Scalar.cmpi .eq (BitVec.ofNat 32 (i 1).val) 1#32) = bodyA.sl.v0 i := rfl
  rw [e]
  unfold rawAI rawAG
  exact id rfl

end
end Cert.KernelIdeal.A
end
-- ==== Proof.A.Bridge.lean ====
module

public import proofs.«01_k».proof.Proof.A.Explicit
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cond2_iff : ∀ i : grid0.Coords, k0_cond2 i = 1#1 ↔ (i 2).val < 7 := by decide +kernel
theorem cond3_iff : ∀ i : grid0.Coords, k0_cond3 i = 1#1 ↔ (i 2).val = 7 := by decide +kernel
theorem cond1_iff : ∀ i : grid0.Coords, (Scalar.cmpi .ne (Scalar.extui (Scalar.cmpi .eq (BitVec.ofNat 32 (i 2).val) 0#32)) 0#32) = 1#1 ↔ (i 2).val = 0 := by decide +kernel

theorem vec2 {a b c d : ℕ} (h : a = b) (h' : c = d) : (![a, c] : Fin 2 → ℕ) = ![b, d] := by subst h h'; rfl
theorem vec3 {a b : ℕ} (h : a = b) : (![a, 0, 0] : Fin 3 → ℕ) = ![b, 0, 0] := by subst h; rfl
theorem offA (j c c' : ℕ) (h' : c = c') : (![256 * j + 256, c] : Fin 2 → ℕ) = ![256 * (j + 1), c'] := vec2 (by omega) h'
theorem offT (j k c c' : ℕ) (h' : c = c') : (![256 * j + 256 * k + 256, c] : Fin 2 → ℕ) = ![256 * (j + (k + 1)), c'] := vec2 (by omega) h'
theorem offU (j k c c' : ℕ) (h' : c = c') : (![256 * j + 256 * k + 512, c] : Fin 2 → ℕ) = ![256 * (j + (k + 1 + 1)), c'] := vec2 (by omega) h'
theorem offL (j c c' : ℕ) (hj : j < 8) (h' : c = c') : (![1792, c] : Fin 2 → ℕ) = ![256 * (j + (7 - j)), c'] := vec2 (by omega) h'
theorem offR (j : ℕ) (hj : j < 8) : (![7, 0, 0] : Fin 3 → ℕ) = ![j + (7 - j), 0, 0] := vec3 (by omega)

/-! ## One head's step, with the tiles it read named -/

section Head
variable (b : Blks F) (j : ℕ) (t : Fin 4)

theorem pM (h : j < 8) (q hi lo) (hq : q = qT b.q ⟨j, h⟩ t) (hhi : hi = rT (b.hi t) ⟨j, h⟩) (hlo : lo = rT (b.lo t) ⟨j, h⟩) :
    maskF (pF b.up (stF (kT b.k t) q) hi lo) = pP b j ⟨j, h⟩ t := by
  subst hq hhi hlo
  exact (if_pos rfl).symm

theorem dsM (h : j < 8) (q d hi lo dl) (hq : q = qT b.q ⟨j, h⟩ t) (hd : d = dT b.d ⟨j, h⟩ t) (hhi : hi = rT (b.hi t) ⟨j, h⟩)
    (hlo : lo = rT (b.lo t) ⟨j, h⟩) (hdl : dl = rT (b.dl t) ⟨j, h⟩) :
    dsF (maskF (pF b.up (stF (kT b.k t) q) hi lo)) (dptF (vT b.v t) d) dl = dsP b j ⟨j, h⟩ t := by
  rw [pM b j t h q hi lo hq hhi hlo, hd, hdl]; rfl

theorem dkM (h : j < 8) (q d hi lo dl) (hq : q = qT b.q ⟨j, h⟩ t) (hd : d = dT b.d ⟨j, h⟩ t) (hhi : hi = rT (b.hi t) ⟨j, h⟩)
    (hlo : lo = rT (b.lo t) ⟨j, h⟩) (hdl : dl = rT (b.dl t) ⟨j, h⟩) :
    dkF (broadcast S256x256 (Scalar.ofBits .f32 0x00000000#32)) (dsF (maskF (pF b.up (stF (kT b.k t) q) hi lo)) (dptF (vT b.v t) d) dl) q = dkA b j t 1 := by
  rw [dsM b j t h q d hi lo dl hq hd hhi hlo hdl, hq]
  exact dkA_next b j t 0 h

theorem dvM (h : j < 8) (q d hi lo) (hq : q = qT b.q ⟨j, h⟩ t) (hd : d = dT b.d ⟨j, h⟩ t) (hhi : hi = rT (b.hi t) ⟨j, h⟩)
    (hlo : lo = rT (b.lo t) ⟨j, h⟩) :
    dvF (broadcast S256x128 (Scalar.ofBits .f32 0x00000000#32)) (maskF (pF b.up (stF (kT b.k t) q) hi lo)) d = dvA b j t 1 := by
  rw [pM b j t h q hi lo hq hhi hlo, hd]
  exact dvA_next b j t 0 h

variable (m : ℕ) (hm : 0 < m) (h : j + m < 8)
include hm

theorem pN (st hi lo) (hst : st = stF (kT b.k t) (qT b.q ⟨j + m, h⟩ t)) (hhi : hi = rT (b.hi t) ⟨j + m, h⟩) (hlo : lo = rT (b.lo t) ⟨j + m, h⟩) :
    pF b.up st hi lo = pP b j ⟨j + m, h⟩ t := by
  subst hst hhi hlo
  exact (if_neg (show ¬ j + m = j by omega)).symm

theorem dsN (st dp hi lo dl) (hst : st = stF (kT b.k t) (qT b.q ⟨j + m, h⟩ t)) (hdp : dp = dptF (vT b.v t) (dT b.d ⟨j + m, h⟩ t))
    (hhi : hi = rT (b.hi t) ⟨j + m, h⟩) (hlo : lo = rT (b.lo t) ⟨j + m, h⟩) (hdl : dl = rT (b.dl t) ⟨j + m, h⟩) :
    dsF (pF b.up st hi lo) dp dl = dsP b j ⟨j + m, h⟩ t := by
  rw [pN b j t m hm h st hi lo hst hhi hlo, hdp, hdl]; rfl

theorem dkN (dk st dp q hi lo dl) (hdk : dk = dkA b j t m) (hst : st = stF (kT b.k t) (qT b.q ⟨j + m, h⟩ t)) (hdp : dp = dptF (vT b.v t) (dT b.d ⟨j + m, h⟩ t))
    (hq : q = qT b.q ⟨j + m, h⟩ t) (hhi : hi = rT (b.hi t) ⟨j + m, h⟩) (hlo : lo = rT (b.lo t) ⟨j + m, h⟩) (hdl : dl = rT (b.dl t) ⟨j + m, h⟩) :
    dkF dk (dsF (pF b.up st hi lo) dp dl) q = dkA b j t (m + 1) := by
  rw [dsN b j t m hm h st dp hi lo dl hst hdp hhi hlo hdl, hdk, hq]
  exact dkA_next b j t m h

theorem dvN (dv st d hi lo) (hdv : dv = dvA b j t m) (hst : st = stF (kT b.k t) (qT b.q ⟨j + m, h⟩ t))
    (hd : d = dT b.d ⟨j + m, h⟩ t) (hhi : hi = rT (b.hi t) ⟨j + m, h⟩) (hlo : lo = rT (b.lo t) ⟨j + m, h⟩) :
    dvF dv (pF b.up st hi lo) d = dvA b j t (m + 1) := by
  rw [pN b j t m hm h st hi lo hst hhi hlo, hdv, hd]
  exact dvA_next b j t m h

end Head

theorem dq3 {q : Vec F S256x256 .f32} {q' : Vec F S256x256 .f32} {ds ds' : FVec F S256x256 .bf16} (hq : q = q') (hds : ds = ds') (k : Vec F S256x256 .bf16) :
    dqF q ds k = dqF q' ds' k := by rw [hq, hds]

theorem piece_ext {s : Shape} {e : EltTy} {r : Rect s} {w w' : r.shape.Idx → Elt F e} {L L' : List (View.Piece (Elt F) s e)} (h : w = w') (hL : L = L') :
    (⟨r, w⟩ : View.Piece (Elt F) s e) :: L = ⟨r, w'⟩ :: L' := by rw [h, hL]

theorem carry_ext {a0 b0 : FVec F S256x256 .f32} {a1 b1 : FVec F S256x128 .f32} {a2 b2 : FVec F S256x256 .f32} {a3 b3 : FVec F S256x256 .f32} {a4 b4 : FVec F S256x256 .f32} {a5 b5 : FVec F S256x128 .f32} {a6 b6 : FVec F S256x256 .f32} {a7 b7 : FVec F S256x256 .f32} {a8 b8 : FVec F S256x256 .f32} {a9 b9 : FVec F S256x128 .f32} {a10 b10 : FVec F S256x256 .f32} {a11 b11 : FVec F S256x256 .f32} {a12 b12 : FVec F S256x256 .f32} {a13 b13 : FVec F S256x128 .f32} {a14 b14 : FVec F S256x256 .f32} {a15 b15 : FVec F S256x256 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    ((a0, a1, a2, a3, a4, a5, a6, a7, a8, a9, a10, a11, a12, a13, a14, a15) : Carry F) = (b0, b1, b2, b3, b4, b5, b6, b7, b8, b9, b10, b11, b12, b13, b14, b15) := by
  subst h0 h1 h2 h3 h4 h5 h6 h7 h8 h9 h10 h11 h12 h13 h14 h15; rfl

/-- What is carried after `m` query blocks: the gradients so far and the next block's scores and `v · doᵀ`. -/
def cr (b : Blks F) (j m : ℕ) (h : j + m < 8) : Carry F :=
  (dkA b j 0 m, dvA b j 0 m, stF (kT b.k 0) (qT b.q ⟨j + m, h⟩ 0), dptF (vT b.v 0) (dT b.d ⟨j + m, h⟩ 0), dkA b j 1 m, dvA b j 1 m, stF (kT b.k 1) (qT b.q ⟨j + m, h⟩ 1), dptF (vT b.v 1) (dT b.d ⟨j + m, h⟩ 1), dkA b j 2 m, dvA b j 2 m, stF (kT b.k 2) (qT b.q ⟨j + m, h⟩ 2), dptF (vT b.v 2) (dT b.d ⟨j + m, h⟩ 2), dkA b j 3 m, dvA b j 3 m, stF (kT b.k 3) (qT b.q ⟨j + m, h⟩ 3), dptF (vT b.v 3) (dT b.d ⟨j + m, h⟩ 3))

theorem firstY_eq (b : Blks F) (i : grid0.Coords) (k0_h2 : k0_cond2 i = 1#1) (hj : (i 2).val < 8) (hj1 : (i 2).val + 1 < 8) : firstY b i k0_h2 = cr b (i 2).val 1 hj1 := by
  unfold firstY cr
  exact carry_ext
    (dkM b (i 2).val 0 hj _ _ _ _ _ (ldQ _ _ _ ⟨(i 2).val, hj⟩ 0 (k0_off1_eq i)) (ldD _ _ _ ⟨(i 2).val, hj⟩ 0 (k0_off2_eq i)) (ldR _ _ _ ⟨(i 2).val, hj⟩ (k0_off11_eq i)) (ldR _ _ _ ⟨(i 2).val, hj⟩ (k0_off11_eq i)) (ldR _ _ _ ⟨(i 2).val, hj⟩ (k0_off11_eq i)))
    (dvM b (i 2).val 0 hj _ _ _ _ (ldQ _ _ _ ⟨(i 2).val, hj⟩ 0 (k0_off1_eq i)) (ldD _ _ _ ⟨(i 2).val, hj⟩ 0 (k0_off2_eq i)) (ldR _ _ _ ⟨(i 2).val, hj⟩ (k0_off11_eq i)) (ldR _ _ _ ⟨(i 2).val, hj⟩ (k0_off11_eq i)))
    (congrArg (stF (kT b.k 0)) (ldQ _ _ _ ⟨(i 2).val + 1, hj1⟩ 0 ((k0_off9_eq i).trans (offA _ _ _ rfl))))
    (congrArg (dptF (vT b.v 0)) (ldD _ _ _ ⟨(i 2).val + 1, hj1⟩ 0 ((k0_off10_eq i).trans (offA _ _ _ rfl))))
    (dkM b (i 2).val 1 hj _ _ _ _ _ (ldQ _ _ _ ⟨(i 2).val, hj⟩ 1 (k0_off3_eq i)) (ldD _ _ _ ⟨(i 2).val, hj⟩ 1 (k0_off4_eq i)) (ldR _ _ _ ⟨(i 2).val, hj⟩ (k0_off11_eq i)) (ldR _ _ _ ⟨(i 2).val, hj⟩ (k0_off11_eq i)) (ldR _ _ _ ⟨(i 2).val, hj⟩ (k0_off11_eq i)))
    (dvM b (i 2).val 1 hj _ _ _ _ (ldQ _ _ _ ⟨(i 2).val, hj⟩ 1 (k0_off3_eq i)) (ldD _ _ _ ⟨(i 2).val, hj⟩ 1 (k0_off4_eq i)) (ldR _ _ _ ⟨(i 2).val, hj⟩ (k0_off11_eq i)) (ldR _ _ _ ⟨(i 2).val, hj⟩ (k0_off11_eq i)))
    (congrArg (stF (kT b.k 1)) (ldQ _ _ _ ⟨(i 2).val + 1, hj1⟩ 1 ((k0_off12_eq i).trans (offA _ _ _ rfl))))
    (congrArg (dptF (vT b.v 1)) (ldD _ _ _ ⟨(i 2).val + 1, hj1⟩ 1 ((k0_off13_eq i).trans (offA _ _ _ rfl))))
    (dkM b (i 2).val 2 hj _ _ _ _ _ (ldQ _ _ _ ⟨(i 2).val, hj⟩ 2 (k0_off5_eq i)) (ldD _ _ _ ⟨(i 2).val, hj⟩ 2 (k0_off6_eq i)) (ldR _ _ _ ⟨(i 2).val, hj⟩ (k0_off11_eq i)) (ldR _ _ _ ⟨(i 2).val, hj⟩ (k0_off11_eq i)) (ldR _ _ _ ⟨(i 2).val, hj⟩ (k0_off11_eq i)))
    (dvM b (i 2).val 2 hj _ _ _ _ (ldQ _ _ _ ⟨(i 2).val, hj⟩ 2 (k0_off5_eq i)) (ldD _ _ _ ⟨(i 2).val, hj⟩ 2 (k0_off6_eq i)) (ldR _ _ _ ⟨(i 2).val, hj⟩ (k0_off11_eq i)) (ldR _ _ _ ⟨(i 2).val, hj⟩ (k0_off11_eq i)))
    (congrArg (stF (kT b.k 2)) (ldQ _ _ _ ⟨(i 2).val + 1, hj1⟩ 2 ((k0_off14_eq i).trans (offA _ _ _ rfl))))
    (congrArg (dptF (vT b.v 2)) (ldD _ _ _ ⟨(i 2).val + 1, hj1⟩ 2 ((k0_off15_eq i).trans (offA _ _ _ rfl))))
    (dkM b (i 2).val 3 hj _ _ _ _ _ (ldQ _ _ _ ⟨(i 2).val, hj⟩ 3 (k0_off7_eq i)) (ldD _ _ _ ⟨(i 2).val, hj⟩ 3 (k0_off8_eq i)) (ldR _ _ _ ⟨(i 2).val, hj⟩ (k0_off11_eq i)) (ldR _ _ _ ⟨(i 2).val, hj⟩ (k0_off11_eq i)) (ldR _ _ _ ⟨(i 2).val, hj⟩ (k0_off11_eq i)))
    (dvM b (i 2).val 3 hj _ _ _ _ (ldQ _ _ _ ⟨(i 2).val, hj⟩ 3 (k0_off7_eq i)) (ldD _ _ _ ⟨(i 2).val, hj⟩ 3 (k0_off8_eq i)) (ldR _ _ _ ⟨(i 2).val, hj⟩ (k0_off11_eq i)) (ldR _ _ _ ⟨(i 2).val, hj⟩ (k0_off11_eq i)))
    (congrArg (stF (kT b.k 3)) (ldQ _ _ _ ⟨(i 2).val + 1, hj1⟩ 3 ((k0_off16_eq i).trans (offA _ _ _ rfl))))
    (congrArg (dptF (vT b.v 3)) (ldD _ _ _ ⟨(i 2).val + 1, hj1⟩ 3 ((k0_off17_eq i).trans (offA _ _ _ rfl))))

section
variable {sig' : RefSig} {κ : Kind} {sp : Space}

/-- The diagonal block's stores, when blocks follow, leave the scratch after one query block. -/
theorem firstL_eq (v : View sig' κ sp S2048x1024 .f32) (f : v.ty.Contents (Elt F)) (b : Blks F) (i : grid0.Coords) (k0_h2 : k0_cond2 i = 1#1) (hj : (i 2).val < 8) (G G0 G1 G2 G3 : Vec F S2048x1024 .f32) (g0 : qT G0 ⟨(i 2).val, hj⟩ 0 = qT G ⟨(i 2).val, hj⟩ 0) (g1 : qT G1 ⟨(i 2).val, hj⟩ 1 = qT G ⟨(i 2).val, hj⟩ 1) (g2 : qT G2 ⟨(i 2).val, hj⟩ 2 = qT G ⟨(i 2).val, hj⟩ 2) (g3 : qT G3 ⟨(i 2).val, hj⟩ 3 = qT G ⟨(i 2).val, hj⟩ 3) (hf : v.read (Elt F) f = G) :
    v.read (Elt F) (v.writes (Elt F) f (firstL b i k0_h2 G0 G1 G2 G3)) = scA b (i 2).val G 1 :=
  upd4 v f b (i 2).val G 0 hj _ _ _ _ _ _ _ _ (k0_off1_eq i) (k0_off3_eq i) (k0_off5_eq i) (k0_off7_eq i) _ _ _ _ (hf.trans (scA_zero b _ G).symm)
    (dq3 ((ldQ G0 _ _ ⟨(i 2).val, hj⟩ 0 (k0_off1_eq i)).trans g0) (dsM b (i 2).val 0 hj _ _ _ _ _ (ldQ _ _ _ ⟨(i 2).val, hj⟩ 0 (k0_off1_eq i)) (ldD _ _ _ ⟨(i 2).val, hj⟩ 0 (k0_off2_eq i)) (ldR _ _ _ ⟨(i 2).val, hj⟩ (k0_off11_eq i)) (ldR _ _ _ ⟨(i 2).val, hj⟩ (k0_off11_eq i)) (ldR _ _ _ ⟨(i 2).val, hj⟩ (k0_off11_eq i))) _)
    (dq3 ((ldQ G1 _ _ ⟨(i 2).val, hj⟩ 1 (k0_off3_eq i)).trans g1) (dsM b (i 2).val 1 hj _ _ _ _ _ (ldQ _ _ _ ⟨(i 2).val, hj⟩ 1 (k0_off3_eq i)) (ldD _ _ _ ⟨(i 2).val, hj⟩ 1 (k0_off4_eq i)) (ldR _ _ _ ⟨(i 2).val, hj⟩ (k0_off11_eq i)) (ldR _ _ _ ⟨(i 2).val, hj⟩ (k0_off11_eq i)) (ldR _ _ _ ⟨(i 2).val, hj⟩ (k0_off11_eq i))) _)
    (dq3 ((ldQ G2 _ _ ⟨(i 2).val, hj⟩ 2 (k0_off5_eq i)).trans g2) (dsM b (i 2).val 2 hj _ _ _ _ _ (ldQ _ _ _ ⟨(i 2).val, hj⟩ 2 (k0_off5_eq i)) (ldD _ _ _ ⟨(i 2).val, hj⟩ 2 (k0_off6_eq i)) (ldR _ _ _ ⟨(i 2).val, hj⟩ (k0_off11_eq i)) (ldR _ _ _ ⟨(i 2).val, hj⟩ (k0_off11_eq i)) (ldR _ _ _ ⟨(i 2).val, hj⟩ (k0_off11_eq i))) _)
    (dq3 ((ldQ G3 _ _ ⟨(i 2).val, hj⟩ 3 (k0_off7_eq i)).trans g3) (dsM b (i 2).val 3 hj _ _ _ _ _ (ldQ _ _ _ ⟨(i 2).val, hj⟩ 3 (k0_off7_eq i)) (ldD _ _ _ ⟨(i 2).val, hj⟩ 3 (k0_off8_eq i)) (ldR _ _ _ ⟨(i 2).val, hj⟩ (k0_off11_eq i)) (ldR _ _ _ ⟨(i 2).val, hj⟩ (k0_off11_eq i)) (ldR _ _ _ ⟨(i 2).val, hj⟩ (k0_off11_eq i))) _)

/-- So do they when it is the last. -/
theorem diagL_eq (v : View sig' κ sp S2048x1024 .f32) (f : v.ty.Contents (Elt F)) (b : Blks F) (i : grid0.Coords) (k0_h3 : k0_cond3 i = 1#1) (hj : (i 2).val < 8) (G : Vec F S2048x1024 .f32) (hf : v.read (Elt F) f = G) :
    v.read (Elt F) (v.writes (Elt F) f (diagL b i k0_h3 G)) = scA b (i 2).val G 1 :=
  upd4 v f b (i 2).val G 0 hj _ _ _ _ _ _ _ _ (k0_off52_eq i) (k0_off54_eq i) (k0_off56_eq i) (k0_off58_eq i) _ _ _ _ (hf.trans (scA_zero b _ G).symm)
    (dq3 ((ldQ G _ _ ⟨(i 2).val, hj⟩ 0 (k0_off52_eq i)).trans rfl) (dsM b (i 2).val 0 hj _ _ _ _ _ (ldQ _ _ _ ⟨(i 2).val, hj⟩ 0 (k0_off52_eq i)) (ldD _ _ _ ⟨(i 2).val, hj⟩ 0 (k0_off53_eq i)) (ldR _ _ _ ⟨(i 2).val, hj⟩ (k0_off60_eq i)) (ldR _ _ _ ⟨(i 2).val, hj⟩ (k0_off60_eq i)) (ldR _ _ _ ⟨(i 2).val, hj⟩ (k0_off60_eq i))) _)
    (dq3 ((ldQ G _ _ ⟨(i 2).val, hj⟩ 1 (k0_off54_eq i)).trans rfl) (dsM b (i 2).val 1 hj _ _ _ _ _ (ldQ _ _ _ ⟨(i 2).val, hj⟩ 1 (k0_off54_eq i)) (ldD _ _ _ ⟨(i 2).val, hj⟩ 1 (k0_off55_eq i)) (ldR _ _ _ ⟨(i 2).val, hj⟩ (k0_off60_eq i)) (ldR _ _ _ ⟨(i 2).val, hj⟩ (k0_off60_eq i)) (ldR _ _ _ ⟨(i 2).val, hj⟩ (k0_off60_eq i))) _)
    (dq3 ((ldQ G _ _ ⟨(i 2).val, hj⟩ 2 (k0_off56_eq i)).trans rfl) (dsM b (i 2).val 2 hj _ _ _ _ _ (ldQ _ _ _ ⟨(i 2).val, hj⟩ 2 (k0_off56_eq i)) (ldD _ _ _ ⟨(i 2).val, hj⟩ 2 (k0_off57_eq i)) (ldR _ _ _ ⟨(i 2).val, hj⟩ (k0_off60_eq i)) (ldR _ _ _ ⟨(i 2).val, hj⟩ (k0_off60_eq i)) (ldR _ _ _ ⟨(i 2).val, hj⟩ (k0_off60_eq i))) _)
    (dq3 ((ldQ G _ _ ⟨(i 2).val, hj⟩ 3 (k0_off58_eq i)).trans rfl) (dsM b (i 2).val 3 hj _ _ _ _ _ (ldQ _ _ _ ⟨(i 2).val, hj⟩ 3 (k0_off58_eq i)) (ldD _ _ _ ⟨(i 2).val, hj⟩ 3 (k0_off59_eq i)) (ldR _ _ _ ⟨(i 2).val, hj⟩ (k0_off60_eq i)) (ldR _ _ _ ⟨(i 2).val, hj⟩ (k0_off60_eq i)) (ldR _ _ _ ⟨(i 2).val, hj⟩ (k0_off60_eq i))) _)

/-- One trip takes what is carried one query block on, -/
theorem tripYb_eq (b : Blks F) (i : grid0.Coords) (k0_h2 : k0_cond2 i = 1#1) (k : Fin (k0_t1_loop i).trips) (h1 : (i 2).val + (k.val + 1) < 8) (h2 : (i 2).val + (k.val + 1 + 1) < 8) :
    tripYb b i k0_h2 k (cr b (i 2).val (k.val + 1) h1) = cr b (i 2).val (k.val + 1 + 1) h2 := by
  have hm : 0 < k.val + 1 := Nat.succ_pos _
  unfold tripYb
  rw [cr, cr]
  exact carry_ext
    (dkN b (i 2).val 0 (k.val + 1) hm h1 _ _ _ _ _ _ _ rfl rfl rfl (ldQ _ _ _ ⟨(i 2).val + (k.val + 1), h1⟩ 0 ((off22_eq i k).trans (offT _ _ _ _ rfl))) (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k)))
    (dvN b (i 2).val 0 (k.val + 1) hm h1 _ _ _ _ _ rfl rfl (ldD _ _ _ ⟨(i 2).val + (k.val + 1), h1⟩ 0 ((off21_eq i k).trans (offT _ _ _ _ rfl))) (ldR _ _ _ ⟨(i 2).val + (k.val + 1), h1⟩ (off20_eq i k)) (ldR _ _ _ ⟨(i 2).val + (k.val + 1), h1⟩ (off20_eq i k)))
    (congrArg (stF (kT b.k 0)) (ldQ _ _ _ ⟨(i 2).val + (k.val + 1 + 1), h2⟩ 0 ((off18_eq i k).trans (offU _ _ _ _ rfl))))
    (congrArg (dptF (vT b.v 0)) (ldD _ _ _ ⟨(i 2).val + (k.val + 1 + 1), h2⟩ 0 ((off19_eq i k).trans (offU _ _ _ _ rfl))))
    (dkN b (i 2).val 1 (k.val + 1) hm h1 _ _ _ _ _ _ _ rfl rfl rfl (ldQ _ _ _ ⟨(i 2).val + (k.val + 1), h1⟩ 1 ((off26_eq i k).trans (offT _ _ _ _ rfl))) (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k)))
    (dvN b (i 2).val 1 (k.val + 1) hm h1 _ _ _ _ _ rfl rfl (ldD _ _ _ ⟨(i 2).val + (k.val + 1), h1⟩ 1 ((off25_eq i k).trans (offT _ _ _ _ rfl))) (ldR _ _ _ ⟨(i 2).val + (k.val + 1), h1⟩ (off20_eq i k)) (ldR _ _ _ ⟨(i 2).val + (k.val + 1), h1⟩ (off20_eq i k)))
    (congrArg (stF (kT b.k 1)) (ldQ _ _ _ ⟨(i 2).val + (k.val + 1 + 1), h2⟩ 1 ((off23_eq i k).trans (offU _ _ _ _ rfl))))
    (congrArg (dptF (vT b.v 1)) (ldD _ _ _ ⟨(i 2).val + (k.val + 1 + 1), h2⟩ 1 ((off24_eq i k).trans (offU _ _ _ _ rfl))))
    (dkN b (i 2).val 2 (k.val + 1) hm h1 _ _ _ _ _ _ _ rfl rfl rfl (ldQ _ _ _ ⟨(i 2).val + (k.val + 1), h1⟩ 2 ((off30_eq i k).trans (offT _ _ _ _ rfl))) (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k)))
    (dvN b (i 2).val 2 (k.val + 1) hm h1 _ _ _ _ _ rfl rfl (ldD _ _ _ ⟨(i 2).val + (k.val + 1), h1⟩ 2 ((off29_eq i k).trans (offT _ _ _ _ rfl))) (ldR _ _ _ ⟨(i 2).val + (k.val + 1), h1⟩ (off20_eq i k)) (ldR _ _ _ ⟨(i 2).val + (k.val + 1), h1⟩ (off20_eq i k)))
    (congrArg (stF (kT b.k 2)) (ldQ _ _ _ ⟨(i 2).val + (k.val + 1 + 1), h2⟩ 2 ((off27_eq i k).trans (offU _ _ _ _ rfl))))
    (congrArg (dptF (vT b.v 2)) (ldD _ _ _ ⟨(i 2).val + (k.val + 1 + 1), h2⟩ 2 ((off28_eq i k).trans (offU _ _ _ _ rfl))))
    (dkN b (i 2).val 3 (k.val + 1) hm h1 _ _ _ _ _ _ _ rfl rfl rfl (ldQ _ _ _ ⟨(i 2).val + (k.val + 1), h1⟩ 3 ((off34_eq i k).trans (offT _ _ _ _ rfl))) (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k)))
    (dvN b (i 2).val 3 (k.val + 1) hm h1 _ _ _ _ _ rfl rfl (ldD _ _ _ ⟨(i 2).val + (k.val + 1), h1⟩ 3 ((off33_eq i k).trans (offT _ _ _ _ rfl))) (ldR _ _ _ ⟨(i 2).val + (k.val + 1), h1⟩ (off20_eq i k)) (ldR _ _ _ ⟨(i 2).val + (k.val + 1), h1⟩ (off20_eq i k)))
    (congrArg (stF (kT b.k 3)) (ldQ _ _ _ ⟨(i 2).val + (k.val + 1 + 1), h2⟩ 3 ((off31_eq i k).trans (offU _ _ _ _ rfl))))
    (congrArg (dptF (vT b.v 3)) (ldD _ _ _ ⟨(i 2).val + (k.val + 1 + 1), h2⟩ 3 ((off32_eq i k).trans (offU _ _ _ _ rfl))))

/-- and the scratch too. -/
theorem tripLb_eq (v : View sig' κ sp S2048x1024 .f32) (f : v.ty.Contents (Elt F)) (b : Blks F) (i : grid0.Coords) (k0_h2 : k0_cond2 i = 1#1) (k : Fin (k0_t1_loop i).trips) (h1 : (i 2).val + (k.val + 1) < 8) (G0 : Vec F S2048x1024 .f32) (hf : v.read (Elt F) f = scA b (i 2).val G0 (k.val + 1)) :
    v.read (Elt F) (v.writes (Elt F) f (tripLb b i k0_h2 k (cr b (i 2).val (k.val + 1) h1) (v.read (Elt F) f))) = scA b (i 2).val G0 (k.val + 1 + 1) := by
  have hm : 0 < k.val + 1 := Nat.succ_pos _
  rw [hf]
  exact upd4 v f b (i 2).val G0 (k.val + 1) h1 _ _ _ _ _ _ _ _ ((off22_eq i k).trans (offT _ _ _ _ rfl)) ((off26_eq i k).trans (offT _ _ _ _ rfl)) ((off30_eq i k).trans (offT _ _ _ _ rfl)) ((off34_eq i k).trans (offT _ _ _ _ rfl)) _ _ _ _ hf
    (dq3 ((ldQ _ _ _ ⟨(i 2).val + (k.val + 1), h1⟩ 0 ((off22_eq i k).trans (offT _ _ _ _ rfl))).trans (scA_tile b _ G0 _ _ 0 (Nat.le_refl _))) (dsN b (i 2).val 0 (k.val + 1) hm h1 _ _ _ _ _ rfl rfl (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k))) _)
    (dq3 ((ldQ _ _ _ ⟨(i 2).val + (k.val + 1), h1⟩ 1 ((off26_eq i k).trans (offT _ _ _ _ rfl))).trans (scA_tile b _ G0 _ _ 1 (Nat.le_refl _))) (dsN b (i 2).val 1 (k.val + 1) hm h1 _ _ _ _ _ rfl rfl (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k))) _)
    (dq3 ((ldQ _ _ _ ⟨(i 2).val + (k.val + 1), h1⟩ 2 ((off30_eq i k).trans (offT _ _ _ _ rfl))).trans (scA_tile b _ G0 _ _ 2 (Nat.le_refl _))) (dsN b (i 2).val 2 (k.val + 1) hm h1 _ _ _ _ _ rfl rfl (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k))) _)
    (dq3 ((ldQ _ _ _ ⟨(i 2).val + (k.val + 1), h1⟩ 3 ((off34_eq i k).trans (offT _ _ _ _ rfl))).trans (scA_tile b _ G0 _ _ 3 (Nat.le_refl _))) (dsN b (i 2).val 3 (k.val + 1) hm h1 _ _ _ _ _ rfl rfl (ldR _ _ _ ⟨(i 2).val + (k.val + 1), h1⟩ (off20_eq i k)) (ldR _ _ _ ⟨(i 2).val + (k.val + 1), h1⟩ (off20_eq i k)) (ldR _ _ _ ⟨(i 2).val + (k.val + 1), h1⟩ (off20_eq i k))) _)

/-- The last query block ends the scratch's, -/
theorem lastL_eq (v : View sig' κ sp S2048x1024 .f32) (f : v.ty.Contents (Elt F)) (b : Blks F) (j : ℕ) (hj : j < 8) (hj7 : j < 7) (h1 : j + (7 - j) < 8) (G0 : Vec F S2048x1024 .f32) (hf : v.read (Elt F) f = scA b j G0 (7 - j)) :
    v.read (Elt F) (v.writes (Elt F) f (lastL b (cr b j (7 - j) h1) (v.read (Elt F) f))) = scA b j G0 (8 - j) := by
  have hm : 0 < 7 - j := by omega
  have e : 8 - j = 7 - j + 1 := by omega
  rw [hf, e]
  exact upd4 v f b j G0 (7 - j) h1 _ _ _ _ _ _ _ _ (offL _ _ _ hj rfl) (offL _ _ _ hj rfl) (offL _ _ _ hj rfl) (offL _ _ _ hj rfl) _ _ _ _ hf
    (dq3 ((ldQ _ _ _ ⟨j + (7 - j), h1⟩ 0 (offL _ _ _ hj rfl)).trans (scA_tile b _ G0 _ _ 0 (Nat.le_refl _))) (dsN b j 0 (7 - j) hm h1 _ _ _ _ _ rfl rfl (ldR _ _ _ ⟨j + (7 - j), h1⟩ (offR _ hj)) (ldR _ _ _ ⟨j + (7 - j), h1⟩ (offR _ hj)) (ldR _ _ _ ⟨j + (7 - j), h1⟩ (offR _ hj))) _)
    (dq3 ((ldQ _ _ _ ⟨j + (7 - j), h1⟩ 1 (offL _ _ _ hj rfl)).trans (scA_tile b _ G0 _ _ 1 (Nat.le_refl _))) (dsN b j 1 (7 - j) hm h1 _ _ _ _ _ rfl rfl (ldR _ _ _ ⟨j + (7 - j), h1⟩ (offR _ hj)) (ldR _ _ _ ⟨j + (7 - j), h1⟩ (offR _ hj)) (ldR _ _ _ ⟨j + (7 - j), h1⟩ (offR _ hj))) _)
    (dq3 ((ldQ _ _ _ ⟨j + (7 - j), h1⟩ 2 (offL _ _ _ hj rfl)).trans (scA_tile b _ G0 _ _ 2 (Nat.le_refl _))) (dsN b j 2 (7 - j) hm h1 _ _ _ _ _ rfl rfl (ldR _ _ _ ⟨j + (7 - j), h1⟩ (offR _ hj)) (ldR _ _ _ ⟨j + (7 - j), h1⟩ (offR _ hj)) (ldR _ _ _ ⟨j + (7 - j), h1⟩ (offR _ hj))) _)
    (dq3 ((ldQ _ _ _ ⟨j + (7 - j), h1⟩ 3 (offL _ _ _ hj rfl)).trans (scA_tile b _ G0 _ _ 3 (Nat.le_refl _))) (dsN b j 3 (7 - j) hm h1 _ _ _ _ _ rfl rfl (ldR _ _ _ ⟨j + (7 - j), h1⟩ (offR _ hj)) (ldR _ _ _ ⟨j + (7 - j), h1⟩ (offR _ hj)) (ldR _ _ _ ⟨j + (7 - j), h1⟩ (offR _ hj))) _)

/-- and the gradient of `k`'s; -/
theorem lastK_eq (v : View sig' κ sp S256x1024 .bf16) (f : v.ty.Contents (Elt F)) (b : Blks F) (j : ℕ) (hj : j < 8) (hj7 : j < 7) (h1 : j + (7 - j) < 8) :
    v.read (Elt F) (v.writes (Elt F) f (lastK b (cr b j (7 - j) h1))) = dkO b j := by
  have hm : 0 < 7 - j := by omega
  have e : 7 - j + 1 = 8 - j := by omega
  exact outK4 v f b j _ _ _ _ _ _ _ _
    ((dkN b j 0 (7 - j) hm h1 _ _ _ _ _ _ _ rfl rfl rfl (ldQ _ _ _ ⟨j + (7 - j), h1⟩ 0 (offL _ _ _ hj rfl)) (ldR _ _ _ ⟨j + (7 - j), h1⟩ (offR _ hj)) (ldR _ _ _ ⟨j + (7 - j), h1⟩ (offR _ hj)) (ldR _ _ _ ⟨j + (7 - j), h1⟩ (offR _ hj))).trans (congrArg (dkA b j 0) e))
    ((dkN b j 1 (7 - j) hm h1 _ _ _ _ _ _ _ rfl rfl rfl (ldQ _ _ _ ⟨j + (7 - j), h1⟩ 1 (offL _ _ _ hj rfl)) (ldR _ _ _ ⟨j + (7 - j), h1⟩ (offR _ hj)) (ldR _ _ _ ⟨j + (7 - j), h1⟩ (offR _ hj)) (ldR _ _ _ ⟨j + (7 - j), h1⟩ (offR _ hj))).trans (congrArg (dkA b j 1) e))
    ((dkN b j 2 (7 - j) hm h1 _ _ _ _ _ _ _ rfl rfl rfl (ldQ _ _ _ ⟨j + (7 - j), h1⟩ 2 (offL _ _ _ hj rfl)) (ldR _ _ _ ⟨j + (7 - j), h1⟩ (offR _ hj)) (ldR _ _ _ ⟨j + (7 - j), h1⟩ (offR _ hj)) (ldR _ _ _ ⟨j + (7 - j), h1⟩ (offR _ hj))).trans (congrArg (dkA b j 2) e))
    ((dkN b j 3 (7 - j) hm h1 _ _ _ _ _ _ _ rfl rfl rfl (ldQ _ _ _ ⟨j + (7 - j), h1⟩ 3 (offL _ _ _ hj rfl)) (ldR _ _ _ ⟨j + (7 - j), h1⟩ (offR _ hj)) (ldR _ _ _ ⟨j + (7 - j), h1⟩ (offR _ hj)) (ldR _ _ _ ⟨j + (7 - j), h1⟩ (offR _ hj))).trans (congrArg (dkA b j 3) e))

theorem diagK_eq (v : View sig' κ sp S256x1024 .bf16) (f : v.ty.Contents (Elt F)) (b : Blks F) (i : grid0.Coords) (k0_h3 : k0_cond3 i = 1#1) (hj : (i 2).val < 8) (hj7 : (i 2).val = 7) :
    v.read (Elt F) (v.writes (Elt F) f (diagK b i k0_h3)) = dkO b (i 2).val := by
  have e : 1 = 8 - (i 2).val := by omega
  exact outK4 v f b (i 2).val _ _ _ _ _ _ _ _
    ((dkM b (i 2).val 0 hj _ _ _ _ _ (ldQ _ _ _ ⟨(i 2).val, hj⟩ 0 (k0_off52_eq i)) (ldD _ _ _ ⟨(i 2).val, hj⟩ 0 (k0_off53_eq i)) (ldR _ _ _ ⟨(i 2).val, hj⟩ (k0_off60_eq i)) (ldR _ _ _ ⟨(i 2).val, hj⟩ (k0_off60_eq i)) (ldR _ _ _ ⟨(i 2).val, hj⟩ (k0_off60_eq i))).trans (congrArg (dkA b (i 2).val 0) e))
    ((dkM b (i 2).val 1 hj _ _ _ _ _ (ldQ _ _ _ ⟨(i 2).val, hj⟩ 1 (k0_off54_eq i)) (ldD _ _ _ ⟨(i 2).val, hj⟩ 1 (k0_off55_eq i)) (ldR _ _ _ ⟨(i 2).val, hj⟩ (k0_off60_eq i)) (ldR _ _ _ ⟨(i 2).val, hj⟩ (k0_off60_eq i)) (ldR _ _ _ ⟨(i 2).val, hj⟩ (k0_off60_eq i))).trans (congrArg (dkA b (i 2).val 1) e))
    ((dkM b (i 2).val 2 hj _ _ _ _ _ (ldQ _ _ _ ⟨(i 2).val, hj⟩ 2 (k0_off56_eq i)) (ldD _ _ _ ⟨(i 2).val, hj⟩ 2 (k0_off57_eq i)) (ldR _ _ _ ⟨(i 2).val, hj⟩ (k0_off60_eq i)) (ldR _ _ _ ⟨(i 2).val, hj⟩ (k0_off60_eq i)) (ldR _ _ _ ⟨(i 2).val, hj⟩ (k0_off60_eq i))).trans (congrArg (dkA b (i 2).val 2) e))
    ((dkM b (i 2).val 3 hj _ _ _ _ _ (ldQ _ _ _ ⟨(i 2).val, hj⟩ 3 (k0_off58_eq i)) (ldD _ _ _ ⟨(i 2).val, hj⟩ 3 (k0_off59_eq i)) (ldR _ _ _ ⟨(i 2).val, hj⟩ (k0_off60_eq i)) (ldR _ _ _ ⟨(i 2).val, hj⟩ (k0_off60_eq i)) (ldR _ _ _ ⟨(i 2).val, hj⟩ (k0_off60_eq i))).trans (congrArg (dkA b (i 2).val 3) e))

/-- and the gradient of `v`'s; -/
theorem lastV_eq (v : View sig' κ sp S256x512 .bf16) (f : v.ty.Contents (Elt F)) (b : Blks F) (j : ℕ) (hj : j < 8) (hj7 : j < 7) (h1 : j + (7 - j) < 8) :
    v.read (Elt F) (v.writes (Elt F) f (lastV b (cr b j (7 - j) h1))) = dvO b j := by
  have hm : 0 < 7 - j := by omega
  have e : 7 - j + 1 = 8 - j := by omega
  exact outV4 v f b j _ _ _ _ _ _ _ _
    ((dvN b j 0 (7 - j) hm h1 _ _ _ _ _ rfl rfl (ldD _ _ _ ⟨j + (7 - j), h1⟩ 0 (offL _ _ _ hj rfl)) (ldR _ _ _ ⟨j + (7 - j), h1⟩ (offR _ hj)) (ldR _ _ _ ⟨j + (7 - j), h1⟩ (offR _ hj))).trans (congrArg (dvA b j 0) e))
    ((dvN b j 1 (7 - j) hm h1 _ _ _ _ _ rfl rfl (ldD _ _ _ ⟨j + (7 - j), h1⟩ 1 (offL _ _ _ hj rfl)) (ldR _ _ _ ⟨j + (7 - j), h1⟩ (offR _ hj)) (ldR _ _ _ ⟨j + (7 - j), h1⟩ (offR _ hj))).trans (congrArg (dvA b j 1) e))
    ((dvN b j 2 (7 - j) hm h1 _ _ _ _ _ rfl rfl (ldD _ _ _ ⟨j + (7 - j), h1⟩ 2 (offL _ _ _ hj rfl)) (ldR _ _ _ ⟨j + (7 - j), h1⟩ (offR _ hj)) (ldR _ _ _ ⟨j + (7 - j), h1⟩ (offR _ hj))).trans (congrArg (dvA b j 2) e))
    ((dvN b j 3 (7 - j) hm h1 _ _ _ _ _ rfl rfl (ldD _ _ _ ⟨j + (7 - j), h1⟩ 3 (offL _ _ _ hj rfl)) (ldR _ _ _ ⟨j + (7 - j), h1⟩ (offR _ hj)) (ldR _ _ _ ⟨j + (7 - j), h1⟩ (offR _ hj))).trans (congrArg (dvA b j 3) e))

theorem diagV_eq (v : View sig' κ sp S256x512 .bf16) (f : v.ty.Contents (Elt F)) (b : Blks F) (i : grid0.Coords) (k0_h3 : k0_cond3 i = 1#1) (hj : (i 2).val < 8) (hj7 : (i 2).val = 7) :
    v.read (Elt F) (v.writes (Elt F) f (diagV b i k0_h3)) = dvO b (i 2).val := by
  have e : 1 = 8 - (i 2).val := by omega
  exact outV4 v f b (i 2).val _ _ _ _ _ _ _ _
    ((dvM b (i 2).val 0 hj _ _ _ _ (ldQ _ _ _ ⟨(i 2).val, hj⟩ 0 (k0_off52_eq i)) (ldD _ _ _ ⟨(i 2).val, hj⟩ 0 (k0_off53_eq i)) (ldR _ _ _ ⟨(i 2).val, hj⟩ (k0_off60_eq i)) (ldR _ _ _ ⟨(i 2).val, hj⟩ (k0_off60_eq i))).trans (congrArg (dvA b (i 2).val 0) e))
    ((dvM b (i 2).val 1 hj _ _ _ _ (ldQ _ _ _ ⟨(i 2).val, hj⟩ 1 (k0_off54_eq i)) (ldD _ _ _ ⟨(i 2).val, hj⟩ 1 (k0_off55_eq i)) (ldR _ _ _ ⟨(i 2).val, hj⟩ (k0_off60_eq i)) (ldR _ _ _ ⟨(i 2).val, hj⟩ (k0_off60_eq i))).trans (congrArg (dvA b (i 2).val 1) e))
    ((dvM b (i 2).val 2 hj _ _ _ _ (ldQ _ _ _ ⟨(i 2).val, hj⟩ 2 (k0_off56_eq i)) (ldD _ _ _ ⟨(i 2).val, hj⟩ 2 (k0_off57_eq i)) (ldR _ _ _ ⟨(i 2).val, hj⟩ (k0_off60_eq i)) (ldR _ _ _ ⟨(i 2).val, hj⟩ (k0_off60_eq i))).trans (congrArg (dvA b (i 2).val 2) e))
    ((dvM b (i 2).val 3 hj _ _ _ _ (ldQ _ _ _ ⟨(i 2).val, hj⟩ 3 (k0_off58_eq i)) (ldD _ _ _ ⟨(i 2).val, hj⟩ 3 (k0_off59_eq i)) (ldR _ _ _ ⟨(i 2).val, hj⟩ (k0_off60_eq i)) (ldR _ _ _ ⟨(i 2).val, hj⟩ (k0_off60_eq i))).trans (congrArg (dvA b (i 2).val 3) e))

end
end Cert.KernelIdeal.A
end
-- ==== Proof.A.Inv.lean ====
module

public import proofs.«01_k».proof.Proof.A.Bridge
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem cr_congr (b : Blks F) (j m m' : ℕ) (e : m = m') (h : j + m < 8) (h' : j + m' < 8) : cr b j m h = cr b j m' h' := by subst e; rfl

/-- Before every trip: what is carried and the scratch are those after the query blocks met so far. -/
theorem st_inv (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1)
    (init : Carry F) (G : Buf (Elt F) (arg22.view.loc (c : Thread nD τ))) (G0 : Vec F S2048x1024 .f32) (h1 : (i 2).val + 1 < 8)
    (hi : init = cr (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val 1 h1) (hG : arg22.view.read (Elt F) G = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val G0 1) :
    ∀ k, k ≤ (k0_t1_loop i).trips → ∃ h, (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).1 = cr (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val (k + 1) h ∧
      arg22.view.read (Elt F) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).2 = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val G0 (k + 1)
  | 0, _ => ⟨h1, hi, hG⟩
  | k + 1, hk => by
    obtain ⟨h, e1, e2⟩ := st_inv c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G G0 h1 hi hG k (Nat.le_of_succ_le hk)
    have hT := trips1 i
    have h' : (i 2).val + (k + 1 + 1) < 8 := by omega
    have es := st_succ c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G ⟨k, hk⟩
    refine ⟨h', ?_, ?_⟩
    · refine (congrArg Prod.fst es).trans ?_
      show tripY c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 ⟨k, hk⟩ _ = _
      rw [e1, tripY_eq]
      exact tripYb_eq (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) i k0_h2 ⟨k, hk⟩ h h'
    · refine (congrArg (fun s => arg22.view.read (Elt F) (Prod.snd s)) es).trans ?_
      show arg22.view.read (Elt F) (arg22.view.writes (Elt F) _ (tripL c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 ⟨k, hk⟩ _ _)) = _
      rw [e1, tripL_eq]
      exact tripLb_eq arg22.view _ (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) i k0_h2 ⟨k, hk⟩ h G0 e2

/-- After the last trip. -/
theorem st_fin (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) (X13 : Buf (Elt F) (arg13.view.loc (c : Thread nD τ))) (X14 : Buf (Elt F) (arg14.view.loc (c : Thread nD τ))) (X15 : Buf (Elt F) (arg15.view.loc (c : Thread nD τ))) (X16 : Buf (Elt F) (arg16.view.loc (c : Thread nD τ))) (X17 : Buf (Elt F) (arg17.view.loc (c : Thread nD τ))) (X18 : Buf (Elt F) (arg18.view.loc (c : Thread nD τ))) (v0 : BitVec 1) (k0_h2 : k0_cond2 i = 1#1)
    (init : Carry F) (G : Buf (Elt F) (arg22.view.loc (c : Thread nD τ))) (G0 : Vec F S2048x1024 .f32) (h1 : (i 2).val + 1 < 8) (h7 : (i 2).val + (7 - (i 2).val) < 8)
    (hi : init = cr (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val 1 h1) (hG : arg22.view.read (Elt F) G = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val G0 1) :
    (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G (Scf.trips (k0_t1_loop i).lb (k0_t1_loop i).ub (k0_t1_loop i).st)).1 = cr (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val (7 - (i 2).val) h7 ∧
      arg22.view.read (Elt F) (at0 G (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).2) (Scf.trips (k0_t1_loop i).lb (k0_t1_loop i).ub (k0_t1_loop i).st)) = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0) (i 2).val G0 (7 - (i 2).val) := by
  have hT : Scf.trips (k0_t1_loop i).lb (k0_t1_loop i).ub (k0_t1_loop i).st = 6 - (i 2).val := trips1 i
  obtain ⟨h, e1, e2⟩ := st_inv c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G G0 h1 hi hG _ (Nat.le_refl (Scf.trips (k0_t1_loop i).lb (k0_t1_loop i).ub (k0_t1_loop i).st))
  have hm : Scf.trips (k0_t1_loop i).lb (k0_t1_loop i).ub (k0_t1_loop i).st + 1 = 7 - (i 2).val := by omega
  refine ⟨e1.trans (cr_congr _ _ _ _ hm h h7), ?_⟩
  rw [at0_eq G (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 v0 k0_h2 init G k).2) rfl, e2, hm]

end Cert.KernelIdeal.A
end
-- ==== Proof.A.Zero.lean ====
module

public import proofs.«01_k».proof.Proof.A.EqA
public import proofs.«01_k».proof.Proof.A.Bridge
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A window's blocks at one point, from the sixteen values read. -/
def mkB (x3 : Vec F S2048x1024 .bf16) (x4 : Vec F S256x1024 .bf16) (x5 : Vec F S256x512 .bf16) (x6 : Vec F S2048x512 .bf16) (x7 : Vec F S8x1x256 .f32) (x8 : Vec F S8x1x256 .f32) (x9 : Vec F S8x1x256 .f32) (x10 : Vec F S8x1x256 .f32) (x11 : Vec F S8x1x256 .f32) (x12 : Vec F S8x1x256 .f32) (x13 : Vec F S8x1x256 .f32) (x14 : Vec F S8x1x256 .f32) (x15 : Vec F S8x1x256 .f32) (x16 : Vec F S8x1x256 .f32) (x17 : Vec F S8x1x256 .f32) (x18 : Vec F S8x1x256 .f32) (up : BitVec 1) : Blks F where
  q := x3
  k := x4
  v := x5
  d := x6
  hi := ![x11, x12, x13, x14]
  lo := ![x7, x8, x9, x10]
  dl := ![x15, x16, x17, x18]
  up := up

/-- What the first point of a row of eight starts from is zero, whatever the scratch held. -/
def scratchIn (j : ℕ) (G : Vec F S2048x1024 .f32) : Vec F S2048x1024 .f32 := if j = 0 then k0_pay1 else G

/-- The scratch after the point. -/
def scratchOut (b : Blks F) (j : ℕ) (G : Vec F S2048x1024 .f32) : Vec F S2048x1024 .f32 := scA b j (scratchIn j G) (8 - j)

/-- The `dq` block the last point stores. -/
def qOut (b : Blks F) (j : ℕ) (G : Vec F S2048x1024 .f32) : Vec F S2048x1024 .bf16 := truncf .bf16 (scratchOut b j G) bitsLt_bf16_f32

theorem whole_emb (x : S2048x1024.Idx) : (Rect.unit (s := S2048x1024) ![0, 0] S2048x1024.size inb_S2048x1024_S2048x1024_0_0).emb x = x := by
  funext a
  refine Fin.ext ?_
  rcases Fin.exists_fin_two.1 ⟨a, rfl⟩ with h | h <;> subst h
  · show 0 + 1 * (x 0).val = (x 0).val
    omega
  · show 0 + 1 * (x 1).val = (x 1).val
    omega

theorem ld_whole {e : EltTy} (X : Vec F S2048x1024 e) (x : S2048x1024.Idx) :
    View.ld (Val := Elt F) X (Rect.unit (s := S2048x1024) ![0, 0] S2048x1024.size inb_S2048x1024_S2048x1024_0_0) x = X x :=
  congrArg X (whole_emb x)

theorem whole_read {sig' : RefSig} {κ} {sp} {e : EltTy} (v : View sig' κ sp S2048x1024 e) (f : v.ty.Contents (Elt F)) (L : List (View.Piece (Elt F) S2048x1024 e)) (w R : Vec F S2048x1024 e) (h : ∀ x, w x = R x) :
    v.read (Elt F) (v.writes (Elt F) f (⟨Rect.unit (s := S2048x1024) ![0, 0] S2048x1024.size inb_S2048x1024_S2048x1024_0_0, w⟩ :: L)) = R := by
  funext x
  have e := View.read_writes_cons_emb v f (Rect.unit (s := S2048x1024) ![0, 0] S2048x1024.size inb_S2048x1024_S2048x1024_0_0) w L x
  rw [whole_emb] at e
  exact e.trans (h x)

theorem zero_read {sig' : RefSig} {κ} {sp} (v : View sig' κ sp S2048x1024 .f32) (f : v.ty.Contents (Elt F)) :
    v.read (Elt F) (v.writes (Elt F) f zero0) = k0_pay1 := whole_read v f [] _ _ fun _ => rfl

/-- A store left of a tile is not read from it. -/
theorem qT_skip {sig' : RefSig} {κ} {sp} (v : View sig' κ sp S2048x1024 .f32) (f : v.ty.Contents (Elt F)) (L : List (View.Piece (Elt F) S2048x1024 .f32))
    (o : Fin 2 → Nat) (inb : ∀ a, o a + S256x256.size a ≤ S2048x1024.size a) (w : Vec F S256x256 .f32) (n : Fin 8) (t : Fin 4) (hlt : o 1 + 256 ≤ 256 * t.val) :
    qT (v.read (Elt F) (v.writes (Elt F) f (⟨Rect.unit (s := S2048x1024) o S256x256.size inb, w⟩ :: L))) n t = qT (v.read (Elt F) (v.writes (Elt F) f L)) n t := by
  funext x
  have e := View.writes_append (v := v) (f := f) [(⟨Rect.unit (s := S2048x1024) o S256x256.size inb, w⟩ : View.Piece (Elt F) S2048x1024 .f32)] L
  rw [List.singleton_append] at e
  rw [e]
  refine View.read_writes_apply_of_forall_not_mem v (v.writes (Elt F) f L) ((rQ n t).emb x) _ fun p hp hm => ?_
  obtain rfl := List.mem_singleton.1 hp
  have hm1 : 256 * t.val + 1 * (x 1).val < o 1 + 256 := ((Rect.mem_set_unit (s := S2048x1024) (inb := inb) (i := (rQ n t).emb x)).1 hm 1).2
  omega

end Cert.KernelIdeal.A
end
-- ==== Proof.A.SoundA.lean ====
module

public import proofs.«01_k».proof.Proof.A.EqA
public import proofs.«01_k».proof.Proof.A.Inv
public import proofs.«01_k».proof.Proof.A.Zero
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole) {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

theorem read_firstA (h2 : k0_cond2 i = 1#1) :
    arg22.view.read (Elt F) (arg22.view.writes (Elt F) arg22.view.junk (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) (arg22.view.writes (Elt F) arg22.view.junk zero0)) (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ++ zero0)) = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val k0_pay1 1 := by
  have hz := zero_read (F := F) arg22.view arg22.view.junk
  have q0 : ∀ t, qT (arg22.view.read (Elt F) (arg22.view.writes (Elt F) arg22.view.junk zero0)) ⟨(i 2).val, (i 2).isLt⟩ t = qT k0_pay1 ⟨(i 2).val, (i 2).isLt⟩ t := fun t => congrArg (fun X => qT X ⟨(i 2).val, (i 2).isLt⟩ t) hz
  have q1 : ∀ t : Fin 4, 0 < t.val → qT (arg22.view.read (Elt F) (arg22.view.writes (Elt F) arg22.view.junk (zero1 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ⟨(i 2).val, (i 2).isLt⟩ t = qT k0_pay1 ⟨(i 2).val, (i 2).isLt⟩ t := fun t ht => by
    unfold zero1
    exact (qT_skip _ _ _ _ _ _ _ _ (by rw [k0_off1_eq]; show 0 + 256 ≤ _; omega)).trans (q0 t)
  have q2 : ∀ t : Fin 4, 1 < t.val → qT (arg22.view.read (Elt F) (arg22.view.writes (Elt F) arg22.view.junk (zero2 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ⟨(i 2).val, (i 2).isLt⟩ t = qT k0_pay1 ⟨(i 2).val, (i 2).isLt⟩ t := fun t ht => by
    unfold zero2
    exact (qT_skip _ _ _ _ _ _ _ _ (by rw [k0_off3_eq]; show 256 + 256 ≤ _; omega)).trans (q1 t (by omega))
  have q3 : ∀ t : Fin 4, 2 < t.val → qT (arg22.view.read (Elt F) (arg22.view.writes (Elt F) arg22.view.junk (zero3 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 c arg22))) ⟨(i 2).val, (i 2).isLt⟩ t = qT k0_pay1 ⟨(i 2).val, (i 2).isLt⟩ t := fun t ht => by
    unfold zero3
    exact (qT_skip _ _ _ _ _ _ _ _ (by rw [k0_off5_eq]; show 512 + 256 ≤ _; omega)).trans (q2 t (by omega))
  rw [View.writes_append]
  exact firstL_eq arg22.view _ (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt _ _ _ _ _ (q0 0) (q1 1 (by decide)) (q2 2 (by decide)) (q3 3 (by decide)) hz

theorem readA_K (h1 : (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg20.view.read (Elt F) (arg20.view.writes (Elt F) f20 (bodyA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).1) = dkO (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val := by
  have hj7 := (cond2_iff i).1 h2
  have h7 : (i 2).val + (7 - (i 2).val) < 8 := by omega
  obtain ⟨e1, e2⟩ := st_fin c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) _ k0_pay1 (by omega) h7 (firstY_eq (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt (by omega)) (read_firstA c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2)
  rw [bodyA_K, e1]
  exact lastK_eq arg20.view f20 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (i 2).isLt (by omega) h7

theorem readA_V (h1 : (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg21.view.read (Elt F) (arg21.view.writes (Elt F) f21 (bodyA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.1) = dvO (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val := by
  have hj7 := (cond2_iff i).1 h2
  have h7 : (i 2).val + (7 - (i 2).val) < 8 := by omega
  obtain ⟨e1, e2⟩ := st_fin c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) _ k0_pay1 (by omega) h7 (firstY_eq (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt (by omega)) (read_firstA c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2)
  rw [bodyA_V, e1]
  exact lastV_eq arg21.view f21 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (i 2).isLt (by omega) h7

theorem readA_H (h1 : (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg22.view.read (Elt F) (bodyA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.1 = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val k0_pay1 (8 - (i 2).val) := by
  have hj7 := (cond2_iff i).1 h2
  have h7 : (i 2).val + (7 - (i 2).val) < 8 := by omega
  obtain ⟨e1, e2⟩ := st_fin c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) _ k0_pay1 (by omega) h7 (firstY_eq (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt (by omega)) (read_firstA c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2)
  rw [bodyA_H, e1]
  exact lastL_eq arg22.view _ (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (i 2).isLt (by omega) h7 k0_pay1 e2

end

section

variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole) (x3 : Vec F S2048x1024 .bf16) (x4 : Vec F S256x1024 .bf16) (x5 : Vec F S256x512 .bf16) (x6 : Vec F S2048x512 .bf16) (x7 : Vec F S8x1x256 .f32) (x8 : Vec F S8x1x256 .f32) (x9 : Vec F S8x1x256 .f32) (x10 : Vec F S8x1x256 .f32) (x11 : Vec F S8x1x256 .f32) (x12 : Vec F S8x1x256 .f32) (x13 : Vec F S8x1x256 .f32) (x14 : Vec F S8x1x256 .f32) (x15 : Vec F S8x1x256 .f32) (x16 : Vec F S8x1x256 .f32) (x17 : Vec F S8x1x256 .f32) (x18 : Vec F S8x1x256 .f32)

set_option maxHeartbeats 1000000 in
theorem soundA (h1 : (Scalar.cmpi .ne (Scalar.extui (Scalar.cmpi .eq (BitVec.ofNat 32 (i 2).val) 0#32)) 0#32) = 1#1) (h2 : k0_cond2 i = 1#1) (h3 : ¬ k0_cond3 i = 1#1) (d19 : Vec F S2048x1024 .bf16) (d20 : Vec F S256x1024 .bf16) (d21 : Vec F S256x512 .bf16) (G : Vec F S2048x1024 .f32) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare d19 ∗ owns (c : Thread nD τ) arg20 fullShare d20 ∗ owns (c : Thread nD τ) arg21 fullShare d21 ∗ owns (c : Thread nD τ) arg22 fullShare G) : sProp 𝕄)
      ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare d19 ∗ owns (c : Thread nD τ) arg20 fullShare (dkO (mkB x3 x4 x5 x6 x7 x8 x9 x10 x11 x12 x13 x14 x15 x16 x17 x18 (Scalar.cmpi .eq (BitVec.ofNat 32 (i 1).val) 1#32)) (i 2).val) ∗ owns (c : Thread nD τ) arg21 fullShare (dvO (mkB x3 x4 x5 x6 x7 x8 x9 x10 x11 x12 x13 x14 x15 x16 x17 x18 (Scalar.cmpi .eq (BitVec.ofNat 32 (i 1).val) 1#32)) (i 2).val) ∗ owns (c : Thread nD τ) arg22 fullShare (scratchOut (mkB x3 x4 x5 x6 x7 x8 x9 x10 x11 x12 x13 x14 x15 x16 x17 x18 (Scalar.cmpi .eq (BitVec.ofNat 32 (i 1).val) 1#32)) (i 2).val G))) := by
  unfold owns
  iintro ⟨⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%X13, %e13, H13⟩, ⟨%X14, %e14, H14⟩, ⟨%X15, %e15, H15⟩, ⟨%X16, %e16, H16⟩, ⟨%X17, %e17, H17⟩, ⟨%X18, %e18, H18⟩, ⟨%f19, %e19, H19⟩, ⟨%f20, %e20, H20⟩, ⟨%f21, %e21, H21⟩, ⟨%G', %eG, H22⟩⟩
  subst e3 e4 e5 e6 e7 e8 e9 e10 e11 e12 e13 e14 e15 e16 e17 e18 e19 e20 e21 eG
  iapply (wp_wand_r frame (wpE (defs₀ (F := F)) 𝒱₀ (c : Thread nD τ) none) (E := Set.univ))
  isplitl [H3 H4 H5 H6 H7 H8 H9 H10 H11 H12 H13 H14 H15 H16 H17 H18 H19 H20 H21 H22]
  · iapply (bodyA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G').2.2.2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro %_ ⟨H3, H4, H5, H6, H7, H8, H9, H10, H11, H12, H13, H14, H15, H16, H17, H18, H19, H20, H21, H22⟩
    isplitl [H3]
    · iexists X3
      isplitr
      · ipureintro; rfl
      iexact H3
    isplitl [H4]
    · iexists X4
      isplitr
      · ipureintro; rfl
      iexact H4
    isplitl [H5]
    · iexists X5
      isplitr
      · ipureintro; rfl
      iexact H5
    isplitl [H6]
    · iexists X6
      isplitr
      · ipureintro; rfl
      iexact H6
    isplitl [H7]
    · iexists X7
      isplitr
      · ipureintro; rfl
      iexact H7
    isplitl [H8]
    · iexists X8
      isplitr
      · ipureintro; rfl
      iexact H8
    isplitl [H9]
    · iexists X9
      isplitr
      · ipureintro; rfl
      iexact H9
    isplitl [H10]
    · iexists X10
      isplitr
      · ipureintro; rfl
      iexact H10
    isplitl [H11]
    · iexists X11
      isplitr
      · ipureintro; rfl
      iexact H11
    isplitl [H12]
    · iexists X12
      isplitr
      · ipureintro; rfl
      iexact H12
    isplitl [H13]
    · iexists X13
      isplitr
      · ipureintro; rfl
      iexact H13
    isplitl [H14]
    · iexists X14
      isplitr
      · ipureintro; rfl
      iexact H14
    isplitl [H15]
    · iexists X15
      isplitr
      · ipureintro; rfl
      iexact H15
    isplitl [H16]
    · iexists X16
      isplitr
      · ipureintro; rfl
      iexact H16
    isplitl [H17]
    · iexists X17
      isplitr
      · ipureintro; rfl
      iexact H17
    isplitl [H18]
    · iexists X18
      isplitr
      · ipureintro; rfl
      iexact H18
    isplitl [H19]
    · iexists _
      isplitr; swap
      · iexact H19
      ipureintro; rfl
    isplitl [H20]
    · iexists _
      isplitr; swap
      · iexact H20
      ipureintro; exact readA_K c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G'
    isplitl [H21]
    · iexists _
      isplitr; swap
      · iexact H21
      ipureintro; exact readA_V c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G'
    iexists _
    isplitr; swap
    · iexact H22
    ipureintro; exact (readA_H c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G').trans (congrArg (fun X => scA _ (i 2).val X (8 - (i 2).val)) (if_pos ((cond1_iff i).1 h1)).symm)

end

end Cert.KernelIdeal.A
end
-- ==== Proof.A.BodyB0.lean ====
module

public import proofs.«01_k».proof.Proof.A.Trip
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole)
  {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

set_option backward.proofsInPublic true in
set_option maxHeartbeats 4000000 in
def bodyB (h1 : ¬ (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    Σ' (L20 : List (View.Piece (Elt F) S256x1024 .bf16)) (L21 : List (View.Piece (Elt F) S256x512 .bf16)), { H : Buf (Elt F) (arg22.view.loc (c : Thread nD τ)) //
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} G)) : sProp 𝕄)
      ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} f19) ∗ (arg20.view.loc (c : Thread nD τ) ↦[arg20.view.set]{fullShare} arg20.view.writes (Elt F) f20 L20) ∗ (arg21.view.loc (c : Thread nD τ) ↦[arg21.view.set]{fullShare} arg21.view.writes (Elt F) f21 L21) ∗ (arg22.view.loc (c : Thread nD τ) ↦[arg22.view.set]{fullShare} H))) } := by
  refine ⟨?_, ?_, ?_, ?run⟩
  case run =>
    iintro ⟨H3, H4, H5, H6, H7, H8, H9, H10, H11, H12, H13, H14, H15, H16, H17, H18, H19, H20, H21, HG⟩
    sl_unfold [cc0_attn_bwd]
    sl_exec
    sl_step
    sl_close

end Body
end Cert.KernelIdeal.A
end
-- ==== Proof.A.EqB.lean ====
module

public import proofs.«01_k».proof.Proof.A.Explicit
public import proofs.«01_k».proof.Proof.A.BodyB0
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop starts with, -/
abbrev rawBI (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))} (h2 : k0_cond2 i = 1#1) : Carry F := (bodyB.sl.r_13 (X3 := X3) (X4 := X4) (X5 := X5) (X6 := X6) (X7 := X7) (X11 := X11) (X15 := X15) c i arg3 arg4 arg5 arg6 arg7 arg11 arg15 h2, bodyB.sl.r_11 (X3 := X3) (X4 := X4) (X6 := X6) (X7 := X7) (X11 := X11) c i arg3 arg4 arg6 arg7 arg11 h2, bodyB.sl.r_9 (X3 := X3) (X4 := X4) c i arg3 arg4 h2, bodyB.sl.r_10 (X5 := X5) (X6 := X6) c i arg5 arg6 h2, bodyB.sl.r_20 (X3 := X3) (X4 := X4) (X5 := X5) (X6 := X6) (X8 := X8) (X12 := X12) (X16 := X16) c i arg3 arg4 arg5 arg6 arg8 arg12 arg16 h2, bodyB.sl.r_19 (X3 := X3) (X4 := X4) (X6 := X6) (X8 := X8) (X12 := X12) c i arg3 arg4 arg6 arg8 arg12 h2, bodyB.sl.r_14 (X3 := X3) (X4 := X4) c i arg3 arg4 h2, bodyB.sl.r_15 (X5 := X5) (X6 := X6) c i arg5 arg6 h2, bodyB.sl.r_25 (X3 := X3) (X4 := X4) (X5 := X5) (X6 := X6) (X9 := X9) (X13 := X13) (X17 := X17) c i arg3 arg4 arg5 arg6 arg9 arg13 arg17 h2, bodyB.sl.r_23 (X3 := X3) (X4 := X4) (X6 := X6) (X9 := X9) (X13 := X13) c i arg3 arg4 arg6 arg9 arg13 h2, bodyB.sl.r_21 (X3 := X3) (X4 := X4) c i arg3 arg4 h2, bodyB.sl.r_22 (X5 := X5) (X6 := X6) c i arg5 arg6 h2, bodyB.sl.r_31 (X3 := X3) (X4 := X4) (X5 := X5) (X6 := X6) (X10 := X10) (X14 := X14) (X18 := X18) c i arg3 arg4 arg5 arg6 arg10 arg14 arg18 h2, bodyB.sl.r_30 (X3 := X3) (X4 := X4) (X6 := X6) (X10 := X10) (X14 := X14) c i arg3 arg4 arg6 arg10 arg14 h2, bodyB.sl.r_26 (X3 := X3) (X4 := X4) c i arg3 arg4 h2, bodyB.sl.r_27 (X5 := X5) (X6 := X6) c i arg5 arg6 h2)
abbrev rawBG (c : Dev nD) (i : grid0.Coords) (arg3 : Memref sig .tc .vmem S2048x1024 .bf16) (arg4 : Memref sig .tc .vmem S256x1024 .bf16) (arg5 : Memref sig .tc .vmem S256x512 .bf16) (arg6 : Memref sig .tc .vmem S2048x512 .bf16) (arg7 : Memref sig .tc .vmem S8x1x256 .f32) (arg8 : Memref sig .tc .vmem S8x1x256 .f32) (arg9 : Memref sig .tc .vmem S8x1x256 .f32) (arg10 : Memref sig .tc .vmem S8x1x256 .f32) (arg11 : Memref sig .tc .vmem S8x1x256 .f32) (arg12 : Memref sig .tc .vmem S8x1x256 .f32) (arg13 : Memref sig .tc .vmem S8x1x256 .f32) (arg14 : Memref sig .tc .vmem S8x1x256 .f32) (arg15 : Memref sig .tc .vmem S8x1x256 .f32) (arg16 : Memref sig .tc .vmem S8x1x256 .f32) (arg17 : Memref sig .tc .vmem S8x1x256 .f32) (arg18 : Memref sig .tc .vmem S8x1x256 .f32) (arg19 : Memref sig .tc .vmem S2048x1024 .bf16) (arg20 : Memref sig .tc .vmem S256x1024 .bf16) (arg21 : Memref sig .tc .vmem S256x512 .bf16) (arg22 : Memref sig .tc .vmem S2048x1024 .f32) {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))} (h2 : k0_cond2 i = 1#1) (G : Buf (Elt F) (arg22.view.loc (c : Thread nD τ))) : Buf (Elt F) (arg22.view.loc (c : Thread nD τ)) := (arg22.view.writes (Elt F) G [⟨Rect.unit (s := S2048x1024) (k0_off7 i) S256x256.size (k0_off7_inb i h2), k0_pay106 (bodyB.sl.v0 i) (bodyB.sl.r_7 (X5 := X5) (X6 := X6) c i arg5 arg6 h2) (bodyB.sl.r_28 (X3 := X3) (X4 := X4) c i arg3 arg4 h2) (bodyB.sl.r_29 (X14 := X14) c i arg14 h2) (View.readAt (Elt F) arg10.view (Rect.unit (s := S8x1x256) (k0_off11 i) S1x1x256.size (k0_off11_inb i h2)).toLoadRect X10) (View.readAt (Elt F) arg18.view (Rect.unit (s := S8x1x256) (k0_off11 i) S1x1x256.size (k0_off11_inb i h2)).toLoadRect X18) (bodyB.sl.v315 c i arg22 h2 G) (View.readAt (Elt F) arg4.view (Rect.unit (s := S256x1024) ![0, 768] S256x256.size inb_S256x1024_S256x256_0_768).toLoadRect X4)⟩, ⟨Rect.unit (s := S2048x1024) (k0_off5 i) S256x256.size (k0_off5_inb i h2), k0_pay97 (bodyB.sl.r_24 (X3 := X3) (X4 := X4) (X5 := X5) (X6 := X6) (X9 := X9) (X13 := X13) (X17 := X17) c i arg3 arg4 arg5 arg6 arg9 arg13 arg17 h2) (bodyB.sl.v253 c i arg22 h2 G) (View.readAt (Elt F) arg4.view (Rect.unit (s := S256x1024) ![0, 512] S256x256.size inb_S256x1024_S256x256_0_512).toLoadRect X4)⟩, ⟨Rect.unit (s := S2048x1024) (k0_off3 i) S256x256.size (k0_off3_inb i h2), k0_pay89 (bodyB.sl.v0 i) (bodyB.sl.r_3 (X5 := X5) (X6 := X6) c i arg5 arg6 h2) (bodyB.sl.r_16 (X3 := X3) (X4 := X4) c i arg3 arg4 h2) (bodyB.sl.r_17 (X12 := X12) c i arg12 h2) (bodyB.sl.r_18 (X8 := X8) c i arg8 h2) (View.readAt (Elt F) arg16.view (Rect.unit (s := S8x1x256) (k0_off11 i) S1x1x256.size (k0_off11_inb i h2)).toLoadRect X16) (bodyB.sl.v191 c i arg22 h2 G) (View.readAt (Elt F) arg4.view (Rect.unit (s := S256x1024) ![0, 256] S256x256.size inb_S256x1024_S256x256_0_256).toLoadRect X4)⟩, ⟨Rect.unit (s := S2048x1024) (k0_off1 i) S256x256.size (k0_off1_inb i h2), k0_pay79 (bodyB.sl.r_12 (X3 := X3) (X4 := X4) (X5 := X5) (X6 := X6) (X7 := X7) (X11 := X11) (X15 := X15) c i arg3 arg4 arg5 arg6 arg7 arg11 arg15 h2) (View.readAt (Elt F) arg22.view (Rect.unit (s := S2048x1024) (k0_off1 i) S256x256.size (k0_off1_inb i h2)).toLoadRect G) (View.readAt (Elt F) arg4.view (Rect.unit (s := S256x1024) ![0, 0] S256x256.size inb_S256x1024_S256x256_0_0).toLoadRect X4)⟩])

section
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole)
  {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

set_option maxHeartbeats 2000000 in
theorem bodyB_I (h2 : k0_cond2 i = 1#1) : rawBI c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 = (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) := id rfl

set_option maxHeartbeats 2000000 in
theorem bodyB_G (h2 : k0_cond2 i = 1#1) (G : Buf (Elt F) (arg22.view.loc (c : Thread nD τ))) : rawBG c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G = (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) := id rfl

attribute [local irreducible] st Scf.trips

set_option maxHeartbeats 1000000 in
theorem bodyB_K (h1 : ¬ (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).1 = lastK (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) (Scf.trips (k0_t1_loop i).lb (k0_t1_loop i).ub (k0_t1_loop i).st)).1 := by
  rw [← bodyB_I c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2, ← bodyB_G c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G]
  have e : (Scalar.cmpi .eq (BitVec.ofNat 32 (i 1).val) 1#32) = bodyB.sl.v0 i := rfl
  rw [e]
  unfold rawBI rawBG
  exact id rfl

set_option maxHeartbeats 1000000 in
theorem bodyB_V (h1 : ¬ (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.1 = lastV (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) (Scf.trips (k0_t1_loop i).lb (k0_t1_loop i).ub (k0_t1_loop i).st)).1 := by
  rw [← bodyB_I c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2, ← bodyB_G c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G]
  have e : (Scalar.cmpi .eq (BitVec.ofNat 32 (i 1).val) 1#32) = bodyB.sl.v0 i := rfl
  rw [e]
  unfold rawBI rawBG
  exact id rfl

set_option maxHeartbeats 1000000 in
theorem bodyB_H (h1 : ¬ (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.1 = arg22.view.writes (Elt F) (at0 (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) k).2) (Scf.trips (k0_t1_loop i).lb (k0_t1_loop i).ub (k0_t1_loop i).st)) (lastL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) (Scf.trips (k0_t1_loop i).lb (k0_t1_loop i).ub (k0_t1_loop i).st)).1 (arg22.view.read (Elt F) (at0 (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) (fun k => (st c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) k).2) (Scf.trips (k0_t1_loop i).lb (k0_t1_loop i).ub (k0_t1_loop i).st)))) := by
  rw [← bodyB_I c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2, ← bodyB_G c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h2 G]
  have e : (Scalar.cmpi .eq (BitVec.ofNat 32 (i 1).val) 1#32) = bodyB.sl.v0 i := rfl
  rw [e]
  unfold rawBI rawBG
  exact id rfl

end
end Cert.KernelIdeal.A
end
-- ==== Proof.A.SoundB.lean ====
module

public import proofs.«01_k».proof.Proof.A.EqB
public import proofs.«01_k».proof.Proof.A.Inv
public import proofs.«01_k».proof.Proof.A.Zero
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole) {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

theorem read_firstB (h1 : ¬ (Scalar.cmpi .ne (Scalar.extui (Scalar.cmpi .eq (BitVec.ofNat 32 (i 2).val) 0#32)) 0#32) = 1#1) (h2 : k0_cond2 i = 1#1) (G : Buf (Elt F) (arg22.view.loc (c : Thread nD τ))) :
    arg22.view.read (Elt F) (arg22.view.writes (Elt F) G (firstL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (arg22.view.read (Elt F) G) (arg22.view.read (Elt F) G) (arg22.view.read (Elt F) G) (arg22.view.read (Elt F) G))) = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (arg22.view.read (Elt F) G) 1 :=
  firstL_eq arg22.view G (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt _ _ _ _ _ rfl rfl rfl rfl rfl

theorem readB_K (h1 : ¬ (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg20.view.read (Elt F) (arg20.view.writes (Elt F) f20 (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).1) = dkO (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val := by
  have hj7 := (cond2_iff i).1 h2
  have h7 : (i 2).val + (7 - (i 2).val) < 8 := by omega
  obtain ⟨e1, e2⟩ := st_fin c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) _ (arg22.view.read (Elt F) G) (by omega) h7 (firstY_eq (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt (by omega)) (read_firstB c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 G)
  rw [bodyB_K, e1]
  exact lastK_eq arg20.view f20 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (i 2).isLt (by omega) h7

theorem readB_V (h1 : ¬ (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg21.view.read (Elt F) (arg21.view.writes (Elt F) f21 (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.1) = dvO (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val := by
  have hj7 := (cond2_iff i).1 h2
  have h7 : (i 2).val + (7 - (i 2).val) < 8 := by omega
  obtain ⟨e1, e2⟩ := st_fin c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) _ (arg22.view.read (Elt F) G) (by omega) h7 (firstY_eq (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt (by omega)) (read_firstB c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 G)
  rw [bodyB_V, e1]
  exact lastV_eq arg21.view f21 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (i 2).isLt (by omega) h7

theorem readB_H (h1 : ¬ (Scalar.cmpi .ne (Scalar.extui (Scalar.cmpi .eq (BitVec.ofNat 32 (i 2).val) 0#32)) 0#32) = 1#1) (h2 : k0_cond2 i = 1#1) (h3 : ¬ k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg22.view.read (Elt F) (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.1 = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (arg22.view.read (Elt F) G) (8 - (i 2).val) := by
  have hj7 := (cond2_iff i).1 h2
  have h7 : (i 2).val + (7 - (i 2).val) < 8 := by omega
  obtain ⟨e1, e2⟩ := st_fin c i arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32) h2 (firstY (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2) _ (arg22.view.read (Elt F) G) (by omega) h7 (firstY_eq (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h2 (i 2).isLt (by omega)) (read_firstB c i arg3 arg4 arg5 arg6 arg7 arg8 arg9 arg10 arg11 arg12 arg13 arg14 arg15 arg16 arg17 arg18 arg19 arg20 arg21 arg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 G)
  rw [bodyB_H, e1]
  exact lastL_eq arg22.view _ (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (i 2).isLt (by omega) h7 (arg22.view.read (Elt F) G) e2

end

section

variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole) (x3 : Vec F S2048x1024 .bf16) (x4 : Vec F S256x1024 .bf16) (x5 : Vec F S256x512 .bf16) (x6 : Vec F S2048x512 .bf16) (x7 : Vec F S8x1x256 .f32) (x8 : Vec F S8x1x256 .f32) (x9 : Vec F S8x1x256 .f32) (x10 : Vec F S8x1x256 .f32) (x11 : Vec F S8x1x256 .f32) (x12 : Vec F S8x1x256 .f32) (x13 : Vec F S8x1x256 .f32) (x14 : Vec F S8x1x256 .f32) (x15 : Vec F S8x1x256 .f32) (x16 : Vec F S8x1x256 .f32) (x17 : Vec F S8x1x256 .f32) (x18 : Vec F S8x1x256 .f32)

set_option maxHeartbeats 1000000 in
theorem soundB (h1 : ¬ (Scalar.cmpi .ne (Scalar.extui (Scalar.cmpi .eq (BitVec.ofNat 32 (i 2).val) 0#32)) 0#32) = 1#1) (h2 : k0_cond2 i = 1#1) (h3 : ¬ k0_cond3 i = 1#1) (d19 : Vec F S2048x1024 .bf16) (d20 : Vec F S256x1024 .bf16) (d21 : Vec F S256x512 .bf16) (G : Vec F S2048x1024 .f32) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare d19 ∗ owns (c : Thread nD τ) arg20 fullShare d20 ∗ owns (c : Thread nD τ) arg21 fullShare d21 ∗ owns (c : Thread nD τ) arg22 fullShare G) : sProp 𝕄)
      ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare d19 ∗ owns (c : Thread nD τ) arg20 fullShare (dkO (mkB x3 x4 x5 x6 x7 x8 x9 x10 x11 x12 x13 x14 x15 x16 x17 x18 (Scalar.cmpi .eq (BitVec.ofNat 32 (i 1).val) 1#32)) (i 2).val) ∗ owns (c : Thread nD τ) arg21 fullShare (dvO (mkB x3 x4 x5 x6 x7 x8 x9 x10 x11 x12 x13 x14 x15 x16 x17 x18 (Scalar.cmpi .eq (BitVec.ofNat 32 (i 1).val) 1#32)) (i 2).val) ∗ owns (c : Thread nD τ) arg22 fullShare (scratchOut (mkB x3 x4 x5 x6 x7 x8 x9 x10 x11 x12 x13 x14 x15 x16 x17 x18 (Scalar.cmpi .eq (BitVec.ofNat 32 (i 1).val) 1#32)) (i 2).val G))) := by
  unfold owns
  iintro ⟨⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%X13, %e13, H13⟩, ⟨%X14, %e14, H14⟩, ⟨%X15, %e15, H15⟩, ⟨%X16, %e16, H16⟩, ⟨%X17, %e17, H17⟩, ⟨%X18, %e18, H18⟩, ⟨%f19, %e19, H19⟩, ⟨%f20, %e20, H20⟩, ⟨%f21, %e21, H21⟩, ⟨%G', %eG, H22⟩⟩
  subst e3 e4 e5 e6 e7 e8 e9 e10 e11 e12 e13 e14 e15 e16 e17 e18 e19 e20 e21 eG
  iapply (wp_wand_r frame (wpE (defs₀ (F := F)) 𝒱₀ (c : Thread nD τ) none) (E := Set.univ))
  isplitl [H3 H4 H5 H6 H7 H8 H9 H10 H11 H12 H13 H14 H15 H16 H17 H18 H19 H20 H21 H22]
  · iapply (bodyB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G').2.2.2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro %_ ⟨H3, H4, H5, H6, H7, H8, H9, H10, H11, H12, H13, H14, H15, H16, H17, H18, H19, H20, H21, H22⟩
    isplitl [H3]
    · iexists X3
      isplitr
      · ipureintro; rfl
      iexact H3
    isplitl [H4]
    · iexists X4
      isplitr
      · ipureintro; rfl
      iexact H4
    isplitl [H5]
    · iexists X5
      isplitr
      · ipureintro; rfl
      iexact H5
    isplitl [H6]
    · iexists X6
      isplitr
      · ipureintro; rfl
      iexact H6
    isplitl [H7]
    · iexists X7
      isplitr
      · ipureintro; rfl
      iexact H7
    isplitl [H8]
    · iexists X8
      isplitr
      · ipureintro; rfl
      iexact H8
    isplitl [H9]
    · iexists X9
      isplitr
      · ipureintro; rfl
      iexact H9
    isplitl [H10]
    · iexists X10
      isplitr
      · ipureintro; rfl
      iexact H10
    isplitl [H11]
    · iexists X11
      isplitr
      · ipureintro; rfl
      iexact H11
    isplitl [H12]
    · iexists X12
      isplitr
      · ipureintro; rfl
      iexact H12
    isplitl [H13]
    · iexists X13
      isplitr
      · ipureintro; rfl
      iexact H13
    isplitl [H14]
    · iexists X14
      isplitr
      · ipureintro; rfl
      iexact H14
    isplitl [H15]
    · iexists X15
      isplitr
      · ipureintro; rfl
      iexact H15
    isplitl [H16]
    · iexists X16
      isplitr
      · ipureintro; rfl
      iexact H16
    isplitl [H17]
    · iexists X17
      isplitr
      · ipureintro; rfl
      iexact H17
    isplitl [H18]
    · iexists X18
      isplitr
      · ipureintro; rfl
      iexact H18
    isplitl [H19]
    · iexists _
      isplitr; swap
      · iexact H19
      ipureintro; rfl
    isplitl [H20]
    · iexists _
      isplitr; swap
      · iexact H20
      ipureintro; exact readB_K c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G'
    isplitl [H21]
    · iexists _
      isplitr; swap
      · iexact H21
      ipureintro; exact readB_V c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G'
    iexists _
    isplitr; swap
    · iexact H22
    ipureintro; exact (readB_H c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G').trans (congrArg (fun X => scA _ (i 2).val X (8 - (i 2).val)) (if_neg (fun h => h1 ((cond1_iff i).2 h))).symm)

end

end Cert.KernelIdeal.A
end
-- ==== Proof.A.BodyC0.lean ====
module

public import proofs.«01_k».proof.Proof.A.Trip
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole)
  {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

set_option backward.proofsInPublic true in
set_option maxHeartbeats 4000000 in
def bodyC (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    Σ' (L19 : List (View.Piece (Elt F) S2048x1024 .bf16)) (L20 : List (View.Piece (Elt F) S256x1024 .bf16)) (L21 : List (View.Piece (Elt F) S256x512 .bf16)), { H : Buf (Elt F) (arg22.view.loc (c : Thread nD τ)) //
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} G)) : sProp 𝕄)
      ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} arg19.view.writes (Elt F) f19 L19) ∗ (arg20.view.loc (c : Thread nD τ) ↦[arg20.view.set]{fullShare} arg20.view.writes (Elt F) f20 L20) ∗ (arg21.view.loc (c : Thread nD τ) ↦[arg21.view.set]{fullShare} arg21.view.writes (Elt F) f21 L21) ∗ (arg22.view.loc (c : Thread nD τ) ↦[arg22.view.set]{fullShare} H))) } := by
  refine ⟨?_, ?_, ?_, ?_, ?run⟩
  case run =>
    iintro ⟨H3, H4, H5, H6, H7, H8, H9, H10, H11, H12, H13, H14, H15, H16, H17, H18, H19, H20, H21, HG⟩
    sl_unfold [cc0_attn_bwd]
    sl_exec
    sl_step
    sl_close

end Body
end Cert.KernelIdeal.A
end
-- ==== Proof.A.EqC.lean ====
module

public import proofs.«01_k».proof.Proof.A.Explicit
public import proofs.«01_k».proof.Proof.A.BodyC0
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole)
  {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

set_option maxHeartbeats 2000000 in
theorem bodyC_Q (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).1 =
    [⟨Rect.unit (s := S2048x1024) ![0, 0] S2048x1024.size inb_S2048x1024_S2048x1024_0_0,
      (truncf .bf16 (View.ld (Val := Elt F) (arg22.view.read (Elt F) (arg22.view.writes (Elt F) G (diagL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 (arg22.view.read (Elt F) G)))) (Rect.unit (s := S2048x1024) ![0, 0] S2048x1024.size inb_S2048x1024_S2048x1024_0_0)) bitsLt_bf16_f32 : FVec F S2048x1024 .bf16)⟩] := id rfl
set_option maxHeartbeats 2000000 in
theorem bodyC_K (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.1 = diagK (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 := id rfl
set_option maxHeartbeats 2000000 in
theorem bodyC_V (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.1 = diagV (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 := id rfl
set_option maxHeartbeats 2000000 in
theorem bodyC_H (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) : (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.2.1 = (arg22.view.writes (Elt F) G (diagL (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 (arg22.view.read (Elt F) G))) := id rfl

end
end Cert.KernelIdeal.A
end
-- ==== Proof.A.SoundC.lean ====
module

public import proofs.«01_k».proof.Proof.A.EqC
public import proofs.«01_k».proof.Proof.A.Inv
public import proofs.«01_k».proof.Proof.A.Zero
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole) {X3 : Buf (Elt F) (arg3.view.loc (c : Thread nD τ))} {X4 : Buf (Elt F) (arg4.view.loc (c : Thread nD τ))} {X5 : Buf (Elt F) (arg5.view.loc (c : Thread nD τ))} {X6 : Buf (Elt F) (arg6.view.loc (c : Thread nD τ))} {X7 : Buf (Elt F) (arg7.view.loc (c : Thread nD τ))} {X8 : Buf (Elt F) (arg8.view.loc (c : Thread nD τ))} {X9 : Buf (Elt F) (arg9.view.loc (c : Thread nD τ))} {X10 : Buf (Elt F) (arg10.view.loc (c : Thread nD τ))} {X11 : Buf (Elt F) (arg11.view.loc (c : Thread nD τ))} {X12 : Buf (Elt F) (arg12.view.loc (c : Thread nD τ))} {X13 : Buf (Elt F) (arg13.view.loc (c : Thread nD τ))} {X14 : Buf (Elt F) (arg14.view.loc (c : Thread nD τ))} {X15 : Buf (Elt F) (arg15.view.loc (c : Thread nD τ))} {X16 : Buf (Elt F) (arg16.view.loc (c : Thread nD τ))} {X17 : Buf (Elt F) (arg17.view.loc (c : Thread nD τ))} {X18 : Buf (Elt F) (arg18.view.loc (c : Thread nD τ))}

theorem readC_H (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg22.view.read (Elt F) (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.2.1 = scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (arg22.view.read (Elt F) G) (8 - (i 2).val) := by
  have hj7 := (cond3_iff i).1 h3
  rw [bodyC_H, show 8 - (i 2).val = 1 by omega]
  exact diagL_eq arg22.view G (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 (i 2).isLt _ rfl

theorem readC_Q (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg19.view.read (Elt F) (arg19.view.writes (Elt F) f19 (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).1) = truncf .bf16 (scA (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val (arg22.view.read (Elt F) G) (8 - (i 2).val)) bitsLt_bf16_f32 := by
  have hj7 := (cond3_iff i).1 h3
  rw [bodyC_Q, show 8 - (i 2).val = 1 by omega, diagL_eq arg22.view G (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 (i 2).isLt _ rfl]
  exact whole_read arg19.view f19 _ _ _ (fun x => congrFun (congrArg (fun Y => (truncf .bf16 Y bitsLt_bf16_f32 : FVec F S2048x1024 .bf16)) (funext (ld_whole _))) x)

theorem readC_K (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg20.view.read (Elt F) (arg20.view.writes (Elt F) f20 (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.1) = dkO (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val := by
  have hj7 := (cond3_iff i).1 h3
  rw [bodyC_K]
  exact diagK_eq arg20.view f20 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 (i 2).isLt hj7

theorem readC_V (h1 : ¬ (Scalar.cmpi .ne (Scalar.extui (Scalar.cmpi .eq (BitVec.ofNat 32 (i 2).val) 0#32)) 0#32) = 1#1) (h2 : ¬ k0_cond2 i = 1#1) (h3 : k0_cond3 i = 1#1) (f19 : Buf (Elt F) (arg19.view.loc (c : Thread nD τ))) (f20 : Buf (Elt F) (arg20.view.loc (c : Thread nD τ))) (f21 : Buf (Elt F) (arg21.view.loc (c : Thread nD τ))) (G : Buf (Elt F) (arg22.view.loc (c : Thread nD τ))) :
    arg21.view.read (Elt F) (arg21.view.writes (Elt F) f21 (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G).2.2.1) = dvO (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) (i 2).val := by
  have hj7 := (cond3_iff i).1 h3
  rw [bodyC_V]
  exact diagV_eq arg21.view f21 (blks c arg3 arg4 arg5 arg6 arg7 arg8 arg9 arg10 arg11 arg12 arg13 arg14 arg15 arg16 arg17 arg18 arg19 arg20 arg21 arg22 X3 X4 X5 X6 X7 X8 X9 X10 X11 X12 X13 X14 X15 X16 X17 X18 (Scalar.cmpi .eq (BitVec.ofNat 32 (i 1).val) 1#32)) i h3 (i 2).isLt hj7

end

section

variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x1x256 .f32) (harg18 : arg18.IsWhole) (arg19 : Memref sig .tc .vmem S2048x1024 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S2048x1024 .f32) (harg22 : arg22.IsWhole) (x3 : Vec F S2048x1024 .bf16) (x4 : Vec F S256x1024 .bf16) (x5 : Vec F S256x512 .bf16) (x6 : Vec F S2048x512 .bf16) (x7 : Vec F S8x1x256 .f32) (x8 : Vec F S8x1x256 .f32) (x9 : Vec F S8x1x256 .f32) (x10 : Vec F S8x1x256 .f32) (x11 : Vec F S8x1x256 .f32) (x12 : Vec F S8x1x256 .f32) (x13 : Vec F S8x1x256 .f32) (x14 : Vec F S8x1x256 .f32) (x15 : Vec F S8x1x256 .f32) (x16 : Vec F S8x1x256 .f32) (x17 : Vec F S8x1x256 .f32) (x18 : Vec F S8x1x256 .f32)

set_option maxHeartbeats 1000000 in
theorem soundC (h1 : ¬ (Scalar.cmpi .ne (Scalar.extui (Scalar.cmpi .eq (BitVec.ofNat 32 (i 2).val) 0#32)) 0#32) = 1#1) (h2 : ¬ k0_cond2 i = 1#1) (h3 : k0_cond3 i = 1#1) (d19 : Vec F S2048x1024 .bf16) (d20 : Vec F S256x1024 .bf16) (d21 : Vec F S256x512 .bf16) (G : Vec F S2048x1024 .f32) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare d19 ∗ owns (c : Thread nD τ) arg20 fullShare d20 ∗ owns (c : Thread nD τ) arg21 fullShare d21 ∗ owns (c : Thread nD τ) arg22 fullShare G) : sProp 𝕄)
      ⊢ wp frame (wpE (defs₀ (F := F)) 𝒱₀ (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (qOut (mkB x3 x4 x5 x6 x7 x8 x9 x10 x11 x12 x13 x14 x15 x16 x17 x18 (Scalar.cmpi .eq (BitVec.ofNat 32 (i 1).val) 1#32)) (i 2).val G) ∗ owns (c : Thread nD τ) arg20 fullShare (dkO (mkB x3 x4 x5 x6 x7 x8 x9 x10 x11 x12 x13 x14 x15 x16 x17 x18 (Scalar.cmpi .eq (BitVec.ofNat 32 (i 1).val) 1#32)) (i 2).val) ∗ owns (c : Thread nD τ) arg21 fullShare (dvO (mkB x3 x4 x5 x6 x7 x8 x9 x10 x11 x12 x13 x14 x15 x16 x17 x18 (Scalar.cmpi .eq (BitVec.ofNat 32 (i 1).val) 1#32)) (i 2).val) ∗ owns (c : Thread nD τ) arg22 fullShare (scratchOut (mkB x3 x4 x5 x6 x7 x8 x9 x10 x11 x12 x13 x14 x15 x16 x17 x18 (Scalar.cmpi .eq (BitVec.ofNat 32 (i 1).val) 1#32)) (i 2).val G))) := by
  unfold owns
  iintro ⟨⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%X13, %e13, H13⟩, ⟨%X14, %e14, H14⟩, ⟨%X15, %e15, H15⟩, ⟨%X16, %e16, H16⟩, ⟨%X17, %e17, H17⟩, ⟨%X18, %e18, H18⟩, ⟨%f19, %e19, H19⟩, ⟨%f20, %e20, H20⟩, ⟨%f21, %e21, H21⟩, ⟨%G', %eG, H22⟩⟩
  subst e3 e4 e5 e6 e7 e8 e9 e10 e11 e12 e13 e14 e15 e16 e17 e18 e19 e20 e21 eG
  iapply (wp_wand_r frame (wpE (defs₀ (F := F)) 𝒱₀ (c : Thread nD τ) none) (E := Set.univ))
  isplitl [H3 H4 H5 H6 H7 H8 H9 H10 H11 H12 H13 H14 H15 H16 H17 H18 H19 H20 H21 H22]
  · iapply (bodyC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G').2.2.2.2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro %_ ⟨H3, H4, H5, H6, H7, H8, H9, H10, H11, H12, H13, H14, H15, H16, H17, H18, H19, H20, H21, H22⟩
    isplitl [H3]
    · iexists X3
      isplitr
      · ipureintro; rfl
      iexact H3
    isplitl [H4]
    · iexists X4
      isplitr
      · ipureintro; rfl
      iexact H4
    isplitl [H5]
    · iexists X5
      isplitr
      · ipureintro; rfl
      iexact H5
    isplitl [H6]
    · iexists X6
      isplitr
      · ipureintro; rfl
      iexact H6
    isplitl [H7]
    · iexists X7
      isplitr
      · ipureintro; rfl
      iexact H7
    isplitl [H8]
    · iexists X8
      isplitr
      · ipureintro; rfl
      iexact H8
    isplitl [H9]
    · iexists X9
      isplitr
      · ipureintro; rfl
      iexact H9
    isplitl [H10]
    · iexists X10
      isplitr
      · ipureintro; rfl
      iexact H10
    isplitl [H11]
    · iexists X11
      isplitr
      · ipureintro; rfl
      iexact H11
    isplitl [H12]
    · iexists X12
      isplitr
      · ipureintro; rfl
      iexact H12
    isplitl [H13]
    · iexists X13
      isplitr
      · ipureintro; rfl
      iexact H13
    isplitl [H14]
    · iexists X14
      isplitr
      · ipureintro; rfl
      iexact H14
    isplitl [H15]
    · iexists X15
      isplitr
      · ipureintro; rfl
      iexact H15
    isplitl [H16]
    · iexists X16
      isplitr
      · ipureintro; rfl
      iexact H16
    isplitl [H17]
    · iexists X17
      isplitr
      · ipureintro; rfl
      iexact H17
    isplitl [H18]
    · iexists X18
      isplitr
      · ipureintro; rfl
      iexact H18
    isplitl [H19]
    · iexists _
      isplitr; swap
      · iexact H19
      ipureintro; exact (readC_Q c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G').trans (congrArg (fun X => (truncf .bf16 (scA _ (i 2).val X (8 - (i 2).val)) bitsLt_bf16_f32 : FVec F S2048x1024 .bf16)) (if_neg (fun h => h1 ((cond1_iff i).2 h))).symm)
    isplitl [H20]
    · iexists _
      isplitr; swap
      · iexact H20
      ipureintro; exact readC_K c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G'
    isplitl [H21]
    · iexists _
      isplitr; swap
      · iexact H21
      ipureintro; exact readC_V c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G'
    iexists _
    isplitr; swap
    · iexact H22
    ipureintro; exact (readC_H c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) h1 h2 h3 f19 f20 f21 G').trans (congrArg (fun X => scA _ (i 2).val X (8 - (i 2).val)) (if_neg (fun h => h1 ((cond1_iff i).2 h))).symm)

end

end Cert.KernelIdeal.A
end
-- ==== Proof.A.Run.lean ====
module

public import proofs.«01_k».proof.Proof.A.SoundA
public import proofs.«01_k».proof.Proof.Gen.KernelIdeal.Frame
public import proofs.«01_k».proof.Proof.A.SoundB
public import proofs.«01_k».proof.Proof.A.SoundC
public import proofs.«01_k».proof.Proof.Gen.KernelIdeal.Loops

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord2 : ∀ t : Fin cfg0.N, (grid0.coords t 2).val = t.val % 8 := by decide +kernel
theorem idle16 : ∀ t : Fin cfg0.N, idle0 16 (grid0.coords t) = !decide (t.val % 8 = 7) := by decide +kernel
theorem idle17 : ∀ t : Fin cfg0.N, idle0 17 (grid0.coords t) = false := by decide +kernel
theorem idle18 : ∀ t : Fin cfg0.N, idle0 18 (grid0.coords t) = false := by decide +kernel

/-- The blocks the kernel reads at point `t`. -/
def blkAt (c : Dev nD) (t : Fin cfg0.N) : Blks F :=
  mkB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (Scalar.cmpi .eq (BitVec.ofNat 32 (grid0.coords t 1).val) 1#32)

/-- What the body leaves in the `dq` window at point `t`: the block at the last point of a row of eight, else what it found. -/
def out16 (c : Dev nD) (t : Fin cfg0.N) (G : Vec F S2048x1024 .f32) (d : Vec F S2048x1024 .bf16) : Vec F S2048x1024 .bf16 :=
  if t.val % 8 = 7 then qOut (blkAt m c t) (t.val % 8) G else d

/-- The body at point `t`. -/
theorem point (c : Dev nD) (t : Fin cfg0.N) (d16 : Vec F S2048x1024 .bf16) (d17 : Vec F S256x1024 .bf16) (d18 : Vec F S256x512 .bf16) (G : Vec F S2048x1024 .f32) :
    (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (iblk m c 15 t) ∗ owns (c : Thread nD τ) (win0_16.stage (cfg0.slots t 16)) fullShare d16 ∗ owns (c : Thread nD τ) (win0_17.stage (cfg0.slots t 17)) fullShare d17 ∗ owns (c : Thread nD τ) (win0_18.stage (cfg0.slots t 18)) fullShare d18 ∗ owns (c : Thread nD τ) (Memref.whole cc0_scratch0 : Memref sig .tc .vmem S2048x1024 .f32) fullShare G) : sProp 𝕄)
      ⊢ wp frame (wpE (defs₀ (F := F)) 𝒱₀ (c : Thread nD τ) none) Set.univ (bodyAt0 (F := F) t)
        (fun _ => iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (iblk m c 15 t) ∗ owns (c : Thread nD τ) (win0_16.stage (cfg0.slots t 16)) fullShare (out16 m c t G d16) ∗ owns (c : Thread nD τ) (win0_17.stage (cfg0.slots t 17)) fullShare (dkO (blkAt m c t) (t.val % 8)) ∗ owns (c : Thread nD τ) (win0_18.stage (cfg0.slots t 18)) fullShare (dvO (blkAt m c t) (t.val % 8))
          ∗ owns (c : Thread nD τ) (Memref.whole cc0_scratch0 : Memref sig .tc .vmem S2048x1024 .f32) fullShare (scratchOut (blkAt m c t) (t.val % 8) G))) := by
  unfold out16 blkAt bodyAt0
  rw [← coord2 t]
  have hlt : (grid0.coords t 2).val < 8 := (grid0.coords t 2).isLt
  by_cases h0 : (grid0.coords t 2).val = 0
  · rw [if_neg (by omega)]
    exact soundA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0 : Memref sig .tc .vmem S2048x1024 .f32) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      ((cond1_iff _).2 h0) ((cond2_iff _).2 (by omega)) (fun h => absurd ((cond3_iff _).1 h) (by omega)) d16 d17 d18 G
  by_cases h7 : (grid0.coords t 2).val = 7
  · rw [if_pos h7]
    exact soundC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0 : Memref sig .tc .vmem S2048x1024 .f32) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      (fun h => h0 ((cond1_iff _).1 h)) (fun h => absurd ((cond2_iff _).1 h) (by omega)) ((cond3_iff _).2 h7) d16 d17 d18 G
  · rw [if_neg h7]
    exact soundB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0 : Memref sig .tc .vmem S2048x1024 .f32) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      (fun h => h0 ((cond1_iff _).1 h)) ((cond2_iff _).2 (by omega)) (fun h => h7 ((cond3_iff _).1 h)) d16 d17 d18 G

/-- The scratch before point `n` (before the first point of a row of eight its value is not used). -/
def sc (c : Dev nD) : ℕ → Vec F S2048x1024 .f32
  | 0 => k0_pay1
  | n + 1 => if h : n < cfg0.N then scratchOut (blkAt m c ⟨n, h⟩) (n % 8) (sc c n) else k0_pay1

theorem sc_succ (c : Dev nD) (t : Fin cfg0.N) : sc m c (t.val + 1) = scratchOut (blkAt m c t) (t.val % 8) (sc m c t.val) := by
  rw [sc, dif_pos t.isLt]

theorem scratchIn_congr (j : ℕ) (G G' : Vec F S2048x1024 .f32) (h : j ≠ 0 → G = G') : scratchIn j G = scratchIn j G' := by
  unfold scratchIn
  by_cases hj : j = 0
  · rw [if_pos hj, if_pos hj]
  · rw [if_neg hj, if_neg hj, h hj]

/-- What is kept between points: the scratch, at `sc` within a row of eight, and the generator register. -/
def PhiS (c : Dev nD) (n : ℕ) (_ : n ≤ cfg0.N) : sProp 𝕄 :=
  iprop((∃ G, ⌜n % 8 ≠ 0 → G = sc m c n⌝ ∗ owns (c : Thread nD τ) (Memref.whole cc0_scratch0 : Memref sig .tc .vmem S2048x1024 .f32) fullShare G) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => qOut (blkAt m c t) (t.val % 8) (sc m c t.val)
    | ⟨17, _⟩ => dkO (blkAt m c t) (t.val % 8)
    | ⟨18, _⟩ => dvO (blkAt m c t) (t.val % 8)
    | ⟨_ + 19, h⟩ => absurd h (Nat.not_lt.2 (Nat.le_add_left _ _))
  Φ t := PhiS m c t.val (Nat.le_of_lt_succ t.isLt)
  q w := Pipeline.shareOf spec0 w
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = qOut (blkAt m c t) (t.val % 8) (sc m c t.val) := by dsimp only [dats]
theorem after_17 (c : Dev nD) (t : Fin cfg0.N) : (dats m 0 c).after 17 t = dkO (blkAt m c t) (t.val % 8) := by dsimp only [dats]
theorem after_18 (c : Dev nD) (t : Fin cfg0.N) : (dats m 0 c).after 18 t = dvO (blkAt m c t) (t.val % 8) := by dsimp only [dats]
theorem before_0 (c : Dev nD) (t : Fin cfg0.N) (d) : (dats m 0 c).before 0 t d = iblk m c 0 t :=
  before0_0_of m (dats m 0 c) (by dsimp only [dats]) (fun t => after_0 m c t) t d
theorem before_1 (c : Dev nD) (t : Fin cfg0.N) (d) : (dats m 0 c).before 1 t d = iblk m c 1 t :=
  before0_1_of m (dats m 0 c) (by dsimp only [dats]) (fun t => after_1 m c t) t d
theorem before_2 (c : Dev nD) (t : Fin cfg0.N) (d) : (dats m 0 c).before 2 t d = iblk m c 2 t :=
  before0_2_of m (dats m 0 c) (by dsimp only [dats]) (fun t => after_2 m c t) t d
theorem before_3 (c : Dev nD) (t : Fin cfg0.N) (d) : (dats m 0 c).before 3 t d = iblk m c 3 t :=
  before0_3_of m (dats m 0 c) (by dsimp only [dats]) (fun t => after_3 m c t) t d
theorem before_4 (c : Dev nD) (t : Fin cfg0.N) (d) : (dats m 0 c).before 4 t d = iblk m c 4 t :=
  before0_4_of m (dats m 0 c) (by dsimp only [dats]) (fun t => after_4 m c t) t d
theorem before_5 (c : Dev nD) (t : Fin cfg0.N) (d) : (dats m 0 c).before 5 t d = iblk m c 5 t :=
  before0_5_of m (dats m 0 c) (by dsimp only [dats]) (fun t => after_5 m c t) t d
theorem before_6 (c : Dev nD) (t : Fin cfg0.N) (d) : (dats m 0 c).before 6 t d = iblk m c 6 t :=
  before0_6_of m (dats m 0 c) (by dsimp only [dats]) (fun t => after_6 m c t) t d
theorem before_7 (c : Dev nD) (t : Fin cfg0.N) (d) : (dats m 0 c).before 7 t d = iblk m c 7 t :=
  before0_7_of m (dats m 0 c) (by dsimp only [dats]) (fun t => after_7 m c t) t d
theorem before_8 (c : Dev nD) (t : Fin cfg0.N) (d) : (dats m 0 c).before 8 t d = iblk m c 8 t :=
  before0_8_of m (dats m 0 c) (by dsimp only [dats]) (fun t => after_8 m c t) t d
theorem before_9 (c : Dev nD) (t : Fin cfg0.N) (d) : (dats m 0 c).before 9 t d = iblk m c 9 t :=
  before0_9_of m (dats m 0 c) (by dsimp only [dats]) (fun t => after_9 m c t) t d
theorem before_10 (c : Dev nD) (t : Fin cfg0.N) (d) : (dats m 0 c).before 10 t d = iblk m c 10 t :=
  before0_10_of m (dats m 0 c) (by dsimp only [dats]) (fun t => after_10 m c t) t d
theorem before_11 (c : Dev nD) (t : Fin cfg0.N) (d) : (dats m 0 c).before 11 t d = iblk m c 11 t :=
  before0_11_of m (dats m 0 c) (by dsimp only [dats]) (fun t => after_11 m c t) t d
theorem before_12 (c : Dev nD) (t : Fin cfg0.N) (d) : (dats m 0 c).before 12 t d = iblk m c 12 t :=
  before0_12_of m (dats m 0 c) (by dsimp only [dats]) (fun t => after_12 m c t) t d
theorem before_13 (c : Dev nD) (t : Fin cfg0.N) (d) : (dats m 0 c).before 13 t d = iblk m c 13 t :=
  before0_13_of m (dats m 0 c) (by dsimp only [dats]) (fun t => after_13 m c t) t d
theorem before_14 (c : Dev nD) (t : Fin cfg0.N) (d) : (dats m 0 c).before 14 t d = iblk m c 14 t :=
  before0_14_of m (dats m 0 c) (by dsimp only [dats]) (fun t => after_14 m c t) t d
theorem before_15 (c : Dev nD) (t : Fin cfg0.N) (d) : (dats m 0 c).before 15 t d = iblk m c 15 t :=
  before0_15_of m (dats m 0 c) (by dsimp only [dats]) (fun t => after_15 m c t) t d

theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := F)) 𝒱₀ () Set.univ := fun t => by
  rw [bigSep_W0, bigSep_W0, defs₀_row, Phi_castSucc, Phi_succ]
  dsimp only
  simp only [before_0, before_1, before_2, before_3, before_4, before_5, before_6, before_7, before_8, before_9, before_10, before_11, before_12, before_13, before_14, before_15, after_0, after_1, after_2, after_3, after_4, after_5, after_6, after_7, after_8, after_9, after_10, after_11, after_12, after_13, after_14, after_15, after_16, after_17, after_18]
  unfold Dat.owesAt Pipeline.owesWithin
  rw [show (dats m 0 c).owed t.castSucc = 0 from rfl, show (dats m 0 c).owed t.succ = 0 from rfl]
  unfold PhiS
  iintro ⟨⟨⟨%G, %hG, HS⟩, Hr⟩, ⟨%Ws, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (wp_wand_r frame (wpE (defs₀ (F := F)) 𝒱₀ (c : Thread nD τ) none) (E := Set.univ))
  isplitl [HS H0 H1 H2 H3 H4 H5 H6 H7 H8 H9 H10 H11 H12 H13 H14 H15 H16 H17 H18]
  · iapply (point m c t _ _ _ G)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HS
  · iintro %_ ⟨H0, H1, H2, H3, H4, H5, H6, H7, H8, H9, H10, H11, H12, H13, H14, H15, H16, H17, H18, HS⟩
    have eS : scratchOut (blkAt m c t) (t.val % 8) G = sc m c (t.val + 1) := by
      rw [sc_succ]; unfold scratchOut; rw [scratchIn_congr (t.val % 8) G (sc m c t.val) hG]
    isplitl [HS Hr]
    · isplitl [HS]
      · iexists _
        isplitr; swap
        · iexact HS
        ipureintro; exact fun _ => eS
      iexact Hr
    isplitl [HW]
    · iexists Ws
      isplitr
      · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; swap
    · rw [idle17 t]
      isplitl [H17]; · iexact H17
      iexact H18
    by_cases h7 : t.val % 8 = 7
    · have eQ : out16 m c t G ((dats m 0 c).before 16 t d16) = qOut (blkAt m c t) (t.val % 8) (sc m c t.val) := by
        unfold out16; rw [if_pos h7]; unfold qOut scratchOut; rw [scratchIn_congr (t.val % 8) G (sc m c t.val) hG]
      rw [eQ]
      rw [idle16 t, decide_eq_true h7]
      simp only [Bool.not_true]
      iexact H16
    · have eQ : out16 m c t G ((dats m 0 c).before 16 t d16) = (dats m 0 c).before 16 t d16 := if_neg h7
      have hf : (cfg0.win 16).flush t = false := by
        cases hb : (cfg0.win 16).flush t
        · rfl
        · exact absurd ((flush0_16 t).1 hb) h7
      rw [eQ]
      rw [idle16 t, decide_eq_false h7]
      simp only [Bool.not_false, hf]
      iexists d16
      iexact H16

theorem ent_of_eq {P Q : sProp 𝕄} (e : P = Q) : P ⊢ Q := e ▸ .rfl

theorem hin (c : Dev nD) : Pipeline.ΦA spec0 c ⊢ ((dats m 0 c).Φ 0 : sProp 𝕄) := by
  rw [show (dats m 0 c).Φ 0 = PhiS m c 0 (Nat.zero_le _) from rfl]
  unfold Pipeline.ΦA PhiS owns
  rw [scopedRest0_eq]
  iintro ⟨⟨%f, H⟩, Hr⟩
  isplitl [H]
  · iexists (Memref.whole cc0_scratch0 : Memref sig .tc .vmem S2048x1024 .f32).view.read (Elt F) f
    isplitr
    · ipureintro; exact fun h => absurd rfl h
    iexists f
    isplitr
    · ipureintro; rfl
    iapply (ent_of_eq (congrArg (fun S => (((c : Thread nD τ).loc cc0_scratch0) ↦[S]{fullShare} f : sProp 𝕄)) (show (Memref.whole cc0_scratch0 : Memref sig .tc .vmem S2048x1024 .f32).view.set = Finset.univ from View.set_whole _).symm))
    iexact H
  iexact Hr

theorem hout (c : Dev nD) : (dats m 0 c).Φ (Fin.last cfg0.N) ⊢ (Pipeline.ΦA spec0 c : sProp 𝕄) := by
  rw [show (dats m 0 c).Φ (Fin.last cfg0.N) = PhiS m c cfg0.N (Nat.le_refl _) from rfl]
  unfold Pipeline.ΦA PhiS owns
  rw [scopedRest0_eq]
  iintro ⟨⟨%G, -, ⟨%f, -, H⟩⟩, Hr⟩
  isplitl [H]
  · iexists f
    iapply (ent_of_eq (congrArg (fun S => (((c : Thread nD τ).loc cc0_scratch0) ↦[S]{fullShare} f : sProp 𝕄)) (show (Memref.whole cc0_scratch0 : Memref sig .tc .vmem S2048x1024 .f32).view.set = Finset.univ from View.set_whole _)))
    iexact H
  iexact Hr

/-- The run: every final state holds the windows' arrays at what the points leave, everything else as the region found it, every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared cfgs (dats m) 0 launch₀0 defs₀ 𝒱₀ m ρ main
    (fun c => (body_obligation m c).loose) (fun c w _ => by dsimp only [dats]) (fun _ _ => rfl) (V m) (hmain m 𝒱₀)
    (fun c w => by dsimp only [dats]) (hin m) (hout m) _ (fun _ h => h)

end Cert.KernelIdeal.A
end
-- ==== Proof.A.Same.lean ====
module

public import proofs.«01_k».proof.Proof.Gen.Kernel
public import proofs.«01_k».proof.Proof.Gen.KernelIdeal

@[expose] public section

set_option maxRecDepth 16384
set_option maxHeartbeats 4000000

namespace Cert.Same

open Idealize.ShloMosaic Idealize.SL.Sem

variable {F : FTy → Type} [FloatOps F]

/-! The kernel and its idealization are one text: their body tables and their mains are equal, at any float values. -/

theorem bodies : @Cert.Kernel.defs₀ F _ _ = @Cert.KernelIdeal.defs₀ F _ _ := by
  unfold Cert.Kernel.defs₀ Cert.KernelIdeal.defs₀
  refine congrArg Defs.onTc ?_
  funext l x
  match l, x with
  | 0, (t, s) => exact rfl
  | ⟨_ + 1, h⟩, _ => exact absurd h (Nat.not_lt.2 (Nat.le_add_left _ _))

theorem part0 (d : Dev Cert.KernelIdeal.nD) : @Cert.Kernel.main_part0 F _ _ d = @Cert.KernelIdeal.main_part0 F _ _ d := id rfl

theorem part1 (d : Dev Cert.KernelIdeal.nD) : @Cert.Kernel.main_part1 F _ _ d = @Cert.KernelIdeal.main_part1 F _ _ d := id rfl

open Cert.KernelIdeal in
/-- One window of the main after the other. -/
noncomputable def both (a b : Prog (TpuEff nD τ sig (Elt F) (Pipeline.Sig Λ₀ (Fin 1) fun p => (pcfgs (F := F) p).Adm) .tc) PUnit.{1}) :
    Prog (TpuEff nD τ sig (Elt F) (Pipeline.Sig Λ₀ (Fin 1) fun p => (pcfgs (F := F) p).Adm) .tc) PUnit.{1} := do
  a
  b
  pure PUnit.unit

theorem mains : @Cert.Kernel.main F _ _ = @Cert.KernelIdeal.main F _ _ :=
  funext fun d => show both (Cert.Kernel.main_part0 d) (Cert.Kernel.main_part1 d) = both (Cert.KernelIdeal.main_part0 d) (Cert.KernelIdeal.main_part1 d) from
    congrArg₂ both (part0 d) (part1 d)

theorem tables : @Cert.Kernel.defs F _ _ = @Cert.KernelIdeal.defs F _ _ :=
  congrArg (fun D => Pipeline.defs (Cert.KernelIdeal.pcfgs (F := F)) D) bodies

theorem runs (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg₂ (fun D M => θ_run D (onTc (τ := Cert.KernelIdeal.τ) M) s Q) tables mains).symm ▸ h

end Cert.Same
end
-- ==== Proof.A.Frames.lean ====
module

public import proofs.«01_k».proof.Defs
public import proofs.«01_k».proof.Proof.Gen.Kernel
public import proofs.«01_k».proof.Proof.A.Run
public import proofs.«01_k».proof.Proof.A.Same

@[expose] public section

namespace Cert.KernelIdeal.A

open Cert.KernelIdeal Cert.KernelIdeal.Gen Idealize.ShloMosaic Idealize.ShloMosaic.TcCoe Idealize.SL.Sem

/-- The arguments at the end of a run are what they were at its start: no host operation before the region writes them and no window stages them. -/
theorem args_kept {F : FTy → Type} [FloatOps F] (m : (ℓ : Loc nD τ sig) → Buf (Elt F) ℓ) (r : PUnit × MemSt nD τ sig (Elt F))
    (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c)⟩

/-- Every run, at any float values, ends with the arguments kept and every counter at zero. -/
theorem run_kept {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m r h.1 c, h.2⟩) (run_main m ρ)

/-- The kernel as compiled runs to the end, keeps its arguments and leaves every counter at zero. -/
theorem frame_kernel : Cert.quiescent_Kernel := fun m ρ _ => Cert.Same.runs _ _ (run_kept (F := Bits) m ρ)

/-- So does its idealization. -/
theorem frame_kernelIdeal : Cert.quiescent_KernelIdeal := fun m ρ _ => run_kept (F := Ideal) m ρ

end Cert.KernelIdeal.A
end
-- ==== Proof.R.Ref.lean ====
module

public import proofs.«01_k».proof.Defs
public import proofs.«01_k».proof.Proof.Gen.ReferenceIdeal.Run
public import proofs.«01_k».proof.Proof.Gen.ReferenceIdeal.Read

@[expose] public section

namespace Cert.ReferenceIdeal.R

open Idealize.ShloMosaic Idealize.SL.Sem

/-- The reference runs to the end and keeps its arguments; it has no counter. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

end Cert.ReferenceIdeal.R
end
-- ==== Proof.V.Row.lean ====
module

public import Idealize.ShloMosaic.PureOps.Ideal.Laws
public import Idealize.ShloMosaic.Lib.ValueIdx

@[expose] public section

noncomputable section

/-! One row of a masked softmax and of its gradient, over the extended reals: with real scores the row's exponentials, their sum, and the gradient are
    real numbers, and the two ways of writing them down agree. -/

namespace Cert.Row

open Idealize.ShloMosaic

variable {K : Type} [Fintype K]

theorem coe_sum {J : Type} (S : Finset J) (f : J → ℝ) : ((∑ k ∈ S, f k : ℝ) : EReal) = ∑ k ∈ S, (f k : EReal) := by
  classical
  induction S using Finset.induction with
  | empty => simp
  | insert a S ha ih => rw [Finset.sum_insert ha, Finset.sum_insert ha, EReal.coe_add, ih]

theorem div_real (x y : ℝ) (h : y ≠ 0) : Ideal.div (x : EReal) (y : EReal) = ((x / y : ℝ) : EReal) := by
  rw [Ideal.div_coe h, ← EReal.coe_mul, mul_one_div]

variable (s dp : K → ℝ) (ok : K → Prop) [DecidablePred ok] (m c : ℝ)

/-- A score, or `⊥` where the mask hides it. -/
def sc (k : K) : EReal := if ok k then (s k : EReal) else ⊥

/-- The exponential of a score less the row's maximum, 0 where the mask hides it. -/
def ex (k : K) : ℝ := if ok k then Real.exp (s k - m) else 0

/-- The row's sum of exponentials. -/
def tot : ℝ := ∑ k, ex s ok m k

/-- The row's probabilities. -/
def pr (k : K) : ℝ := ex s ok m k / tot s ok m

/-- The sum of the probabilities times their gradients. -/
def dl : ℝ := ∑ k, pr s ok m k * dp k

theorem exp_sc (k : K) : Ideal.exp (sc s ok k - (m : EReal)) = (ex s ok m k : EReal) := by
  unfold sc ex
  by_cases h : ok k
  · rw [if_pos h, if_pos h, ← EReal.coe_sub]; rfl
  · rw [if_neg h, if_neg h, EReal.bot_sub]; rfl

theorem sum_exp : ∑ k, Ideal.exp (sc s ok k - (m : EReal)) = (tot s ok m : EReal) := by
  unfold tot
  rw [coe_sum]
  exact Finset.sum_congr rfl fun k _ => exp_sc s ok m k

theorem ex_nonneg (k : K) : 0 ≤ ex s ok m k := by
  unfold ex; split
  · exact (Real.exp_pos _).le
  · exact le_rfl

theorem tot_pos (k0 : K) (h0 : ok k0) : 0 < tot s ok m := by
  unfold tot
  refine lt_of_lt_of_le ?_ (Finset.single_le_sum (fun k _ => ex_nonneg s ok m k) (Finset.mem_univ k0))
  unfold ex; rw [if_pos h0]; exact Real.exp_pos _

theorem lse_real (k0 : K) (h0 : ok k0) : (m : EReal) + Ideal.log (tot s ok m : EReal) = ((m + Real.log (tot s ok m) : ℝ) : EReal) := by
  rw [Ideal.log_coe, if_neg (not_le.2 (tot_pos s ok m k0 h0)), EReal.coe_add]

/-- A probability by the logarithm of the sum of exponentials, where the mask shows the key. -/
theorem exp_lse (k0 : K) (h0 : ok k0) (k : K) (hk : ok k) :
    Ideal.exp ((s k : EReal) - ((m : EReal) + Ideal.log (tot s ok m : EReal))) = (pr s ok m k : EReal) := by
  have hp := tot_pos s ok m k0 h0
  rw [lse_real s ok m k0 h0, ← EReal.coe_sub, Ideal.exp_coe]
  congr 1
  unfold pr ex
  rw [if_pos hk, ← sub_sub, Real.exp_sub, Real.exp_log hp]

/-- The same where the key may be hidden: the score is then `⊥`. -/
theorem exp_lse' (k0 : K) (h0 : ok k0) (k : K) :
    Ideal.exp (sc s ok k - ((m : EReal) + Ideal.log (tot s ok m : EReal))) = (pr s ok m k : EReal) := by
  by_cases hk : ok k
  · rw [show sc s ok k = (s k : EReal) from if_pos hk]; exact exp_lse s ok m k0 h0 k hk
  · rw [show sc s ok k = ⊥ from if_neg hk, EReal.bot_sub, Ideal.exp_bot]
    unfold pr ex; rw [if_neg hk, zero_div]; rfl

theorem div_tot (k0 : K) (h0 : ok k0) (k : K) : Ideal.div (ex s ok m k : EReal) (tot s ok m : EReal) = (pr s ok m k : EReal) :=
  div_real _ _ (tot_pos s ok m k0 h0).ne'

theorem pr_hidden (k : K) (hk : ¬ ok k) : pr s ok m k = 0 := by
  unfold pr ex; rw [if_neg hk, zero_div]

/-- The gradient of a score as the derivative of the quotient writes it, against the probability times the gradient less the row's sum. -/
theorem grad (k0 : K) (h0 : ok k0) (k : K) :
    (Ideal.div (dp k : EReal) (tot s ok m : EReal)
      + -(∑ k', (dp k' : EReal) * Ideal.div (1 : EReal) ((tot s ok m : EReal) * (tot s ok m : EReal)) * (ex s ok m k' : EReal)))
      * (ex s ok m k : EReal) * (c : EReal)
    = ((pr s ok m k * (dp k - dl s dp ok m) * c : ℝ) : EReal) := by
  have hp := (tot_pos s ok m k0 h0).ne'
  have h1 : Ideal.div (1 : EReal) ((tot s ok m : EReal) * (tot s ok m : EReal)) = ((1 / (tot s ok m * tot s ok m) : ℝ) : EReal) := by
    rw [← EReal.coe_mul, ← EReal.coe_one]; exact div_real _ _ (mul_ne_zero hp hp)
  have h2 : ∑ k', (dp k' : EReal) * ((1 / (tot s ok m * tot s ok m) : ℝ) : EReal) * (ex s ok m k' : EReal)
      = ((∑ k', dp k' * (1 / (tot s ok m * tot s ok m)) * ex s ok m k' : ℝ) : EReal) := by
    rw [coe_sum]
    exact Finset.sum_congr rfl fun k' _ => by rw [EReal.coe_mul, EReal.coe_mul]
  have h3 : ∑ k', dp k' * (1 / (tot s ok m * tot s ok m)) * ex s ok m k' = dl s dp ok m / tot s ok m := by
    unfold dl pr
    rw [Finset.sum_div]
    exact Finset.sum_congr rfl fun k' _ => by field_simp
  rw [h1, h2, h3, div_real _ _ hp, ← EReal.coe_neg, ← EReal.coe_add, ← EReal.coe_mul, ← EReal.coe_mul]
  congr 1
  unfold pr
  field_simp
  ring

/-! A maximum taken over numbers none of which is `⊤`, one of which is not `⊥`, is a real number. -/

theorem foldl_max_ge {J : Type} (x : J → EReal) (l : List J) (a : EReal) : a ≤ l.foldl (fun r n => max r (x n)) a := by
  induction l generalizing a with
  | nil => exact le_rfl
  | cons n l ih => exact le_trans (le_max_left _ _) (ih _)

theorem foldl_max_mem {J : Type} (x : J → EReal) (l : List J) (a : EReal) (n : J) (hn : n ∈ l) : x n ≤ l.foldl (fun r n => max r (x n)) a := by
  induction l generalizing a with
  | nil => cases hn
  | cons n' l ih =>
    rcases List.mem_cons.1 hn with rfl | h
    · exact le_trans (le_max_right _ _) (foldl_max_ge x l _)
    · exact ih _ h

theorem foldl_max_top {J : Type} (x : J → EReal) (l : List J) (a : EReal) (ha : a ≠ ⊤) (hx : ∀ n, x n ≠ ⊤) : l.foldl (fun r n => max r (x n)) a ≠ ⊤ := by
  induction l generalizing a with
  | nil => exact ha
  | cons n l ih => exact ih _ (show max a (x n) ≠ ⊤ by rcases max_choice a (x n) with h | h <;> rw [h]; exacts [ha, hx n])

/-- The host's maximum over an axis is a real number under the same conditions. -/
theorem reduce_max_real {s t u : Shape} {axes : List (Fin s.rank)} (x : FVec Ideal s .f32) (v : FVec Ideal u .f32) (h : s.ReducesTo axes t) (hu : 0 < u.numel)
    (j : t.Idx) (hv : v (Shape.Idx.first hu) ≠ ⊤) (hx : ∀ i, x i ≠ ⊤) (i : s.Idx) (hi : h.drop i = j) (hb : x i ≠ ⊥) :
    ∃ r : ℝ, Host.reduce FloatOps.maximumf x v h hu j = (r : EReal) := by
  have e : Host.reduce FloatOps.maximumf x v h hu j
      = ((List.finRange s.numel).filter fun n => h.drop (s.rowMajor.symm n) = j).foldl (fun r n => max r (x (s.rowMajor.symm n))) (v (Shape.Idx.first hu)) := rfl
  rw [e]
  refine ⟨_, (EReal.coe_toReal (foldl_max_top (fun n => x (s.rowMajor.symm n)) _ _ hv fun n => hx _) ?_).symm⟩
  have hm := foldl_max_mem (fun n => x (s.rowMajor.symm n)) ((List.finRange s.numel).filter fun n => h.drop (s.rowMajor.symm n) = j) (v (Shape.Idx.first hu))
    (s.rowMajor i) (List.mem_filter.2 ⟨List.mem_finRange _, by rw [Equiv.symm_apply_apply]; exact decide_eq_true hi⟩)
  rw [Equiv.symm_apply_apply] at hm
  intro hbot
  rw [hbot] at hm
  exact hb (le_bot_iff.1 hm)

end Cert.Row
end
-- ==== Proof.V.Spec.lean ====
module

public import proofs.«01_k».proof.Proof.V.Row

@[expose] public section

noncomputable section

/-! The gradient of causal attention in real numbers: of `q`, `k` and `v`, for two sequences of 2048 positions and eight heads. -/

namespace Cert.Spec

open Idealize.ShloMosaic

/-- The arguments as real numbers, and a number per row of scores to subtract before the exponential. -/
structure Arg where
  Q : Fin 2 → Fin 2048 → Fin 8 → Fin 192 → ℝ
  K : Fin 2 → Fin 2048 → Fin 8 → Fin 192 → ℝ
  V : Fin 2 → Fin 2048 → Fin 8 → Fin 128 → ℝ
  C : Fin 2 → Fin 2048 → Fin 8 → Fin 128 → ℝ
  M : Fin 2 → Fin 8 → Fin 2048 → ℝ

/-- The scale of the scores. -/
def scale : ℝ := 9686330 / 134217728

theorem scale_eq : Ideal.ofBits .f32 0x3D93CD3A#32 = (scale : EReal) := by
  simp [Ideal.ofBits, Ideal.ieee, scale, -EReal.coe_mul]; norm_num

theorem neg_inf_eq : Ideal.ofBits .f32 0xFF800000#32 = ⊥ := by
  simp [Ideal.ofBits, Ideal.ieee, -EReal.coe_mul]

theorem one_eq : Ideal.ofBits .f32 0x3F800000#32 = 1 := by
  simp [Ideal.ofBits, Ideal.ieee, -EReal.coe_mul]; norm_num

/-- A query sees the keys up to its own position. -/
abbrev sees (q k : Fin 2048) : Prop := k.val ≤ q.val

variable (A : Arg)

def s (b : Fin 2) (h : Fin 8) (q k : Fin 2048) : ℝ := (∑ d, A.Q b q h d * A.K b k h d) * scale
def dp (b : Fin 2) (h : Fin 8) (q k : Fin 2048) : ℝ := ∑ d, A.C b q h d * A.V b k h d
def L (b : Fin 2) (h : Fin 8) (q : Fin 2048) : ℝ := Row.tot (s A b h q) (sees q) (A.M b h q)
def P (b : Fin 2) (h : Fin 8) (q k : Fin 2048) : ℝ := Row.pr (s A b h q) (sees q) (A.M b h q) k
def D (b : Fin 2) (h : Fin 8) (q : Fin 2048) : ℝ := Row.dl (s A b h q) (dp A b h q) (sees q) (A.M b h q)
def DS (b : Fin 2) (h : Fin 8) (q k : Fin 2048) : ℝ := P A b h q k * (dp A b h q k - D A b h q) * scale

/-- Rows of 192 numbers, followed by 64 zeros. -/
def padded (X : Fin 2 → Fin 2048 → Fin 8 → Fin 192 → ℝ) (b : Fin 2) (p : Fin 2048) (h : Fin 8) (d : Fin 256) : ℝ :=
  if hd : d.val < 192 then X b p h ⟨d.val, hd⟩ else 0

def dq (b : Fin 2) (q : Fin 2048) (h : Fin 8) (d : Fin 256) : ℝ := ∑ k, DS A b h q k * padded A.K b k h d
def dk (b : Fin 2) (k : Fin 2048) (h : Fin 8) (d : Fin 256) : ℝ := ∑ q, DS A b h q k * padded A.Q b q h d
def dv (b : Fin 2) (k : Fin 2048) (h : Fin 8) (d : Fin 128) : ℝ := ∑ q, P A b h q k * A.C b q h d

theorem P_hidden (b : Fin 2) (h : Fin 8) (q k : Fin 2048) (hk : ¬ sees q k) : P A b h q k = 0 := Row.pr_hidden _ _ _ _ hk
theorem DS_hidden (b : Fin 2) (h : Fin 8) (q k : Fin 2048) (hk : ¬ sees q k) : DS A b h q k = 0 := by
  unfold DS; rw [P_hidden A b h q k hk, zero_mul, zero_mul]

/-- The row's sum of the probabilities times their gradients is the sum of the output times its gradient. -/
theorem D_eq (b : Fin 2) (h : Fin 8) (q : Fin 2048) : D A b h q = ∑ d, A.C b q h d * ∑ k, A.V b k h d * P A b h q k := by
  unfold D Row.dl dp
  simp only [Finset.mul_sum]
  rw [Finset.sum_comm]
  refine Finset.sum_congr rfl fun d _ => Finset.sum_congr rfl fun k _ => ?_
  unfold P; ring

/-! An index of a 4096-row array: sequence, position, head, column. -/

def bOf (i : Fin 4096) : Fin 2 := ⟨i.val / 2048, by omega⟩
def pOf (i : Fin 4096) : Fin 2048 := ⟨i.val % 2048, by omega⟩
def hOf (i : Fin 2048) : Fin 8 := ⟨i.val / 256, by omega⟩
def dOf (i : Fin 2048) : Fin 256 := ⟨i.val % 256, by omega⟩
def hOf' (i : Fin 1024) : Fin 8 := ⟨i.val / 128, by omega⟩
def dOf' (i : Fin 1024) : Fin 128 := ⟨i.val % 128, by omega⟩

end Cert.Spec
end
-- ==== Proof.V.RefVal.lean ====
module

public import proofs.«01_k».proof.Proof.V.Spec
public import proofs.«01_k».proof.Proof.Gen.ReferenceIdeal.Read
public import Idealize.ShloMosaic.Lib.KernelVsHost

@[expose] public section

set_option maxRecDepth 16384

noncomputable section

/-! What the reference computes from real arguments: the gradient of causal attention in real numbers. -/

namespace Cert.ReferenceIdeal.V

open Cert.ReferenceIdeal Cert.ReferenceIdeal.Gen Cert.ReferenceIdeal.Read Idealize.ShloMosaic Idealize.ShloMosaic.ValueIdx Cert.Spec

abbrev T192 := (⟨S2x2048x8x192, .f32⟩ : BufTy).Contents (Elt Ideal)
abbrev T128 := (⟨S2x2048x8x128, .f32⟩ : BufTy).Contents (Elt Ideal)

/-- The four arguments are the real numbers of `A`. -/
structure Args (A : Arg) (x0 x1 : T192) (x2 x3 : T128) : Prop where
  q : ∀ i : S2x2048x8x192.Idx, x0 i = ((A.Q (i 0) (i 1) (i 2) (i 3) : ℝ) : EReal)
  k : ∀ i : S2x2048x8x192.Idx, x1 i = ((A.K (i 0) (i 1) (i 2) (i 3) : ℝ) : EReal)
  v : ∀ i : S2x2048x8x128.Idx, x2 i = ((A.V (i 0) (i 1) (i 2) (i 3) : ℝ) : EReal)
  c : ∀ i : S2x2048x8x128.Idx, x3 i = ((A.C (i 0) (i 1) (i 2) (i 3) : ℝ) : EReal)
  m : ∀ i : S2x8x2048.Idx, val_main_v10 (F := Ideal) x0 x1 i = ((A.M (i 0) (i 1) (i 2) : ℝ) : EReal)

theorem cmp_sle (a b : Fin 2048) : IntOp.cmpi .sle (BitVec.ofNat 32 a.val) (BitVec.ofNat 32 b.val) = if a.val ≤ b.val then 1#1 else 0#1 := by
  have ha := a.isLt; have hb := b.isLt
  have e : ∀ n : ℕ, n < 2048 → (BitVec.ofNat 32 n).toInt = n := fun n hn => by
    rw [BitVec.toInt_eq_toNat_cond, BitVec.toNat_ofNat]; omega
  by_cases h : a.val ≤ b.val
  · rw [if_pos h]
    show BitVec.ofBool (BitVec.sle _ _) = 1#1
    rw [BitVec.sle_eq_decide, e _ ha, e _ hb, decide_eq_true (by exact_mod_cast h)]; rfl
  · rw [if_neg h]
    show BitVec.ofBool (BitVec.sle _ _) = 0#1
    rw [BitVec.sle_eq_decide, e _ ha, e _ hb, decide_eq_false (by exact_mod_cast h)]; rfl

theorem mask (i : S2x8x2048x2048.Idx) : val_main_v9_1 (F := Ideal) i = if (i 3).val ≤ (i 2).val then 1#1 else 0#1 := by
  rw [val_main_v9_1_apply, val_main_v8_apply, val_main_v6_apply, val_main_v7_apply, val_main_v4_apply, val_main_v5_apply, val_main_v3_apply, val_main_v3_apply]
  exact cmp_sle (i 3) (i 2)

section
variable {A : Arg} {x0 x1 : T192} {x2 x3 : T128}

theorem v2 (hq : ∀ i : S2x2048x8x192.Idx, x0 i = ((A.Q (i 0) (i 1) (i 2) (i 3) : ℝ) : EReal)) (hk : ∀ i : S2x2048x8x192.Idx, x1 i = ((A.K (i 0) (i 1) (i 2) (i 3) : ℝ) : EReal))
    (i : S2x8x2048x2048.Idx) : val_main_v2 (F := Ideal) x0 x1 i = ((s A (i 0) (i 1) (i 2) (i 3) : ℝ) : EReal) := by
  rw [val_main_v2_apply, val_main_v0_apply, val_main_v1_apply, val_main_cst_apply]
  show (_ : EReal) * Ideal.ofBits .f32 0x3D93CD3A#32 = _
  rw [scale_eq]
  unfold s
  rw [EReal.coe_mul, Row.coe_sum]
  congr 1
  refine Finset.sum_congr rfl fun d _ => ?_
  rw [hq, hk, EReal.coe_mul]
  rfl

theorem v9 (hq : ∀ i : S2x2048x8x192.Idx, x0 i = ((A.Q (i 0) (i 1) (i 2) (i 3) : ℝ) : EReal)) (hk : ∀ i : S2x2048x8x192.Idx, x1 i = ((A.K (i 0) (i 1) (i 2) (i 3) : ℝ) : EReal))
    (i : S2x8x2048x2048.Idx) : val_main_v9_0 (F := Ideal) x0 x1 i = Row.sc (s A (i 0) (i 1) (i 2)) (sees (i 2)) (i 3) := by
  rw [val_main_v9_0_apply, mask, v2 hq hk, val_main_call0_v2_apply, val_main_call0_v0_apply, val_main_cst_0_apply]
  show Scalar.select _ _ (Ideal.ofBits .f32 0xFF800000#32) = _
  rw [neg_inf_eq]
  unfold Row.sc
  by_cases h : (i 3).val ≤ (i 2).val
  · rw [if_pos h, if_pos (show sees (i 2) (i 3) from h)]; rfl
  · rw [if_neg h, if_neg (show ¬ sees (i 2) (i 3) from h)]; rfl

/-- The row maximum of real scores is a real number: every row sees its own position. -/
theorem v10_real (hq : ∀ i : S2x2048x8x192.Idx, x0 i = ((A.Q (i 0) (i 1) (i 2) (i 3) : ℝ) : EReal)) (hk : ∀ i : S2x2048x8x192.Idx, x1 i = ((A.K (i 0) (i 1) (i 2) (i 3) : ℝ) : EReal))
    (i : S2x8x2048.Idx) : ∃ r : ℝ, val_main_v10 (F := Ideal) x0 x1 i = (r : EReal) := by
  refine Row.reduce_max_real _ _ _ _ i ?_ ?_ (ix4 (i 0 : Fin 2) (i 1 : Fin 8) (i 2 : Fin 2048) (i 2 : Fin 2048) : S2x8x2048x2048.Idx) ?_ ?_
  · show Ideal.ofBits .f32 0xFF800000#32 ≠ ⊤
    rw [neg_inf_eq]; exact bot_ne_top
  · intro j
    rw [v9 hq hk]; unfold Row.sc; split
    · exact EReal.coe_ne_top _
    · exact bot_ne_top
  · funext a
    match a with
    | ⟨0, _⟩ => rfl
    | ⟨1, _⟩ => rfl
    | ⟨2, _⟩ => rfl
  · rw [v9 hq hk]; unfold Row.sc
    exact ne_of_eq_of_ne (if_pos (le_refl (i 2).val)) (EReal.coe_ne_bot _)

variable (H : Args A x0 x1 x2 x3)
include H

theorem v30 (i : S2x8x2048x2048.Idx) : val_main_v30 (F := Ideal) x0 x1 i = ((Row.ex (s A (i 0) (i 1) (i 2)) (sees (i 2)) (A.M (i 0) (i 1) (i 2)) (i 3) : ℝ) : EReal) := by
  rw [val_main_v30_apply, val_main_v29_apply, v9 H.q H.k, val_main_v28_apply, val_main_v27_apply, val_main_v17_apply, val_main_v16_apply, val_main_cst_3_apply, H.m]
  show Ideal.exp (_ - max (Ideal.ofBits .f32 0xFF800000#32) _) = _
  rw [neg_inf_eq, max_eq_right bot_le]
  exact Row.exp_sc _ _ _ _

theorem v31 (i : S2x8x2048.Idx) : val_main_v31 (F := Ideal) x0 x1 i = ((L A (i 0) (i 1) (i 2) : ℝ) : EReal) := by
  rw [val_main_v31_apply]
  show Ideal.ofBits .f32 0x00000000#32 + _ = _
  rw [Ideal.ofBits_zero_f32, zero_add]
  unfold L Row.tot
  rw [Row.coe_sum]
  exact Finset.sum_congr rfl fun k _ => v30 H _

theorem L_pos (b : Fin 2) (h : Fin 8) (q : Fin 2048) : 0 < L A b h q := Row.tot_pos _ _ _ q (le_refl q.val)

theorem v34 (i : S2x8x2048x2048.Idx) : val_main_v34 (F := Ideal) x0 x1 i = ((P A (i 0) (i 1) (i 2) (i 3) : ℝ) : EReal) := by
  rw [val_main_v34_apply, v30 H, val_main_v33_apply, val_main_v32_apply, v31 H]
  exact Row.div_tot (s A (i 0) (i 1) (i 2)) (sees (i 2)) (A.M (i 0) (i 1) (i 2)) (i 2) (le_refl (i 2).val) (i 3)

theorem v41 (i : S2x8x2048x2048.Idx) : val_main_v41 (F := Ideal) x2 x3 i = ((dp A (i 0) (i 1) (i 2) (i 3) : ℝ) : EReal) := by
  rw [val_main_v41_apply]
  unfold dp
  rw [Row.coe_sum]
  refine Finset.sum_congr rfl fun d _ => ?_
  rw [val_main_v40_apply, H.c, H.v, EReal.coe_mul]
  rfl

theorem v46 (i : S2x8x2048x2048.Idx) : val_main_v46 (F := Ideal) x0 x1 x2 x3 i
    = ((dp A (i 0) (i 1) (i 2) (i 3) : ℝ) : EReal) * Ideal.div 1 (((L A (i 0) (i 1) (i 2) : ℝ) : EReal) * ((L A (i 0) (i 1) (i 2) : ℝ) : EReal))
      * ((Row.ex (s A (i 0) (i 1) (i 2)) (sees (i 2)) (A.M (i 0) (i 1) (i 2)) (i 3) : ℝ) : EReal) := by
  rw [val_main_v46_apply, v30 H, val_main_v45_apply, v41 H, val_main_v44_apply, val_main_v37_apply, val_main_v36_apply, val_main_cst_10_apply, val_main_v35_apply,
    val_main_v32_apply, v31 H]
  show (_ * Ideal.div (Ideal.ofBits .f32 0x3F800000#32) _) * _ = _
  rw [one_eq]
  rfl

theorem v52 (i : S2x8x2048.Idx) : val_main_v52 (F := Ideal) x0 x1 x2 x3 i
    = -(∑ k, ((dp A (i 0) (i 1) (i 2) k : ℝ) : EReal) * Ideal.div 1 (((L A (i 0) (i 1) (i 2) : ℝ) : EReal) * ((L A (i 0) (i 1) (i 2) : ℝ) : EReal))
      * ((Row.ex (s A (i 0) (i 1) (i 2)) (sees (i 2)) (A.M (i 0) (i 1) (i 2)) k : ℝ) : EReal)) := by
  rw [val_main_v52_apply, Fin.sum_univ_one, val_main_v49_apply, val_main_v48_apply, val_main_v47_apply]
  show Ideal.ofBits .f32 0x00000000#32 + -(Ideal.ofBits .f32 0x00000000#32 + _) = _
  rw [Ideal.ofBits_zero_f32, zero_add, zero_add]
  congr 1
  refine Finset.sum_congr rfl fun k _ => ?_
  have e : idx_main_v47 (idx_main_v48 (idx_main_v52 i 0)) k = (ix4 (i 0 : Fin 2) (i 1 : Fin 8) (i 2 : Fin 2048) k : S2x8x2048x2048.Idx) := by
    have h0 : (i 0).val < 2 := (i 0).isLt
    have h1 : (i 1).val < 8 := (i 1).isLt
    have h2 : (i 2).val < 2048 := (i 2).isLt
    funext a
    match a with
    | ⟨0, _⟩ => apply Fin.ext; show ((((i 0).val * 8 + (i 1).val) * 2048 + (i 2).val) * 1 + 0) / 16384 = (i 0).val; omega
    | ⟨1, _⟩ => apply Fin.ext; show ((((i 0).val * 8 + (i 1).val) * 2048 + (i 2).val) * 1 + 0) / 2048 % 8 = (i 1).val; omega
    | ⟨2, _⟩ => apply Fin.ext; show ((((i 0).val * 8 + (i 1).val) * 2048 + (i 2).val) * 1 + 0) % 2048 = (i 2).val; omega
    | ⟨3, _⟩ => rfl
  rw [e, v46 H]

theorem v58 (i : S2x8x2048x2048.Idx) : val_main_v58 (F := Ideal) x0 x1 x2 x3 i = ((DS A (i 0) (i 1) (i 2) (i 3) : ℝ) : EReal) := by
  rw [val_main_v58_apply, val_main_v57_apply, val_main_cst_13_apply, val_main_v56_apply, mask, val_main_call1_v0_apply, val_main_call1_cst_apply]
  show (Scalar.select _ _ (Ideal.ofBits .f32 0x00000000#32) : EReal) * Ideal.ofBits .f32 0x3D93CD3A#32 = _
  rw [Ideal.ofBits_zero_f32, scale_eq]
  by_cases h : (i 3).val ≤ (i 2).val
  · rw [if_pos h]
    show (val_main_v55 (F := Ideal) x0 x1 x2 x3 i : EReal) * _ = _
    rw [val_main_v55_apply, val_main_v54_apply, val_main_v53_apply, v52 H, val_main_v51_apply, v41 H, val_main_v50_apply, val_main_v32_apply, v31 H, v30 H]
    exact Row.grad (s A (i 0) (i 1) (i 2)) (dp A (i 0) (i 1) (i 2)) (sees (i 2)) (A.M (i 0) (i 1) (i 2)) scale (i 2) (le_refl (i 2).val) (i 3)
  · rw [if_neg h]
    show (0 : EReal) * _ = _
    rw [zero_mul]
    exact (congrArg (fun r : ℝ => (r : EReal)) (DS_hidden A (i 0) (i 1) (i 2) (i 3) h)).symm

theorem v62 (i : S2x2048x8x192.Idx) : val_main_v62 (F := Ideal) x0 x1 x2 x3 i
    = ((∑ k, DS A (i 0) (i 2) (i 1) k * A.K (i 0) k (i 2) (i 3) : ℝ) : EReal) := by
  rw [val_main_v62_apply, val_main_v61_apply, Row.coe_sum]
  refine Finset.sum_congr rfl fun k _ => ?_
  rw [v58 H, H.k, EReal.coe_mul]
  rfl

theorem v60 (i : S2x2048x8x192.Idx) : val_main_v60 (F := Ideal) x0 x1 x2 x3 i
    = ((∑ q, DS A (i 0) (i 2) q (i 1) * A.Q (i 0) q (i 2) (i 3) : ℝ) : EReal) := by
  rw [val_main_v60_apply, val_main_v59_apply, Row.coe_sum]
  refine Finset.sum_congr rfl fun q _ => ?_
  rw [v58 H, H.q, EReal.coe_mul]
  rfl

theorem v43 (i : S2x2048x8x128.Idx) : val_main_v43 (F := Ideal) x0 x1 x3 i = ((dv A (i 0) (i 1) (i 2) (i 3) : ℝ) : EReal) := by
  rw [val_main_v43_apply, val_main_v42_apply]
  unfold dv
  rw [Row.coe_sum]
  refine Finset.sum_congr rfl fun q _ => ?_
  rw [val_main_v40_apply, v34 H, H.c, EReal.coe_mul, mul_comm]
  rfl

omit H in
/-- Rows of 192 followed by 64 of the fill, at a column. -/
theorem pad_at (x : T192) (z : (⟨S_, .f32⟩ : BufTy).Contents (Elt Ideal)) (hz : ∀ i, z i = (0 : EReal)) (X : Fin 2 → Fin 2048 → Fin 8 → Fin 192 → ℝ)
    (hx : ∀ i : S2x2048x8x192.Idx, x i = ((X (i 0) (i 1) (i 2) (i 3) : ℝ) : EReal)) (i : S2x2048x8x256.Idx) :
    pad S2x2048x8x256 ![0, 0, 0, 0] ![0, 0, 0, 64] ![0, 0, 0, 0] x z pads_S2x2048x8x192_S2x2048x8x256_000_000_000_0640 h_S_ i
      = ((padded X (i 0) (i 1) (i 2) (i 3) : ℝ) : EReal) := by
  unfold padded
  by_cases h : (i 3).val < 192
  · rw [dif_pos h]
    have hin : ∀ a : Fin S2x2048x8x192.rank, (![0, 0, 0, 0] : Fin 4 → Nat) a ≤ (i (a.cast rfl)).val ∧ ((i (a.cast rfl)).val - (![0, 0, 0, 0] : Fin 4 → Nat) a) % ((![0, 0, 0, 0] : Fin 4 → Nat) a + 1) = 0
        ∧ ((i (a.cast rfl)).val - (![0, 0, 0, 0] : Fin 4 → Nat) a) / ((![0, 0, 0, 0] : Fin 4 → Nat) a + 1) < S2x2048x8x192.size a := by
      intro a
      match a with
      | ⟨0, _⟩ => exact ⟨Nat.zero_le _, Nat.mod_one _, by show ((i 0).val - 0) / (0 + 1) < 2; have : (i 0).val < 2 := (i 0).isLt; omega⟩
      | ⟨1, _⟩ => exact ⟨Nat.zero_le _, Nat.mod_one _, by show ((i 1).val - 0) / (0 + 1) < 2048; have : (i 1).val < 2048 := (i 1).isLt; omega⟩
      | ⟨2, _⟩ => exact ⟨Nat.zero_le _, Nat.mod_one _, by show ((i 2).val - 0) / (0 + 1) < 8; have : (i 2).val < 8 := (i 2).isLt; omega⟩
      | ⟨3, _⟩ => exact ⟨Nat.zero_le _, Nat.mod_one _, by show ((i 3).val - 0) / (0 + 1) < 192; omega⟩
    refine (dif_pos hin).trans ((hx _).trans ?_)
    have e : ∀ a : Fin 4, ∀ n : ℕ, (n - 0) / (0 + 1) = n := fun _ n => by omega
    congr 2
    all_goals exact Fin.ext (e 0 _)
  · rw [dif_neg h]
    refine (dif_neg fun hin => h ?_).trans (hz _)
    have := (hin 3).2.2
    have h3 : ((i 3).val - 0) / (0 + 1) < 192 := this
    omega

omit H in
theorem fill_zero (i : S_.Idx) : val_main_call2_v0 (F := Ideal) i = (0 : EReal) := by
  rw [val_main_call2_v0_apply, val_main_c_apply]
  show (((0#32 : BitVec 32).toInt : ℝ) : EReal) = 0
  simp
omit H in
theorem fill_zero' (i : S_.Idx) : val_main_call3_v0 (F := Ideal) i = (0 : EReal) := by
  rw [val_main_call3_v0_apply, val_main_c_14_apply]
  show (((0#32 : BitVec 32).toInt : ℝ) : EReal) = 0
  simp

theorem v65 (i : S4096x2048.Idx) : val_main_v65 (F := Ideal) x0 x1 x2 x3 i = ((dq A (bOf (i 0)) (pOf (i 0)) (hOf (i 1)) (dOf (i 1)) : ℝ) : EReal) := by
  rw [val_main_v65_apply, val_main_v64_apply]
  show val_main_v63 (F := Ideal) x0 x1 x2 x3 _ = _
  unfold val_main_v63
  rw [pad_at _ _ fill_zero (fun b q h d => ∑ k, DS A b h q k * A.K b k h d) (fun j => v62 H j)]
  have h0 : (i 0).val < 4096 := (i 0).isLt
  have h1 : (i 1).val < 2048 := (i 1).isLt
  have e : idx_main_v64 i = ix4 (bOf (i 0)) (pOf (i 0)) (hOf (i 1)) (dOf (i 1)) := by
    funext a
    match a with
    | ⟨0, _⟩ => apply Fin.ext; show ((i 0).val * 2048 + (i 1).val) / 4194304 = (i 0).val / 2048; omega
    | ⟨1, _⟩ => apply Fin.ext; show ((i 0).val * 2048 + (i 1).val) / 2048 % 2048 = (i 0).val % 2048; omega
    | ⟨2, _⟩ => apply Fin.ext; show ((i 0).val * 2048 + (i 1).val) / 256 % 8 = (i 1).val / 256; omega
    | ⟨3, _⟩ => apply Fin.ext; show ((i 0).val * 2048 + (i 1).val) % 256 = (i 1).val % 256; omega
  rw [e]
  congr 1
  unfold dq padded
  by_cases hd : (dOf (i 1)).val < 192
  · refine (dif_pos hd).trans ?_
    exact Finset.sum_congr rfl fun k _ => by rw [dif_pos hd]
  · refine (dif_neg hd).trans (Eq.symm (Finset.sum_eq_zero fun k _ => by rw [dif_neg hd, mul_zero]))

theorem v68 (i : S4096x2048.Idx) : val_main_v68 (F := Ideal) x0 x1 x2 x3 i = ((dk A (bOf (i 0)) (pOf (i 0)) (hOf (i 1)) (dOf (i 1)) : ℝ) : EReal) := by
  rw [val_main_v68_apply, val_main_v67_apply]
  show val_main_v66 (F := Ideal) x0 x1 x2 x3 _ = _
  unfold val_main_v66
  rw [pad_at _ _ fill_zero' (fun b k h d => ∑ q, DS A b h q k * A.Q b q h d) (fun j => v60 H j)]
  have h0 : (i 0).val < 4096 := (i 0).isLt
  have h1 : (i 1).val < 2048 := (i 1).isLt
  have e : idx_main_v67 i = ix4 (bOf (i 0)) (pOf (i 0)) (hOf (i 1)) (dOf (i 1)) := by
    funext a
    match a with
    | ⟨0, _⟩ => apply Fin.ext; show ((i 0).val * 2048 + (i 1).val) / 4194304 = (i 0).val / 2048; omega
    | ⟨1, _⟩ => apply Fin.ext; show ((i 0).val * 2048 + (i 1).val) / 2048 % 2048 = (i 0).val % 2048; omega
    | ⟨2, _⟩ => apply Fin.ext; show ((i 0).val * 2048 + (i 1).val) / 256 % 8 = (i 1).val / 256; omega
    | ⟨3, _⟩ => apply Fin.ext; show ((i 0).val * 2048 + (i 1).val) % 256 = (i 1).val % 256; omega
  rw [e]
  congr 1
  unfold dk padded
  by_cases hd : (dOf (i 1)).val < 192
  · refine (dif_pos hd).trans ?_
    exact Finset.sum_congr rfl fun k _ => by rw [dif_pos hd]
  · refine (dif_neg hd).trans (Eq.symm (Finset.sum_eq_zero fun k _ => by rw [dif_neg hd, mul_zero]))

theorem v70 (i : S4096x1024.Idx) : val_main_v70 (F := Ideal) x0 x1 x3 i = ((dv A (bOf (i 0)) (pOf (i 0)) (hOf' (i 1)) (dOf' (i 1)) : ℝ) : EReal) := by
  rw [val_main_v70_apply, val_main_v69_apply]
  show val_main_v43 (F := Ideal) x0 x1 x3 _ = _
  have h0 : (i 0).val < 4096 := (i 0).isLt
  have h1 : (i 1).val < 1024 := (i 1).isLt
  have e : idx_main_v69 i = ix4 (bOf (i 0)) (pOf (i 0)) (hOf' (i 1)) (dOf' (i 1)) := by
    funext a
    match a with
    | ⟨0, _⟩ => apply Fin.ext; show ((i 0).val * 1024 + (i 1).val) / 2097152 = (i 0).val / 2048; omega
    | ⟨1, _⟩ => apply Fin.ext; show ((i 0).val * 1024 + (i 1).val) / 1024 % 2048 = (i 0).val % 2048; omega
    | ⟨2, _⟩ => apply Fin.ext; show ((i 0).val * 1024 + (i 1).val) / 128 % 8 = (i 1).val / 128; omega
    | ⟨3, _⟩ => apply Fin.ext; show ((i 0).val * 1024 + (i 1).val) % 128 = (i 1).val % 128; omega
  rw [e, v43 H]

end
end Cert.ReferenceIdeal.V
end
-- ==== Proof.V.Host.lean ====
module

public import proofs.«01_k».proof.Proof.V.RefVal
public import proofs.«01_k».proof.Proof.Gen.KernelIdeal.Frame

@[expose] public section

set_option maxRecDepth 16384

noncomputable section

/-! The arrays the kernel's windows read, as functions of the four arguments. -/

namespace Cert.KernelIdeal.V

open Cert.KernelIdeal Cert.KernelIdeal.Gen Idealize.ShloMosaic Idealize.ShloMosaic.TcCoe Idealize.SL.Sem Idealize.ShloMosaic.StableHlo

abbrev T192 (F : FTy → Type) [FloatOps F] := (⟨S2x2048x8x192, .f32⟩ : BufTy).Contents (Elt F)
abbrev T128 (F : FTy → Type) [FloatOps F] := (⟨S2x2048x8x128, .f32⟩ : BufTy).Contents (Elt F)

variable {F : FTy → Type} [FloatOps F]

/-- The masked scores, as the reference writes them. -/
def hS (x0 x1 : T192 F) : (⟨S2x8x2048x2048, .f32⟩ : BufTy).Contents (Elt F) := Cert.ReferenceIdeal.Read.val_main_v9_0 (F := F) x0 x1
/-- Their row maxima. -/
def hM (x0 x1 : T192 F) : (⟨S2x8x2048, .f32⟩ : BufTy).Contents (Elt F) := Cert.ReferenceIdeal.Read.val_main_v10 (F := F) x0 x1
/-- A row's number at every column. -/
def spread (x : (⟨S2x8x2048, .f32⟩ : BufTy).Contents (Elt F)) : (⟨S2x8x2048x2048, .f32⟩ : BufTy).Contents (Elt F) :=
  broadcastInDim S2x8x2048x2048 ![0, 1, 2, 3] bcast_S2x8x2048x1_S2x8x2048x2048_0_1_2_3 (broadcastInDim S2x8x2048x1 ![0, 1, 2] bcast_S2x8x2048_S2x8x2048x1_0_1_2 x)
/-- The logarithm of each row's sum of exponentials. -/
def hLse (x0 x1 : T192 F) : (⟨S2x8x2048, .f32⟩ : BufTy).Contents (Elt F) :=
  addf (hM x0 x1) (Host.log (Host.reduceAdd (Host.exp (subf (hS x0 x1) (spread (hM x0 x1)))) (constant S_ .f32 0x00000000#32) reducesTo_S2x8x2048x2048_S2x8x2048_d3 h_S_))
/-- The output of the attention. -/
def hO (x0 x1 : T192 F) (x2 : T128 F) : (⟨S2x2048x8x128, .f32⟩ : BufTy).Contents (Elt F) :=
  transpose S2x2048x8x128 [0, 3, 1, 2] (Host.dotGeneral dot_S2x2048x8x128_S2x8x2048x2048_S2x8x128x2048_1_3_3_2_02_01 none x2
    (Host.exp (subf (hS x0 x1) (spread (hLse x0 x1)))) : (⟨S2x8x128x2048, .f32⟩ : BufTy).Contents (Elt F)) transposes_S2x8x128x2048_S2x2048x8x128_0_3_1_2
/-- The output times its gradient, summed over a head's columns. -/
def hD (x0 x1 : T192 F) (x2 x3 : T128 F) : (⟨S2x2048x8, .f32⟩ : BufTy).Contents (Elt F) :=
  Host.reduceAdd (mulf x3 (hO x0 x1 x2)) (constant S_ .f32 0x00000000#32) reducesTo_S2x2048x8x128_S2x2048x8_d3 h_S_

variable (m : (ℓ : Loc nD τ sig) → Buf (Elt F) ℓ) (c : Dev nD)

set_option maxHeartbeats 4000000 in
theorem V_v54 : V m c main_v54 = truncf .bf16 (shapeCast S4096x2048 (pad S2x2048x8x256 ![0, 0, 0, 0] ![0, 0, 0, 64] ![0, 0, 0, 0] (m (c, main_arg0) : T192 F)
    (sitofp .f32 (constantI S_ 32 0#32) : (⟨S_, .f32⟩ : BufTy).Contents (Elt F)) pads_S2x2048x8x192_S2x2048x8x256_000_000_000_0640 h_S_) shapeCasts_S2x2048x8x256_S4096x2048) bitsLt_bf16_f32 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v57 : V m c main_v57 = truncf .bf16 (shapeCast S4096x2048 (pad S2x2048x8x256 ![0, 0, 0, 0] ![0, 0, 0, 64] ![0, 0, 0, 0] (m (c, main_arg1) : T192 F)
    (sitofp .f32 (constantI S_ 32 0#32) : (⟨S_, .f32⟩ : BufTy).Contents (Elt F)) pads_S2x2048x8x192_S2x2048x8x256_000_000_000_0640 h_S_) shapeCasts_S2x2048x8x256_S4096x2048) bitsLt_bf16_f32 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v59 : V m c main_v59 = truncf .bf16 (shapeCast S4096x1024 (m (c, main_arg2) : T128 F) shapeCasts_S2x2048x8x128_S4096x1024) bitsLt_bf16_f32 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v61 : V m c main_v61 = truncf .bf16 (shapeCast S4096x1024 (m (c, main_arg3) : T128 F) shapeCasts_S2x2048x8x128_S4096x1024) bitsLt_bf16_f32 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v28 : V m c main_v28 = shapeCast S16x1x256 (shapeCast S2x2048 (extractStridedSlice S2x1x2048 ![0, 0, 0]
    (hLse (m (c, main_arg0)) (m (c, main_arg1))) slices_S2x8x2048_S2x1x2048_0_0_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v31 : V m c main_v31 = shapeCast S16x1x256 (shapeCast S2x2048 (extractStridedSlice S2x1x2048 ![0, 1, 0]
    (hLse (m (c, main_arg0)) (m (c, main_arg1))) slices_S2x8x2048_S2x1x2048_0_1_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v34 : V m c main_v34 = shapeCast S16x1x256 (shapeCast S2x2048 (extractStridedSlice S2x1x2048 ![0, 2, 0]
    (hLse (m (c, main_arg0)) (m (c, main_arg1))) slices_S2x8x2048_S2x1x2048_0_2_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v37 : V m c main_v37 = shapeCast S16x1x256 (shapeCast S2x2048 (extractStridedSlice S2x1x2048 ![0, 3, 0]
    (hLse (m (c, main_arg0)) (m (c, main_arg1))) slices_S2x8x2048_S2x1x2048_0_3_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v40 : V m c main_v40 = shapeCast S16x1x256 (shapeCast S2x2048 (extractStridedSlice S2x1x2048 ![0, 4, 0]
    (hLse (m (c, main_arg0)) (m (c, main_arg1))) slices_S2x8x2048_S2x1x2048_0_4_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v43 : V m c main_v43 = shapeCast S16x1x256 (shapeCast S2x2048 (extractStridedSlice S2x1x2048 ![0, 5, 0]
    (hLse (m (c, main_arg0)) (m (c, main_arg1))) slices_S2x8x2048_S2x1x2048_0_5_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v46 : V m c main_v46 = shapeCast S16x1x256 (shapeCast S2x2048 (extractStridedSlice S2x1x2048 ![0, 6, 0]
    (hLse (m (c, main_arg0)) (m (c, main_arg1))) slices_S2x8x2048_S2x1x2048_0_6_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v49 : V m c main_v49 = shapeCast S16x1x256 (shapeCast S2x2048 (extractStridedSlice S2x1x2048 ![0, 7, 0]
    (hLse (m (c, main_arg0)) (m (c, main_arg1))) slices_S2x8x2048_S2x1x2048_0_7_0) shapeCasts_S2x1x2048_S2x2048) shapeCasts_S2x2048_S16x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

set_option maxHeartbeats 4000000 in
theorem V_v51 : V m c main_v51 = shapeCast S128x1x256 (transpose S8x2x2048 [2, 0, 1] (hD (m (c, main_arg0)) (m (c, main_arg1)) (m (c, main_arg2)) (m (c, main_arg3)))
    transposes_S2x2048x8_S8x2x2048_2_0_1) shapeCasts_S8x2x2048_S128x1x256 := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp <;> rfl

end Cert.KernelIdeal.V
end
-- ==== Proof.V.HostVal.lean ====
module

public import proofs.«01_k».proof.Proof.V.Host

@[expose] public section

set_option maxRecDepth 16384

noncomputable section

/-! What the arrays the kernel's windows read hold when the arguments are real numbers. -/

namespace Cert.KernelIdeal.V

open Cert.KernelIdeal Cert.KernelIdeal.Gen Idealize.ShloMosaic Idealize.ShloMosaic.TcCoe Idealize.ShloMosaic.ValueIdx Idealize.SL.Sem Cert.Spec

section Pure
variable {A : Arg} {x0 x1 : T192 Ideal} {x2 x3 : T128 Ideal}

theorem spread_at (x : (⟨S2x8x2048, .f32⟩ : BufTy).Contents (Elt Ideal)) (i : S2x8x2048x2048.Idx) :
    spread x i = x (ix3 (i 0 : Fin 2) (i 1 : Fin 8) (i 2 : Fin 2048) : S2x8x2048.Idx) := by
  unfold spread
  refine (broadcastInDim_apply _ bcast_S2x8x2048x1_S2x8x2048x2048_0_1_2_3 _ i (ix4 (i 0 : Fin 2) (i 1 : Fin 8) (i 2 : Fin 2048) (0 : Fin 1) : S2x8x2048x1.Idx) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (2048 : Nat) = 1 then 0 else (i 2).val; rw [if_neg (by decide)]
    | ⟨3, _⟩ => by show 0 = if (1 : Nat) = 1 then 0 else (i 3).val; rw [if_pos rfl])).trans ?_
  exact broadcastInDim_apply _ bcast_S2x8x2048_S2x8x2048x1_0_1_2 x _ (ix3 (i 0 : Fin 2) (i 1 : Fin 8) (i 2 : Fin 2048) : S2x8x2048.Idx) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (2048 : Nat) = 1 then 0 else (i 2).val; rw [if_neg (by decide)])

variable (H : Cert.ReferenceIdeal.V.Args A x0 x1 x2 x3)
include H

/-- The exponentials less the row maximum are the reference's. -/
theorem hE_eq : (Host.exp (subf (hS x0 x1) (spread (hM x0 x1))) : FVec Ideal S2x8x2048x2048 .f32) = Cert.ReferenceIdeal.Read.val_main_v30 (F := Ideal) x0 x1 := by
  funext i
  rw [Cert.ReferenceIdeal.V.v30 H]
  show Ideal.exp (hS x0 x1 i - spread (hM x0 x1) i) = _
  rw [spread_at]
  unfold hS hM
  rw [Cert.ReferenceIdeal.V.v9 H.q H.k, H.m]
  exact Row.exp_sc _ _ _ _

omit H in
theorem e31 : (Host.reduceAdd (Cert.ReferenceIdeal.Read.val_main_v30 (F := Ideal) x0 x1) (constant S_ .f32 0x00000000#32) reducesTo_S2x8x2048x2048_S2x8x2048_d3 h_S_ : FVec Ideal S2x8x2048 .f32)
    = Cert.ReferenceIdeal.Read.val_main_v31 (F := Ideal) x0 x1 := by
  unfold Cert.ReferenceIdeal.Read.val_main_v31 Cert.ReferenceIdeal.Read.val_main_cst_9
  generalize Cert.ReferenceIdeal.Read.val_main_v30 (F := Ideal) x0 x1 = y
  rfl

omit H in
theorem addLog_at (z y : FVec Ideal S2x8x2048 .f32) (i : S2x8x2048.Idx) : (addf z (Host.log y) : FVec Ideal S2x8x2048 .f32) i = z i + Ideal.log (y i) := rfl

theorem hLse_eq : hLse x0 x1 = (addf (hM x0 x1) (Host.log (Cert.ReferenceIdeal.Read.val_main_v31 (F := Ideal) x0 x1)) : FVec Ideal S2x8x2048 .f32) := by
  unfold hLse
  exact congrArg (fun y : FVec Ideal S2x8x2048 .f32 => (addf (hM x0 x1) (Host.log y) : FVec Ideal S2x8x2048 .f32))
    ((congrArg (fun e : FVec Ideal S2x8x2048x2048 .f32 => (Host.reduceAdd e (constant S_ .f32 0x00000000#32) reducesTo_S2x8x2048x2048_S2x8x2048_d3 h_S_ : FVec Ideal S2x8x2048 .f32)) (hE_eq H)).trans e31)

theorem hLse_at (i : S2x8x2048.Idx) : hLse x0 x1 i = ((A.M (i 0) (i 1) (i 2) : ℝ) : EReal) + Ideal.log ((L A (i 0) (i 1) (i 2) : ℝ) : EReal) := by
  refine (congrFun (hLse_eq H) i).trans ((addLog_at _ _ i).trans ?_)
  exact congrArg₂ (fun a b : EReal => a + Ideal.log b) (H.m i) (Cert.ReferenceIdeal.V.v31 H i)

/-- The probabilities are the reference's. -/
theorem hP_eq : (Host.exp (subf (hS x0 x1) (spread (hLse x0 x1))) : FVec Ideal S2x8x2048x2048 .f32) = Cert.ReferenceIdeal.Read.val_main_v34 (F := Ideal) x0 x1 := by
  funext i
  rw [Cert.ReferenceIdeal.V.v34 H]
  show Ideal.exp (hS x0 x1 i - spread (hLse x0 x1) i) = _
  rw [spread_at, hLse_at H]
  unfold hS
  rw [Cert.ReferenceIdeal.V.v9 H.q H.k]
  exact Row.exp_lse' (s A (i 0) (i 1) (i 2)) (sees (i 2)) (A.M (i 0) (i 1) (i 2)) (i 2) (le_refl (i 2).val) (i 3)

theorem hO_eq : hO x0 x1 x2 = Cert.ReferenceIdeal.Read.val_main_v39 (F := Ideal) x0 x1 x2 := by
  unfold hO
  rw [hP_eq H]
  rfl

theorem hO_at (i : S2x2048x8x128.Idx) : hO x0 x1 x2 i = ((∑ k, A.V (i 0) k (i 2) (i 3) * P A (i 0) (i 2) (i 1) k : ℝ) : EReal) := by
  rw [hO_eq H, Cert.ReferenceIdeal.Read.val_main_v39_apply, Cert.ReferenceIdeal.Read.val_main_v38_apply, Row.coe_sum]
  refine Finset.sum_congr rfl fun k _ => ?_
  rw [Cert.ReferenceIdeal.V.v34 H, H.v, EReal.coe_mul]
  rfl

omit H in
theorem sum_last (y : FVec Ideal S2x2048x8x128 .f32) (i : S2x2048x8.Idx) :
    (Host.reduceAdd y (constant S_ .f32 0x00000000#32) reducesTo_S2x2048x8x128_S2x2048x8_d3 h_S_ : FVec Ideal S2x2048x8 .f32) i
      = ∑ d : Fin 128, y (ix4 (i 0 : Fin 2) (i 1 : Fin 2048) (i 2 : Fin 8) d : S2x2048x8x128.Idx) := by
  simp only [Host.reduceAdd, Ideal.hostReduceAdd_def]
  rw [Ideal.hostReduceAdd_single reducesTo_S2x2048x8x128_S2x2048x8_d3 (by decide)]
  refine Eq.trans (congrArg₂ (· + ·) (Ideal.ofBits_zero_f32 : Ideal.ofBits .f32 0x00000000#32 = 0) (Finset.sum_congr rfl fun (k : Fin 128) _ => ?_)) (zero_add _)
  exact congrArg y (funext fun a => Fin.ext (by match a with | ⟨0, _⟩ => rfl | ⟨1, _⟩ => rfl | ⟨2, _⟩ => rfl | ⟨3, _⟩ => rfl))

theorem hD_at (i : S2x2048x8.Idx) : hD x0 x1 x2 x3 i = ((D A (i 0) (i 2) (i 1) : ℝ) : EReal) := by
  have h := hO_at H
  unfold hD
  generalize hO x0 x1 x2 = y at *
  refine (sum_last _ i).trans ?_
  refine Eq.trans ?_ (congrArg (fun r : ℝ => (r : EReal)) (D_eq A (i 0) (i 2) (i 1)).symm)
  refine Eq.trans ?_ (Row.coe_sum _ _).symm
  refine Finset.sum_congr rfl fun d _ => ?_
  refine Eq.trans (congrArg₂ (· * ·) (H.c _) (h _)) (EReal.coe_mul _ _).symm

end Pure

variable (m : (ℓ : Loc nD τ sig) → Buf (Elt Ideal) ℓ) (c : Dev nD) {A : Arg}

/-- The launched arguments are the real numbers of `A`. -/
abbrev Good (A : Arg) : Prop := Cert.ReferenceIdeal.V.Args A (m (c, main_arg0)) (m (c, main_arg1)) (m (c, main_arg2)) (m (c, main_arg3))

theorem idx4_q (i : S4096x2048.Idx) : (S2x2048x8x256.rowMajor (ix4 (bOf (i 0)) (pOf (i 0)) (hOf (i 1)) (dOf (i 1)))).val = (S4096x2048.rowMajor i).val := by
  rewrite [Shape.rowMajor_val_four, Shape.rowMajor_val_two]
  have h0 : (i 0).val < 4096 := (i 0).isLt
  have h1 : (i 1).val < 2048 := (i 1).isLt
  show (((i 0).val / 2048 * 2048 + (i 0).val % 2048) * 8 + (i 1).val / 256) * 256 + (i 1).val % 256 = (i 0).val * 2048 + (i 1).val
  omega
theorem idx4_v (i : S4096x1024.Idx) : (S2x2048x8x128.rowMajor (ix4 (bOf (i 0)) (pOf (i 0)) (hOf' (i 1)) (dOf' (i 1)))).val = (S4096x1024.rowMajor i).val := by
  rewrite [Shape.rowMajor_val_four, Shape.rowMajor_val_two]
  have h0 : (i 0).val < 4096 := (i 0).isLt
  have h1 : (i 1).val < 1024 := (i 1).isLt
  show (((i 0).val / 2048 * 2048 + (i 0).val % 2048) * 8 + (i 1).val / 128) * 128 + (i 1).val % 128 = (i 0).val * 1024 + (i 1).val
  omega

theorem trunc_at {s : Shape} (x : FVec Ideal s .f32) (h : FTy.bf16.bits < FTy.f32.bits) (i : s.Idx) : (truncf .bf16 x h : FVec Ideal s .bf16) i = x i := rfl

theorem fill (i : S_.Idx) : (sitofp .f32 (constantI S_ 32 0#32) : FVec Ideal S_ .f32) i = (0 : EReal) := by
  show (((0#32 : BitVec 32).toInt : ℝ) : EReal) = 0
  simp

theorem arr_v54 (H : Good m c A) (i : S4096x2048.Idx) : V m c main_v54 i = ((padded A.Q (bOf (i 0)) (pOf (i 0)) (hOf (i 1)) (dOf (i 1)) : ℝ) : EReal) := by
  rw [V_v54]
  refine (trunc_at _ _ i).trans ((shapeCast_apply _ shapeCasts_S2x2048x8x256_S4096x2048 i _ (idx4_q i)).trans ?_)
  exact Cert.ReferenceIdeal.V.pad_at _ _ fill A.Q H.q _

theorem arr_v57 (H : Good m c A) (i : S4096x2048.Idx) : V m c main_v57 i = ((padded A.K (bOf (i 0)) (pOf (i 0)) (hOf (i 1)) (dOf (i 1)) : ℝ) : EReal) := by
  rw [V_v57]
  refine (trunc_at _ _ i).trans ((shapeCast_apply _ shapeCasts_S2x2048x8x256_S4096x2048 i _ (idx4_q i)).trans ?_)
  exact Cert.ReferenceIdeal.V.pad_at _ _ fill A.K H.k _

theorem arr_v59 (H : Good m c A) (i : S4096x1024.Idx) : V m c main_v59 i = ((A.V (bOf (i 0)) (pOf (i 0)) (hOf' (i 1)) (dOf' (i 1)) : ℝ) : EReal) := by
  rw [V_v59]
  refine (trunc_at _ _ i).trans ((shapeCast_apply _ shapeCasts_S2x2048x8x128_S4096x1024 i _ (idx4_v i)).trans ?_)
  exact H.v _

theorem arr_v61 (H : Good m c A) (i : S4096x1024.Idx) : V m c main_v61 i = ((A.C (bOf (i 0)) (pOf (i 0)) (hOf' (i 1)) (dOf' (i 1)) : ℝ) : EReal) := by
  rw [V_v61]
  refine (trunc_at _ _ i).trans ((shapeCast_apply _ shapeCasts_S2x2048x8x128_S4096x1024 i _ (idx4_v i)).trans ?_)
  exact H.c _

/-- The logarithm of a row's sum of exponentials, plus the row's maximum. -/
def lse (A : Arg) (b : Fin 2) (h : Fin 8) (q : Fin 2048) : EReal := ((A.M b h q : ℝ) : EReal) + Ideal.log ((L A b h q : ℝ) : EReal)

/-- The sequence and the position of an entry of a head's rows. -/
def bR (i : S16x1x256.Idx) : Fin 2 := ⟨(i 0).val / 8, by have h : (i 0).val < 16 := (i 0).isLt; omega⟩
def qR (i : S16x1x256.Idx) : Fin 2048 := ⟨(i 0).val % 8 * 256 + (i 2).val, by have h : (i 2).val < 256 := (i 2).isLt; omega⟩

theorem row_at (x : (⟨S2x8x2048, .f32⟩ : BufTy).Contents (Elt Ideal)) (h : Fin 8) (hs : S2x8x2048.Slices ![0, h.val, 0] S2x1x2048) (i : S16x1x256.Idx) :
    shapeCast S16x1x256 (shapeCast S2x2048 (extractStridedSlice S2x1x2048 ![0, h.val, 0] x hs) shapeCasts_S2x1x2048_S2x2048) shapeCasts_S2x2048_S16x1x256 i
      = x (ix3 (bR i) h (qR i) : S2x8x2048.Idx) := by
  have h0 : (i 0).val < 16 := (i 0).isLt
  have h1 : (i 1).val < 1 := (i 1).isLt
  have h2 : (i 2).val < 256 := (i 2).isLt
  refine (shapeCast_apply _ shapeCasts_S2x2048_S16x1x256 i (ix2 (bR i) (qR i) : S2x2048.Idx) ?_).trans ?_
  · rewrite [Shape.rowMajor_val_two, Shape.rowMajor_val_three]
    show (i 0).val / 8 * 2048 + ((i 0).val % 8 * 256 + (i 2).val) = ((i 0).val * 1 + (i 1).val) * 256 + (i 2).val
    omega
  refine (shapeCast_apply _ shapeCasts_S2x1x2048_S2x2048 _ (ix3 (bR i) (0 : Fin 1) (qR i) : S2x1x2048.Idx) ?_).trans ?_
  · rewrite [Shape.rowMajor_val_three, Shape.rowMajor_val_two]
    show ((bR i).val * 1 + 0) * 2048 + (qR i).val = (bR i).val * 2048 + (qR i).val
    omega
  exact extractStridedSlice_apply _ x hs _ (ix3 (bR i) h (qR i) : S2x8x2048.Idx) (fun a => match a with
    | ⟨0, _⟩ => by show (bR i).val = 0 + (bR i).val; omega
    | ⟨1, _⟩ => by show h.val = h.val + 0; omega
    | ⟨2, _⟩ => by show (qR i).val = 0 + (qR i).val; omega)

theorem arr_v28 (H : Good m c A) (i : S16x1x256.Idx) : V m c main_v28 i = lse A (bR i) 0 (qR i) := by
  rw [V_v28]
  exact (row_at _ 0 slices_S2x8x2048_S2x1x2048_0_0_0 i).trans (hLse_at H _)
theorem arr_v31 (H : Good m c A) (i : S16x1x256.Idx) : V m c main_v31 i = lse A (bR i) 1 (qR i) := by
  rw [V_v31]
  exact (row_at _ 1 slices_S2x8x2048_S2x1x2048_0_1_0 i).trans (hLse_at H _)
theorem arr_v34 (H : Good m c A) (i : S16x1x256.Idx) : V m c main_v34 i = lse A (bR i) 2 (qR i) := by
  rw [V_v34]
  exact (row_at _ 2 slices_S2x8x2048_S2x1x2048_0_2_0 i).trans (hLse_at H _)
theorem arr_v37 (H : Good m c A) (i : S16x1x256.Idx) : V m c main_v37 i = lse A (bR i) 3 (qR i) := by
  rw [V_v37]
  exact (row_at _ 3 slices_S2x8x2048_S2x1x2048_0_3_0 i).trans (hLse_at H _)
theorem arr_v40 (H : Good m c A) (i : S16x1x256.Idx) : V m c main_v40 i = lse A (bR i) 4 (qR i) := by
  rw [V_v40]
  exact (row_at _ 4 slices_S2x8x2048_S2x1x2048_0_4_0 i).trans (hLse_at H _)
theorem arr_v43 (H : Good m c A) (i : S16x1x256.Idx) : V m c main_v43 i = lse A (bR i) 5 (qR i) := by
  rw [V_v43]
  exact (row_at _ 5 slices_S2x8x2048_S2x1x2048_0_5_0 i).trans (hLse_at H _)
theorem arr_v46 (H : Good m c A) (i : S16x1x256.Idx) : V m c main_v46 i = lse A (bR i) 6 (qR i) := by
  rw [V_v46]
  exact (row_at _ 6 slices_S2x8x2048_S2x1x2048_0_6_0 i).trans (hLse_at H _)
theorem arr_v49 (H : Good m c A) (i : S16x1x256.Idx) : V m c main_v49 i = lse A (bR i) 7 (qR i) := by
  rw [V_v49]
  exact (row_at _ 7 slices_S2x8x2048_S2x1x2048_0_7_0 i).trans (hLse_at H _)

/-- The head, the sequence and the position of an entry of the rows of `delta`. -/
def hL (i : S128x1x256.Idx) : Fin 8 := ⟨(i 0).val / 16, by have h : (i 0).val < 128 := (i 0).isLt; omega⟩
def bL (i : S128x1x256.Idx) : Fin 2 := ⟨(i 0).val / 8 % 2, by omega⟩
def qL (i : S128x1x256.Idx) : Fin 2048 := ⟨(i 0).val % 8 * 256 + (i 2).val, by have h : (i 2).val < 256 := (i 2).isLt; omega⟩

theorem arr_v51 (H : Good m c A) (i : S128x1x256.Idx) : V m c main_v51 i = ((D A (bL i) (hL i) (qL i) : ℝ) : EReal) := by
  have h0 : (i 0).val < 128 := (i 0).isLt
  have h1 : (i 1).val < 1 := (i 1).isLt
  have h2 : (i 2).val < 256 := (i 2).isLt
  rw [V_v51]
  refine (shapeCast_apply _ shapeCasts_S8x2x2048_S128x1x256 i (ix3 (hL i) (bL i) (qL i) : S8x2x2048.Idx) ?_).trans ?_
  · rewrite [Shape.rowMajor_val_three, Shape.rowMajor_val_three]
    show ((i 0).val / 16 * 2 + (i 0).val / 8 % 2) * 2048 + ((i 0).val % 8 * 256 + (i 2).val) = ((i 0).val * 1 + (i 1).val) * 256 + (i 2).val
    omega
  refine (transpose_apply [2, 0, 1] _ transposes_S2x2048x8_S8x2x2048_2_0_1 _ (ix3 (bL i) (qL i) (hL i) : S2x2048x8.Idx) (fun b => match b with
    | ⟨0, _⟩ => rfl
    | ⟨1, _⟩ => rfl
    | ⟨2, _⟩ => rfl)).trans ?_
  exact hD_at H _

end Cert.KernelIdeal.V
end
-- ==== Proof.V.Dots.lean ====
module

public import proofs.«01_k».proof.Proof.V.Row
public import proofs.«01_k».proof.Proof.A.Pure

@[expose] public section

set_option maxRecDepth 16384

noncomputable section

/-! The kernel's five matrix products over the extended reals, an element at a time. -/

namespace Cert.KernelIdeal.V

open Cert.KernelIdeal Cert.KernelIdeal.Gen Cert.KernelIdeal.A Idealize.ShloMosaic Idealize.ShloMosaic.TcCoe Idealize.ShloMosaic.ValueIdx

theorem mm_st (l : FVec Ideal S256x256 .bf16) (r : FVec Ideal S256x256 .bf16) (i : S256x256.Idx) :
    matmul dot_S256x256_S256x256_S256x256_1_1_0_0_n_n none l r (constant S256x256 .f32 0x00000000#32) i = ∑ k : Fin 256, l (ix2 (i 0 : Fin 256) k : S256x256.Idx) * r (ix2 (i 1 : Fin 256) k : S256x256.Idx) := by
  refine (Ideal.matmul_constant_zero_apply dot_S256x256_S256x256_S256x256_1_1_0_0_n_n none l r i).trans ?_
  rw [← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  have el : dot_S256x256_S256x256_S256x256_1_1_0_0_n_n.lhsIdx i ((contrEquiv1 dot_S256x256_S256x256_S256x256_1_1_0_0_n_n 256 rfl rfl).symm k) = (ix2 (i 0 : Fin 256) k : S256x256.Idx) := funext fun a => Fin.ext (by
    match a with
    | ⟨0, _⟩ =>
      show (dot_S256x256_S256x256_S256x256_1_1_0_0_n_n.lhsIdx i _ 0).val = (i 0).val
      unfold DotDims.lhsIdx
      rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
      rfl
    | ⟨1, _⟩ => exact (dot_S256x256_S256x256_S256x256_1_1_0_0_n_n.lhsIdx_val_of_single rfl i _).trans hk)
  have er : dot_S256x256_S256x256_S256x256_1_1_0_0_n_n.rhsIdx i ((contrEquiv1 dot_S256x256_S256x256_S256x256_1_1_0_0_n_n 256 rfl rfl).symm k) = (ix2 (i 1 : Fin 256) k : S256x256.Idx) := funext fun a => Fin.ext (by
    match a with
    | ⟨0, _⟩ =>
      show (dot_S256x256_S256x256_S256x256_1_1_0_0_n_n.rhsIdx i _ 0).val = (i 1).val
      unfold DotDims.rhsIdx
      rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
      rfl
    | ⟨1, _⟩ => exact (dot_S256x256_S256x256_S256x256_1_1_0_0_n_n.rhsIdx_val_of_single rfl i _).trans hk)
  exact congrArg₂ (· * ·) (congrArg l el) (congrArg r er)

theorem mm_dpt (l : FVec Ideal S256x128 .bf16) (r : FVec Ideal S256x128 .bf16) (i : S256x256.Idx) :
    matmul dot_S256x128_S256x128_S256x256_1_1_0_0_n_n none l r (constant S256x256 .f32 0x00000000#32) i = ∑ k : Fin 128, l (ix2 (i 0 : Fin 256) k : S256x128.Idx) * r (ix2 (i 1 : Fin 256) k : S256x128.Idx) := by
  refine (Ideal.matmul_constant_zero_apply dot_S256x128_S256x128_S256x256_1_1_0_0_n_n none l r i).trans ?_
  rw [← Equiv.sum_comp (contrEquiv1 dot_S256x128_S256x128_S256x256_1_1_0_0_n_n 128 rfl rfl).symm]
  refine Finset.sum_congr rfl fun k _ => ?_
  have hk := contrEquiv1_symm_val dot_S256x128_S256x128_S256x256_1_1_0_0_n_n 128 rfl rfl k
  have el : dot_S256x128_S256x128_S256x256_1_1_0_0_n_n.lhsIdx i ((contrEquiv1 dot_S256x128_S256x128_S256x256_1_1_0_0_n_n 128 rfl rfl).symm k) = (ix2 (i 0 : Fin 256) k : S256x128.Idx) := funext fun a => Fin.ext (by
    match a with
    | ⟨0, _⟩ =>
      show (dot_S256x128_S256x128_S256x256_1_1_0_0_n_n.lhsIdx i _ 0).val = (i 0).val
      unfold DotDims.lhsIdx
      rw [dif_neg (show ¬(0 : Fin S256x128.rank) ∈ dot_S256x128_S256x128_S256x256_1_1_0_0_n_n.lhsBatch by decide), dif_pos (show (0 : Fin S256x128.rank) ∈ dot_S256x128_S256x128_S256x256_1_1_0_0_n_n.lhsNonContracting by decide)]
      rfl
    | ⟨1, _⟩ => exact (dot_S256x128_S256x128_S256x256_1_1_0_0_n_n.lhsIdx_val_of_single rfl i _).trans hk)
  have er : dot_S256x128_S256x128_S256x256_1_1_0_0_n_n.rhsIdx i ((contrEquiv1 dot_S256x128_S256x128_S256x256_1_1_0_0_n_n 128 rfl rfl).symm k) = (ix2 (i 1 : Fin 256) k : S256x128.Idx) := funext fun a => Fin.ext (by
    match a with
    | ⟨0, _⟩ =>
      show (dot_S256x128_S256x128_S256x256_1_1_0_0_n_n.rhsIdx i _ 0).val = (i 1).val
      unfold DotDims.rhsIdx
      rw [dif_neg (show ¬(0 : Fin S256x128.rank) ∈ dot_S256x128_S256x128_S256x256_1_1_0_0_n_n.rhsBatch by decide), dif_pos (show (0 : Fin S256x128.rank) ∈ dot_S256x128_S256x128_S256x256_1_1_0_0_n_n.rhsNonContracting by decide)]
      rfl
    | ⟨1, _⟩ => exact (dot_S256x128_S256x128_S256x256_1_1_0_0_n_n.rhsIdx_val_of_single rfl i _).trans hk)
  exact congrArg₂ (· * ·) (congrArg l el) (congrArg r er)

theorem mm_dv (l : FVec Ideal S256x256 .bf16) (r : FVec Ideal S256x128 .bf16) (i : S256x128.Idx) :
    matmul dot_S256x256_S256x128_S256x128_1_0_0_1_n_n none l r (constant S256x128 .f32 0x00000000#32) i = ∑ k : Fin 256, l (ix2 (i 0 : Fin 256) k : S256x256.Idx) * r (ix2 k (i 1 : Fin 128) : S256x128.Idx) := by
  refine (Ideal.matmul_constant_zero_apply dot_S256x256_S256x128_S256x128_1_0_0_1_n_n none l r i).trans ?_
  rw [← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx i ((contrEquiv1 dot_S256x256_S256x128_S256x128_1_0_0_1_n_n 256 rfl rfl).symm k) = (ix2 (i 0 : Fin 256) k : S256x256.Idx) := funext fun a => Fin.ext (by
    match a with
    | ⟨0, _⟩ =>
      show (dot_S256x256_S256x128_S256x128_1_0_0_1_n_n.lhsIdx i _ 0).val = (i 0).val
      unfold DotDims.lhsIdx
      rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
      rfl
    | ⟨1, _⟩ => exact (dot_S256x256_S256x128_S256x128_1_0_0_1_n_n.lhsIdx_val_of_single rfl i _).trans hk)
  have er : dot_S256x256_S256x128_S256x128_1_0_0_1_n_n.rhsIdx i ((contrEquiv1 dot_S256x256_S256x128_S256x128_1_0_0_1_n_n 256 rfl rfl).symm k) = (ix2 k (i 1 : Fin 128) : S256x128.Idx) := funext fun a => Fin.ext (by
    match a with
    | ⟨0, _⟩ => exact (dot_S256x256_S256x128_S256x128_1_0_0_1_n_n.rhsIdx_val_of_single rfl i _).trans hk
    | ⟨1, _⟩ =>
      show (dot_S256x256_S256x128_S256x128_1_0_0_1_n_n.rhsIdx i _ 1).val = (i 1).val
      unfold DotDims.rhsIdx
      rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
      rfl)
  exact congrArg₂ (· * ·) (congrArg l el) (congrArg r er)

theorem mm_dk (l : FVec Ideal S256x256 .bf16) (r : FVec Ideal S256x256 .bf16) (i : S256x256.Idx) :
    matmul dot_S256x256_S256x256_S256x256_1_0_0_1_n_n none l r (constant S256x256 .f32 0x00000000#32) i = ∑ k : Fin 256, l (ix2 (i 0 : Fin 256) k : S256x256.Idx) * r (ix2 k (i 1 : Fin 256) : S256x256.Idx) := by
  refine (Ideal.matmul_constant_zero_apply dot_S256x256_S256x256_S256x256_1_0_0_1_n_n none l r i).trans ?_
  rw [← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx i ((contrEquiv1 dot_S256x256_S256x256_S256x256_1_0_0_1_n_n 256 rfl rfl).symm k) = (ix2 (i 0 : Fin 256) k : S256x256.Idx) := funext fun a => Fin.ext (by
    match a with
    | ⟨0, _⟩ =>
      show (dot_S256x256_S256x256_S256x256_1_0_0_1_n_n.lhsIdx i _ 0).val = (i 0).val
      unfold DotDims.lhsIdx
      rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
      rfl
    | ⟨1, _⟩ => exact (dot_S256x256_S256x256_S256x256_1_0_0_1_n_n.lhsIdx_val_of_single rfl i _).trans hk)
  have er : dot_S256x256_S256x256_S256x256_1_0_0_1_n_n.rhsIdx i ((contrEquiv1 dot_S256x256_S256x256_S256x256_1_0_0_1_n_n 256 rfl rfl).symm k) = (ix2 k (i 1 : Fin 256) : S256x256.Idx) := funext fun a => Fin.ext (by
    match a with
    | ⟨0, _⟩ => exact (dot_S256x256_S256x256_S256x256_1_0_0_1_n_n.rhsIdx_val_of_single rfl i _).trans hk
    | ⟨1, _⟩ =>
      show (dot_S256x256_S256x256_S256x256_1_0_0_1_n_n.rhsIdx i _ 1).val = (i 1).val
      unfold DotDims.rhsIdx
      rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
      rfl)
  exact congrArg₂ (· * ·) (congrArg l el) (congrArg r er)

theorem mm_dq (l : FVec Ideal S256x256 .bf16) (r : FVec Ideal S256x256 .bf16) (i : S256x256.Idx) :
    matmul dot_S256x256_S256x256_S256x256_0_0_1_1_n_n none l r (constant S256x256 .f32 0x00000000#32) i = ∑ k : Fin 256, l (ix2 k (i 0 : Fin 256) : S256x256.Idx) * r (ix2 k (i 1 : Fin 256) : S256x256.Idx) := by
  refine (Ideal.matmul_constant_zero_apply dot_S256x256_S256x256_S256x256_0_0_1_1_n_n none l r i).trans ?_
  rw [← Equiv.sum_comp (contrEquiv1 dot_S256x256_S256x256_S256x256_0_0_1_1_n_n 256 rfl rfl).symm]
  refine Finset.sum_congr rfl fun k _ => ?_
  have hk := contrEquiv1_symm_val dot_S256x256_S256x256_S256x256_0_0_1_1_n_n 256 rfl rfl k
  have el : dot_S256x256_S256x256_S256x256_0_0_1_1_n_n.lhsIdx i ((contrEquiv1 dot_S256x256_S256x256_S256x256_0_0_1_1_n_n 256 rfl rfl).symm k) = (ix2 k (i 0 : Fin 256) : S256x256.Idx) := funext fun a => Fin.ext (by
    match a with
    | ⟨0, _⟩ => exact (dot_S256x256_S256x256_S256x256_0_0_1_1_n_n.lhsIdx_val_of_single rfl i _).trans hk
    | ⟨1, _⟩ =>
      show (dot_S256x256_S256x256_S256x256_0_0_1_1_n_n.lhsIdx i _ 1).val = (i 0).val
      unfold DotDims.lhsIdx
      rw [dif_neg (show ¬(1 : Fin S256x256.rank) ∈ dot_S256x256_S256x256_S256x256_0_0_1_1_n_n.lhsBatch by decide), dif_pos (show (1 : Fin S256x256.rank) ∈ dot_S256x256_S256x256_S256x256_0_0_1_1_n_n.lhsNonContracting by decide)]
      rfl)
  have er : dot_S256x256_S256x256_S256x256_0_0_1_1_n_n.rhsIdx i ((contrEquiv1 dot_S256x256_S256x256_S256x256_0_0_1_1_n_n 256 rfl rfl).symm k) = (ix2 k (i 1 : Fin 256) : S256x256.Idx) := funext fun a => Fin.ext (by
    match a with
    | ⟨0, _⟩ => exact (dot_S256x256_S256x256_S256x256_0_0_1_1_n_n.rhsIdx_val_of_single rfl i _).trans hk
    | ⟨1, _⟩ =>
      show (dot_S256x256_S256x256_S256x256_0_0_1_1_n_n.rhsIdx i _ 1).val = (i 1).val
      unfold DotDims.rhsIdx
      rw [dif_neg (show ¬(1 : Fin S256x256.rank) ∈ dot_S256x256_S256x256_S256x256_0_0_1_1_n_n.rhsBatch by decide), dif_pos (show (1 : Fin S256x256.rank) ∈ dot_S256x256_S256x256_S256x256_0_0_1_1_n_n.rhsNonContracting by decide)]
      rfl)
  exact congrArg₂ (· * ·) (congrArg l el) (congrArg r er)

end Cert.KernelIdeal.V
end
-- ==== Proof.V.Tile.lean ====
module

public import proofs.«01_k».proof.Proof.V.HostVal
public import proofs.«01_k».proof.Proof.V.Dots

@[expose] public section

set_option maxRecDepth 16384

noncomputable section

/-! A tile of the kernel's probabilities and score gradients is the attention's, when its blocks are the arguments'. -/

namespace Cert.KernelIdeal.V

open Cert.KernelIdeal Cert.KernelIdeal.Gen Cert.KernelIdeal.A Idealize.ShloMosaic Idealize.ShloMosaic.TcCoe Idealize.ShloMosaic.ValueIdx Cert.Spec

/-- Row `r` of block `n` of the positions. -/
def pos (n : Fin 8) (r : Fin 256) : Fin 2048 := ⟨256 * n.val + r.val, by omega⟩
/-- Head `t` of group `g`. -/
def hd (g : Fin 2) (t : Fin 4) : Fin 8 := ⟨4 * g.val + t.val, by omega⟩

/-- The blocks are those of sequence `bb`, head group `g` and key block `j`. -/
structure Holds (A : Arg) (bb g : Fin 2) (j : Fin 8) (b : Blks Ideal) : Prop where
  q : ∀ (n : Fin 8) (t : Fin 4) (x : S256x256.Idx), qT b.q n t x = ((padded A.Q bb (pos n (x 0)) (hd g t) (x 1) : ℝ) : EReal)
  k : ∀ (t : Fin 4) (x : S256x256.Idx), kT b.k t x = ((padded A.K bb (pos j (x 0)) (hd g t) (x 1) : ℝ) : EReal)
  v : ∀ (t : Fin 4) (x : S256x128.Idx), vT b.v t x = ((A.V bb (pos j (x 0)) (hd g t) (x 1) : ℝ) : EReal)
  d : ∀ (n : Fin 8) (t : Fin 4) (x : S256x128.Idx), dT b.d n t x = ((A.C bb (pos n (x 0)) (hd g t) (x 1) : ℝ) : EReal)
  hi : b.up = 1 → ∀ (n : Fin 8) (t : Fin 4) (x : S1x1x256.Idx), rT (b.hi t) n x = lse A bb (hd g t) (pos n (x 2))
  lo : ¬ b.up = 1 → ∀ (n : Fin 8) (t : Fin 4) (x : S1x1x256.Idx), rT (b.lo t) n x = lse A bb (hd g t) (pos n (x 2))
  dl : ∀ (n : Fin 8) (t : Fin 4) (x : S1x1x256.Idx), rT (b.dl t) n x = ((D A bb (hd g t) (pos n (x 2)) : ℝ) : EReal)

/-- The 64 columns of zeros add nothing. -/
theorem sum_padded (X Y : Fin 2 → Fin 2048 → Fin 8 → Fin 192 → ℝ) (b : Fin 2) (p r : Fin 2048) (h : Fin 8) :
    ∑ d, padded X b p h d * padded Y b r h d = ∑ d, X b p h d * Y b r h d := by
  refine (Fin.sum_univ_add (a := 192) (b := 64) _).trans ?_
  refine Eq.trans (congrArg₂ (· + ·) (Finset.sum_congr rfl fun d _ => ?_) (Finset.sum_eq_zero fun d _ => ?_)) (add_zero _)
  · unfold padded
    rw [dif_pos (show (Fin.castAdd 64 d).val < 192 from d.isLt), dif_pos (show (Fin.castAdd 64 d).val < 192 from d.isLt)]; rfl
  · unfold padded
    rw [dif_neg (show ¬ (Fin.natAdd 192 d).val < 192 by show ¬ 192 + d.val < 192; omega), zero_mul]

/-- A row spread over the tile's rows reads the row at the column. -/
theorem row_bcast (v : S1x256.Idx → EReal) (i : S256x256.Idx) :
    broadcastTo S256x256 v broadcasts_S1x256_S256x256 i = v (ix2 (0 : Fin 1) (i 1 : Fin 256) : S1x256.Idx) :=
  broadcastTo_apply v broadcasts_S1x256_S256x256 i _ (fun a => match a with
    | ⟨0, _⟩ => rfl
    | ⟨1, _⟩ => rfl)

theorem row_cast (v : S1x1x256.Idx → EReal) (c : Fin 256) :
    shapeCast S1x256 v shapeCasts_S1x1x256_S1x256 (ix2 (0 : Fin 1) c : S1x256.Idx) = v (ix3 (0 : Fin 1) (0 : Fin 1) c : S1x1x256.Idx) :=
  shapeCast_apply v shapeCasts_S1x1x256_S1x256 _ _ (by
    rewrite [Shape.rowMajor_val_two, Shape.rowMajor_val_three]
    show (0 * 1 + 0) * 256 + c.val = 0 * 256 + c.val
    omega)

theorem cmp_sle256 (a b : Fin 256) : IntOp.cmpi .sle (BitVec.ofNat 32 a.val) (BitVec.ofNat 32 b.val) = if a.val ≤ b.val then 1#1 else 0#1 :=
  Cert.ReferenceIdeal.V.cmp_sle ⟨a.val, by omega⟩ ⟨b.val, by omega⟩

theorem mask_at (p : FVec Ideal S256x256 .f32) (i : S256x256.Idx) : maskF p i = if (i 0).val ≤ (i 1).val then p i else 0 := by
  unfold maskF
  show Scalar.select (IntOp.cmpi .sle (iota .tc S256x256 32 [0] iota_S256x256_d0_w32 i) (iota .tc S256x256 32 [1] iota_S256x256_d1_w32 i)) (p i) (Ideal.ofBits .f32 0x00000000#32) = _
  rw [iota_single_apply, iota_single_apply, cmp_sle256 (i 0) (i 1), Ideal.ofBits_zero_f32]
  unfold Scalar.select
  by_cases h : (i 0).val ≤ (i 1).val
  · rw [if_pos h, if_pos h]; exact if_pos rfl
  · rw [if_neg h, if_neg h]; exact if_neg (by decide)

section
variable {A : Arg} {bb g : Fin 2} {j : Fin 8} {b : Blks Ideal} (H : Holds A bb g j b)
include H

theorem st_at (n : Fin 8) (t : Fin 4) (i : S256x256.Idx) :
    stF (kT b.k t) (qT b.q n t) i = ((∑ d, A.Q bb (pos n (i 1)) (hd g t) d * A.K bb (pos j (i 0)) (hd g t) d : ℝ) : EReal) := by
  unfold stF
  rw [shapeCast_self, shapeCast_self]
  refine (mm_st _ _ i).trans ?_
  rw [← sum_padded, Row.coe_sum]
  refine Finset.sum_congr rfl fun d _ => ?_
  rw [EReal.coe_mul, mul_comm]
  exact congrArg₂ (· * ·) (H.q n t _) (H.k t _)

theorem dpt_at (n : Fin 8) (t : Fin 4) (i : S256x256.Idx) :
    dptF (vT b.v t) (dT b.d n t) i = ((dp A bb (hd g t) (pos n (i 1)) (pos j (i 0)) : ℝ) : EReal) := by
  unfold dptF dp
  rw [shapeCast_self, shapeCast_self]
  refine (mm_dpt _ _ i).trans ?_
  rw [Row.coe_sum]
  refine Finset.sum_congr rfl fun d _ => ?_
  rw [EReal.coe_mul, mul_comm]
  exact congrArg₂ (· * ·) (H.d n t _) (H.v t _)

theorem lse_at (n : Fin 8) (t : Fin 4) (i : S256x256.Idx) :
    broadcastTo S256x256 (Scalar.select b.up (shapeCast S1x256 (rT (b.hi t) n) shapeCasts_S1x1x256_S1x256)
      (shapeCast S1x256 (rT (b.lo t) n) shapeCasts_S1x1x256_S1x256)) broadcasts_S1x256_S256x256 i = lse A bb (hd g t) (pos n (i 1)) := by
  refine (row_bcast _ i).trans ?_
  unfold Scalar.select
  by_cases h : b.up = 1
  · rw [if_pos h]; exact (row_cast _ _).trans (H.hi h n t _)
  · rw [if_neg h]; exact (row_cast _ _).trans (H.lo h n t _)

/-- An unmasked probability, where the query sees the key. -/
theorem pU_at (n : Fin 8) (t : Fin 4) (i : S256x256.Idx) (hs : (pos j (i 0)).val ≤ (pos n (i 1)).val) :
    pU b n t i = ((P A bb (hd g t) (pos n (i 1)) (pos j (i 0)) : ℝ) : EReal) := by
  unfold pU pF
  show Ideal.exp (stF (kT b.k t) (qT b.q n t) i * Ideal.ofBits .f32 0x3D93CD3A#32 - broadcastTo S256x256 _ broadcasts_S1x256_S256x256 i) = _
  rw [lse_at H, st_at H, scale_eq, ← EReal.coe_mul]
  exact Row.exp_lse (s A bb (hd g t) (pos n (i 1))) (sees (pos n (i 1))) (A.M bb (hd g t) (pos n (i 1))) (pos n (i 1)) (le_refl _) (pos j (i 0)) hs

/-- The probabilities of the block. -/
theorem pP_at (n : Fin 8) (hn : j.val ≤ n.val) (t : Fin 4) (i : S256x256.Idx) :
    pP b j.val n t i = ((P A bb (hd g t) (pos n (i 1)) (pos j (i 0)) : ℝ) : EReal) := by
  have h0 : (i 0).val < 256 := (i 0).isLt
  have h1 : (i 1).val < 256 := (i 1).isLt
  unfold pP
  by_cases h : n.val = j.val
  · rw [if_pos h, mask_at]
    by_cases h' : (i 0).val ≤ (i 1).val
    · rw [if_pos h']
      exact pU_at H n t i (by show 256 * j.val + (i 0).val ≤ 256 * n.val + (i 1).val; omega)
    · rw [if_neg h', P_hidden A bb (hd g t) (pos n (i 1)) (pos j (i 0)) (by show ¬ 256 * j.val + (i 0).val ≤ 256 * n.val + (i 1).val; omega)]; rfl
  · rw [if_neg h]
    exact pU_at H n t i (by show 256 * j.val + (i 0).val ≤ 256 * n.val + (i 1).val; omega)

/-- The score gradients of the block. -/
theorem dsP_at (n : Fin 8) (hn : j.val ≤ n.val) (t : Fin 4) (i : S256x256.Idx) :
    dsP b j.val n t i = ((DS A bb (hd g t) (pos n (i 1)) (pos j (i 0)) : ℝ) : EReal) := by
  unfold dsP dsF
  show pP b j.val n t i * (dptF (vT b.v t) (dT b.d n t) i - broadcastTo S256x256 (shapeCast S1x256 (rT (b.dl t) n) shapeCasts_S1x1x256_S1x256) broadcasts_S1x256_S256x256 i) * Ideal.ofBits .f32 0x3D93CD3A#32 = _
  rw [pP_at H n hn, dpt_at H, (row_bcast _ i).trans ((row_cast _ _).trans (H.dl n t _)), scale_eq]
  unfold DS
  rw [EReal.coe_mul, EReal.coe_mul, EReal.coe_sub]

end

end Cert.KernelIdeal.V
end
-- ==== Proof.V.Accum.lean ====
module

public import proofs.«01_k».proof.Proof.V.Tile
public import proofs.«01_k».proof.Proof.A.Zero

@[expose] public section

set_option maxRecDepth 16384

noncomputable section

/-! The kernel's sums over the blocks are the gradients. -/

namespace Cert.KernelIdeal.V

open Cert.KernelIdeal Cert.KernelIdeal.Gen Cert.KernelIdeal.A Idealize.ShloMosaic Idealize.ShloMosaic.TcCoe Idealize.ShloMosaic.ValueIdx Cert.Spec

/-- A sum over the positions, block by block. -/
theorem sum_pos (f : Fin 2048 → ℝ) : ∑ q, f q = ∑ n : Fin 8, ∑ r : Fin 256, f (pos n r) := by
  rw [← Fintype.sum_prod_type', ← Equiv.sum_comp (finProdFinEquiv (m := 8) (n := 256)) f]
  refine Finset.sum_congr rfl fun x _ => congrArg f (Fin.ext ?_)
  show x.2.val + 256 * x.1.val = 256 * x.1.val + x.2.val
  omega

/-- The sum of the first `m` blocks. -/
def upto (T : Fin 8 → ℝ) (m : ℕ) : ℝ := ∑ n ∈ Finset.range m, if h : n < 8 then T ⟨n, h⟩ else 0

theorem upto_succ (T : Fin 8 → ℝ) (m : ℕ) (h : m < 8) : upto T (m + 1) = upto T m + T ⟨m, h⟩ := by
  unfold upto; rw [Finset.sum_range_succ, dif_pos h]

theorem upto_all (T : Fin 8 → ℝ) : upto T 8 = ∑ n, T n := by
  unfold upto
  rw [Finset.sum_range]
  exact Finset.sum_congr rfl fun n _ => dif_pos n.isLt

theorem upto_zero (T : Fin 8 → ℝ) (m : ℕ) (h : ∀ n : Fin 8, n.val < m → T n = 0) : upto T m = 0 := by
  refine Finset.sum_eq_zero fun n hn => ?_
  by_cases h8 : n < 8
  · rw [dif_pos h8]; exact h ⟨n, h8⟩ (Finset.mem_range.1 hn)
  · rw [dif_neg h8]

section
variable (A : Arg) (bb g : Fin 2)

/-- What query block `n` adds to the gradient of `k`, `v`; and key block `k` to the gradient of `q`. -/
def tk (j : Fin 8) (t : Fin 4) (i : S256x256.Idx) (n : Fin 8) : ℝ :=
  ∑ r, DS A bb (hd g t) (pos n r) (pos j (i 0)) * padded A.Q bb (pos n r) (hd g t) (i 1)
def tv (j : Fin 8) (t : Fin 4) (i : S256x128.Idx) (n : Fin 8) : ℝ :=
  ∑ r, P A bb (hd g t) (pos n r) (pos j (i 0)) * A.C bb (pos n r) (hd g t) (i 1)
def tq (n : Fin 8) (t : Fin 4) (i : S256x256.Idx) (j : Fin 8) : ℝ :=
  ∑ r, DS A bb (hd g t) (pos n (i 0)) (pos j r) * padded A.K bb (pos j r) (hd g t) (i 1)

theorem tk_zero (j : Fin 8) (t : Fin 4) (i : S256x256.Idx) (n : Fin 8) (h : n.val < j.val) : tk A bb g j t i n = 0 :=
  Finset.sum_eq_zero fun r _ => by
    rw [DS_hidden A bb (hd g t) (pos n r) (pos j (i 0)) (by show ¬ 256 * j.val + (i 0).val ≤ 256 * n.val + r.val; omega), zero_mul]
theorem tv_zero (j : Fin 8) (t : Fin 4) (i : S256x128.Idx) (n : Fin 8) (h : n.val < j.val) : tv A bb g j t i n = 0 :=
  Finset.sum_eq_zero fun r _ => by
    rw [P_hidden A bb (hd g t) (pos n r) (pos j (i 0)) (by show ¬ 256 * j.val + (i 0).val ≤ 256 * n.val + r.val; omega), zero_mul]
theorem tq_zero (n : Fin 8) (t : Fin 4) (i : S256x256.Idx) (j : Fin 8) (h : n.val < j.val) : tq A bb g n t i j = 0 :=
  Finset.sum_eq_zero fun r _ => by
    have h0 : (i 0).val < 256 := (i 0).isLt
    rw [DS_hidden A bb (hd g t) (pos n (i 0)) (pos j r) (by show ¬ 256 * j.val + r.val ≤ 256 * n.val + (i 0).val; omega), zero_mul]

end

section
variable {A : Arg} {bb g : Fin 2} {j : Fin 8} {b : Blks Ideal} (H : Holds A bb g j b)
include H

theorem dkF_at (X : FVec Ideal S256x256 .f32) (n : Fin 8) (hn : j.val ≤ n.val) (t : Fin 4) (i : S256x256.Idx) :
    dkF X (dsP b j.val n t) (qT b.q n t) i = X i + ((tk A bb g j t i n : ℝ) : EReal) := by
  unfold dkF
  rw [shapeCast_self]
  refine congrArg (X i + ·) ((mm_dk _ _ i).trans ?_)
  unfold tk
  rw [Row.coe_sum]
  refine Finset.sum_congr rfl fun r _ => ?_
  rw [EReal.coe_mul]
  exact congrArg₂ (· * ·) (dsP_at H n hn t _) (H.q n t _)

theorem dvF_at (X : FVec Ideal S256x128 .f32) (n : Fin 8) (hn : j.val ≤ n.val) (t : Fin 4) (i : S256x128.Idx) :
    dvF X (pP b j.val n t) (dT b.d n t) i = X i + ((tv A bb g j t i n : ℝ) : EReal) := by
  unfold dvF
  rw [shapeCast_self]
  refine congrArg (X i + ·) ((mm_dv _ _ i).trans ?_)
  unfold tv
  rw [Row.coe_sum]
  refine Finset.sum_congr rfl fun r _ => ?_
  rw [EReal.coe_mul]
  exact congrArg₂ (· * ·) (pP_at H n hn t _) (H.d n t _)

theorem dqF_at (X : FVec Ideal S256x256 .f32) (n : Fin 8) (hn : j.val ≤ n.val) (t : Fin 4) (i : S256x256.Idx) :
    dqF X (dsP b j.val n t) (kT b.k t) i = X i + ((tq A bb g n t i j : ℝ) : EReal) := by
  unfold dqF
  rw [shapeCast_self, shapeCast_self]
  refine congrArg (X i + ·) ((mm_dq _ _ i).trans ?_)
  unfold tq
  rw [Row.coe_sum]
  refine Finset.sum_congr rfl fun r _ => ?_
  rw [EReal.coe_mul]
  exact congrArg₂ (· * ·) (dsP_at H n hn t _) (H.k t _)

theorem dkA_at (t : Fin 4) (i : S256x256.Idx) (m : ℕ) (hm : j.val + m ≤ 8) :
    dkA b j.val t m i = ((upto (tk A bb g j t i) (j.val + m) : ℝ) : EReal) := by
  induction m with
  | zero =>
    rw [Nat.add_zero, upto_zero _ _ fun n hn => tk_zero A bb g j t i n hn]
    exact Ideal.ofBits_zero_f32
  | succ m ih =>
    rw [dkA, dif_pos (show j.val + m < 8 by omega), dkF_at H _ _ (by show j.val ≤ j.val + m; omega), ih (by omega), ← EReal.coe_add,
      ← upto_succ _ _ (show j.val + m < 8 by omega)]
    rfl

theorem dvA_at (t : Fin 4) (i : S256x128.Idx) (m : ℕ) (hm : j.val + m ≤ 8) :
    dvA b j.val t m i = ((upto (tv A bb g j t i) (j.val + m) : ℝ) : EReal) := by
  induction m with
  | zero =>
    rw [Nat.add_zero, upto_zero _ _ fun n hn => tv_zero A bb g j t i n hn]
    exact Ideal.ofBits_zero_f32
  | succ m ih =>
    rw [dvA, dif_pos (show j.val + m < 8 by omega), dvF_at H _ _ (by show j.val ≤ j.val + m; omega), ih (by omega), ← EReal.coe_add,
      ← upto_succ _ _ (show j.val + m < 8 by omega)]
    rfl

/-- The block's gradient of `k`. -/
theorem dkO_at (x : S256x1024.Idx) :
    dkO b j.val x = ((dk A bb (pos j (locK x 0)) (hd g (colK x)) (locK x 1) : ℝ) : EReal) := by
  refine (dkA_at H (colK x) (locK x) (8 - j.val) (by omega)).trans ?_
  rw [show j.val + (8 - j.val) = 8 by omega, upto_all]
  unfold dk
  rw [sum_pos]; rfl

/-- The block's gradient of `v`. -/
theorem dvO_at (x : S256x512.Idx) :
    dvO b j.val x = ((dv A bb (pos j (locV x 0)) (hd g (colV x)) (locV x 1) : ℝ) : EReal) := by
  refine (dvA_at H (colV x) (locV x) (8 - j.val) (by omega)).trans ?_
  rw [show j.val + (8 - j.val) = 8 by omega, upto_all]
  unfold dv
  rw [sum_pos]; rfl

/-- The gradient of `q` after one more key block. -/
theorem scratch_at (G : Vec Ideal S2048x1024 .f32)
    (hG : j.val ≠ 0 → ∀ x : S2048x1024.Idx, G x = ((upto (tq A bb g (rowB x) (colB x) (locB x)) j.val : ℝ) : EReal)) (x : S2048x1024.Idx) :
    scratchOut b j.val G x = ((upto (tq A bb g (rowB x) (colB x) (locB x)) (j.val + 1) : ℝ) : EReal) := by
  have hin : ∀ x : S2048x1024.Idx, scratchIn j.val G x = ((upto (tq A bb g (rowB x) (colB x) (locB x)) j.val : ℝ) : EReal) := by
    intro x
    unfold scratchIn
    by_cases h : j.val = 0
    · rw [if_pos h, h]
      exact Ideal.ofBits_zero_f32
    · rw [if_neg h]; exact hG h x
  unfold scratchOut scA
  rw [upto_succ _ _ j.isLt]
  have h8 := (rowB x).isLt
  by_cases h : j.val ≤ (rowB x).val
  · rw [if_pos ⟨h, by omega⟩, dqF_at H _ _ h, EReal.coe_add, ← hin x]
    refine congrArg (· + _) ?_
    exact congrArg (scratchIn j.val G) (emb_locB x)
  · rw [if_neg (fun h' => h h'.1), tq_zero A bb g _ _ _ ⟨j.val, j.isLt⟩ (by show (rowB x).val < j.val; omega), add_zero]
    exact hin x

end

/-- All eight key blocks make the gradient of `q`. -/
theorem tq_all (A : Arg) (bb g : Fin 2) (x : S2048x1024.Idx) :
    upto (tq A bb g (rowB x) (colB x) (locB x)) 8 = dq A bb (pos (rowB x) (locB x 0)) (hd g (colB x)) (locB x 1) := by
  rw [upto_all]
  unfold dq
  rw [sum_pos]; rfl

end Cert.KernelIdeal.V
end
-- ==== Proof.V.Blocks.lean ====
module

public import proofs.«01_k».proof.Proof.V.Accum
public import proofs.«01_k».proof.Proof.A.Run

@[expose] public section

set_option maxRecDepth 16384

noncomputable section

/-! The blocks a grid point reads are those of its sequence, head group and key block. -/

namespace Cert.KernelIdeal.V

open Cert.KernelIdeal Cert.KernelIdeal.Gen Cert.KernelIdeal.A Idealize.ShloMosaic Idealize.ShloMosaic.TcCoe Idealize.ShloMosaic.ValueIdx Idealize.SL.Sem Cert.Spec

/-- A point's sequence, head group and key block. -/
def bT (t : Fin cfg0.N) : Fin 2 := ⟨t.val / 16, by have h : t.val < 32 := t.isLt; omega⟩
def gT (t : Fin cfg0.N) : Fin 2 := ⟨t.val / 8 % 2, by omega⟩
def jT (t : Fin cfg0.N) : Fin 8 := ⟨t.val % 8, by omega⟩

theorem idx0 : ∀ t : Fin cfg0.N, win0_0.index t (0 : Fin 2) = t.val / 16 ∧ win0_0.index t (1 : Fin 2) = t.val / 8 % 2 :=
  (by decide +kernel : ∀ t : Fin grid0.N, _)
theorem idx1 : ∀ t : Fin cfg0.N, win0_1.index t (0 : Fin 2) = t.val / 16 * 8 + t.val % 8 ∧ win0_1.index t (1 : Fin 2) = t.val / 8 % 2 :=
  (by decide +kernel : ∀ t : Fin grid0.N, _)
theorem idx2 : ∀ t : Fin cfg0.N, win0_2.index t (0 : Fin 2) = t.val / 16 * 8 + t.val % 8 ∧ win0_2.index t (1 : Fin 2) = t.val / 8 % 2 :=
  (by decide +kernel : ∀ t : Fin grid0.N, _)
theorem idx3 : ∀ t : Fin cfg0.N, win0_3.index t (0 : Fin 2) = t.val / 16 ∧ win0_3.index t (1 : Fin 2) = t.val / 8 % 2 :=
  (by decide +kernel : ∀ t : Fin grid0.N, _)
theorem idx16 : ∀ t : Fin cfg0.N, win0_16.index t (0 : Fin 2) = t.val / 16 ∧ win0_16.index t (1 : Fin 2) = t.val / 8 % 2 :=
  (by decide +kernel : ∀ t : Fin grid0.N, _)
theorem idx17 : ∀ t : Fin cfg0.N, win0_17.index t (0 : Fin 2) = t.val / 16 * 8 + t.val % 8 ∧ win0_17.index t (1 : Fin 2) = t.val / 8 % 2 :=
  (by decide +kernel : ∀ t : Fin grid0.N, _)
theorem idx18 : ∀ t : Fin cfg0.N, win0_18.index t (0 : Fin 2) = t.val / 16 * 8 + t.val % 8 ∧ win0_18.index t (1 : Fin 2) = t.val / 8 % 2 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 16 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 16 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 16 ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val / 16 ∧ win0_9.index t (1 : Fin 3) = 0 ∧ win0_9.index t (2 : Fin 3) = 0 :=
  (by decide +kernel : ∀ t : Fin grid0.N, _)
theorem idx10 : ∀ t : Fin cfg0.N, win0_10.index t (0 : Fin 3) = t.val / 16 ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.val / 16 ∧ win0_11.index t (1 : Fin 3) = 0 ∧ win0_11.index t (2 : Fin 3) = 0 :=
  (by decide +kernel : ∀ t : Fin grid0.N, _)
theorem idx12 : ∀ t : Fin cfg0.N, win0_12.index t (0 : Fin 3) = (t.val / 8 % 2 * 4 + 0) * 2 + t.val / 16 ∧ win0_12.index t (1 : Fin 3) = 0 ∧ win0_12.index t (2 : Fin 3) = 0 :=
  (by decide +kernel : ∀ t : Fin grid0.N, _)
theorem idx13 : ∀ t : Fin cfg0.N, win0_13.index t (0 : Fin 3) = (t.val / 8 % 2 * 4 + 1) * 2 + t.val / 16 ∧ win0_13.index t (1 : Fin 3) = 0 ∧ win0_13.index t (2 : Fin 3) = 0 :=
  (by decide +kernel : ∀ t : Fin grid0.N, _)
theorem idx14 : ∀ t : Fin cfg0.N, win0_14.index t (0 : Fin 3) = (t.val / 8 % 2 * 4 + 2) * 2 + t.val / 16 ∧ win0_14.index t (1 : Fin 3) = 0 ∧ win0_14.index t (2 : Fin 3) = 0 :=
  (by decide +kernel : ∀ t : Fin grid0.N, _)
theorem idx15 : ∀ t : Fin cfg0.N, win0_15.index t (0 : Fin 3) = (t.val / 8 % 2 * 4 + 3) * 2 + t.val / 16 ∧ win0_15.index t (1 : Fin 3) = 0 ∧ win0_15.index t (2 : Fin 3) = 0 :=
  (by decide +kernel : ∀ t : Fin grid0.N, _)
theorem up_at : ∀ t : Fin cfg0.N, (Scalar.cmpi .eq (BitVec.ofNat 32 (grid0.coords t 1).val) 1#32 : BitVec 1) = if t.val / 8 % 2 = 1 then 1 else 0 :=
  (by decide +kernel : ∀ t : Fin grid0.N, _)

/-! An index by its place in its row of blocks. -/

theorem at256 (f : Fin 2 → Fin 2048 → Fin 8 → Fin 256 → ℝ) (i : S4096x2048.Idx) (b : Fin 2) (p : Fin 2048) (h : Fin 8) (d : Fin 256)
    (h0 : (i 0).val = 2048 * b.val + p.val) (h1 : (i 1).val = 256 * h.val + d.val) : f (bOf (i 0)) (pOf (i 0)) (hOf (i 1)) (dOf (i 1)) = f b p h d := by
  have e0 : bOf (i 0) = b := Fin.ext (show (i 0).val / 2048 = b.val by omega)
  have e1 : pOf (i 0) = p := Fin.ext (show (i 0).val % 2048 = p.val by omega)
  have e2 : hOf (i 1) = h := Fin.ext (show (i 1).val / 256 = h.val by omega)
  have e3 : dOf (i 1) = d := Fin.ext (show (i 1).val % 256 = d.val by omega)
  exact congr (congr (congr (congrArg f e0) e1) e2) e3

theorem at128 (f : Fin 2 → Fin 2048 → Fin 8 → Fin 128 → ℝ) (i : S4096x1024.Idx) (b : Fin 2) (p : Fin 2048) (h : Fin 8) (d : Fin 128)
    (h0 : (i 0).val = 2048 * b.val + p.val) (h1 : (i 1).val = 128 * h.val + d.val) : f (bOf (i 0)) (pOf (i 0)) (hOf' (i 1)) (dOf' (i 1)) = f b p h d := by
  have e0 : bOf (i 0) = b := Fin.ext (show (i 0).val / 2048 = b.val by omega)
  have e1 : pOf (i 0) = p := Fin.ext (show (i 0).val % 2048 = p.val by omega)
  have e2 : hOf' (i 1) = h := Fin.ext (show (i 1).val / 128 = h.val by omega)
  have e3 : dOf' (i 1) = d := Fin.ext (show (i 1).val % 128 = d.val by omega)
  exact congr (congr (congr (congrArg f e0) e1) e2) e3

theorem atR (A : Arg) (h : Fin 8) (i : S16x1x256.Idx) (b : Fin 2) (n : Fin 8) (r : Fin 256)
    (h0 : (i 0).val = 8 * b.val + n.val) (h2 : (i 2).val = r.val) : lse A (bR i) h (qR i) = lse A b h (pos n r) := by
  have e0 : bR i = b := Fin.ext (show (i 0).val / 8 = b.val by omega)
  have e1 : qR i = pos n r := Fin.ext (show (i 0).val % 8 * 256 + (i 2).val = 256 * n.val + r.val by omega)
  rw [e0, e1]

theorem atL (A : Arg) (h : Fin 8) (i : S128x1x256.Idx) (b : Fin 2) (n : Fin 8) (r : Fin 256)
    (h0 : (i 0).val = (h.val * 2 + b.val) * 8 + n.val) (h2 : (i 2).val = r.val) : D A (bL i) (hL i) (qL i) = D A b h (pos n r) := by
  have e0 : bL i = b := Fin.ext (show (i 0).val / 8 % 2 = b.val by omega)
  have e2 : hL i = h := Fin.ext (show (i 0).val / 16 = h.val by omega)
  have e1 : qL i = pos n r := Fin.ext (show (i 0).val % 8 * 256 + (i 2).val = 256 * n.val + r.val by omega)
  rw [e0, e1, e2]

variable {m : (ℓ : Loc nD τ sig) → Buf (Elt Ideal) ℓ} {c : Dev nD} {A : Arg} (H : Good m c A)
include H

theorem q_tile (t : Fin cfg0.N) (n : Fin 8) (u : Fin 4) (x : S256x256.Idx) :
    qT (iblk m c 0 t : Vec Ideal S2048x1024 .bf16) n u x = ((padded A.Q (bT t) (pos n (x 0)) (hd (gT t) u) (x 1) : ℝ) : EReal) := by
  obtain ⟨a0, a1⟩ := idx0 t
  refine (arr_v54 m c H (((cfg0.win 0).blk t).view.emb ((rQ n u).emb x))).trans (congrArg _ (at256 _ _ _ _ _ _ ?_ ?_))
  · show win0_0.index t (0 : Fin 2) * 2048 + 1 * (256 * n.val + 1 * (x 0).val) = 2048 * (t.val / 16) + (256 * n.val + (x 0).val)
    omega
  · show win0_0.index t (1 : Fin 2) * 1024 + 1 * (256 * u.val + 1 * (x 1).val) = 256 * (4 * (t.val / 8 % 2) + u.val) + (x 1).val
    omega

theorem k_tile (t : Fin cfg0.N) (u : Fin 4) (x : S256x256.Idx) :
    kT (iblk m c 1 t : Vec Ideal S256x1024 .bf16) u x = ((padded A.K (bT t) (pos (jT t) (x 0)) (hd (gT t) u) (x 1) : ℝ) : EReal) := by
  obtain ⟨a0, a1⟩ := idx1 t
  refine (arr_v57 m c H (((cfg0.win 1).blk t).view.emb ((rK u).emb x))).trans (congrArg _ (at256 _ _ _ _ _ _ ?_ ?_))
  · show win0_1.index t (0 : Fin 2) * 256 + 1 * (0 + 1 * (x 0).val) = 2048 * (t.val / 16) + (256 * (t.val % 8) + (x 0).val)
    omega
  · show win0_1.index t (1 : Fin 2) * 1024 + 1 * (256 * u.val + 1 * (x 1).val) = 256 * (4 * (t.val / 8 % 2) + u.val) + (x 1).val
    omega

theorem v_tile (t : Fin cfg0.N) (u : Fin 4) (x : S256x128.Idx) :
    vT (iblk m c 2 t : Vec Ideal S256x512 .bf16) u x = ((A.V (bT t) (pos (jT t) (x 0)) (hd (gT t) u) (x 1) : ℝ) : EReal) := by
  obtain ⟨a0, a1⟩ := idx2 t
  refine (arr_v59 m c H (((cfg0.win 2).blk t).view.emb ((rV u).emb x))).trans (congrArg _ (at128 _ _ _ _ _ _ ?_ ?_))
  · show win0_2.index t (0 : Fin 2) * 256 + 1 * (0 + 1 * (x 0).val) = 2048 * (t.val / 16) + (256 * (t.val % 8) + (x 0).val)
    omega
  · show win0_2.index t (1 : Fin 2) * 512 + 1 * (128 * u.val + 1 * (x 1).val) = 128 * (4 * (t.val / 8 % 2) + u.val) + (x 1).val
    omega

theorem d_tile (t : Fin cfg0.N) (n : Fin 8) (u : Fin 4) (x : S256x128.Idx) :
    dT (iblk m c 3 t : Vec Ideal S2048x512 .bf16) n u x = ((A.C (bT t) (pos n (x 0)) (hd (gT t) u) (x 1) : ℝ) : EReal) := by
  obtain ⟨a0, a1⟩ := idx3 t
  refine (arr_v61 m c H (((cfg0.win 3).blk t).view.emb ((rD n u).emb x))).trans (congrArg _ (at128 _ _ _ _ _ _ ?_ ?_))
  · show win0_3.index t (0 : Fin 2) * 2048 + 1 * (256 * n.val + 1 * (x 0).val) = 2048 * (t.val / 16) + (256 * n.val + (x 0).val)
    omega
  · show win0_3.index t (1 : Fin 2) * 512 + 1 * (128 * u.val + 1 * (x 1).val) = 128 * (4 * (t.val / 8 % 2) + u.val) + (x 1).val
    omega

omit H in
theorem read4 (f : S16x1x256.Idx → EReal) (hf : V m c (Pipeline.arrRef spec0 4) = f) (t : Fin cfg0.N) : iblk m c 4 t = ((cfg0.win 4).blk t).view.read (Elt Ideal) f := by
  unfold iblk; exact congrArg _ hf
omit H in
theorem entry4 (f : S16x1x256.Idx → EReal) (t : Fin cfg0.N) (y : S8x1x256.Idx) :
    (((cfg0.win 4).blk t).view.read (Elt Ideal) f : Vec Ideal S8x1x256 .f32) y = f (((cfg0.win 4).blk t).view.emb y) := rfl
theorem row4 (t : Fin cfg0.N) (n : Fin 8) (x : S1x1x256.Idx) : rT (iblk m c 4 t : Vec Ideal S8x1x256 .f32) n x = lse A (bT t) 0 (pos n (x 2)) := by
  obtain ⟨a0, a1, a2⟩ := idx4 t
  have hx : (x 0).val < 1 := (x 0).isLt
  have e : V m c (Pipeline.arrRef spec0 4) = (fun i : S16x1x256.Idx => lse A (bR i) 0 (qR i)) := funext fun i => arr_v28 m c H i
  refine (congrFun (read4 _ e t) ((rR n).emb x)).trans ((entry4 _ t _).trans (atR A _ _ _ _ _ ?_ ?_))
  · show win0_4.index t (0 : Fin 3) * 8 + 1 * (n.val + 1 * (x 0).val) = 8 * (t.val / 16) + n.val
    omega
  · show win0_4.index t (2 : Fin 3) * 256 + 1 * (0 + 1 * (x 2).val) = (x 2).val
    omega
omit H in
theorem read5 (f : S16x1x256.Idx → EReal) (hf : V m c (Pipeline.arrRef spec0 5) = f) (t : Fin cfg0.N) : iblk m c 5 t = ((cfg0.win 5).blk t).view.read (Elt Ideal) f := by
  unfold iblk; exact congrArg _ hf
omit H in
theorem entry5 (f : S16x1x256.Idx → EReal) (t : Fin cfg0.N) (y : S8x1x256.Idx) :
    (((cfg0.win 5).blk t).view.read (Elt Ideal) f : Vec Ideal S8x1x256 .f32) y = f (((cfg0.win 5).blk t).view.emb y) := rfl
theorem row5 (t : Fin cfg0.N) (n : Fin 8) (x : S1x1x256.Idx) : rT (iblk m c 5 t : Vec Ideal S8x1x256 .f32) n x = lse A (bT t) 1 (pos n (x 2)) := by
  obtain ⟨a0, a1, a2⟩ := idx5 t
  have hx : (x 0).val < 1 := (x 0).isLt
  have e : V m c (Pipeline.arrRef spec0 5) = (fun i : S16x1x256.Idx => lse A (bR i) 1 (qR i)) := funext fun i => arr_v31 m c H i
  refine (congrFun (read5 _ e t) ((rR n).emb x)).trans ((entry5 _ t _).trans (atR A _ _ _ _ _ ?_ ?_))
  · show win0_5.index t (0 : Fin 3) * 8 + 1 * (n.val + 1 * (x 0).val) = 8 * (t.val / 16) + n.val
    omega
  · show win0_5.index t (2 : Fin 3) * 256 + 1 * (0 + 1 * (x 2).val) = (x 2).val
    omega
omit H in
theorem read6 (f : S16x1x256.Idx → EReal) (hf : V m c (Pipeline.arrRef spec0 6) = f) (t : Fin cfg0.N) : iblk m c 6 t = ((cfg0.win 6).blk t).view.read (Elt Ideal) f := by
  unfold iblk; exact congrArg _ hf
omit H in
theorem entry6 (f : S16x1x256.Idx → EReal) (t : Fin cfg0.N) (y : S8x1x256.Idx) :
    (((cfg0.win 6).blk t).view.read (Elt Ideal) f : Vec Ideal S8x1x256 .f32) y = f (((cfg0.win 6).blk t).view.emb y) := rfl
theorem row6 (t : Fin cfg0.N) (n : Fin 8) (x : S1x1x256.Idx) : rT (iblk m c 6 t : Vec Ideal S8x1x256 .f32) n x = lse A (bT t) 2 (pos n (x 2)) := by
  obtain ⟨a0, a1, a2⟩ := idx6 t
  have hx : (x 0).val < 1 := (x 0).isLt
  have e : V m c (Pipeline.arrRef spec0 6) = (fun i : S16x1x256.Idx => lse A (bR i) 2 (qR i)) := funext fun i => arr_v34 m c H i
  refine (congrFun (read6 _ e t) ((rR n).emb x)).trans ((entry6 _ t _).trans (atR A _ _ _ _ _ ?_ ?_))
  · show win0_6.index t (0 : Fin 3) * 8 + 1 * (n.val + 1 * (x 0).val) = 8 * (t.val / 16) + n.val
    omega
  · show win0_6.index t (2 : Fin 3) * 256 + 1 * (0 + 1 * (x 2).val) = (x 2).val
    omega
omit H in
theorem read7 (f : S16x1x256.Idx → EReal) (hf : V m c (Pipeline.arrRef spec0 7) = f) (t : Fin cfg0.N) : iblk m c 7 t = ((cfg0.win 7).blk t).view.read (Elt Ideal) f := by
  unfold iblk; exact congrArg _ hf
omit H in
theorem entry7 (f : S16x1x256.Idx → EReal) (t : Fin cfg0.N) (y : S8x1x256.Idx) :
    (((cfg0.win 7).blk t).view.read (Elt Ideal) f : Vec Ideal S8x1x256 .f32) y = f (((cfg0.win 7).blk t).view.emb y) := rfl
theorem row7 (t : Fin cfg0.N) (n : Fin 8) (x : S1x1x256.Idx) : rT (iblk m c 7 t : Vec Ideal S8x1x256 .f32) n x = lse A (bT t) 3 (pos n (x 2)) := by
  obtain ⟨a0, a1, a2⟩ := idx7 t
  have hx : (x 0).val < 1 := (x 0).isLt
  have e : V m c (Pipeline.arrRef spec0 7) = (fun i : S16x1x256.Idx => lse A (bR i) 3 (qR i)) := funext fun i => arr_v37 m c H i
  refine (congrFun (read7 _ e t) ((rR n).emb x)).trans ((entry7 _ t _).trans (atR A _ _ _ _ _ ?_ ?_))
  · show win0_7.index t (0 : Fin 3) * 8 + 1 * (n.val + 1 * (x 0).val) = 8 * (t.val / 16) + n.val
    omega
  · show win0_7.index t (2 : Fin 3) * 256 + 1 * (0 + 1 * (x 2).val) = (x 2).val
    omega
omit H in
theorem read8 (f : S16x1x256.Idx → EReal) (hf : V m c (Pipeline.arrRef spec0 8) = f) (t : Fin cfg0.N) : iblk m c 8 t = ((cfg0.win 8).blk t).view.read (Elt Ideal) f := by
  unfold iblk; exact congrArg _ hf
omit H in
theorem entry8 (f : S16x1x256.Idx → EReal) (t : Fin cfg0.N) (y : S8x1x256.Idx) :
    (((cfg0.win 8).blk t).view.read (Elt Ideal) f : Vec Ideal S8x1x256 .f32) y = f (((cfg0.win 8).blk t).view.emb y) := rfl
theorem row8 (t : Fin cfg0.N) (n : Fin 8) (x : S1x1x256.Idx) : rT (iblk m c 8 t : Vec Ideal S8x1x256 .f32) n x = lse A (bT t) 4 (pos n (x 2)) := by
  obtain ⟨a0, a1, a2⟩ := idx8 t
  have hx : (x 0).val < 1 := (x 0).isLt
  have e : V m c (Pipeline.arrRef spec0 8) = (fun i : S16x1x256.Idx => lse A (bR i) 4 (qR i)) := funext fun i => arr_v40 m c H i
  refine (congrFun (read8 _ e t) ((rR n).emb x)).trans ((entry8 _ t _).trans (atR A _ _ _ _ _ ?_ ?_))
  · show win0_8.index t (0 : Fin 3) * 8 + 1 * (n.val + 1 * (x 0).val) = 8 * (t.val / 16) + n.val
    omega
  · show win0_8.index t (2 : Fin 3) * 256 + 1 * (0 + 1 * (x 2).val) = (x 2).val
    omega
omit H in
theorem read9 (f : S16x1x256.Idx → EReal) (hf : V m c (Pipeline.arrRef spec0 9) = f) (t : Fin cfg0.N) : iblk m c 9 t = ((cfg0.win 9).blk t).view.read (Elt Ideal) f := by
  unfold iblk; exact congrArg _ hf
omit H in
theorem entry9 (f : S16x1x256.Idx → EReal) (t : Fin cfg0.N) (y : S8x1x256.Idx) :
    (((cfg0.win 9).blk t).view.read (Elt Ideal) f : Vec Ideal S8x1x256 .f32) y = f (((cfg0.win 9).blk t).view.emb y) := rfl
theorem row9 (t : Fin cfg0.N) (n : Fin 8) (x : S1x1x256.Idx) : rT (iblk m c 9 t : Vec Ideal S8x1x256 .f32) n x = lse A (bT t) 5 (pos n (x 2)) := by
  obtain ⟨a0, a1, a2⟩ := idx9 t
  have hx : (x 0).val < 1 := (x 0).isLt
  have e : V m c (Pipeline.arrRef spec0 9) = (fun i : S16x1x256.Idx => lse A (bR i) 5 (qR i)) := funext fun i => arr_v43 m c H i
  refine (congrFun (read9 _ e t) ((rR n).emb x)).trans ((entry9 _ t _).trans (atR A _ _ _ _ _ ?_ ?_))
  · show win0_9.index t (0 : Fin 3) * 8 + 1 * (n.val + 1 * (x 0).val) = 8 * (t.val / 16) + n.val
    omega
  · show win0_9.index t (2 : Fin 3) * 256 + 1 * (0 + 1 * (x 2).val) = (x 2).val
    omega
omit H in
theorem read10 (f : S16x1x256.Idx → EReal) (hf : V m c (Pipeline.arrRef spec0 10) = f) (t : Fin cfg0.N) : iblk m c 10 t = ((cfg0.win 10).blk t).view.read (Elt Ideal) f := by
  unfold iblk; exact congrArg _ hf
omit H in
theorem entry10 (f : S16x1x256.Idx → EReal) (t : Fin cfg0.N) (y : S8x1x256.Idx) :
    (((cfg0.win 10).blk t).view.read (Elt Ideal) f : Vec Ideal S8x1x256 .f32) y = f (((cfg0.win 10).blk t).view.emb y) := rfl
theorem row10 (t : Fin cfg0.N) (n : Fin 8) (x : S1x1x256.Idx) : rT (iblk m c 10 t : Vec Ideal S8x1x256 .f32) n x = lse A (bT t) 6 (pos n (x 2)) := by
  obtain ⟨a0, a1, a2⟩ := idx10 t
  have hx : (x 0).val < 1 := (x 0).isLt
  have e : V m c (Pipeline.arrRef spec0 10) = (fun i : S16x1x256.Idx => lse A (bR i) 6 (qR i)) := funext fun i => arr_v46 m c H i
  refine (congrFun (read10 _ e t) ((rR n).emb x)).trans ((entry10 _ t _).trans (atR A _ _ _ _ _ ?_ ?_))
  · show win0_10.index t (0 : Fin 3) * 8 + 1 * (n.val + 1 * (x 0).val) = 8 * (t.val / 16) + n.val
    omega
  · show win0_10.index t (2 : Fin 3) * 256 + 1 * (0 + 1 * (x 2).val) = (x 2).val
    omega
omit H in
theorem read11 (f : S16x1x256.Idx → EReal) (hf : V m c (Pipeline.arrRef spec0 11) = f) (t : Fin cfg0.N) : iblk m c 11 t = ((cfg0.win 11).blk t).view.read (Elt Ideal) f := by
  unfold iblk; exact congrArg _ hf
omit H in
theorem entry11 (f : S16x1x256.Idx → EReal) (t : Fin cfg0.N) (y : S8x1x256.Idx) :
    (((cfg0.win 11).blk t).view.read (Elt Ideal) f : Vec Ideal S8x1x256 .f32) y = f (((cfg0.win 11).blk t).view.emb y) := rfl
theorem row11 (t : Fin cfg0.N) (n : Fin 8) (x : S1x1x256.Idx) : rT (iblk m c 11 t : Vec Ideal S8x1x256 .f32) n x = lse A (bT t) 7 (pos n (x 2)) := by
  obtain ⟨a0, a1, a2⟩ := idx11 t
  have hx : (x 0).val < 1 := (x 0).isLt
  have e : V m c (Pipeline.arrRef spec0 11) = (fun i : S16x1x256.Idx => lse A (bR i) 7 (qR i)) := funext fun i => arr_v49 m c H i
  refine (congrFun (read11 _ e t) ((rR n).emb x)).trans ((entry11 _ t _).trans (atR A _ _ _ _ _ ?_ ?_))
  · show win0_11.index t (0 : Fin 3) * 8 + 1 * (n.val + 1 * (x 0).val) = 8 * (t.val / 16) + n.val
    omega
  · show win0_11.index t (2 : Fin 3) * 256 + 1 * (0 + 1 * (x 2).val) = (x 2).val
    omega
omit H in
theorem read12 (f : S128x1x256.Idx → EReal) (hf : V m c (Pipeline.arrRef spec0 12) = f) (t : Fin cfg0.N) : iblk m c 12 t = ((cfg0.win 12).blk t).view.read (Elt Ideal) f := by
  unfold iblk; exact congrArg _ hf
omit H in
theorem entry12 (f : S128x1x256.Idx → EReal) (t : Fin cfg0.N) (y : S8x1x256.Idx) :
    (((cfg0.win 12).blk t).view.read (Elt Ideal) f : Vec Ideal S8x1x256 .f32) y = f (((cfg0.win 12).blk t).view.emb y) := rfl
theorem row12 (t : Fin cfg0.N) (n : Fin 8) (x : S1x1x256.Idx) : rT (iblk m c 12 t : Vec Ideal S8x1x256 .f32) n x = ((D A (bT t) (hd (gT t) 0) (pos n (x 2)) : ℝ) : EReal) := by
  obtain ⟨a0, a1, a2⟩ := idx12 t
  have hx : (x 0).val < 1 := (x 0).isLt
  have e : V m c (Pipeline.arrRef spec0 12) = (fun i : S128x1x256.Idx => ((D A (bL i) (hL i) (qL i) : ℝ) : EReal)) := funext fun i => arr_v51 m c H i
  refine (congrFun (read12 _ e t) ((rR n).emb x)).trans ((entry12 _ t _).trans (congrArg _ (atL A _ _ _ _ _ ?_ ?_)))
  · show win0_12.index t (0 : Fin 3) * 8 + 1 * (n.val + 1 * (x 0).val) = ((4 * (t.val / 8 % 2) + 0) * 2 + t.val / 16) * 8 + n.val
    omega
  · show win0_12.index t (2 : Fin 3) * 256 + 1 * (0 + 1 * (x 2).val) = (x 2).val
    omega
omit H in
theorem read13 (f : S128x1x256.Idx → EReal) (hf : V m c (Pipeline.arrRef spec0 13) = f) (t : Fin cfg0.N) : iblk m c 13 t = ((cfg0.win 13).blk t).view.read (Elt Ideal) f := by
  unfold iblk; exact congrArg _ hf
omit H in
theorem entry13 (f : S128x1x256.Idx → EReal) (t : Fin cfg0.N) (y : S8x1x256.Idx) :
    (((cfg0.win 13).blk t).view.read (Elt Ideal) f : Vec Ideal S8x1x256 .f32) y = f (((cfg0.win 13).blk t).view.emb y) := rfl
theorem row13 (t : Fin cfg0.N) (n : Fin 8) (x : S1x1x256.Idx) : rT (iblk m c 13 t : Vec Ideal S8x1x256 .f32) n x = ((D A (bT t) (hd (gT t) 1) (pos n (x 2)) : ℝ) : EReal) := by
  obtain ⟨a0, a1, a2⟩ := idx13 t
  have hx : (x 0).val < 1 := (x 0).isLt
  have e : V m c (Pipeline.arrRef spec0 13) = (fun i : S128x1x256.Idx => ((D A (bL i) (hL i) (qL i) : ℝ) : EReal)) := funext fun i => arr_v51 m c H i
  refine (congrFun (read13 _ e t) ((rR n).emb x)).trans ((entry13 _ t _).trans (congrArg _ (atL A _ _ _ _ _ ?_ ?_)))
  · show win0_13.index t (0 : Fin 3) * 8 + 1 * (n.val + 1 * (x 0).val) = ((4 * (t.val / 8 % 2) + 1) * 2 + t.val / 16) * 8 + n.val
    omega
  · show win0_13.index t (2 : Fin 3) * 256 + 1 * (0 + 1 * (x 2).val) = (x 2).val
    omega
omit H in
theorem read14 (f : S128x1x256.Idx → EReal) (hf : V m c (Pipeline.arrRef spec0 14) = f) (t : Fin cfg0.N) : iblk m c 14 t = ((cfg0.win 14).blk t).view.read (Elt Ideal) f := by
  unfold iblk; exact congrArg _ hf
omit H in
theorem entry14 (f : S128x1x256.Idx → EReal) (t : Fin cfg0.N) (y : S8x1x256.Idx) :
    (((cfg0.win 14).blk t).view.read (Elt Ideal) f : Vec Ideal S8x1x256 .f32) y = f (((cfg0.win 14).blk t).view.emb y) := rfl
theorem row14 (t : Fin cfg0.N) (n : Fin 8) (x : S1x1x256.Idx) : rT (iblk m c 14 t : Vec Ideal S8x1x256 .f32) n x = ((D A (bT t) (hd (gT t) 2) (pos n (x 2)) : ℝ) : EReal) := by
  obtain ⟨a0, a1, a2⟩ := idx14 t
  have hx : (x 0).val < 1 := (x 0).isLt
  have e : V m c (Pipeline.arrRef spec0 14) = (fun i : S128x1x256.Idx => ((D A (bL i) (hL i) (qL i) : ℝ) : EReal)) := funext fun i => arr_v51 m c H i
  refine (congrFun (read14 _ e t) ((rR n).emb x)).trans ((entry14 _ t _).trans (congrArg _ (atL A _ _ _ _ _ ?_ ?_)))
  · show win0_14.index t (0 : Fin 3) * 8 + 1 * (n.val + 1 * (x 0).val) = ((4 * (t.val / 8 % 2) + 2) * 2 + t.val / 16) * 8 + n.val
    omega
  · show win0_14.index t (2 : Fin 3) * 256 + 1 * (0 + 1 * (x 2).val) = (x 2).val
    omega
omit H in
theorem read15 (f : S128x1x256.Idx → EReal) (hf : V m c (Pipeline.arrRef spec0 15) = f) (t : Fin cfg0.N) : iblk m c 15 t = ((cfg0.win 15).blk t).view.read (Elt Ideal) f := by
  unfold iblk; exact congrArg _ hf
omit H in
theorem entry15 (f : S128x1x256.Idx → EReal) (t : Fin cfg0.N) (y : S8x1x256.Idx) :
    (((cfg0.win 15).blk t).view.read (Elt Ideal) f : Vec Ideal S8x1x256 .f32) y = f (((cfg0.win 15).blk t).view.emb y) := rfl
theorem row15 (t : Fin cfg0.N) (n : Fin 8) (x : S1x1x256.Idx) : rT (iblk m c 15 t : Vec Ideal S8x1x256 .f32) n x = ((D A (bT t) (hd (gT t) 3) (pos n (x 2)) : ℝ) : EReal) := by
  obtain ⟨a0, a1, a2⟩ := idx15 t
  have hx : (x 0).val < 1 := (x 0).isLt
  have e : V m c (Pipeline.arrRef spec0 15) = (fun i : S128x1x256.Idx => ((D A (bL i) (hL i) (qL i) : ℝ) : EReal)) := funext fun i => arr_v51 m c H i
  refine (congrFun (read15 _ e t) ((rR n).emb x)).trans ((entry15 _ t _).trans (congrArg _ (atL A _ _ _ _ _ ?_ ?_)))
  · show win0_15.index t (0 : Fin 3) * 8 + 1 * (n.val + 1 * (x 0).val) = ((4 * (t.val / 8 % 2) + 3) * 2 + t.val / 16) * 8 + n.val
    omega
  · show win0_15.index t (2 : Fin 3) * 256 + 1 * (0 + 1 * (x 2).val) = (x 2).val
    omega

omit H in
/-- Blocks put together from the values read. -/
theorem holds_mk {bb g : Fin 2} {j : Fin 8} (x3 : Vec Ideal S2048x1024 .bf16) (x4 : Vec Ideal S256x1024 .bf16) (x5 : Vec Ideal S256x512 .bf16) (x6 : Vec Ideal S2048x512 .bf16)
    (x7 x8 x9 x10 x11 x12 x13 x14 x15 x16 x17 x18 : Vec Ideal S8x1x256 .f32) (up : BitVec 1)
    (h3 : ∀ (n : Fin 8) (t : Fin 4) (x : S256x256.Idx), qT x3 n t x = ((padded A.Q bb (pos n (x 0)) (hd g t) (x 1) : ℝ) : EReal))
    (h4 : ∀ (t : Fin 4) (x : S256x256.Idx), kT x4 t x = ((padded A.K bb (pos j (x 0)) (hd g t) (x 1) : ℝ) : EReal))
    (h5 : ∀ (t : Fin 4) (x : S256x128.Idx), vT x5 t x = ((A.V bb (pos j (x 0)) (hd g t) (x 1) : ℝ) : EReal))
    (h6 : ∀ (n : Fin 8) (t : Fin 4) (x : S256x128.Idx), dT x6 n t x = ((A.C bb (pos n (x 0)) (hd g t) (x 1) : ℝ) : EReal))
    (h7 : ¬ up = 1 → ∀ (n : Fin 8) (x : S1x1x256.Idx), rT x7 n x = lse A bb (hd g 0) (pos n (x 2)))
    (h8 : ¬ up = 1 → ∀ (n : Fin 8) (x : S1x1x256.Idx), rT x8 n x = lse A bb (hd g 1) (pos n (x 2)))
    (h9 : ¬ up = 1 → ∀ (n : Fin 8) (x : S1x1x256.Idx), rT x9 n x = lse A bb (hd g 2) (pos n (x 2)))
    (h10 : ¬ up = 1 → ∀ (n : Fin 8) (x : S1x1x256.Idx), rT x10 n x = lse A bb (hd g 3) (pos n (x 2)))
    (h11 : up = 1 → ∀ (n : Fin 8) (x : S1x1x256.Idx), rT x11 n x = lse A bb (hd g 0) (pos n (x 2)))
    (h12 : up = 1 → ∀ (n : Fin 8) (x : S1x1x256.Idx), rT x12 n x = lse A bb (hd g 1) (pos n (x 2)))
    (h13 : up = 1 → ∀ (n : Fin 8) (x : S1x1x256.Idx), rT x13 n x = lse A bb (hd g 2) (pos n (x 2)))
    (h14 : up = 1 → ∀ (n : Fin 8) (x : S1x1x256.Idx), rT x14 n x = lse A bb (hd g 3) (pos n (x 2)))
    (h15 : ∀ (n : Fin 8) (x : S1x1x256.Idx), rT x15 n x = ((D A bb (hd g 0) (pos n (x 2)) : ℝ) : EReal))
    (h16 : ∀ (n : Fin 8) (x : S1x1x256.Idx), rT x16 n x = ((D A bb (hd g 1) (pos n (x 2)) : ℝ) : EReal))
    (h17 : ∀ (n : Fin 8) (x : S1x1x256.Idx), rT x17 n x = ((D A bb (hd g 2) (pos n (x 2)) : ℝ) : EReal))
    (h18 : ∀ (n : Fin 8) (x : S1x1x256.Idx), rT x18 n x = ((D A bb (hd g 3) (pos n (x 2)) : ℝ) : EReal)) :
    Holds A bb g j (mkB x3 x4 x5 x6 x7 x8 x9 x10 x11 x12 x13 x14 x15 x16 x17 x18 up) where
  q := h3
  k := h4
  v := h5
  d := h6
  hi := fun h n u x => match u with
    | 0 => h11 h n x
    | 1 => h12 h n x
    | 2 => h13 h n x
    | 3 => h14 h n x
  lo := fun h n u x => match u with
    | 0 => h7 h n x
    | 1 => h8 h n x
    | 2 => h9 h n x
    | 3 => h10 h n x
  dl := fun n u x => match u with
    | 0 => h15 n x
    | 1 => h16 n x
    | 2 => h17 n x
    | 3 => h18 n x

omit H in
theorem hd_hi (t : Fin cfg0.N) (h : (Scalar.cmpi .eq (BitVec.ofNat 32 (grid0.coords t 1).val) 1#32 : BitVec 1) = 1) (u : Fin 4) : hd (gT t) u = ⟨4 + u.val, by omega⟩ := by
  have hu : t.val / 8 % 2 = 1 := by
    by_contra hne
    rw [up_at, if_neg hne] at h
    exact absurd h (by decide)
  exact Fin.ext (show 4 * (t.val / 8 % 2) + u.val = 4 + u.val by omega)
omit H in
theorem hd_lo (t : Fin cfg0.N) (h : ¬ (Scalar.cmpi .eq (BitVec.ofNat 32 (grid0.coords t 1).val) 1#32 : BitVec 1) = 1) (u : Fin 4) : hd (gT t) u = ⟨u.val, by omega⟩ := by
  have hu : t.val / 8 % 2 = 0 := by
    by_contra hne
    rw [up_at, if_pos (by omega)] at h
    exact h rfl
  exact Fin.ext (show 4 * (t.val / 8 % 2) + u.val = u.val by omega)

theorem head4 (t : Fin cfg0.N) (h : ¬ (Scalar.cmpi .eq (BitVec.ofNat 32 (grid0.coords t 1).val) 1#32 : BitVec 1) = 1) (n : Fin 8) (x : S1x1x256.Idx) :
    rT (iblk m c 4 t : Vec Ideal S8x1x256 .f32) n x = lse A (bT t) (hd (gT t) 0) (pos n (x 2)) :=
  (row4 H t n x).trans (congrArg (fun e => lse A (bT t) e (pos n (x 2))) (hd_lo t h 0).symm)
theorem head5 (t : Fin cfg0.N) (h : ¬ (Scalar.cmpi .eq (BitVec.ofNat 32 (grid0.coords t 1).val) 1#32 : BitVec 1) = 1) (n : Fin 8) (x : S1x1x256.Idx) :
    rT (iblk m c 5 t : Vec Ideal S8x1x256 .f32) n x = lse A (bT t) (hd (gT t) 1) (pos n (x 2)) :=
  (row5 H t n x).trans (congrArg (fun e => lse A (bT t) e (pos n (x 2))) (hd_lo t h 1).symm)
theorem head6 (t : Fin cfg0.N) (h : ¬ (Scalar.cmpi .eq (BitVec.ofNat 32 (grid0.coords t 1).val) 1#32 : BitVec 1) = 1) (n : Fin 8) (x : S1x1x256.Idx) :
    rT (iblk m c 6 t : Vec Ideal S8x1x256 .f32) n x = lse A (bT t) (hd (gT t) 2) (pos n (x 2)) :=
  (row6 H t n x).trans (congrArg (fun e => lse A (bT t) e (pos n (x 2))) (hd_lo t h 2).symm)
theorem head7 (t : Fin cfg0.N) (h : ¬ (Scalar.cmpi .eq (BitVec.ofNat 32 (grid0.coords t 1).val) 1#32 : BitVec 1) = 1) (n : Fin 8) (x : S1x1x256.Idx) :
    rT (iblk m c 7 t : Vec Ideal S8x1x256 .f32) n x = lse A (bT t) (hd (gT t) 3) (pos n (x 2)) :=
  (row7 H t n x).trans (congrArg (fun e => lse A (bT t) e (pos n (x 2))) (hd_lo t h 3).symm)
theorem head8 (t : Fin cfg0.N) (h : (Scalar.cmpi .eq (BitVec.ofNat 32 (grid0.coords t 1).val) 1#32 : BitVec 1) = 1) (n : Fin 8) (x : S1x1x256.Idx) :
    rT (iblk m c 8 t : Vec Ideal S8x1x256 .f32) n x = lse A (bT t) (hd (gT t) 0) (pos n (x 2)) :=
  (row8 H t n x).trans (congrArg (fun e => lse A (bT t) e (pos n (x 2))) (hd_hi t h 0).symm)
theorem head9 (t : Fin cfg0.N) (h : (Scalar.cmpi .eq (BitVec.ofNat 32 (grid0.coords t 1).val) 1#32 : BitVec 1) = 1) (n : Fin 8) (x : S1x1x256.Idx) :
    rT (iblk m c 9 t : Vec Ideal S8x1x256 .f32) n x = lse A (bT t) (hd (gT t) 1) (pos n (x 2)) :=
  (row9 H t n x).trans (congrArg (fun e => lse A (bT t) e (pos n (x 2))) (hd_hi t h 1).symm)
theorem head10 (t : Fin cfg0.N) (h : (Scalar.cmpi .eq (BitVec.ofNat 32 (grid0.coords t 1).val) 1#32 : BitVec 1) = 1) (n : Fin 8) (x : S1x1x256.Idx) :
    rT (iblk m c 10 t : Vec Ideal S8x1x256 .f32) n x = lse A (bT t) (hd (gT t) 2) (pos n (x 2)) :=
  (row10 H t n x).trans (congrArg (fun e => lse A (bT t) e (pos n (x 2))) (hd_hi t h 2).symm)
theorem head11 (t : Fin cfg0.N) (h : (Scalar.cmpi .eq (BitVec.ofNat 32 (grid0.coords t 1).val) 1#32 : BitVec 1) = 1) (n : Fin 8) (x : S1x1x256.Idx) :
    rT (iblk m c 11 t : Vec Ideal S8x1x256 .f32) n x = lse A (bT t) (hd (gT t) 3) (pos n (x 2)) :=
  (row11 H t n x).trans (congrArg (fun e => lse A (bT t) e (pos n (x 2))) (hd_hi t h 3).symm)

/-- The blocks of point `t`. -/
theorem holds (t : Fin cfg0.N) : Holds A (bT t) (gT t) (jT t) (blkAt m c t) :=
  holds_mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ (q_tile H t) (k_tile H t) (v_tile H t) (d_tile H t) (head4 H t) (head5 H t) (head6 H t) (head7 H t) (head8 H t) (head9 H t) (head10 H t) (head11 H t) (row12 H t) (row13 H t) (row14 H t) (row15 H t)

end Cert.KernelIdeal.V
end
-- ==== Proof.V.Out.lean ====
module

public import proofs.«01_k».proof.Proof.V.Blocks
public import Idealize.ShloMosaic.Lib.Pipeline.ValueKit.Geometry

@[expose] public section

set_option maxRecDepth 16384

noncomputable section

/-! What the kernel's three result arrays hold. -/

namespace Cert.KernelIdeal.V

open Cert.KernelIdeal Cert.KernelIdeal.Gen Cert.KernelIdeal.A Idealize.ShloMosaic Idealize.ShloMosaic.TcCoe Idealize.ShloMosaic.ValueIdx Idealize.SL.Sem Cert.Spec

variable {m : (ℓ : Loc nD τ sig) → Buf (Elt Ideal) ℓ} {c : Dev nD} {A : Arg} (H : Good m c A)
include H

/-- The scratch after point `t`: the key blocks up to the point's. -/
theorem scratch_now (n : ℕ) : ∀ (t : Fin cfg0.N), t.val = n → ∀ x : S2048x1024.Idx, scratchOut (blkAt m c t) (t.val % 8) (sc m c t.val) x
    = ((upto (tq A (bT t) (gT t) (rowB x) (colB x) (locB x)) (t.val % 8 + 1) : ℝ) : EReal) := by
  induction n with
  | zero =>
    intro t ht x
    refine scratch_at (holds H t) (sc m c t.val) (fun h => absurd (show t.val % 8 = 0 by omega) h) x
  | succ n ih =>
    intro t ht x
    refine scratch_at (holds H t) (sc m c t.val) (fun h y => ?_) x
    have h8 : t.val % 8 ≠ 0 := h
    have hs : n < cfg0.N := by have := t.isLt; omega
    have e := ih ⟨n, hs⟩ rfl y
    rw [← sc_succ m c ⟨n, hs⟩] at e
    have eb : bT ⟨n, hs⟩ = bT t := Fin.ext (show n / 16 = t.val / 16 by omega)
    have eg : gT ⟨n, hs⟩ = gT t := Fin.ext (show n / 8 % 2 = t.val / 8 % 2 by omega)
    have ej : n % 8 + 1 = t.val % 8 := by omega
    rw [eb, eg, show (⟨n, hs⟩ : Fin cfg0.N).val % 8 + 1 = t.val % 8 from ej, show (⟨n, hs⟩ : Fin cfg0.N).val + 1 = t.val from ht.symm] at e
    exact e

theorem q_block (t : Fin cfg0.N) (h7 : t.val % 8 = 7) (x : S2048x1024.Idx) :
    qOut (blkAt m c t) (t.val % 8) (sc m c t.val) x = ((dq A (bT t) (pos (rowB x) (locB x 0)) (hd (gT t) (colB x)) (locB x 1) : ℝ) : EReal) := by
  refine (scratch_now H t.val t rfl x).trans ?_
  rw [h7]
  exact congrArg _ (tq_all A (bT t) (gT t) x)

theorem k_block (t : Fin cfg0.N) (x : S256x1024.Idx) :
    dkO (blkAt m c t) (t.val % 8) x = ((dk A (bT t) (pos (jT t) (locK x 0)) (hd (gT t) (colK x)) (locK x 1) : ℝ) : EReal) := dkO_at (holds H t) x

theorem v_block (t : Fin cfg0.N) (x : S256x512.Idx) :
    dvO (blkAt m c t) (t.val % 8) x = ((dv A (bT t) (pos (jT t) (locV x 0)) (hd (gT t) (colV x)) (locV x 1) : ℝ) : EReal) := dvO_at (holds H t) x

omit H in
/-- The results as arrays. -/
def outQ (A : Arg) : S4096x2048.Idx → EReal := fun i => ((dq A (bOf (i 0)) (pOf (i 0)) (hOf (i 1)) (dOf (i 1)) : ℝ) : EReal)
omit H in
def outK (A : Arg) : S4096x2048.Idx → EReal := fun i => ((dk A (bOf (i 0)) (pOf (i 0)) (hOf (i 1)) (dOf (i 1)) : ℝ) : EReal)
omit H in
def outV (A : Arg) : S4096x1024.Idx → EReal := fun i => ((dv A (bOf (i 0)) (pOf (i 0)) (hOf' (i 1)) (dOf' (i 1)) : ℝ) : EReal)

theorem final_q : (dats m 0 c).arrAt 16 cfg0.N = outQ A := by
  refine (dats m 0 c).arrAt_eq_of_covers 16 (outQ A) (by decide +kernel) fun t hf y => ?_
  have h7 := (flush0_16 t).1 hf
  obtain ⟨a0, a1⟩ := idx16 t
  have h0 : (y 0).val < 2048 := (y 0).isLt
  have h1 : (y 1).val < 1024 := (y 1).isLt
  refine (congrFun (after_16 m c t) _).trans ((q_block H t h7 y).trans (congrArg _ (at256 (dq A) _ _ _ _ _ ?_ ?_).symm))
  · show win0_16.index t (0 : Fin 2) * 2048 + 1 * (y 0).val = 2048 * (t.val / 16) + (256 * ((y 0).val / 256) + (y 0).val % 256)
    omega
  · show win0_16.index t (1 : Fin 2) * 1024 + 1 * (y 1).val = 256 * (4 * (t.val / 8 % 2) + (y 1).val / 256) + (y 1).val % 256
    omega

theorem final_k : (dats m 0 c).arrAt 17 cfg0.N = outK A := by
  refine (dats m 0 c).arrAt_eq_of_covers 17 (outK A) (by decide +kernel) fun t hf y => ?_
  obtain ⟨a0, a1⟩ := idx17 t
  have h0 : (y 0).val < 256 := (y 0).isLt
  have h1 : (y 1).val < 1024 := (y 1).isLt
  refine (congrFun (after_17 m c t) _).trans ((k_block H t y).trans (congrArg _ (at256 (dk A) _ _ _ _ _ ?_ ?_).symm))
  · show win0_17.index t (0 : Fin 2) * 256 + 1 * (y 0).val = 2048 * (t.val / 16) + (256 * (t.val % 8) + (y 0).val)
    omega
  · show win0_17.index t (1 : Fin 2) * 1024 + 1 * (y 1).val = 256 * (4 * (t.val / 8 % 2) + (y 1).val / 256) + (y 1).val % 256
    omega

theorem final_v : (dats m 0 c).arrAt 18 cfg0.N = outV A := by
  refine (dats m 0 c).arrAt_eq_of_covers 18 (outV A) (by decide +kernel) fun t hf y => ?_
  obtain ⟨a0, a1⟩ := idx18 t
  have h0 : (y 0).val < 256 := (y 0).isLt
  have h1 : (y 1).val < 512 := (y 1).isLt
  refine (congrFun (after_18 m c t) _).trans ((v_block H t y).trans (congrArg _ (at128 (dv A) _ _ _ _ _ ?_ ?_).symm))
  · show win0_18.index t (0 : Fin 2) * 256 + 1 * (y 0).val = 2048 * (t.val / 16) + (256 * (t.val % 8) + (y 0).val)
    omega
  · show win0_18.index t (1 : Fin 2) * 512 + 1 * (y 1).val = 128 * (4 * (t.val / 8 % 2) + (y 1).val / 128) + (y 1).val % 128
    omega

end Cert.KernelIdeal.V
end
-- ==== Proof.V.Final.lean ====
module

public import proofs.«01_k».proof.Defs
public import proofs.«01_k».proof.Proof.A.Frames
public import proofs.«01_k».proof.Proof.R.Ref
public import proofs.«01_k».proof.Proof.V.Out
public import Idealize.ShloMosaic.Lib.Pipeline.Value

@[expose] public section

set_option maxRecDepth 16384

noncomputable section

/-! The kernel's results are the reference's, at finite arguments. -/

namespace Cert.Finite

open Idealize.ShloMosaic Idealize.ShloMosaic.ValueIdx Cert.Pre_finite

theorem facts : Cert.Pre_finite.Facts := ⟨by decide, by decide, by decide, by decide⟩

theorem lt_top {x : EReal} (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee, -EReal.coe_mul]
  rw [e] at h
  have hl : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := ne_of_lt (lt_of_le_of_lt (le_max_left _ _) hl)
  have h2 : x ≠ ⊥ := fun hb => by
    have := lt_of_le_of_lt (le_max_right x (-x)) hl
    rw [hb, EReal.neg_bot] at this
    exact lt_irrefl _ this
  exact ⟨x.toReal, (EReal.coe_toReal h1 h2).symm⟩

section
variable [hF : Cert.Pre_finite.Facts] {x0 x1 : FVec Ideal S2x2048x8x192 .f32} {x2 x3 : FVec Ideal S2x2048x8x128 .f32}
  (H : Cert.Pre_finite.fn (F := Ideal) x0 x1 x2 x3 = fun _ => 1#1)
include H

/-- An entry of the joined arrays is a real number. -/
theorem entry (i : S2x2048x8x640.Idx) : ∃ r : ℝ, concatenate S2x2048x8x640 3 [⟨S2x2048x8x384, concatenate S2x2048x8x384 3 [⟨S2x2048x8x192, x0⟩, ⟨S2x2048x8x192, x1⟩] hF.concatenates_S2x2048x8x192_S2x2048x8x192_S2x2048x8x384_d3⟩,
    ⟨S2x2048x8x256, concatenate S2x2048x8x256 3 [⟨S2x2048x8x128, x2⟩, ⟨S2x2048x8x128, x3⟩] hF.concatenates_S2x2048x8x128_S2x2048x8x128_S2x2048x8x256_d3⟩] hF.concatenates_S2x2048x8x384_S2x2048x8x256_S2x2048x8x640_d3 i = (r : EReal) :=
  lt_top (congrFun H i)

theorem left (i : S2x2048x8x384.Idx) : ∃ r : ℝ, concatenate S2x2048x8x384 3 [⟨S2x2048x8x192, x0⟩, ⟨S2x2048x8x192, x1⟩] hF.concatenates_S2x2048x8x192_S2x2048x8x192_S2x2048x8x384_d3 i = (r : EReal) := by
  have h3 : (i 3).val < 384 := (i 3).isLt
  obtain ⟨r, hr⟩ := entry H (ix4 (i 0 : Fin 2) (i 1 : Fin 2048) (i 2 : Fin 8) (⟨(i 3).val, by omega⟩ : Fin 640) : S2x2048x8x640.Idx)
  exact ⟨r, (concatenate_pair_apply_left (t := S2x2048x8x640) (s₁ := S2x2048x8x384) (s₂ := S2x2048x8x256) 3 _ _ _ _ rfl i (fun b => match b with
    | ⟨0, _⟩ => rfl | ⟨1, _⟩ => rfl | ⟨2, _⟩ => rfl | ⟨3, _⟩ => rfl)).symm.trans hr⟩

theorem right (i : S2x2048x8x256.Idx) : ∃ r : ℝ, concatenate S2x2048x8x256 3 [⟨S2x2048x8x128, x2⟩, ⟨S2x2048x8x128, x3⟩] hF.concatenates_S2x2048x8x128_S2x2048x8x128_S2x2048x8x256_d3 i = (r : EReal) := by
  have h3 : (i 3).val < 256 := (i 3).isLt
  obtain ⟨r, hr⟩ := entry H (ix4 (i 0 : Fin 2) (i 1 : Fin 2048) (i 2 : Fin 8) (⟨(i 3).val + 384, by omega⟩ : Fin 640) : S2x2048x8x640.Idx)
  exact ⟨r, (concatenate_pair_apply_right (t := S2x2048x8x640) (s₁ := S2x2048x8x384) (s₂ := S2x2048x8x256) 3 _ _ _ _ rfl rfl i (fun b => match b with
    | ⟨0, _⟩ => fun _ => rfl | ⟨1, _⟩ => fun _ => rfl | ⟨2, _⟩ => fun _ => rfl | ⟨3, _⟩ => fun h => absurd rfl h) rfl).symm.trans hr⟩

theorem real0 (i : S2x2048x8x192.Idx) : ∃ r : ℝ, x0 i = (r : EReal) := by
  have h3 : (i 3).val < 192 := (i 3).isLt
  obtain ⟨r, hr⟩ := left H (ix4 (i 0 : Fin 2) (i 1 : Fin 2048) (i 2 : Fin 8) (⟨(i 3).val, by omega⟩ : Fin 384) : S2x2048x8x384.Idx)
  exact ⟨r, (concatenate_pair_apply_left (t := S2x2048x8x384) (s₁ := S2x2048x8x192) (s₂ := S2x2048x8x192) 3 _ _ _ _ rfl i (fun b => match b with
    | ⟨0, _⟩ => rfl | ⟨1, _⟩ => rfl | ⟨2, _⟩ => rfl | ⟨3, _⟩ => rfl)).symm.trans hr⟩
theorem real1 (i : S2x2048x8x192.Idx) : ∃ r : ℝ, x1 i = (r : EReal) := by
  have h3 : (i 3).val < 192 := (i 3).isLt
  obtain ⟨r, hr⟩ := left H (ix4 (i 0 : Fin 2) (i 1 : Fin 2048) (i 2 : Fin 8) (⟨(i 3).val + 192, by omega⟩ : Fin 384) : S2x2048x8x384.Idx)
  exact ⟨r, (concatenate_pair_apply_right (t := S2x2048x8x384) (s₁ := S2x2048x8x192) (s₂ := S2x2048x8x192) 3 _ _ _ _ rfl rfl i (fun b => match b with
    | ⟨0, _⟩ => fun _ => rfl | ⟨1, _⟩ => fun _ => rfl | ⟨2, _⟩ => fun _ => rfl | ⟨3, _⟩ => fun h => absurd rfl h) rfl).symm.trans hr⟩
theorem real2 (i : S2x2048x8x128.Idx) : ∃ r : ℝ, x2 i = (r : EReal) := by
  have h3 : (i 3).val < 128 := (i 3).isLt
  obtain ⟨r, hr⟩ := right H (ix4 (i 0 : Fin 2) (i 1 : Fin 2048) (i 2 : Fin 8) (⟨(i 3).val, by omega⟩ : Fin 256) : S2x2048x8x256.Idx)
  exact ⟨r, (concatenate_pair_apply_left (t := S2x2048x8x256) (s₁ := S2x2048x8x128) (s₂ := S2x2048x8x128) 3 _ _ _ _ rfl i (fun b => match b with
    | ⟨0, _⟩ => rfl | ⟨1, _⟩ => rfl | ⟨2, _⟩ => rfl | ⟨3, _⟩ => rfl)).symm.trans hr⟩
theorem real3 (i : S2x2048x8x128.Idx) : ∃ r : ℝ, x3 i = (r : EReal) := by
  have h3 : (i 3).val < 128 := (i 3).isLt
  obtain ⟨r, hr⟩ := right H (ix4 (i 0 : Fin 2) (i 1 : Fin 2048) (i 2 : Fin 8) (⟨(i 3).val + 128, by omega⟩ : Fin 256) : S2x2048x8x256.Idx)
  exact ⟨r, (concatenate_pair_apply_right (t := S2x2048x8x256) (s₁ := S2x2048x8x128) (s₂ := S2x2048x8x128) 3 _ _ _ _ rfl rfl i (fun b => match b with
    | ⟨0, _⟩ => fun _ => rfl | ⟨1, _⟩ => fun _ => rfl | ⟨2, _⟩ => fun _ => rfl | ⟨3, _⟩ => fun h => absurd rfl h) rfl).symm.trans hr⟩

/-- Finite arguments are real numbers, and their rows of scores have real maxima. -/
theorem args : ∃ A : Cert.Spec.Arg, Cert.ReferenceIdeal.V.Args A x0 x1 x2 x3 := by
  let A0 : Cert.Spec.Arg :=
    { Q := fun b p h d => (real0 H (ix4 b p h d : S2x2048x8x192.Idx)).choose
      K := fun b p h d => (real1 H (ix4 b p h d : S2x2048x8x192.Idx)).choose
      V := fun b p h d => (real2 H (ix4 b p h d : S2x2048x8x128.Idx)).choose
      C := fun b p h d => (real3 H (ix4 b p h d : S2x2048x8x128.Idx)).choose
      M := fun _ _ _ => 0 }
  have hq : ∀ i : S2x2048x8x192.Idx, x0 i = ((A0.Q (i 0) (i 1) (i 2) (i 3) : ℝ) : EReal) := fun i =>
    (congrArg x0 (eq_ix4 i)).trans (real0 H (ix4 (i 0 : Fin 2) (i 1 : Fin 2048) (i 2 : Fin 8) (i 3 : Fin 192) : S2x2048x8x192.Idx)).choose_spec
  have hk : ∀ i : S2x2048x8x192.Idx, x1 i = ((A0.K (i 0) (i 1) (i 2) (i 3) : ℝ) : EReal) := fun i =>
    (congrArg x1 (eq_ix4 i)).trans (real1 H (ix4 (i 0 : Fin 2) (i 1 : Fin 2048) (i 2 : Fin 8) (i 3 : Fin 192) : S2x2048x8x192.Idx)).choose_spec
  have hv : ∀ i : S2x2048x8x128.Idx, x2 i = ((A0.V (i 0) (i 1) (i 2) (i 3) : ℝ) : EReal) := fun i =>
    (congrArg x2 (eq_ix4 i)).trans (real2 H (ix4 (i 0 : Fin 2) (i 1 : Fin 2048) (i 2 : Fin 8) (i 3 : Fin 128) : S2x2048x8x128.Idx)).choose_spec
  have hc : ∀ i : S2x2048x8x128.Idx, x3 i = ((A0.C (i 0) (i 1) (i 2) (i 3) : ℝ) : EReal) := fun i =>
    (congrArg x3 (eq_ix4 i)).trans (real3 H (ix4 (i 0 : Fin 2) (i 1 : Fin 2048) (i 2 : Fin 8) (i 3 : Fin 128) : S2x2048x8x128.Idx)).choose_spec
  have hm := fun i => Cert.ReferenceIdeal.V.v10_real (A := A0) (x0 := x0) (x1 := x1) hq hk i
  refine ⟨{ A0 with M := fun b h q => (hm (ix3 b h q : Cert.ReferenceIdeal.S2x8x2048.Idx)).choose }, hq, hk, hv, hc, fun i => ?_⟩
  exact (congrArg _ (eq_ix3 i)).trans (hm (ix3 (i 0 : Fin 2) (i 1 : Fin 8) (i 2 : Fin 2048) : Cert.ReferenceIdeal.S2x8x2048.Idx)).choose_spec

end

end Cert.Finite

namespace Cert.KernelIdeal.V

open Cert.KernelIdeal Cert.KernelIdeal.Gen Cert.KernelIdeal.A Idealize.ShloMosaic Idealize.ShloMosaic.TcCoe Idealize.SL.Sem Cert.Spec

/-- The kernel's results, at real arguments. -/
theorem run_value (m : (ℓ : Loc nD τ sig) → Buf (Elt Ideal) ℓ) (ρ : Dev nD → PrngReg) (B : Dev nD → Arg) (H : ∀ c, Good m c (B c)) :
    θ_run defs (onTc (τ := τ) (main (F := Ideal))) ⟨m, fun _ => 0, ρ⟩ (fun r => ∀ c : Dev nD,
      r.2.mem ((c.tc : Thread nD τ).loc main_v62_0) = outQ (B c)
      ∧ r.2.mem ((c.tc : Thread nD τ).loc main_v62_1) = outK (B c)
      ∧ r.2.mem ((c.tc : Thread nD τ).loc main_v62_2) = outV (B c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 16).trans (final_q (H c)), ((h.1 c).1 17).trans (final_k (H c)), ((h.1 c).1 18).trans (final_v (H c)),
    args_kept m r h.1 c⟩) (run_main m ρ)

end Cert.KernelIdeal.V

namespace Cert.ReferenceIdeal.V

open Cert.ReferenceIdeal Idealize.ShloMosaic Idealize.SL.Sem Cert.Spec

/-- The reference's results, at real arguments. -/
theorem run_value (m : (ℓ : Loc nD τ sig) → Buf (Elt Ideal) ℓ) (ρ : Dev nD → PrngReg) (B : Dev nD → Arg)
    (H : ∀ c : Dev nD, Args (B c) (m ((c.tc : Thread nD τ).loc main_arg0)) (m ((c.tc : Thread nD τ).loc main_arg1)) (m ((c.tc : Thread nD τ).loc main_arg2)) (m ((c.tc : Thread nD τ).loc main_arg3))) :
    θ_run defs (onTc (τ := τ) (main (F := Ideal))) ⟨m, fun _ => 0, ρ⟩ (fun r => ∀ c : Dev nD,
      r.2.mem ((c.tc : Thread nD τ).loc main_v65) = Cert.KernelIdeal.V.outQ (B c)
      ∧ r.2.mem ((c.tc : Thread nD τ).loc main_v68) = Cert.KernelIdeal.V.outK (B c)
      ∧ r.2.mem ((c.tc : Thread nD τ).loc main_v70) = Cert.KernelIdeal.V.outV (B c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans ((Read.val_main_v65_eq m c).trans (funext fun i => v65 (H c) i)),
    (h c).2.1.trans ((Read.val_main_v68_eq m c).trans (funext fun i => v68 (H c) i)),
    (h c).2.2.1.trans ((Read.val_main_v70_eq m c).trans (funext fun i => v70 (H c) i)), (h c).2.2.2⟩) (Cert.ReferenceIdeal.Value.run (F := Ideal) m ρ)

end Cert.ReferenceIdeal.V

namespace Cert.Finite

open Idealize.ShloMosaic Idealize.SL.Sem

/-- Equal results, from equal finite arguments. -/
theorem algebraic : Cert.algebraic_KernelIdeal_ReferenceIdeal_pre_finite (hPre_finite := facts) := by
  intro m g m' g' hpre hsame
  have hA := fun c => args (hF := facts) (hpre c)
  have H : ∀ c, Cert.KernelIdeal.V.Good m c (hA c).choose := fun c => (hA c).choose_spec
  refine ⟨fun c => Cert.KernelIdeal.V.outQ (hA c).choose, fun c => Cert.KernelIdeal.V.outK (hA c).choose, fun c => Cert.KernelIdeal.V.outV (hA c).choose,
    Cert.KernelIdeal.V.run_value m g _ H, Cert.ReferenceIdeal.V.run_value m' g' (fun c => (hA c).choose) fun c => ?_⟩
  obtain ⟨e0, e1, e2, e3⟩ := hsame c
  rw [e0, e1, e2, e3]
  exact H c

theorem frame_kernelIdeal : Cert.quiescent_KernelIdeal_pre_finite (hPre_finite := facts) := fun m g _ => Cert.KernelIdeal.A.run_kept (F := Ideal) m g

end Cert.Finite
end
-- ==== Proof.M.Frames.lean ====
module

public import proofs.«01_k».proof.Defs
public import proofs.«01_k».proof.Proof.Gen.UpDx
public import proofs.«01_k».proof.Proof.Gen.UpDxIdeal.Frame
public import proofs.«01_k».proof.Proof.Gen.UpDxReferenceIdeal.Run
public import proofs.«01_k».proof.Proof.Gen.UpDw
public import proofs.«01_k».proof.Proof.Gen.UpDwIdeal.Frame
public import proofs.«01_k».proof.Proof.Gen.UpDwReferenceIdeal.Run
public import proofs.«01_k».proof.Proof.Gen.DownDx
public import proofs.«01_k».proof.Proof.Gen.DownDxIdeal.Frame
public import proofs.«01_k».proof.Proof.Gen.DownDxReferenceIdeal.Run
public import proofs.«01_k».proof.Proof.Gen.DownDw
public import proofs.«01_k».proof.Proof.Gen.DownDwIdeal.Frame
public import proofs.«01_k».proof.Proof.Gen.DownDwReferenceIdeal.Run
public import proofs.«01_k».proof.Proof.Gen.InDx
public import proofs.«01_k».proof.Proof.Gen.InDxIdeal.Frame
public import proofs.«01_k».proof.Proof.Gen.InDxReferenceIdeal.Run
public import proofs.«01_k».proof.Proof.Gen.InDw
public import proofs.«01_k».proof.Proof.Gen.InDwIdeal.Frame
public import proofs.«01_k».proof.Proof.Gen.InDwReferenceIdeal.Run
public import proofs.«01_k».proof.Proof.Gen.OutDx
public import proofs.«01_k».proof.Proof.Gen.OutDxIdeal.Frame
public import proofs.«01_k».proof.Proof.Gen.OutDxReferenceIdeal.Run
public import proofs.«01_k».proof.Proof.Gen.OutDw
public import proofs.«01_k».proof.Proof.Gen.OutDwIdeal.Frame
public import proofs.«01_k».proof.Proof.Gen.OutDwReferenceIdeal.Run
public import proofs.«01_k».proof.Proof.Gen.InFwd
public import proofs.«01_k».proof.Proof.Gen.InFwdIdeal.Frame
public import proofs.«01_k».proof.Proof.Gen.InFwdReferenceIdeal.Run
public import proofs.«01_k».proof.Proof.Gen.UpFwd
public import proofs.«01_k».proof.Proof.Gen.UpFwdIdeal.Frame
public import proofs.«01_k».proof.Proof.Gen.UpFwdReferenceIdeal.Run

@[expose] public section

set_option maxRecDepth 16384
set_option maxHeartbeats 4000000

/-! The frames of the products. Each kernel as compiled is the text of its idealization, so it runs as that does. -/

namespace Cert.UpDx.M

open Idealize.ShloMosaic Idealize.SL.Sem

variable {F : FTy → Type} [FloatOps F]

theorem bodies : @Cert.UpDx.defs₀ F _ _ = @Cert.UpDxIdeal.defs₀ F _ _ := by
  unfold Cert.UpDx.defs₀ Cert.UpDxIdeal.defs₀
  refine congrArg Defs.onTc ?_
  funext l x
  match l, x with
  | 0, (t, s) => exact rfl
  | ⟨_ + 1, h⟩, _ => exact absurd h (Nat.not_lt.2 (Nat.le_add_left _ _))

theorem mains : @Cert.UpDx.main F _ _ = @Cert.UpDxIdeal.main F _ _ := id rfl

theorem tables : @Cert.UpDx.defs F _ _ = @Cert.UpDxIdeal.defs F _ _ :=
  congrArg (fun D => Pipeline.defs (Cert.UpDxIdeal.pcfgs (F := F)) D) bodies

theorem runs (s : MemSt Cert.UpDxIdeal.nD Cert.UpDxIdeal.τ Cert.UpDxIdeal.sig (Elt F)) (Q : PUnit × MemSt Cert.UpDxIdeal.nD Cert.UpDxIdeal.τ Cert.UpDxIdeal.sig (Elt F) → Prop)
    (h : θ_run (Cert.UpDxIdeal.defs (F := F)) (onTc (τ := Cert.UpDxIdeal.τ) (Cert.UpDxIdeal.main (F := F))) s Q) :
    θ_run (Cert.UpDx.defs (F := F)) (onTc (τ := Cert.UpDx.τ) (Cert.UpDx.main (F := F))) s Q :=
  (congrArg₂ (fun D M => θ_run D (onTc (τ := Cert.UpDxIdeal.τ) M) s Q) tables mains).symm ▸ h

/-- The kernel as compiled runs to the end, keeps its arguments and leaves every counter at zero. -/
theorem frame : Cert.quiescent_UpDx := fun m ρ _ => runs _ _ (Cert.UpDxIdeal.Gen.frame (F := Bits) m ρ)

/-- So does the reference. -/
theorem frame_reference : Cert.quiescent_UpDxReferenceIdeal := fun m ρ _ =>
  (θ_run _ _ _).mono (fun r h => ⟨fun c => (h c).2, sem_eq_zero_of_no_sems (by decide) r.2⟩) (Cert.UpDxReferenceIdeal.Value.run (F := Ideal) m ρ)

end Cert.UpDx.M

namespace Cert.UpDw.M

open Idealize.ShloMosaic Idealize.SL.Sem

variable {F : FTy → Type} [FloatOps F]

theorem bodies : @Cert.UpDw.defs₀ F _ _ = @Cert.UpDwIdeal.defs₀ F _ _ := by
  unfold Cert.UpDw.defs₀ Cert.UpDwIdeal.defs₀
  refine congrArg Defs.onTc ?_
  funext l x
  match l, x with
  | 0, (t, s) => exact rfl
  | ⟨_ + 1, h⟩, _ => exact absurd h (Nat.not_lt.2 (Nat.le_add_left _ _))

theorem mains : @Cert.UpDw.main F _ _ = @Cert.UpDwIdeal.main F _ _ := id rfl

theorem tables : @Cert.UpDw.defs F _ _ = @Cert.UpDwIdeal.defs F _ _ :=
  congrArg (fun D => Pipeline.defs (Cert.UpDwIdeal.pcfgs (F := F)) D) bodies

theorem runs (s : MemSt Cert.UpDwIdeal.nD Cert.UpDwIdeal.τ Cert.UpDwIdeal.sig (Elt F)) (Q : PUnit × MemSt Cert.UpDwIdeal.nD Cert.UpDwIdeal.τ Cert.UpDwIdeal.sig (Elt F) → Prop)
    (h : θ_run (Cert.UpDwIdeal.defs (F := F)) (onTc (τ := Cert.UpDwIdeal.τ) (Cert.UpDwIdeal.main (F := F))) s Q) :
    θ_run (Cert.UpDw.defs (F := F)) (onTc (τ := Cert.UpDw.τ) (Cert.UpDw.main (F := F))) s Q :=
  (congrArg₂ (fun D M => θ_run D (onTc (τ := Cert.UpDwIdeal.τ) M) s Q) tables mains).symm ▸ h

/-- The kernel as compiled runs to the end, keeps its arguments and leaves every counter at zero. -/
theorem frame : Cert.quiescent_UpDw := fun m ρ _ => runs _ _ (Cert.UpDwIdeal.Gen.frame (F := Bits) m ρ)

/-- So does the reference. -/
theorem frame_reference : Cert.quiescent_UpDwReferenceIdeal := fun m ρ _ =>
  (θ_run _ _ _).mono (fun r h => ⟨fun c => (h c).2.2, sem_eq_zero_of_no_sems (by decide) r.2⟩) (Cert.UpDwReferenceIdeal.Value.run (F := Ideal) m ρ)

end Cert.UpDw.M

namespace Cert.DownDx.M

open Idealize.ShloMosaic Idealize.SL.Sem

variable {F : FTy → Type} [FloatOps F]

theorem bodies : @Cert.DownDx.defs₀ F _ _ = @Cert.DownDxIdeal.defs₀ F _ _ := by
  unfold Cert.DownDx.defs₀ Cert.DownDxIdeal.defs₀
  refine congrArg Defs.onTc ?_
  funext l x
  match l, x with
  | 0, (t, s) => exact rfl
  | ⟨_ + 1, h⟩, _ => exact absurd h (Nat.not_lt.2 (Nat.le_add_left _ _))

theorem mains : @Cert.DownDx.main F _ _ = @Cert.DownDxIdeal.main F _ _ := id rfl

theorem tables : @Cert.DownDx.defs F _ _ = @Cert.DownDxIdeal.defs F _ _ :=
  congrArg (fun D => Pipeline.defs (Cert.DownDxIdeal.pcfgs (F := F)) D) bodies

theorem runs (s : MemSt Cert.DownDxIdeal.nD Cert.DownDxIdeal.τ Cert.DownDxIdeal.sig (Elt F)) (Q : PUnit × MemSt Cert.DownDxIdeal.nD Cert.DownDxIdeal.τ Cert.DownDxIdeal.sig (Elt F) → Prop)
    (h : θ_run (Cert.DownDxIdeal.defs (F := F)) (onTc (τ := Cert.DownDxIdeal.τ) (Cert.DownDxIdeal.main (F := F))) s Q) :
    θ_run (Cert.DownDx.defs (F := F)) (onTc (τ := Cert.DownDx.τ) (Cert.DownDx.main (F := F))) s Q :=
  (congrArg₂ (fun D M => θ_run D (onTc (τ := Cert.DownDxIdeal.τ) M) s Q) tables mains).symm ▸ h

theorem frame : Cert.quiescent_DownDx := fun m ρ _ => runs _ _ (Cert.DownDxIdeal.Gen.frame (F := Bits) m ρ)

theorem frame_reference : Cert.quiescent_DownDxReferenceIdeal := fun m ρ _ =>
  (θ_run _ _ _).mono (fun r h => ⟨fun c => (h c).2, sem_eq_zero_of_no_sems (by decide) r.2⟩) (Cert.DownDxReferenceIdeal.Value.run (F := Ideal) m ρ)

end Cert.DownDx.M

namespace Cert.DownDw.M

open Idealize.ShloMosaic Idealize.SL.Sem

variable {F : FTy → Type} [FloatOps F]

theorem bodies : @Cert.DownDw.defs₀ F _ _ = @Cert.DownDwIdeal.defs₀ F _ _ := by
  unfold Cert.DownDw.defs₀ Cert.DownDwIdeal.defs₀
  refine congrArg Defs.onTc ?_
  funext l x
  match l, x with
  | 0, (t, s) => exact rfl
  | ⟨_ + 1, h⟩, _ => exact absurd h (Nat.not_lt.2 (Nat.le_add_left _ _))

theorem mains : @Cert.DownDw.main F _ _ = @Cert.DownDwIdeal.main F _ _ := id rfl

theorem tables : @Cert.DownDw.defs F _ _ = @Cert.DownDwIdeal.defs F _ _ :=
  congrArg (fun D => Pipeline.defs (Cert.DownDwIdeal.pcfgs (F := F)) D) bodies

theorem runs (s : MemSt Cert.DownDwIdeal.nD Cert.DownDwIdeal.τ Cert.DownDwIdeal.sig (Elt F)) (Q : PUnit × MemSt Cert.DownDwIdeal.nD Cert.DownDwIdeal.τ Cert.DownDwIdeal.sig (Elt F) → Prop)
    (h : θ_run (Cert.DownDwIdeal.defs (F := F)) (onTc (τ := Cert.DownDwIdeal.τ) (Cert.DownDwIdeal.main (F := F))) s Q) :
    θ_run (Cert.DownDw.defs (F := F)) (onTc (τ := Cert.DownDw.τ) (Cert.DownDw.main (F := F))) s Q :=
  (congrArg₂ (fun D M => θ_run D (onTc (τ := Cert.DownDwIdeal.τ) M) s Q) tables mains).symm ▸ h

theorem frame : Cert.quiescent_DownDw := fun m ρ _ => runs _ _ (Cert.DownDwIdeal.Gen.frame (F := Bits) m ρ)

theorem frame_reference : Cert.quiescent_DownDwReferenceIdeal := fun m ρ _ =>
  (θ_run _ _ _).mono (fun r h => ⟨fun c => (h c).2.2, sem_eq_zero_of_no_sems (by decide) r.2⟩) (Cert.DownDwReferenceIdeal.Value.run (F := Ideal) m ρ)

end Cert.DownDw.M

namespace Cert.InDx.M

open Idealize.ShloMosaic Idealize.SL.Sem

variable {F : FTy → Type} [FloatOps F]

theorem bodies : @Cert.InDx.defs₀ F _ _ = @Cert.InDxIdeal.defs₀ F _ _ := by
  unfold Cert.InDx.defs₀ Cert.InDxIdeal.defs₀
  refine congrArg Defs.onTc ?_
  funext l x
  match l, x with
  | 0, (t, s) => exact rfl
  | ⟨_ + 1, h⟩, _ => exact absurd h (Nat.not_lt.2 (Nat.le_add_left _ _))

theorem mains : @Cert.InDx.main F _ _ = @Cert.InDxIdeal.main F _ _ := id rfl

theorem tables : @Cert.InDx.defs F _ _ = @Cert.InDxIdeal.defs F _ _ :=
  congrArg (fun D => Pipeline.defs (Cert.InDxIdeal.pcfgs (F := F)) D) bodies

theorem runs (s : MemSt Cert.InDxIdeal.nD Cert.InDxIdeal.τ Cert.InDxIdeal.sig (Elt F)) (Q : PUnit × MemSt Cert.InDxIdeal.nD Cert.InDxIdeal.τ Cert.InDxIdeal.sig (Elt F) → Prop)
    (h : θ_run (Cert.InDxIdeal.defs (F := F)) (onTc (τ := Cert.InDxIdeal.τ) (Cert.InDxIdeal.main (F := F))) s Q) :
    θ_run (Cert.InDx.defs (F := F)) (onTc (τ := Cert.InDx.τ) (Cert.InDx.main (F := F))) s Q :=
  (congrArg₂ (fun D M => θ_run D (onTc (τ := Cert.InDxIdeal.τ) M) s Q) tables mains).symm ▸ h

theorem frame : Cert.quiescent_InDx := fun m ρ _ => runs _ _ (Cert.InDxIdeal.Gen.frame (F := Bits) m ρ)

theorem frame_reference : Cert.quiescent_InDxReferenceIdeal := fun m ρ _ =>
  (θ_run _ _ _).mono (fun r h => ⟨fun c => (h c).2, sem_eq_zero_of_no_sems (by decide) r.2⟩) (Cert.InDxReferenceIdeal.Value.run (F := Ideal) m ρ)

end Cert.InDx.M

namespace Cert.InDw.M

open Idealize.ShloMosaic Idealize.SL.Sem

variable {F : FTy → Type} [FloatOps F]

theorem bodies : @Cert.InDw.defs₀ F _ _ = @Cert.InDwIdeal.defs₀ F _ _ := by
  unfold Cert.InDw.defs₀ Cert.InDwIdeal.defs₀
  refine congrArg Defs.onTc ?_
  funext l x
  match l, x with
  | 0, (t, s) => exact rfl
  | ⟨_ + 1, h⟩, _ => exact absurd h (Nat.not_lt.2 (Nat.le_add_left _ _))

theorem mains : @Cert.InDw.main F _ _ = @Cert.InDwIdeal.main F _ _ := id rfl

theorem tables : @Cert.InDw.defs F _ _ = @Cert.InDwIdeal.defs F _ _ :=
  congrArg (fun D => Pipeline.defs (Cert.InDwIdeal.pcfgs (F := F)) D) bodies

theorem runs (s : MemSt Cert.InDwIdeal.nD Cert.InDwIdeal.τ Cert.InDwIdeal.sig (Elt F)) (Q : PUnit × MemSt Cert.InDwIdeal.nD Cert.InDwIdeal.τ Cert.InDwIdeal.sig (Elt F) → Prop)
    (h : θ_run (Cert.InDwIdeal.defs (F := F)) (onTc (τ := Cert.InDwIdeal.τ) (Cert.InDwIdeal.main (F := F))) s Q) :
    θ_run (Cert.InDw.defs (F := F)) (onTc (τ := Cert.InDw.τ) (Cert.InDw.main (F := F))) s Q :=
  (congrArg₂ (fun D M => θ_run D (onTc (τ := Cert.InDwIdeal.τ) M) s Q) tables mains).symm ▸ h

theorem frame : Cert.quiescent_InDw := fun m ρ _ => runs _ _ (Cert.InDwIdeal.Gen.frame (F := Bits) m ρ)

theorem frame_reference : Cert.quiescent_InDwReferenceIdeal := fun m ρ _ =>
  (θ_run _ _ _).mono (fun r h => ⟨fun c => (h c).2, sem_eq_zero_of_no_sems (by decide) r.2⟩) (Cert.InDwReferenceIdeal.Value.run (F := Ideal) m ρ)

end Cert.InDw.M

namespace Cert.OutDx.M

open Idealize.ShloMosaic Idealize.SL.Sem

variable {F : FTy → Type} [FloatOps F]

theorem bodies : @Cert.OutDx.defs₀ F _ _ = @Cert.OutDxIdeal.defs₀ F _ _ := by
  unfold Cert.OutDx.defs₀ Cert.OutDxIdeal.defs₀
  refine congrArg Defs.onTc ?_
  funext l x
  match l, x with
  | 0, (t, s) => exact rfl
  | ⟨_ + 1, h⟩, _ => exact absurd h (Nat.not_lt.2 (Nat.le_add_left _ _))

theorem mains : @Cert.OutDx.main F _ _ = @Cert.OutDxIdeal.main F _ _ := id rfl

theorem tables : @Cert.OutDx.defs F _ _ = @Cert.OutDxIdeal.defs F _ _ :=
  congrArg (fun D => Pipeline.defs (Cert.OutDxIdeal.pcfgs (F := F)) D) bodies

theorem runs (s : MemSt Cert.OutDxIdeal.nD Cert.OutDxIdeal.τ Cert.OutDxIdeal.sig (Elt F)) (Q : PUnit × MemSt Cert.OutDxIdeal.nD Cert.OutDxIdeal.τ Cert.OutDxIdeal.sig (Elt F) → Prop)
    (h : θ_run (Cert.OutDxIdeal.defs (F := F)) (onTc (τ := Cert.OutDxIdeal.τ) (Cert.OutDxIdeal.main (F := F))) s Q) :
    θ_run (Cert.OutDx.defs (F := F)) (onTc (τ := Cert.OutDx.τ) (Cert.OutDx.main (F := F))) s Q :=
  (congrArg₂ (fun D M => θ_run D (onTc (τ := Cert.OutDxIdeal.τ) M) s Q) tables mains).symm ▸ h

theorem frame : Cert.quiescent_OutDx := fun m ρ _ => runs _ _ (Cert.OutDxIdeal.Gen.frame (F := Bits) m ρ)

theorem frame_reference : Cert.quiescent_OutDxReferenceIdeal := fun m ρ _ =>
  (θ_run _ _ _).mono (fun r h => ⟨fun c => (h c).2, sem_eq_zero_of_no_sems (by decide) r.2⟩) (Cert.OutDxReferenceIdeal.Value.run (F := Ideal) m ρ)

end Cert.OutDx.M

namespace Cert.OutDw.M

open Idealize.ShloMosaic Idealize.SL.Sem

variable {F : FTy → Type} [FloatOps F]

theorem bodies : @Cert.OutDw.defs₀ F _ _ = @Cert.OutDwIdeal.defs₀ F _ _ := by
  unfold Cert.OutDw.defs₀ Cert.OutDwIdeal.defs₀
  refine congrArg Defs.onTc ?_
  funext l x
  match l, x with
  | 0, (t, s) => exact rfl
  | ⟨_ + 1, h⟩, _ => exact absurd h (Nat.not_lt.2 (Nat.le_add_left _ _))

theorem mains : @Cert.OutDw.main F _ _ = @Cert.OutDwIdeal.main F _ _ := id rfl

theorem tables : @Cert.OutDw.defs F _ _ = @Cert.OutDwIdeal.defs F _ _ :=
  congrArg (fun D => Pipeline.defs (Cert.OutDwIdeal.pcfgs (F := F)) D) bodies

theorem runs (s : MemSt Cert.OutDwIdeal.nD Cert.OutDwIdeal.τ Cert.OutDwIdeal.sig (Elt F)) (Q : PUnit × MemSt Cert.OutDwIdeal.nD Cert.OutDwIdeal.τ Cert.OutDwIdeal.sig (Elt F) → Prop)
    (h : θ_run (Cert.OutDwIdeal.defs (F := F)) (onTc (τ := Cert.OutDwIdeal.τ) (Cert.OutDwIdeal.main (F := F))) s Q) :
    θ_run (Cert.OutDw.defs (F := F)) (onTc (τ := Cert.OutDw.τ) (Cert.OutDw.main (F := F))) s Q :=
  (congrArg₂ (fun D M => θ_run D (onTc (τ := Cert.OutDwIdeal.τ) M) s Q) tables mains).symm ▸ h

theorem frame : Cert.quiescent_OutDw := fun m ρ _ => runs _ _ (Cert.OutDwIdeal.Gen.frame (F := Bits) m ρ)

theorem frame_reference : Cert.quiescent_OutDwReferenceIdeal := fun m ρ _ =>
  (θ_run _ _ _).mono (fun r h => ⟨fun c => (h c).2.2, sem_eq_zero_of_no_sems (by decide) r.2⟩) (Cert.OutDwReferenceIdeal.Value.run (F := Ideal) m ρ)

end Cert.OutDw.M

namespace Cert.InFwd.M

open Idealize.ShloMosaic Idealize.SL.Sem

variable {F : FTy → Type} [FloatOps F]

theorem bodies : @Cert.InFwd.defs₀ F _ _ = @Cert.InFwdIdeal.defs₀ F _ _ := by
  unfold Cert.InFwd.defs₀ Cert.InFwdIdeal.defs₀
  refine congrArg Defs.onTc ?_
  funext l x
  match l, x with
  | 0, (t, s) => exact rfl
  | ⟨_ + 1, h⟩, _ => exact absurd h (Nat.not_lt.2 (Nat.le_add_left _ _))

theorem mains : @Cert.InFwd.main F _ _ = @Cert.InFwdIdeal.main F _ _ := id rfl

theorem tables : @Cert.InFwd.defs F _ _ = @Cert.InFwdIdeal.defs F _ _ :=
  congrArg (fun D => Pipeline.defs (Cert.InFwdIdeal.pcfgs (F := F)) D) bodies

theorem runs (s : MemSt Cert.InFwdIdeal.nD Cert.InFwdIdeal.τ Cert.InFwdIdeal.sig (Elt F)) (Q : PUnit × MemSt Cert.InFwdIdeal.nD Cert.InFwdIdeal.τ Cert.InFwdIdeal.sig (Elt F) → Prop)
    (h : θ_run (Cert.InFwdIdeal.defs (F := F)) (onTc (τ := Cert.InFwdIdeal.τ) (Cert.InFwdIdeal.main (F := F))) s Q) :
    θ_run (Cert.InFwd.defs (F := F)) (onTc (τ := Cert.InFwd.τ) (Cert.InFwd.main (F := F))) s Q :=
  (congrArg₂ (fun D M => θ_run D (onTc (τ := Cert.InFwdIdeal.τ) M) s Q) tables mains).symm ▸ h

theorem frame : Cert.quiescent_InFwd := fun m ρ _ => runs _ _ (Cert.InFwdIdeal.Gen.frame (F := Bits) m ρ)

theorem frame_reference : Cert.quiescent_InFwdReferenceIdeal := fun m ρ _ =>
  (θ_run _ _ _).mono (fun r h => ⟨fun c => (h c).2, sem_eq_zero_of_no_sems (by decide) r.2⟩) (Cert.InFwdReferenceIdeal.Value.run (F := Ideal) m ρ)

end Cert.InFwd.M

namespace Cert.UpFwd.M

open Idealize.ShloMosaic Idealize.SL.Sem

variable {F : FTy → Type} [FloatOps F]

theorem bodies : @Cert.UpFwd.defs₀ F _ _ = @Cert.UpFwdIdeal.defs₀ F _ _ := by
  unfold Cert.UpFwd.defs₀ Cert.UpFwdIdeal.defs₀
  refine congrArg Defs.onTc ?_
  funext l x
  match l, x with
  | 0, (t, s) => exact rfl
  | ⟨_ + 1, h⟩, _ => exact absurd h (Nat.not_lt.2 (Nat.le_add_left _ _))

theorem mains : @Cert.UpFwd.main F _ _ = @Cert.UpFwdIdeal.main F _ _ := id rfl

theorem tables : @Cert.UpFwd.defs F _ _ = @Cert.UpFwdIdeal.defs F _ _ :=
  congrArg (fun D => Pipeline.defs (Cert.UpFwdIdeal.pcfgs (F := F)) D) bodies

theorem runs (s : MemSt Cert.UpFwdIdeal.nD Cert.UpFwdIdeal.τ Cert.UpFwdIdeal.sig (Elt F)) (Q : PUnit × MemSt Cert.UpFwdIdeal.nD Cert.UpFwdIdeal.τ Cert.UpFwdIdeal.sig (Elt F) → Prop)
    (h : θ_run (Cert.UpFwdIdeal.defs (F := F)) (onTc (τ := Cert.UpFwdIdeal.τ) (Cert.UpFwdIdeal.main (F := F))) s Q) :
    θ_run (Cert.UpFwd.defs (F := F)) (onTc (τ := Cert.UpFwd.τ) (Cert.UpFwd.main (F := F))) s Q :=
  (congrArg₂ (fun D M => θ_run D (onTc (τ := Cert.UpFwdIdeal.τ) M) s Q) tables mains).symm ▸ h

theorem frame : Cert.quiescent_UpFwd := fun m ρ _ => runs _ _ (Cert.UpFwdIdeal.Gen.frame (F := Bits) m ρ)

theorem frame_reference : Cert.quiescent_UpFwdReferenceIdeal := fun m ρ _ =>
  (θ_run _ _ _).mono (fun r h => ⟨fun c => (h c).2, sem_eq_zero_of_no_sems (by decide) r.2⟩) (Cert.UpFwdReferenceIdeal.Value.run (F := Ideal) m ρ)

end Cert.UpFwd.M
end
-- ==== Proof.M.Dots.lean ====
module

public import Idealize.ShloMosaic.Lib.Pipeline.Value
public import Idealize.ShloMosaic.Lib.Pipeline.ValueKit
public import Idealize.ShloMosaic.Lib.MatmulPlain

@[expose] public section

noncomputable section

/-! A product of two matrices, an element at a time, at any extents: the kernel's into a zero accumulator, and the host's. -/

namespace Cert.M.Dots

open Idealize.ShloMosaic
open Idealize.ShloMosaic.ValueIdx hiding ix2 ix3 ix4

/-- `K×M` by `K×N`, both contracted on their first axis. -/
def transposedLhs (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

variable {M K N : ℕ}

theorem plain_sum (l : (⟨2, ![M, K]⟩ : Shape).Idx → EReal) (r : (⟨2, ![K, N]⟩ : Shape).Idx → EReal) (i : (⟨2, ![M, N]⟩ : Shape).Idx) :
    (∑ k : (DotDims.plain M K N).contr.Idx, l ((DotDims.plain M K N).lhsIdx i k) * r ((DotDims.plain M K N).rhsIdx i k)) = ∑ k : Fin K, l (ix2 (i 0 : Fin M) k) * r (ix2 k (i 1 : Fin N)) := by
  rw [← Equiv.sum_comp (DotDims.plainContr M K N).symm]
  refine Finset.sum_congr rfl fun k _ => ?_
  have hk := contrEquiv1_symm_val _ K (DotDims.plain_contr_rank M K N) (DotDims.plain_contr_size M K N) k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => exact hk
    | ⟨1, _⟩ => rfl

theorem rows_sum (l : (⟨2, ![M, K]⟩ : Shape).Idx → EReal) (r : (⟨2, ![N, K]⟩ : Shape).Idx → EReal) (i : (⟨2, ![M, N]⟩ : Shape).Idx) :
    (∑ k : (DotDims.transposedRhs M K N).contr.Idx, l ((DotDims.transposedRhs M K N).lhsIdx i k) * r ((DotDims.transposedRhs M K N).rhsIdx i k)) = ∑ k : Fin K, l (ix2 (i 0 : Fin M) k) * r (ix2 (i 1 : Fin N) k) := by
  rw [← Equiv.sum_comp (DotDims.transposedRhsContr M K N).symm]
  refine Finset.sum_congr rfl fun k _ => ?_
  have hk := contrEquiv1_symm_val _ K (DotDims.transposedRhs_contr_rank M K N) (DotDims.transposedRhs_contr_size M K N) k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => rfl
    | ⟨1, _⟩ => exact hk

theorem cols_sum (l : (⟨2, ![K, M]⟩ : Shape).Idx → EReal) (r : (⟨2, ![K, N]⟩ : Shape).Idx → EReal) (i : (⟨2, ![M, N]⟩ : Shape).Idx) :
    (∑ k : (transposedLhs M K N).contr.Idx, l ((transposedLhs M K N).lhsIdx i k) * r ((transposedLhs M K N).rhsIdx i k)) = ∑ k : Fin K, l (ix2 k (i 0 : Fin M)) * r (ix2 k (i 1 : Fin N)) := by
  rw [← Equiv.sum_comp (contrEquiv1 (transposedLhs M K N) K rfl rfl).symm]
  refine Finset.sum_congr rfl fun k _ => ?_
  have hk := contrEquiv1_symm_val (transposedLhs M K N) K rfl rfl k
  refine congrArg₂ (· * ·) (congrArg l (funext fun a => Fin.ext ?_)) (congrArg r (funext fun a => Fin.ext ?_))
  · match a with
    | ⟨0, _⟩ => exact hk
    | ⟨1, _⟩ => rfl
  · match a with
    | ⟨0, _⟩ => exact hk
    | ⟨1, _⟩ => rfl

variable {φ₁ φ₂ : FTy}

theorem plain_mm (l : FVec Ideal ⟨2, ![M, K]⟩ φ₁) (r : FVec Ideal ⟨2, ![K, N]⟩ φ₂) (i : (⟨2, ![M, N]⟩ : Shape).Idx) :
    matmul (DotDims.plain M K N) none l r (constant (F := Ideal) ⟨2, ![M, N]⟩ .f32 0x00000000#32) i = ∑ k : Fin K, l (ix2 (i 0 : Fin M) k) * r (ix2 k (i 1 : Fin N)) :=
  (Ideal.matmul_constant_zero_apply (DotDims.plain M K N) none l r i).trans (plain_sum l r i)

theorem rows_mm (l : FVec Ideal ⟨2, ![M, K]⟩ φ₁) (r : FVec Ideal ⟨2, ![N, K]⟩ φ₂) (i : (⟨2, ![M, N]⟩ : Shape).Idx) :
    matmul (DotDims.transposedRhs M K N) none l r (constant (F := Ideal) ⟨2, ![M, N]⟩ .f32 0x00000000#32) i = ∑ k : Fin K, l (ix2 (i 0 : Fin M) k) * r (ix2 (i 1 : Fin N) k) :=
  (Ideal.matmul_constant_zero_apply (DotDims.transposedRhs M K N) none l r i).trans (rows_sum l r i)

theorem cols_mm (l : FVec Ideal ⟨2, ![K, M]⟩ φ₁) (r : FVec Ideal ⟨2, ![K, N]⟩ φ₂) (i : (⟨2, ![M, N]⟩ : Shape).Idx) :
    matmul (transposedLhs M K N) none l r (constant (F := Ideal) ⟨2, ![M, N]⟩ .f32 0x00000000#32) i = ∑ k : Fin K, l (ix2 k (i 0 : Fin M)) * r (ix2 k (i 1 : Fin N)) :=
  (Ideal.matmul_constant_zero_apply (transposedLhs M K N) none l r i).trans (cols_sum l r i)

theorem plain_dot (l : FVec Ideal ⟨2, ![M, K]⟩ φ₁) (r : FVec Ideal ⟨2, ![K, N]⟩ φ₂) (i : (⟨2, ![M, N]⟩ : Shape).Idx) :
    (Host.dotGeneral (DotDims.plain M K N) none l r : FVec Ideal ⟨2, ![M, N]⟩ .f32) i = ∑ k : Fin K, l (ix2 (i 0 : Fin M) k) * r (ix2 k (i 1 : Fin N)) :=
  (Ideal.dotGeneral_apply (DotDims.plain M K N) none _ l r i).trans (plain_sum l r i)

theorem rows_dot (l : FVec Ideal ⟨2, ![M, K]⟩ φ₁) (r : FVec Ideal ⟨2, ![N, K]⟩ φ₂) (i : (⟨2, ![M, N]⟩ : Shape).Idx) :
    (Host.dotGeneral (DotDims.transposedRhs M K N) none l r : FVec Ideal ⟨2, ![M, N]⟩ .f32) i = ∑ k : Fin K, l (ix2 (i 0 : Fin M) k) * r (ix2 (i 1 : Fin N) k) :=
  (Ideal.dotGeneral_apply (DotDims.transposedRhs M K N) none _ l r i).trans (rows_sum l r i)

theorem cols_dot (l : FVec Ideal ⟨2, ![K, M]⟩ φ₁) (r : FVec Ideal ⟨2, ![K, N]⟩ φ₂) (i : (⟨2, ![M, N]⟩ : Shape).Idx) :
    (Host.dotGeneral (transposedLhs M K N) none l r : FVec Ideal ⟨2, ![M, N]⟩ .f32) i = ∑ k : Fin K, l (ix2 k (i 0 : Fin M)) * r (ix2 k (i 1 : Fin N)) :=
  (Ideal.dotGeneral_apply (transposedLhs M K N) none _ l r i).trans (cols_sum l r i)

/-- The zero that clears an accumulator. -/
theorem zero_bits : Ideal.ofBits .f32 0x00000000#32 = (0 : EReal) := by
  simp [Ideal.ofBits, Ideal.ieee, -EReal.coe_mul]

end Cert.M.Dots

end
-- ==== Proof.M.UpDx.lean ====
module

public import proofs.«01_k».proof.Defs
public import proofs.«01_k».proof.Proof.Gen.UpDxIdeal.Value
public import proofs.«01_k».proof.Proof.Gen.UpDxReferenceIdeal.Run
public import proofs.«01_k».proof.Proof.M.Dots
public import Idealize.ShloMosaic.Lib.Pipeline.Value
public import Idealize.ShloMosaic.Lib.Pipeline.ValueKit

@[expose] public section

set_option maxRecDepth 16384

noncomputable section

/-! The kernel's gradient of the up-projection's input: the cotangent's product with the weight, summed over four blocks of 1408 columns. -/

namespace Cert.UpDxIdeal.M

open Cert.UpDxIdeal Cert.UpDxIdeal.Gen Cert.UpDxIdeal.Value Idealize.ShloMosaic Idealize.ShloMosaic.TcCoe Idealize.SL Idealize.SL.Sem
open Idealize.ShloMosaic.ValueIdx hiding ix2 ix3 ix4

/-- A block of the cotangent times a block of the weight, both by rows. -/
theorem mm (l r : FVec Ideal S1024x1408 .bf16) (i : S1024x1024.Idx) :
    matmul dot_S1024x1408_S1024x1408_S1024x1024_1_1_0_0_n_n none l r (constant S1024x1024 .f32 0x00000000#32) i = ∑ k : Fin 1408, l (ix2 (i 0 : Fin 1024) k : S1024x1408.Idx) * r (ix2 (i 1 : Fin 1024) k : S1024x1408.Idx) :=
  Cert.M.Dots.rows_mm l r i

/-- A block without its leading axis of length one. -/
theorem drop1 (x : FVec Ideal S1x1024x1408 .bf16) (a : Fin 1024) (k : Fin 1408) :
    shapeCast S1024x1408 x shapeCasts_S1x1024x1408_S1024x1408 (ix2 a k : S1024x1408.Idx) = x (ix3 (0 : Fin 1) a k : S1x1024x1408.Idx) :=
  shapeCast_apply _ shapeCasts_S1x1024x1408_S1024x1408 _ _ (by
    rewrite [Shape.rowMajor_val_three, Shape.rowMajor_val_two]
    show (0 * 1024 + a.val) * 1408 + k.val = a.val * 1408 + k.val
    omega)

/-- The product of two staged blocks. -/
def term (a b : FVec Ideal S1x1024x1408 .bf16) (i : S1024x1024.Idx) : EReal :=
  ∑ k : Fin 1408, a (ix3 (0 : Fin 1) (i 0 : Fin 1024) k : S1x1024x1408.Idx) * b (ix3 (0 : Fin 1) (i 1 : Fin 1024) k : S1x1024x1408.Idx)

theorem pay2_at (acc : FVec Ideal S1024x1024 .f32) (a b : FVec Ideal S1x1024x1408 .bf16) (i : S1024x1024.Idx) :
    k0_pay2 (F := Ideal) acc a b i = acc i + term a b i := by
  unfold k0_pay2
  refine (congrFun (shapeCast_self _ _) i).trans ?_
  refine congrArg (fun z : EReal => acc i + z) ((mm _ _ i).trans ?_)
  exact Finset.sum_congr rfl fun k _ => congrArg₂ (· * ·) (drop1 a _ k) (drop1 b _ k)

theorem pay1_at (i : S1024x1024.Idx) : k0_pay1 (F := Ideal) i = (0 : EReal) := by
  unfold k0_pay1
  refine (congrFun (shapeCast_self _ _) i).trans ?_
  exact Cert.M.Dots.zero_bits

variable (m : (ℓ : Loc nD τ sig) → Buf (Elt Ideal) ℓ) (c : Dev nD)

/-- The accumulator read back is what the point before left. -/
theorem kept_at (h : (Memref.whole cc0_scratch0 : Memref sig .tc .vmem S1024x1024 .f32).IsWhole) (x : Vec Ideal S1024x1024 .f32) (a b : FVec Ideal S1x1024x1408 .bf16) :
    k0_pay2 (F := Ideal) (View.read (Elt Ideal) (View.whole cc0_scratch0) (h.unread x)) a b = k0_pay2 x a b :=
  congrArg (fun z => k0_pay2 (F := Ideal) z a b) (h.read_unread x)

theorem first (t : Fin cfg0.N) (h0 : t.val % 4 = 0) (i : S1024x1024.Idx) :
    (outsAt0 m c t.val t.isLt).2 i = 0 + term (iblk m c 0 t) (iblk m c 1 t) i := by
  have e : (outsAt0 m c t.val t.isLt).2 = k0_pay2 (k0_pay1 (F := Ideal)) (iblk m c 0 t) (iblk m c 1 t) := by
    rw [outsAt0_A m c t h0 (by omega)]; frame_out
  exact (congrFun e i).trans ((pay2_at _ _ _ i).trans (congrArg (· + term (iblk m c 0 t) (iblk m c 1 t) i) (pay1_at i)))

theorem later (t : Fin cfg0.N) (h0 : ¬t.val % 4 = 0) (i : S1024x1024.Idx) :
    (outsAt0 m c t.val t.isLt).2 i = (outsAt0 m c (t.val - 1) (Nat.lt_of_le_of_lt (Nat.sub_le _ _) t.isLt)).2 i + term (iblk m c 0 t) (iblk m c 1 t) i := by
  have e : (outsAt0 m c t.val t.isLt).2 = k0_pay2 (outsAt0 m c (t.val - 1) (Nat.lt_of_le_of_lt (Nat.sub_le _ _) t.isLt)).2 (iblk m c 0 t) (iblk m c 1 t) := by
    by_cases h1 : t.val % 4 = 3
    · rw [outsAt0_C m c t h0 h1]; frame_out; exact kept_at _ _ _ _
    · rw [outsAt0_B m c t h0 h1]; frame_out; exact kept_at _ _ _ _
  exact (congrFun e i).trans (pay2_at _ _ _ i)

/-- The block written back is the accumulator. -/
theorem written (t : Fin cfg0.N) (h1 : t.val % 4 = 3) : (outsAt0 m c t.val t.isLt).1 = (outsAt0 m c t.val t.isLt).2 := by
  have e2 : (outsAt0 m c t.val t.isLt).2 = k0_pay2 (outsAt0 m c (t.val - 1) (Nat.lt_of_le_of_lt (Nat.sub_le _ _) t.isLt)).2 (iblk m c 0 t) (iblk m c 1 t) := by
    rw [outsAt0_C m c t (by omega) h1]; frame_out; exact kept_at _ _ _ _
  have e1 : (outsAt0 m c t.val t.isLt).1 = k0_pay2 (outsAt0 m c (t.val - 1) (Nat.lt_of_le_of_lt (Nat.sub_le _ _) t.isLt)).2 (iblk m c 0 t) (iblk m c 1 t) := by
    rw [outsAt0_C m c t (by omega) h1]; frame_out; exact kept_at _ _ _ _
  exact e1.trans e2.symm

/-! The blocks a grid point reads. -/

theorem V_v2 : V m c main_v2 = truncf (F := Ideal) .bf16 (transpose S2x4096x2816 [1, 0, 2] (shapeCast S4096x2x2816 (m (c, main_arg2) : (⟨S4096x5632, .f32⟩ : BufTy).Contents (Elt Ideal)) shapeCasts_S4096x5632_S4096x2x2816) transposes_S4096x2x2816_S2x4096x2816_1_0_2) bitsLt_bf16_f32 := by
  unfold V
  simp only [hostOps0]
  after_results_simp <;> rfl

theorem V_v5 : V m c main_v5 = truncf (F := Ideal) .bf16 (transpose S4x1024x1408 [1, 0, 2] (shapeCast S1024x4x1408 (m (c, main_arg1) : (⟨S1024x5632, .f32⟩ : BufTy).Contents (Elt Ideal)) shapeCasts_S1024x5632_S1024x4x1408) transposes_S1024x4x1408_S4x1024x1408_1_0_2) bitsLt_bf16_f32 := by
  unfold V
  simp only [hostOps0]
  after_results_simp <;> rfl

/-- The cotangent cut in two halves by columns. -/
theorem halves_at (x : FVec Ideal S4096x5632 .f32) (i : S2x4096x2816.Idx) (k : Fin 5632) (hk : k.val = 2816 * (i 0).val + (i 2).val) :
    transpose S2x4096x2816 [1, 0, 2] (shapeCast S4096x2x2816 x shapeCasts_S4096x5632_S4096x2x2816) transposes_S4096x2x2816_S2x4096x2816_1_0_2 i = x (ix2 (i 1 : Fin 4096) k : S4096x5632.Idx) := by
  refine (transpose_apply [1, 0, 2] _ transposes_S4096x2x2816_S2x4096x2816_1_0_2 i (ix3 (i 1 : Fin 4096) (i 0 : Fin 2) (i 2 : Fin 2816) : S4096x2x2816.Idx) (fun b => match b with
    | ⟨0, _⟩ => rfl | ⟨1, _⟩ => rfl | ⟨2, _⟩ => rfl)).trans ?_
  refine shapeCast_apply _ shapeCasts_S4096x5632_S4096x2x2816 _ _ ?_
  rewrite [Shape.rowMajor_val_three, Shape.rowMajor_val_two]
  show (i 1).val * 5632 + k.val = ((i 1).val * 2 + (i 0).val) * 2816 + (i 2).val
  omega

/-- The weight cut by chips. -/
theorem chips_at (x : FVec Ideal S1024x5632 .f32) (i : S4x1024x1408.Idx) (k : Fin 5632) (hk : k.val = 1408 * (i 0).val + (i 2).val) :
    transpose S4x1024x1408 [1, 0, 2] (shapeCast S1024x4x1408 x shapeCasts_S1024x5632_S1024x4x1408) transposes_S1024x4x1408_S4x1024x1408_1_0_2 i = x (ix2 (i 1 : Fin 1024) k : S1024x5632.Idx) := by
  refine (transpose_apply [1, 0, 2] _ transposes_S1024x4x1408_S4x1024x1408_1_0_2 i (ix3 (i 1 : Fin 1024) (i 0 : Fin 4) (i 2 : Fin 1408) : S1024x4x1408.Idx) (fun b => match b with
    | ⟨0, _⟩ => rfl | ⟨1, _⟩ => rfl | ⟨2, _⟩ => rfl)).trans ?_
  refine shapeCast_apply _ shapeCasts_S1024x5632_S1024x4x1408 _ _ ?_
  rewrite [Shape.rowMajor_val_three, Shape.rowMajor_val_two]
  show (i 1).val * 5632 + k.val = ((i 1).val * 4 + (i 0).val) * 1408 + (i 2).val
  omega

theorem arr2 (i : S2x4096x2816.Idx) (k : Fin 5632) (hk : k.val = 2816 * (i 0).val + (i 2).val) :
    V m c main_v2 i = (m (c, main_arg2) : FVec Ideal S4096x5632 .f32) (ix2 (i 1 : Fin 4096) k : S4096x5632.Idx) := by
  rw [V_v2]
  exact halves_at _ i k hk

theorem arr5 (i : S4x1024x1408.Idx) (k : Fin 5632) (hk : k.val = 1408 * (i 0).val + (i 2).val) :
    V m c main_v5 i = (m (c, main_arg1) : FVec Ideal S1024x5632 .f32) (ix2 (i 1 : Fin 1024) k : S1024x5632.Idx) := by
  rw [V_v5]
  exact chips_at _ i k hk

theorem idx0 : ∀ t : Fin cfg0.N, win0_0.index t (0 : Fin 3) = t.val % 4 / 2 ∧ win0_0.index t (1 : Fin 3) = t.val / 4 ∧ win0_0.index t (2 : Fin 3) = t.val % 2 :=
  (by decide +kernel : ∀ t : Fin grid0.N, _)
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

theorem ct_block (t : Fin cfg0.N) (a : Fin 1024) (k : Fin 1408) (r : Fin 4096) (j : Fin 5632) (hr : r.val = 1024 * (t.val / 4) + a.val) (hj : j.val = 1408 * (t.val % 4) + k.val) :
    (iblk m c 0 t : FVec Ideal S1x1024x1408 .bf16) (ix3 (0 : Fin 1) a k : S1x1024x1408.Idx) = (m (c, main_arg2) : FVec Ideal S4096x5632 .f32) (ix2 r j : S4096x5632.Idx) := by
  obtain ⟨a0, a1, a2⟩ := idx0 t
  refine (arr2 m c (((cfg0.win 0).blk t).view.emb (ix3 (0 : Fin 1) a k : S1x1024x1408.Idx)) j ?_).trans (congrArg _ (congrArg (fun q : Fin 4096 => (ix2 q j : S4096x5632.Idx)) (Fin.ext ?_)))
  · show j.val = 2816 * (win0_0.index t (0 : Fin 3) * 1 + 1 * 0) + (win0_0.index t (2 : Fin 3) * 1408 + 1 * k.val)
    omega
  · show win0_0.index t (1 : Fin 3) * 1024 + 1 * a.val = r.val
    omega

theorem w_block (t : Fin cfg0.N) (a : Fin 1024) (k : Fin 1408) (j : Fin 5632) (hj : j.val = 1408 * (t.val % 4) + k.val) :
    (iblk m c 1 t : FVec Ideal S1x1024x1408 .bf16) (ix3 (0 : Fin 1) a k : S1x1024x1408.Idx) = (m (c, main_arg1) : FVec Ideal S1024x5632 .f32) (ix2 a j : S1024x5632.Idx) := by
  obtain ⟨a0, a1, a2⟩ := idx1 t
  refine (arr5 m c (((cfg0.win 1).blk t).view.emb (ix3 (0 : Fin 1) a k : S1x1024x1408.Idx)) j ?_).trans (congrArg _ (congrArg (fun q : Fin 1024 => (ix2 q j : S1024x5632.Idx)) (Fin.ext ?_)))
  · show j.val = 1408 * (win0_1.index t (0 : Fin 3) * 1 + 1 * 0) + (win0_1.index t (2 : Fin 3) * 1408 + 1 * k.val)
    omega
  · show win0_1.index t (1 : Fin 3) * 1024 + 1 * a.val = a.val
    omega

/-- The kernel's result: each row of the cotangent against each row of the weight. -/
def rows (x : FVec Ideal S4096x5632 .f32) (w : FVec Ideal S1024x5632 .f32) : FVec Ideal S4096x1024 .f32 :=
  fun i => ∑ j : Fin 5632, x (ix2 (i 0 : Fin 4096) j : S4096x5632.Idx) * w (ix2 (i 1 : Fin 1024) j : S1024x5632.Idx)

theorem result : G2 m c = rows (m (c, main_arg2)) (m (c, main_arg1)) := by
  funext i
  have hi0 : (i 0).val < 4096 := (i 0).isLt
  have hi1 : (i 1).val < 1024 := (i 1).isLt
  have hN : cfg0.N = 16 := N_0
  have hp : pt2Of i = 4 * ((i 0).val / 1024) + 3 := by show 4 * (1 * ((i 0).val / 1024 - 0) + 1 * ((i 1).val / 1024 - 0)) + 3 = _; omega
  have h : pt2Of i < cfg0.N := by omega
  have hm : (⟨pt2Of i, h⟩ : Fin cfg0.N).val % 4 = 3 := by show pt2Of i % 4 = 3; omega
  unfold G2
  rw [dif_pos h]
  refine (congrArg (fun z : Vec Ideal S1024x1024 .f32 × Vec Ideal S1024x1024 .f32 => z.1 (loc2Of i)) (outsAt0_sweep m c (pt2Of i) h).symm).trans ?_
  refine (congrFun (written m c ⟨pt2Of i, h⟩ hm) (loc2Of i)).trans ?_
  refine (Pipeline.eq_sum_fin_of_reset_step_apply_of_flush (fun n hn => (outsAt0 m c n hn).2) 4 (fun _ => (0 : EReal)) (fun t => term (iblk m c 0 t) (iblk m c 1 t))
    (first m c) (later m c) ⟨pt2Of i, h⟩ hm (loc2Of i)).trans ?_
  refine (zero_add _).trans ?_
  refine Fin.sum_mul_add_congr (S := 4) (n := 1408) (L := 5632) (fun s k hl => ?_)
  have hs : s.val < 4 := s.isLt
  have e : ∀ n : ℕ, n = pt2Of i → (4 * (n / 4) + s.val) / 4 = (i 0).val / 1024 ∧ (4 * (n / 4) + s.val) % 4 = s.val := fun n hn => by omega
  obtain ⟨e1, e2⟩ := e _ rfl
  refine congrArg₂ (· * ·) (ct_block m c _ _ k (i 0) ⟨s.val * 1408 + k.val, hl⟩ ?_ ?_) ((w_block m c _ _ k ⟨s.val * 1408 + k.val, hl⟩ ?_).trans (congrArg _ (congrArg (fun q : Fin 1024 => (ix2 q (⟨s.val * 1408 + k.val, hl⟩ : Fin 5632) : S1024x5632.Idx)) (Fin.ext ?_))))
  · show (i 0).val = 1024 * ((4 * (pt2Of i / 4) + s.val) / 4) + (i 0).val % 1024
    omega
  · show s.val * 1408 + k.val = 1408 * ((4 * (pt2Of i / 4) + s.val) % 4) + k.val
    omega
  · show s.val * 1408 + k.val = 1408 * ((4 * (pt2Of i / 4) + s.val) % 4) + k.val
    omega
  · show (i 1).val % 1024 = (i 1).val
    omega

end Cert.UpDxIdeal.M

namespace Cert.UpDxReferenceIdeal.M

open Cert.UpDxReferenceIdeal Cert.UpDxReferenceIdeal.Gen Idealize.ShloMosaic Idealize.ShloMosaic.TcCoe Idealize.SL Idealize.SL.Sem
open Idealize.ShloMosaic.ValueIdx hiding ix2 ix3 ix4

/-- The reference's product, an element at a time. -/
theorem dot_at (l : FVec Ideal S4096x5632 .f32) (r : FVec Ideal S1024x5632 .f32) (i : S4096x1024.Idx) :
    (Host.dotGeneral dot_S4096x5632_S1024x5632_S4096x1024_1_1_0_0_n_n none l r : FVec Ideal S4096x1024 .f32) i = ∑ k : Fin 5632, l (ix2 (i 0 : Fin 4096) k : S4096x5632.Idx) * r (ix2 (i 1 : Fin 1024) k : S1024x5632.Idx) :=
  Cert.M.Dots.rows_dot l r i

end Cert.UpDxReferenceIdeal.M

namespace Cert.UpDx.M

open Idealize.ShloMosaic Idealize.ShloMosaic.TcCoe Idealize.SL.Sem

/-- The kernel's gradient of the up-projection's input is the reference's, at every argument. -/
theorem algebraic : Cert.algebraic_UpDxIdeal_UpDxReferenceIdeal := by
  intro m g m' g' _ hsame
  refine ⟨fun c => Cert.UpDxIdeal.M.rows (m (c, Cert.UpDxIdeal.main_arg2)) (m (c, Cert.UpDxIdeal.main_arg1)),
    (θ_run _ _ _).mono (fun r h c => ⟨(h c).1.trans (Cert.UpDxIdeal.M.result m c), (h c).2⟩) (Cert.UpDxIdeal.Value.run m g),
    (θ_run _ _ _).mono (fun r h c => ⟨(h c).1.trans ?_, (h c).2⟩) (Cert.UpDxReferenceIdeal.Value.run m' g')⟩
  obtain ⟨e0, e1, e2⟩ := hsame c
  rw [e1, e2]
  exact funext fun i => Cert.UpDxReferenceIdeal.M.dot_at _ _ i

end Cert.UpDx.M

end
-- ==== Proof.M.UpDw.lean ====
module

public import proofs.«01_k».proof.Defs
public import proofs.«01_k».proof.Proof.Gen.UpDwIdeal.Value
public import proofs.«01_k».proof.Proof.Gen.UpDwReferenceIdeal.Run
public import proofs.«01_k».proof.Proof.M.Dots
public import Idealize.ShloMosaic.Lib.Pipeline.Value
public import Idealize.ShloMosaic.Lib.Pipeline.ValueKit

@[expose] public section

set_option maxRecDepth 16384

noncomputable section

/-! The kernel's gradient of the up-projection's weight: the input's product with the cotangent, summed over two blocks of 2048 rows, a chip's columns at a time. -/

namespace Cert.UpDwIdeal.M

open Cert.UpDwIdeal Cert.UpDwIdeal.Gen Cert.UpDwIdeal.Value Idealize.ShloMosaic Idealize.ShloMosaic.TcCoe Idealize.SL Idealize.SL.Sem
open Idealize.ShloMosaic.ValueIdx hiding ix2 ix3 ix4

/-- A block of the input times a block of the cotangent, both by columns. -/
theorem mm (l : FVec Ideal S2048x1024 .bf16) (r : FVec Ideal S2048x1408 .bf16) (i : S1024x1408.Idx) :
    matmul dot_S2048x1024_S2048x1408_S1024x1408_0_0_1_1_n_n none l r (constant S1024x1408 .f32 0x00000000#32) i = ∑ k : Fin 2048, l (ix2 k (i 0 : Fin 1024) : S2048x1024.Idx) * r (ix2 k (i 1 : Fin 1408) : S2048x1408.Idx) :=
  Cert.M.Dots.cols_mm l r i

/-- A block without its leading axis of length one. -/
theorem drop1 (x : FVec Ideal S1x2048x1408 .bf16) (a : Fin 2048) (k : Fin 1408) :
    shapeCast S2048x1408 x shapeCasts_S1x2048x1408_S2048x1408 (ix2 a k : S2048x1408.Idx) = x (ix3 (0 : Fin 1) a k : S1x2048x1408.Idx) :=
  shapeCast_apply _ shapeCasts_S1x2048x1408_S2048x1408 _ _ (by
    rewrite [Shape.rowMajor_val_three, Shape.rowMajor_val_two]
    show (0 * 2048 + a.val) * 1408 + k.val = a.val * 1408 + k.val
    omega)

/-- A block with a leading axis of length one. -/
theorem add1 {α : Type} (x : S1024x1408.Idx → α) (i : S1x1024x1408.Idx) :
    shapeCast S1x1024x1408 x shapeCasts_S1024x1408_S1x1024x1408 i = x (ix2 (i 1 : Fin 1024) (i 2 : Fin 1408) : S1024x1408.Idx) :=
  shapeCast_apply _ shapeCasts_S1024x1408_S1x1024x1408 _ _ (by
    rewrite [Shape.rowMajor_val_three, Shape.rowMajor_val_two]
    have h : (i 0).val < 1 := (i 0).isLt
    show (i 1).val * 1408 + (i 2).val = ((i 0).val * 1024 + (i 1).val) * 1408 + (i 2).val
    omega)

/-- The product of two staged blocks. -/
def term (a : FVec Ideal S2048x1024 .bf16) (b : FVec Ideal S1x2048x1408 .bf16) (i : S1024x1408.Idx) : EReal :=
  ∑ k : Fin 2048, a (ix2 k (i 0 : Fin 1024) : S2048x1024.Idx) * b (ix3 (0 : Fin 1) k (i 1 : Fin 1408) : S1x2048x1408.Idx)

theorem pay2_at (acc : FVec Ideal S1024x1408 .f32) (a : FVec Ideal S2048x1024 .bf16) (b : FVec Ideal S1x2048x1408 .bf16) (i : S1024x1408.Idx) :
    k0_pay2 (F := Ideal) acc a b i = acc i + term a b i := by
  unfold k0_pay2
  refine (congrFun (shapeCast_self _ _) i).trans ?_
  refine congrArg (fun z : EReal => acc i + z) ((mm _ _ i).trans ?_)
  exact Finset.sum_congr rfl fun k _ => congrArg₂ (· * ·) (congrFun (shapeCast_self _ _) _) (drop1 b k _)

theorem pay1_at (i : S1024x1408.Idx) : k0_pay1 (F := Ideal) i = (0 : EReal) := by
  unfold k0_pay1
  refine (congrFun (shapeCast_self _ _) i).trans ?_
  exact Cert.M.Dots.zero_bits

theorem pay3_at (x : FVec Ideal S1024x1408 .f32) (i : S1x1024x1408.Idx) : k0_pay3 (F := Ideal) x i = x (ix2 (i 1 : Fin 1024) (i 2 : Fin 1408) : S1024x1408.Idx) := by
  unfold k0_pay3
  exact add1 x i

theorem pay4_at (x : FVec Ideal S1024x1408 .f32) (i : S1x1024x1408.Idx) : (k0_pay4 (F := Ideal) x i : EReal) = x (ix2 (i 1 : Fin 1024) (i 2 : Fin 1408) : S1024x1408.Idx) := by
  unfold k0_pay4
  exact add1 _ i

variable (m : (ℓ : Loc nD τ sig) → Buf (Elt Ideal) ℓ) (c : Dev nD)

/-- The accumulator read back is what the point before left. -/
theorem kept_at (h : (Memref.whole cc0_scratch0 : Memref sig .tc .vmem S1024x1408 .f32).IsWhole) (x : Vec Ideal S1024x1408 .f32) (a : FVec Ideal S2048x1024 .bf16) (b : FVec Ideal S1x2048x1408 .bf16) :
    k0_pay2 (F := Ideal) (View.read (Elt Ideal) (View.whole cc0_scratch0) (h.unread x)) a b = k0_pay2 x a b :=
  congrArg (fun z => k0_pay2 (F := Ideal) z a b) (h.read_unread x)

theorem first (t : Fin cfg0.N) (h0 : t.val % 2 = 0) (i : S1024x1408.Idx) :
    (outsAt0 m c t.val t.isLt).2.2 i = 0 + term (iblk m c 0 t) (iblk m c 1 t) i := by
  have e : (outsAt0 m c t.val t.isLt).2.2 = k0_pay2 (k0_pay1 (F := Ideal)) (iblk m c 0 t) (iblk m c 1 t) := by
    rw [outsAt0_A m c t h0 (by omega)]; frame_out
  exact (congrFun e i).trans ((pay2_at _ _ _ i).trans (congrArg (· + term (iblk m c 0 t) (iblk m c 1 t) i) (pay1_at i)))

theorem acc_later (t : Fin cfg0.N) (h0 : ¬t.val % 2 = 0) :
    (outsAt0 m c t.val t.isLt).2.2 = k0_pay2 (outsAt0 m c (t.val - 1) (Nat.lt_of_le_of_lt (Nat.sub_le _ _) t.isLt)).2.2 (iblk m c 0 t) (iblk m c 1 t) := by
  rw [outsAt0_B m c t h0 (by omega)]; frame_out; exact kept_at _ _ _ _

theorem later (t : Fin cfg0.N) (h0 : ¬t.val % 2 = 0) (i : S1024x1408.Idx) :
    (outsAt0 m c t.val t.isLt).2.2 i = (outsAt0 m c (t.val - 1) (Nat.lt_of_le_of_lt (Nat.sub_le _ _) t.isLt)).2.2 i + term (iblk m c 0 t) (iblk m c 1 t) i :=
  (congrFun (acc_later m c t h0) i).trans (pay2_at _ _ _ i)

/-- The block written back is the accumulator. -/
theorem written2 (t : Fin cfg0.N) (h1 : t.val % 2 = 1) : (outsAt0 m c t.val t.isLt).1 = k0_pay3 (outsAt0 m c t.val t.isLt).2.2 := by
  rw [acc_later m c t (by omega), outsAt0_B m c t (by omega) h1]; frame_out; exact congrArg (k0_pay3 (F := Ideal)) (kept_at _ _ _ _)

theorem written3 (t : Fin cfg0.N) (h1 : t.val % 2 = 1) : (outsAt0 m c t.val t.isLt).2.1 = k0_pay4 (outsAt0 m c t.val t.isLt).2.2 := by
  rw [acc_later m c t (by omega), outsAt0_B m c t (by omega) h1]; frame_out; exact congrArg (k0_pay4 (F := Ideal)) (kept_at _ _ _ _)

/-! The blocks a grid point reads. -/

theorem V_v0 : V m c main_v0 = truncf (F := Ideal) .bf16 (m (c, main_arg0) : (⟨S4096x1024, .f32⟩ : BufTy).Contents (Elt Ideal)) bitsLt_bf16_f32 := by
  unfold V
  simp only [hostOps0]
  after_results_simp <;> rfl

theorem V_v3 : V m c main_v3 = truncf (F := Ideal) .bf16 (transpose S2x4096x2816 [1, 0, 2] (shapeCast S4096x2x2816 (m (c, main_arg2) : (⟨S4096x5632, .f32⟩ : BufTy).Contents (Elt Ideal)) shapeCasts_S4096x5632_S4096x2x2816) transposes_S4096x2x2816_S2x4096x2816_1_0_2) bitsLt_bf16_f32 := by
  unfold V
  simp only [hostOps0]
  after_results_simp <;> rfl

/-- The cotangent cut in two halves by columns. -/
theorem halves_at (x : FVec Ideal S4096x5632 .f32) (i : S2x4096x2816.Idx) (k : Fin 5632) (hk : k.val = 2816 * (i 0).val + (i 2).val) :
    transpose S2x4096x2816 [1, 0, 2] (shapeCast S4096x2x2816 x shapeCasts_S4096x5632_S4096x2x2816) transposes_S4096x2x2816_S2x4096x2816_1_0_2 i = x (ix2 (i 1 : Fin 4096) k : S4096x5632.Idx) := by
  refine (transpose_apply [1, 0, 2] _ transposes_S4096x2x2816_S2x4096x2816_1_0_2 i (ix3 (i 1 : Fin 4096) (i 0 : Fin 2) (i 2 : Fin 2816) : S4096x2x2816.Idx) (fun b => match b with
    | ⟨0, _⟩ => rfl | ⟨1, _⟩ => rfl | ⟨2, _⟩ => rfl)).trans ?_
  refine shapeCast_apply _ shapeCasts_S4096x5632_S4096x2x2816 _ _ ?_
  rewrite [Shape.rowMajor_val_three, Shape.rowMajor_val_two]
  show (i 1).val * 5632 + k.val = ((i 1).val * 2 + (i 0).val) * 2816 + (i 2).val
  omega

theorem arr0 (i : S4096x1024.Idx) : V m c main_v0 i = (m (c, main_arg0) : FVec Ideal S4096x1024 .f32) i := by
  rw [V_v0]
  exact rfl

theorem arr3 (i : S2x4096x2816.Idx) (k : Fin 5632) (hk : k.val = 2816 * (i 0).val + (i 2).val) :
    V m c main_v3 i = (m (c, main_arg2) : FVec Ideal S4096x5632 .f32) (ix2 (i 1 : Fin 4096) k : S4096x5632.Idx) := by
  rw [V_v3]
  exact halves_at _ i k hk

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = t.val % 2 ∧ win0_1.index t (2 : Fin 3) = t.val / 2 % 2 :=
  (by decide +kernel : ∀ t : Fin grid0.N, _)

theorem h_block (t : Fin cfg0.N) (k : Fin 2048) (a a' : Fin 1024) (r : Fin 4096) (hr : r.val = 2048 * (t.val % 2) + k.val) (ha : a.val = a'.val) :
    (iblk m c 0 t : FVec Ideal S2048x1024 .bf16) (ix2 k a : S2048x1024.Idx) = (m (c, main_arg0) : FVec Ideal S4096x1024 .f32) (ix2 r a' : S4096x1024.Idx) := by
  obtain ⟨a0, a1⟩ := idx0 t
  refine (arr0 m c (((cfg0.win 0).blk t).view.emb (ix2 k a : S2048x1024.Idx))).trans (congrArg _ (funext fun b => Fin.ext (match b with
    | ⟨0, _⟩ => ?_ | ⟨1, _⟩ => ?_)))
  · show win0_0.index t (0 : Fin 2) * 2048 + 1 * k.val = r.val
    omega
  · show win0_0.index t (1 : Fin 2) * 1024 + 1 * a.val = a'.val
    omega

theorem ct_block (t : Fin cfg0.N) (k : Fin 2048) (b : Fin 1408) (r : Fin 4096) (j : Fin 5632) (hr : r.val = 2048 * (t.val % 2) + k.val) (hj : j.val = 1408 * (t.val / 2) + b.val) :
    (iblk m c 1 t : FVec Ideal S1x2048x1408 .bf16) (ix3 (0 : Fin 1) k b : S1x2048x1408.Idx) = (m (c, main_arg2) : FVec Ideal S4096x5632 .f32) (ix2 r j : S4096x5632.Idx) := by
  obtain ⟨a0, a1, a2⟩ := idx1 t
  refine (arr3 m c (((cfg0.win 1).blk t).view.emb (ix3 (0 : Fin 1) k b : S1x2048x1408.Idx)) j ?_).trans (congrArg _ (congrArg (fun q : Fin 4096 => (ix2 q j : S4096x5632.Idx)) (Fin.ext ?_)))
  · show j.val = 2816 * (win0_1.index t (0 : Fin 3) * 1 + 1 * 0) + (win0_1.index t (2 : Fin 3) * 1408 + 1 * b.val)
    omega
  · show win0_1.index t (1 : Fin 3) * 2048 + 1 * k.val = r.val
    omega

/-- A chip's column of the weight, in the whole weight. -/
def col (i : S4x1024x1408.Idx) : Fin 5632 := ⟨1408 * (i 0).val + (i 2).val, by
  have h0 : (i 0).val < 4 := (i 0).isLt
  have h2 : (i 2).val < 1408 := (i 2).isLt
  omega⟩

/-- The kernel's result: each column of the input against each column of the cotangent. -/
def cols (h : FVec Ideal S4096x1024 .f32) (x : FVec Ideal S4096x5632 .f32) (i : S4x1024x1408.Idx) : EReal :=
  ∑ r : Fin 4096, h (ix2 r (i 1 : Fin 1024) : S4096x1024.Idx) * x (ix2 r (col i) : S4096x5632.Idx)

/-- The accumulator at a chip's last point. -/
theorem total (i : S4x1024x1408.Idx) (t : Fin cfg0.N) (ht : t.val = 2 * (i 0).val + 1) (y : S1024x1408.Idx) (hy0 : (y 0).val = (i 1).val) (hy1 : (y 1).val = (i 2).val) :
    (outsAt0 m c t.val t.isLt).2.2 y = cols (m (c, main_arg0)) (m (c, main_arg2)) i := by
  refine (Pipeline.eq_sum_fin_of_reset_step_apply_of_flush (fun n hn => (outsAt0 m c n hn).2.2) 2 (fun _ => (0 : EReal)) (fun t => term (iblk m c 0 t) (iblk m c 1 t))
    (first m c) (later m c) t (by omega) y).trans ?_
  refine (zero_add _).trans ?_
  refine Fin.sum_mul_add_congr (S := 2) (n := 2048) (L := 4096) (fun s k hl => ?_)
  have hs : s.val < 2 := s.isLt
  refine congrArg₂ (· * ·) (h_block m c _ k _ (i 1) ⟨s.val * 2048 + k.val, hl⟩ ?_ hy0) (ct_block m c _ k _ ⟨s.val * 2048 + k.val, hl⟩ (col i) ?_ ?_)
  · show s.val * 2048 + k.val = 2048 * ((2 * (t.val / 2) + s.val) % 2) + k.val
    omega
  · show s.val * 2048 + k.val = 2048 * ((2 * (t.val / 2) + s.val) % 2) + k.val
    omega
  · show 1408 * (i 0).val + (i 2).val = 1408 * ((2 * (t.val / 2) + s.val) / 2) + (y 1).val
    omega

theorem point (i : S4x1024x1408.Idx) : 2 * (1 * ((i 0).val / 1 - 0) + 1 * ((i 1).val / 1024 - 0) + 1 * ((i 2).val / 1408 - 0)) + 1 = 2 * (i 0).val + 1 := by
  have h1 : (i 1).val < 1024 := (i 1).isLt
  have h2 : (i 2).val < 1408 := (i 2).isLt
  omega

theorem result2 : G2 m c = cols (m (c, main_arg0)) (m (c, main_arg2)) := by
  funext i
  have h0 : (i 0).val < 4 := (i 0).isLt
  have hN : cfg0.N = 8 := N_0
  have hp : pt2Of i = 2 * (i 0).val + 1 := point i
  have h : pt2Of i < cfg0.N := by omega
  unfold G2
  rw [dif_pos h]
  refine (congrArg (fun z : Vec Ideal S1x1024x1408 .f32 × Vec Ideal S1x1024x1408 .bf16 × Vec Ideal S1024x1408 .f32 => z.1 (loc2Of i)) (outsAt0_sweep m c (pt2Of i) h).symm).trans ?_
  refine (congrFun (written2 m c ⟨pt2Of i, h⟩ (by show pt2Of i % 2 = 1; omega)) (loc2Of i)).trans ((pay3_at _ _).trans ?_)
  exact total m c i ⟨pt2Of i, h⟩ hp _ (Nat.mod_eq_of_lt (i 1).isLt) (Nat.mod_eq_of_lt (i 2).isLt)

theorem result3 : G3 m c = cols (m (c, main_arg0)) (m (c, main_arg2)) := by
  funext i
  have h0 : (i 0).val < 4 := (i 0).isLt
  have hN : cfg0.N = 8 := N_0
  have hp : pt3Of i = 2 * (i 0).val + 1 := point i
  have h : pt3Of i < cfg0.N := by omega
  unfold G3
  rw [dif_pos h]
  refine (congrArg (fun z : Vec Ideal S1x1024x1408 .f32 × Vec Ideal S1x1024x1408 .bf16 × Vec Ideal S1024x1408 .f32 => z.2.1 (loc3Of i)) (outsAt0_sweep m c (pt3Of i) h).symm).trans ?_
  refine (congrFun (written3 m c ⟨pt3Of i, h⟩ (by show pt3Of i % 2 = 1; omega)) (loc3Of i)).trans ((pay4_at _ _).trans ?_)
  exact total m c i ⟨pt3Of i, h⟩ hp _ (Nat.mod_eq_of_lt (i 1).isLt) (Nat.mod_eq_of_lt (i 2).isLt)

end Cert.UpDwIdeal.M

namespace Cert.UpDwReferenceIdeal.M

open Cert.UpDwReferenceIdeal Cert.UpDwReferenceIdeal.Gen Idealize.ShloMosaic Idealize.ShloMosaic.TcCoe Idealize.SL Idealize.SL.Sem
open Idealize.ShloMosaic.ValueIdx hiding ix2 ix3 ix4

/-- The reference's product, an element at a time. -/
theorem dot_at (l : FVec Ideal S4096x5632 .f32) (r : FVec Ideal S4096x1024 .f32) (i : S5632x1024.Idx) :
    (Host.dotGeneral dot_S4096x5632_S4096x1024_S5632x1024_0_0_1_1_n_n none l r : FVec Ideal S5632x1024 .f32) i = ∑ k : Fin 4096, l (ix2 k (i 0 : Fin 5632) : S4096x5632.Idx) * r (ix2 k (i 1 : Fin 1024) : S4096x1024.Idx) :=
  Cert.M.Dots.cols_dot l r i

/-- A weight gradient by chips, read from its transpose. -/
theorem chips_at (x : FVec Ideal S5632x1024 .f32) (i : S4x1024x1408.Idx) :
    transpose S4x1024x1408 [1, 0, 2] (shapeCast S1024x4x1408 (transpose S1024x5632 [1, 0] x transposes_S5632x1024_S1024x5632_1_0) shapeCasts_S1024x5632_S1024x4x1408) transposes_S1024x4x1408_S4x1024x1408_1_0_2 i
      = x (ix2 (Cert.UpDwIdeal.M.col i) (i 1 : Fin 1024) : S5632x1024.Idx) := by
  refine (transpose_apply [1, 0, 2] _ transposes_S1024x4x1408_S4x1024x1408_1_0_2 i (ix3 (i 1 : Fin 1024) (i 0 : Fin 4) (i 2 : Fin 1408) : S1024x4x1408.Idx) (fun b => match b with
    | ⟨0, _⟩ => rfl | ⟨1, _⟩ => rfl | ⟨2, _⟩ => rfl)).trans ?_
  refine (shapeCast_apply _ shapeCasts_S1024x5632_S1024x4x1408 _ (ix2 (i 1 : Fin 1024) (Cert.UpDwIdeal.M.col i) : S1024x5632.Idx) ?_).trans ?_
  · rewrite [Shape.rowMajor_val_three, Shape.rowMajor_val_two]
    show (i 1).val * 5632 + (1408 * (i 0).val + (i 2).val) = ((i 1).val * 4 + (i 0).val) * 1408 + (i 2).val
    omega
  · exact transpose_apply [1, 0] _ transposes_S5632x1024_S1024x5632_1_0 _ (ix2 (Cert.UpDwIdeal.M.col i) (i 1 : Fin 1024) : S5632x1024.Idx) (fun b => match b with
      | ⟨0, _⟩ => rfl | ⟨1, _⟩ => rfl)

/-- The reference's result is the sum of products the kernel forms. -/
theorem value (h : FVec Ideal S4096x1024 .f32) (x : FVec Ideal S4096x5632 .f32) :
    transpose S4x1024x1408 [1, 0, 2] (shapeCast S1024x4x1408 (transpose S1024x5632 [1, 0] (Host.dotGeneral dot_S4096x5632_S4096x1024_S5632x1024_0_0_1_1_n_n none x h : FVec Ideal S5632x1024 .f32) transposes_S5632x1024_S1024x5632_1_0) shapeCasts_S1024x5632_S1024x4x1408) transposes_S1024x4x1408_S4x1024x1408_1_0_2
      = Cert.UpDwIdeal.M.cols h x :=
  funext fun i => (chips_at _ i).trans ((dot_at x h _).trans (Finset.sum_congr rfl fun k _ => mul_comm _ _))

end Cert.UpDwReferenceIdeal.M

namespace Cert.UpDw.M

open Idealize.ShloMosaic Idealize.ShloMosaic.TcCoe Idealize.SL.Sem

/-- The kernel's gradient of the up-projection's weight and its copy are the reference's, at every argument. -/
theorem algebraic : Cert.algebraic_UpDwIdeal_UpDwReferenceIdeal := by
  intro m g m' g' _ hsame
  refine ⟨fun c => Cert.UpDwIdeal.M.cols (m (c, Cert.UpDwIdeal.main_arg0)) (m (c, Cert.UpDwIdeal.main_arg2)), fun c => Cert.UpDwIdeal.M.cols (m (c, Cert.UpDwIdeal.main_arg0)) (m (c, Cert.UpDwIdeal.main_arg2)),
    (θ_run _ _ _).mono (fun r h c => ⟨(h c).1.trans (Cert.UpDwIdeal.M.result2 m c), (h c).2.1.trans (Cert.UpDwIdeal.M.result3 m c), (h c).2.2⟩) (Cert.UpDwIdeal.Value.run m g),
    (θ_run _ _ _).mono (fun r h c => ⟨(h c).1.trans ?_, (h c).2.1.trans ?_, (h c).2.2⟩) (Cert.UpDwReferenceIdeal.Value.run m' g')⟩
  · obtain ⟨e0, e1, e2⟩ := hsame c
    rw [e0, e2]
    exact Cert.UpDwReferenceIdeal.M.value _ _
  · obtain ⟨e0, e1, e2⟩ := hsame c
    rw [e0, e2]
    exact Cert.UpDwReferenceIdeal.M.value _ _

end Cert.UpDw.M

end
-- ==== Proof.M.DownDx.lean ====
module

public import proofs.«01_k».proof.Defs
public import proofs.«01_k».proof.Proof.Gen.DownDxIdeal.Value
public import proofs.«01_k».proof.Proof.Gen.DownDxReferenceIdeal.Run
public import proofs.«01_k».proof.Proof.M.Dots
public import Idealize.ShloMosaic.Lib.Pipeline.ValueKit

@[expose] public section

set_option maxRecDepth 16384

noncomputable section

/-! The kernel's gradient of the down-projection's input: each block of the result is a product of 1024 rows of the cotangent with 1408 rows of the weight. -/

namespace Cert.DownDxIdeal.M

open Cert.DownDxIdeal Cert.DownDxIdeal.Gen Cert.DownDxIdeal.Value Idealize.ShloMosaic Idealize.ShloMosaic.TcCoe Idealize.SL Idealize.SL.Sem
open Idealize.ShloMosaic.ValueIdx hiding ix2 ix3 ix4

theorem pay1_at (a : FVec Ideal S1024x1024 .f32) (b : FVec Ideal S1408x1024 .bf16) (i : S1024x1408.Idx) :
    k0_pay1 (F := Ideal) a b i = ∑ k : Fin 1024, a (ix2 (i 0 : Fin 1024) k : S1024x1024.Idx) * b (ix2 (i 1 : Fin 1408) k : S1408x1024.Idx) := by
  unfold k0_pay1
  refine (Cert.M.Dots.rows_mm _ _ i).trans ?_
  exact Finset.sum_congr rfl fun k _ => congrArg₂ (· * ·) rfl (congrFun (shapeCast_self _ _) _)

variable (m : (ℓ : Loc nD τ sig) → Buf (Elt Ideal) ℓ) (c : Dev nD)

theorem arr0 (i : S4096x1024.Idx) : V m c main_arg2 i = (m (c, main_arg2) : FVec Ideal S4096x1024 .f32) i := congrFun (V_main_arg2 m c) i

theorem V_v0 : V m c main_v0 = truncf (F := Ideal) .bf16 (m (c, main_arg1) : (⟨S2816x1024, .f32⟩ : BufTy).Contents (Elt Ideal)) bitsLt_bf16_f32 := by
  unfold V
  simp only [hostOps0]
  after_results_simp <;> rfl

theorem arr1 (i : S2816x1024.Idx) : V m c main_v0 i = (m (c, main_arg1) : FVec Ideal S2816x1024 .f32) i := by
  rw [V_v0]
  exact rfl

theorem idxs : ∀ t : Fin cfg0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0 :=
  (by decide +kernel : ∀ t : Fin grid0.N, _)

theorem a_block (t : Fin cfg0.N) (a : Fin 1024) (k : Fin 1024) (r : Fin 4096) (hr : r.val = win0_2.index t (0 : Fin 2) * 1024 + a.val) :
    (iblk m c 0 t : FVec Ideal S1024x1024 .f32) (ix2 a k : S1024x1024.Idx) = (m (c, main_arg2) : FVec Ideal S4096x1024 .f32) (ix2 r k : S4096x1024.Idx) := by
  obtain ⟨a0, a1, _, _⟩ := idxs t
  refine (arr0 m c (((cfg0.win 0).blk t).view.emb (ix2 a k : S1024x1024.Idx))).trans (congrArg _ (funext fun d => Fin.ext (match d with
    | ⟨0, _⟩ => ?_ | ⟨1, _⟩ => ?_)))
  · show win0_0.index t (0 : Fin 2) * 1024 + 1 * a.val = r.val
    omega
  · show win0_0.index t (1 : Fin 2) * 1024 + 1 * k.val = k.val
    omega

theorem b_block (t : Fin cfg0.N) (b : Fin 1408) (k : Fin 1024) (s : Fin 2816) (hs : s.val = win0_2.index t (1 : Fin 2) * 1408 + b.val) :
    (iblk m c 1 t : FVec Ideal S1408x1024 .bf16) (ix2 b k : S1408x1024.Idx) = (m (c, main_arg1) : FVec Ideal S2816x1024 .f32) (ix2 s k : S2816x1024.Idx) := by
  obtain ⟨_, _, a0, a1⟩ := idxs t
  refine (arr1 m c (((cfg0.win 1).blk t).view.emb (ix2 b k : S1408x1024.Idx))).trans (congrArg _ (funext fun d => Fin.ext (match d with
    | ⟨0, _⟩ => ?_ | ⟨1, _⟩ => ?_)))
  · show win0_1.index t (0 : Fin 2) * 1408 + 1 * b.val = s.val
    omega
  · show win0_1.index t (1 : Fin 2) * 1024 + 1 * k.val = k.val
    omega

/-- The kernel's result. -/
def whole (a : FVec Ideal S4096x1024 .f32) (b : FVec Ideal S2816x1024 .f32) (i : S4096x2816.Idx) : EReal :=
  ∑ k : Fin 1024, a (ix2 (i 0 : Fin 4096) k : S4096x1024.Idx) * b (ix2 (i 1 : Fin 2816) k : S2816x1024.Idx)

theorem result : (dats m 0 c).arrAt 2 cfg0.N = whole (m (c, main_arg2)) (m (c, main_arg1)) := by
  refine (dats m 0 c).arrAt_eq_of_covers 2 _ (by decide +kernel) fun t hf y => ?_
  blk_simp
  rw [after0_2]
  frame_out
  refine (pay1_at _ _ y).trans ?_
  refine Finset.sum_congr rfl fun k _ => congrArg₂ (· * ·) (a_block m c t (y 0) k _ ?_) (b_block m c t (y 1) k _ ?_)
  · show win0_2.index t (0 : Fin 2) * 1024 + 1 * (y 0).val = _
    omega
  · show win0_2.index t (1 : Fin 2) * 1408 + 1 * (y 1).val = _
    omega

end Cert.DownDxIdeal.M

namespace Cert.DownDxReferenceIdeal.M

open Cert.DownDxReferenceIdeal Cert.DownDxReferenceIdeal.Gen Idealize.ShloMosaic Idealize.ShloMosaic.TcCoe Idealize.SL Idealize.SL.Sem
open Idealize.ShloMosaic.ValueIdx hiding ix2 ix3 ix4

/-- The reference's product is the same sum. -/
theorem value (a : FVec Ideal S4096x1024 .f32) (b : FVec Ideal S2816x1024 .f32) :
    (Host.dotGeneral dot_S4096x1024_S2816x1024_S4096x2816_1_1_0_0_n_n none a b : FVec Ideal S4096x2816 .f32) = Cert.DownDxIdeal.M.whole a b :=
  funext fun i => Cert.M.Dots.rows_dot a b i

end Cert.DownDxReferenceIdeal.M

namespace Cert.DownDx.M

open Idealize.ShloMosaic Idealize.ShloMosaic.TcCoe Idealize.SL.Sem

/-- The kernel's gradient of the down-projection's input is the reference's, at every argument. -/
theorem algebraic : Cert.algebraic_DownDxIdeal_DownDxReferenceIdeal := by
  intro m g m' g' _ hsame
  refine ⟨fun c => Cert.DownDxIdeal.M.whole (m (c, Cert.DownDxIdeal.main_arg2)) (m (c, Cert.DownDxIdeal.main_arg1)),
    (θ_run _ _ _).mono (fun r h c => ⟨(h c).1.trans (Cert.DownDxIdeal.M.result m c), (h c).2⟩) (Cert.DownDxIdeal.Value.run_blocks m g),
    (θ_run _ _ _).mono (fun r h c => ⟨(h c).1.trans ?_, (h c).2⟩) (Cert.DownDxReferenceIdeal.Value.run m' g')⟩
  · obtain ⟨e0, e1, e2⟩ := hsame c
    rw [e2, e1]
    exact Cert.DownDxReferenceIdeal.M.value _ _

end Cert.DownDx.M

end
-- ==== Proof.M.DownDw.lean ====
module

public import proofs.«01_k».proof.Defs
public import proofs.«01_k».proof.Proof.Gen.DownDwIdeal.Value
public import proofs.«01_k».proof.Proof.Gen.DownDwReferenceIdeal.Run
public import proofs.«01_k».proof.Proof.M.Dots

@[expose] public section

set_option maxRecDepth 16384

noncomputable section

/-! The kernel's gradient of the down-projection's weight: the input's product with the cotangent, summed over four blocks of 1024 rows. -/

namespace Cert.DownDwIdeal.M

open Cert.DownDwIdeal Cert.DownDwIdeal.Gen Cert.DownDwIdeal.Value Idealize.ShloMosaic Idealize.ShloMosaic.TcCoe Idealize.SL Idealize.SL.Sem
open Idealize.ShloMosaic.ValueIdx hiding ix2 ix3 ix4

/-- The product of two staged blocks. -/
def term (a : FVec Ideal S1024x1408 .bf16) (b : FVec Ideal S1024x1024 .f32) (i : S1408x1024.Idx) : EReal :=
  ∑ k : Fin 1024, a (ix2 k (i 0 : Fin 1408) : S1024x1408.Idx) * b (ix2 k (i 1 : Fin 1024) : S1024x1024.Idx)

theorem pay2_at (acc : FVec Ideal S1408x1024 .f32) (a : FVec Ideal S1024x1408 .bf16) (b : FVec Ideal S1024x1024 .f32) (i : S1408x1024.Idx) :
    k0_pay2 (F := Ideal) acc a b i = acc i + term a b i := by
  unfold k0_pay2
  refine (congrFun (shapeCast_self _ _) i).trans ?_
  refine congrArg (fun z : EReal => acc i + z) ((Cert.M.Dots.cols_mm _ _ i).trans ?_)
  exact Finset.sum_congr rfl fun k _ => congrArg₂ (· * ·) (congrFun (shapeCast_self _ _) _) rfl

theorem pay1_at (i : S1408x1024.Idx) : k0_pay1 (F := Ideal) i = (0 : EReal) := by
  unfold k0_pay1
  exact (congrFun (shapeCast_self _ _) i).trans Cert.M.Dots.zero_bits

variable (m : (ℓ : Loc nD τ sig) → Buf (Elt Ideal) ℓ) (c : Dev nD)

/-- The accumulator read back is what the point before left. -/
theorem kept_at (h : (Memref.whole cc0_scratch0 : Memref sig .tc .vmem S1408x1024 .f32).IsWhole) (x : Vec Ideal S1408x1024 .f32) (a : FVec Ideal S1024x1408 .bf16) (b : FVec Ideal S1024x1024 .f32) :
    k0_pay2 (F := Ideal) (View.read (Elt Ideal) (View.whole cc0_scratch0) (h.unread x)) a b = k0_pay2 x a b :=
  congrArg (fun z => k0_pay2 (F := Ideal) z a b) (h.read_unread x)

theorem first (t : Fin cfg0.N) (h0 : t.val % 4 = 0) (i : S1408x1024.Idx) :
    (outsAt0 m c t.val t.isLt).2.2 i = 0 + term (iblk m c 0 t) (iblk m c 1 t) i := by
  have e : (outsAt0 m c t.val t.isLt).2.2 = k0_pay2 (k0_pay1 (F := Ideal)) (iblk m c 0 t) (iblk m c 1 t) := by
    rw [outsAt0_A m c t h0 (by omega)]; frame_out
  exact (congrFun e i).trans ((pay2_at _ _ _ i).trans (congrArg (· + term (iblk m c 0 t) (iblk m c 1 t) i) (pay1_at i)))

theorem acc_later (t : Fin cfg0.N) (h0 : ¬t.val % 4 = 0) :
    (outsAt0 m c t.val t.isLt).2.2 = k0_pay2 (outsAt0 m c (t.val - 1) (Nat.lt_of_le_of_lt (Nat.sub_le _ _) t.isLt)).2.2 (iblk m c 0 t) (iblk m c 1 t) := by
  by_cases h1 : t.val % 4 = 3
  · rw [outsAt0_C m c t h0 h1]; frame_out; exact kept_at _ _ _ _
  · rw [outsAt0_B m c t h0 h1]; frame_out; exact kept_at _ _ _ _

theorem later (t : Fin cfg0.N) (h0 : ¬t.val % 4 = 0) (i : S1408x1024.Idx) :
    (outsAt0 m c t.val t.isLt).2.2 i = (outsAt0 m c (t.val - 1) (Nat.lt_of_le_of_lt (Nat.sub_le _ _) t.isLt)).2.2 i + term (iblk m c 0 t) (iblk m c 1 t) i :=
  (congrFun (acc_later m c t h0) i).trans (pay2_at _ _ _ i)

/-- The block written back is the accumulator. -/
theorem written2 (t : Fin cfg0.N) (h1 : t.val % 4 = 3) : (outsAt0 m c t.val t.isLt).1 = (outsAt0 m c t.val t.isLt).2.2 := by
  rw [acc_later m c t (by omega), outsAt0_C m c t (by omega) h1]; frame_out; exact kept_at _ _ _ _

theorem written3 (t : Fin cfg0.N) (h1 : t.val % 4 = 3) : (outsAt0 m c t.val t.isLt).2.1 = k0_pay3 (outsAt0 m c t.val t.isLt).2.2 := by
  rw [acc_later m c t (by omega), outsAt0_C m c t (by omega) h1]; frame_out; exact congrArg (k0_pay3 (F := Ideal)) (kept_at _ _ _ _)

/-! The blocks a grid point reads. -/

theorem V_v0 : V m c main_v0 = truncf (F := Ideal) .bf16 (m (c, main_arg0) : (⟨S4096x2816, .f32⟩ : BufTy).Contents (Elt Ideal)) bitsLt_bf16_f32 := by
  unfold V
  simp only [hostOps0]
  after_results_simp <;> rfl

theorem arr0 (i : S4096x2816.Idx) : V m c main_v0 i = (m (c, main_arg0) : FVec Ideal S4096x2816 .f32) i := by
  rw [V_v0]
  exact rfl

theorem arr1 (i : S4096x1024.Idx) : V m c main_arg2 i = (m (c, main_arg2) : FVec Ideal S4096x1024 .f32) i :=
  congrFun (V_main_arg2 m c) i

theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem a_block (t : Fin cfg0.N) (a : Fin 1024) (b : Fin 1408) (r : Fin 4096) (s : Fin 2816) (hr : r.val = 1024 * (t.val % 4) + a.val) (hs : s.val = 1408 * (t.val / 4) + b.val) :
    (iblk m c 0 t : FVec Ideal S1024x1408 .bf16) (ix2 a b : S1024x1408.Idx) = (m (c, main_arg0) : FVec Ideal S4096x2816 .f32) (ix2 r s : S4096x2816.Idx) := by
  obtain ⟨a0, a1⟩ := idx0 t
  refine (arr0 m c (((cfg0.win 0).blk t).view.emb (ix2 a b : S1024x1408.Idx))).trans (congrArg _ (funext fun d => Fin.ext (match d with
    | ⟨0, _⟩ => ?_ | ⟨1, _⟩ => ?_)))
  · show win0_0.index t (0 : Fin 2) * 1024 + 1 * a.val = r.val
    omega
  · show win0_0.index t (1 : Fin 2) * 1408 + 1 * b.val = s.val
    omega

theorem b_block (t : Fin cfg0.N) (a : Fin 1024) (b : Fin 1024) (r : Fin 4096) (s : Fin 1024) (hr : r.val = 1024 * (t.val % 4) + a.val) (hs : s.val = 1024 * (0) + b.val) :
    (iblk m c 1 t : FVec Ideal S1024x1024 .f32) (ix2 a b : S1024x1024.Idx) = (m (c, main_arg2) : FVec Ideal S4096x1024 .f32) (ix2 r s : S4096x1024.Idx) := by
  obtain ⟨a0, a1⟩ := idx1 t
  refine (arr1 m c (((cfg0.win 1).blk t).view.emb (ix2 a b : S1024x1024.Idx))).trans (congrArg _ (funext fun d => Fin.ext (match d with
    | ⟨0, _⟩ => ?_ | ⟨1, _⟩ => ?_)))
  · show win0_1.index t (0 : Fin 2) * 1024 + 1 * a.val = r.val
    omega
  · show win0_1.index t (1 : Fin 2) * 1024 + 1 * b.val = s.val
    omega

/-- The kernel's result, the whole sum. -/
def whole (a : FVec Ideal S4096x2816 .f32) (b : FVec Ideal S4096x1024 .f32) (i : S2816x1024.Idx) : EReal :=
  ∑ k : Fin 4096, a (ix2 k (i 0 : Fin 2816) : S4096x2816.Idx) * b (ix2 k (i 1 : Fin 1024) : S4096x1024.Idx)

/-- The accumulator at the last of a block's points. -/
theorem total (i : S2816x1024.Idx) (t : Fin cfg0.N) (ht : t.val = 4 * ((i 0).val / 1408) + 3) (y : S1408x1024.Idx) (hy0 : (y 0).val = (i 0).val % 1408) (hy1 : (y 1).val = (i 1).val) :
    (outsAt0 m c t.val t.isLt).2.2 y = whole (m (c, main_arg0)) (m (c, main_arg2)) i := by
  refine (Pipeline.eq_sum_fin_of_reset_step_apply_of_flush (fun n hn => (outsAt0 m c n hn).2.2) 4 (fun _ => (0 : EReal)) (fun t => term (iblk m c 0 t) (iblk m c 1 t))
    (first m c) (later m c) t (by omega) y).trans ?_
  refine (zero_add _).trans ?_
  refine Fin.sum_mul_add_congr (S := 4) (n := 1024) (L := 4096) (fun s k hl => ?_)
  have hs : s.val < 4 := s.isLt
  refine congrArg₂ (· * ·) (a_block m c _ k _ ⟨s.val * 1024 + k.val, hl⟩ (i 0) ?_ ?_) (b_block m c _ k _ ⟨s.val * 1024 + k.val, hl⟩ (i 1) ?_ ?_)
  · show s.val * 1024 + k.val = 1024 * ((4 * (t.val / 4) + s.val) % 4) + k.val
    omega
  · show (i 0).val = 1408 * ((4 * (t.val / 4) + s.val) / 4) + (y 0).val
    omega
  · show s.val * 1024 + k.val = 1024 * ((4 * (t.val / 4) + s.val) % 4) + k.val
    omega
  · show (i 1).val = 1024 * (0) + (y 1).val
    omega

theorem point (i : S2816x1024.Idx) : 4 * (1 * ((i 0).val / 1408 - 0) + 1 * ((i 1).val / 1024 - 0)) + 3 = 4 * ((i 0).val / 1408) + 3 := by
  have h1 : (i 1).val < 1024 := (i 1).isLt
  omega

theorem result2 : G2 m c = whole (m (c, main_arg0)) (m (c, main_arg2)) := by
  funext i
  have h0 : (i 0).val < 2816 := (i 0).isLt
  have hN : cfg0.N = 8 := N_0
  have hp : pt2Of i = 4 * ((i 0).val / 1408) + 3 := point i
  have h : pt2Of i < cfg0.N := by omega
  unfold G2
  rw [dif_pos h]
  refine (congrArg (fun z : Vec Ideal S1408x1024 .f32 × Vec Ideal S1408x1024 .bf16 × Vec Ideal S1408x1024 .f32 => z.1 (loc2Of i)) (outsAt0_sweep m c (pt2Of i) h).symm).trans ?_
  refine (congrFun (written2 m c ⟨pt2Of i, h⟩ (by show pt2Of i % 4 = 3; omega)) (loc2Of i)).trans ?_
  exact total m c i ⟨pt2Of i, h⟩ hp _ rfl (Nat.mod_eq_of_lt (i 1).isLt)

theorem result3 : G3 m c = whole (m (c, main_arg0)) (m (c, main_arg2)) := by
  funext i
  have h0 : (i 0).val < 2816 := (i 0).isLt
  have hN : cfg0.N = 8 := N_0
  have hp : pt3Of i = 4 * ((i 0).val / 1408) + 3 := point i
  have h : pt3Of i < cfg0.N := by omega
  unfold G3
  rw [dif_pos h]
  refine (congrArg (fun z : Vec Ideal S1408x1024 .f32 × Vec Ideal S1408x1024 .bf16 × Vec Ideal S1408x1024 .f32 => z.2.1 (loc3Of i)) (outsAt0_sweep m c (pt3Of i) h).symm).trans ?_
  refine (congrFun (written3 m c ⟨pt3Of i, h⟩ (by show pt3Of i % 4 = 3; omega)) (loc3Of i)).trans ?_
  exact total m c i ⟨pt3Of i, h⟩ hp _ rfl (Nat.mod_eq_of_lt (i 1).isLt)

end Cert.DownDwIdeal.M

namespace Cert.DownDwReferenceIdeal.M

open Cert.DownDwReferenceIdeal Cert.DownDwReferenceIdeal.Gen Idealize.ShloMosaic Idealize.ShloMosaic.TcCoe Idealize.SL Idealize.SL.Sem
open Idealize.ShloMosaic.ValueIdx hiding ix2 ix3 ix4

/-- The reference's product, transposed, is the same sum. -/
theorem value (a : FVec Ideal S4096x2816 .f32) (b : FVec Ideal S4096x1024 .f32) :
    transpose S2816x1024 [1, 0] (Host.dotGeneral dot_S4096x1024_S4096x2816_S1024x2816_0_0_1_1_n_n none b a : FVec Ideal S1024x2816 .f32) transposes_S1024x2816_S2816x1024_1_0 = Cert.DownDwIdeal.M.whole a b :=
  funext fun i => (transpose_apply [1, 0] _ transposes_S1024x2816_S2816x1024_1_0 i (ix2 (i 1 : Fin 1024) (i 0 : Fin 2816) : S1024x2816.Idx) (fun b => match b with
    | ⟨0, _⟩ => rfl | ⟨1, _⟩ => rfl)).trans ((Cert.M.Dots.cols_dot b a _).trans (Finset.sum_congr rfl fun k _ => mul_comm _ _))

end Cert.DownDwReferenceIdeal.M

namespace Cert.DownDw.M

open Idealize.ShloMosaic Idealize.ShloMosaic.TcCoe Idealize.SL.Sem

/-- The kernel's gradient of the down-projection's weight and its copy are the reference's, at every argument. -/
theorem algebraic : Cert.algebraic_DownDwIdeal_DownDwReferenceIdeal := by
  intro m g m' g' _ hsame
  refine ⟨fun c => Cert.DownDwIdeal.M.whole (m (c, Cert.DownDwIdeal.main_arg0)) (m (c, Cert.DownDwIdeal.main_arg2)), fun c => Cert.DownDwIdeal.M.whole (m (c, Cert.DownDwIdeal.main_arg0)) (m (c, Cert.DownDwIdeal.main_arg2)),
    (θ_run _ _ _).mono (fun r h c => ⟨(h c).1.trans (Cert.DownDwIdeal.M.result2 m c), (h c).2.1.trans (Cert.DownDwIdeal.M.result3 m c), (h c).2.2⟩) (Cert.DownDwIdeal.Value.run m g),
    (θ_run _ _ _).mono (fun r h c => ⟨(h c).1.trans ?_, (h c).2.1.trans ?_, (h c).2.2⟩) (Cert.DownDwReferenceIdeal.Value.run m' g')⟩
  · obtain ⟨e0, e1, e2⟩ := hsame c
    rw [e0, e2]
    exact Cert.DownDwReferenceIdeal.M.value _ _
  · obtain ⟨e0, e1, e2⟩ := hsame c
    rw [e0, e2]
    exact Cert.DownDwReferenceIdeal.M.value _ _

end Cert.DownDw.M

end
-- ==== Proof.M.InDx.lean ====
module

public import proofs.«01_k».proof.Defs
public import proofs.«01_k».proof.Proof.Gen.InDxIdeal.Value
public import proofs.«01_k».proof.Proof.Gen.InDxReferenceIdeal.Run
public import proofs.«01_k».proof.Proof.M.Dots

@[expose] public section

set_option maxRecDepth 16384

noncomputable section

/-! The kernel's gradient of the input projection's input: the cotangent's product with the weight, summed over three blocks of 1536 columns. -/

namespace Cert.InDxIdeal.M

open Cert.InDxIdeal Cert.InDxIdeal.Gen Cert.InDxIdeal.Value Idealize.ShloMosaic Idealize.ShloMosaic.TcCoe Idealize.SL Idealize.SL.Sem
open Idealize.ShloMosaic.ValueIdx hiding ix2 ix3 ix4

/-- The product of two staged blocks. -/
def term (a : FVec Ideal S1024x1536 .bf16) (b : FVec Ideal S1536x1024 .bf16) (i : S1024x1024.Idx) : EReal :=
  ∑ k : Fin 1536, a (ix2 (i 0 : Fin 1024) k : S1024x1536.Idx) * b (ix2 k (i 1 : Fin 1024) : S1536x1024.Idx)

theorem pay2_at (acc : FVec Ideal S1024x1024 .f32) (a : FVec Ideal S1024x1536 .bf16) (b : FVec Ideal S1536x1024 .bf16) (i : S1024x1024.Idx) :
    k0_pay2 (F := Ideal) acc a b i = acc i + term a b i := by
  unfold k0_pay2
  refine (congrFun (shapeCast_self _ _) i).trans ?_
  refine congrArg (fun z : EReal => acc i + z) ((Cert.M.Dots.plain_mm _ _ i).trans ?_)
  exact Finset.sum_congr rfl fun k _ => congrArg₂ (· * ·) (congrFun (shapeCast_self _ _) _) (congrFun (shapeCast_self _ _) _)

theorem pay1_at (i : S1024x1024.Idx) : k0_pay1 (F := Ideal) i = (0 : EReal) := by
  unfold k0_pay1
  exact (congrFun (shapeCast_self _ _) i).trans Cert.M.Dots.zero_bits

variable (m : (ℓ : Loc nD τ sig) → Buf (Elt Ideal) ℓ) (c : Dev nD)

/-- The accumulator read back is what the point before left. -/
theorem kept_at (h : (Memref.whole cc0_scratch0 : Memref sig .tc .vmem S1024x1024 .f32).IsWhole) (x : Vec Ideal S1024x1024 .f32) (a : FVec Ideal S1024x1536 .bf16) (b : FVec Ideal S1536x1024 .bf16) :
    k0_pay2 (F := Ideal) (View.read (Elt Ideal) (View.whole cc0_scratch0) (h.unread x)) a b = k0_pay2 x a b :=
  congrArg (fun z => k0_pay2 (F := Ideal) z a b) (h.read_unread x)

theorem first (t : Fin cfg0.N) (h0 : t.val % 3 = 0) (i : S1024x1024.Idx) :
    (outsAt0 m c t.val t.isLt).2 i = 0 + term (iblk m c 0 t) (iblk m c 1 t) i := by
  have e : (outsAt0 m c t.val t.isLt).2 = k0_pay2 (k0_pay1 (F := Ideal)) (iblk m c 0 t) (iblk m c 1 t) := by
    rw [outsAt0_A m c t h0 (by omega)]; frame_out
  exact (congrFun e i).trans ((pay2_at _ _ _ i).trans (congrArg (· + term (iblk m c 0 t) (iblk m c 1 t) i) (pay1_at i)))

theorem acc_later (t : Fin cfg0.N) (h0 : ¬t.val % 3 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 3 = 2
  · rw [outsAt0_C m c t h0 h1]; frame_out; exact kept_at _ _ _ _
  · rw [outsAt0_B m c t h0 h1]; frame_out; exact kept_at _ _ _ _

theorem later (t : Fin cfg0.N) (h0 : ¬t.val % 3 = 0) (i : S1024x1024.Idx) :
    (outsAt0 m c t.val t.isLt).2 i = (outsAt0 m c (t.val - 1) (Nat.lt_of_le_of_lt (Nat.sub_le _ _) t.isLt)).2 i + term (iblk m c 0 t) (iblk m c 1 t) i :=
  (congrFun (acc_later m c t h0) i).trans (pay2_at _ _ _ i)

/-- The block written back is the accumulator. -/
theorem written2 (t : Fin cfg0.N) (h1 : t.val % 3 = 2) : (outsAt0 m c t.val t.isLt).1 = (outsAt0 m c t.val t.isLt).2 := by
  rw [acc_later m c t (by omega), outsAt0_C m c t (by omega) h1]; frame_out; exact kept_at _ _ _ _

/-! The blocks a grid point reads. -/

theorem V_v0 : V m c main_v0 = truncf (F := Ideal) .bf16 (m (c, main_arg2) : (⟨S4096x4608, .f32⟩ : BufTy).Contents (Elt Ideal)) bitsLt_bf16_f32 := by
  unfold V
  simp only [hostOps0]
  after_results_simp <;> rfl

theorem arr0 (i : S4096x4608.Idx) : V m c main_v0 i = (m (c, main_arg2) : FVec Ideal S4096x4608 .f32) i := by
  rw [V_v0]
  exact rfl

theorem V_v2 : V m c main_v2 = truncf (F := Ideal) .bf16 (transpose S4608x1024 [1, 0] (m (c, main_arg1) : (⟨S1024x4608, .f32⟩ : BufTy).Contents (Elt Ideal)) transposes_S1024x4608_S4608x1024_1_0) bitsLt_bf16_f32 := by
  unfold V
  simp only [hostOps0]
  after_results_simp <;> rfl

theorem arr1 (i : S4608x1024.Idx) : V m c main_v2 i = (m (c, main_arg1) : FVec Ideal S1024x4608 .f32) (ix2 (i 1 : Fin 1024) (i 0 : Fin 4608) : S1024x4608.Idx) := by
  rw [V_v2]
  exact transpose_apply [1, 0] _ transposes_S1024x4608_S4608x1024_1_0 i _ (fun b => match b with
    | ⟨0, _⟩ => rfl | ⟨1, _⟩ => rfl)

theorem idx0 : ∀ t : Fin cfg0.N, win0_0.index t (0 : Fin 2) = t.val / 3 ∧ win0_0.index t (1 : Fin 2) = t.val % 3 :=
  (by decide +kernel : ∀ t : Fin grid0.N, _)
theorem idx1 : ∀ t : Fin cfg0.N, win0_1.index t (0 : Fin 2) = t.val % 3 ∧ win0_1.index t (1 : Fin 2) = 0 :=
  (by decide +kernel : ∀ t : Fin grid0.N, _)

theorem a_block (t : Fin cfg0.N) (a : Fin 1024) (b : Fin 1536) (r : Fin 4096) (s : Fin 4608) (hr : r.val = 1024 * (t.val / 3) + a.val) (hs : s.val = 1536 * (t.val % 3) + b.val) :
    (iblk m c 0 t : FVec Ideal S1024x1536 .bf16) (ix2 a b : S1024x1536.Idx) = (m (c, main_arg2) : FVec Ideal S4096x4608 .f32) (ix2 r s : S4096x4608.Idx) := by
  obtain ⟨a0, a1⟩ := idx0 t
  refine (arr0 m c (((cfg0.win 0).blk t).view.emb (ix2 a b : S1024x1536.Idx))).trans (congrArg _ (funext fun d => Fin.ext (match d with
    | ⟨0, _⟩ => ?_ | ⟨1, _⟩ => ?_)))
  · show win0_0.index t (0 : Fin 2) * 1024 + 1 * a.val = r.val
    omega
  · show win0_0.index t (1 : Fin 2) * 1536 + 1 * b.val = s.val
    omega

theorem b_block (t : Fin cfg0.N) (a : Fin 1536) (b : Fin 1024) (r : Fin 4608) (s : Fin 1024) (hr : r.val = 1536 * (t.val % 3) + a.val) (hs : s.val = 1024 * (0) + b.val) :
    (iblk m c 1 t : FVec Ideal S1536x1024 .bf16) (ix2 a b : S1536x1024.Idx) = (m (c, main_arg1) : FVec Ideal S1024x4608 .f32) (ix2 s r : S1024x4608.Idx) := by
  obtain ⟨a0, a1⟩ := idx1 t
  refine (arr1 m c (((cfg0.win 1).blk t).view.emb (ix2 a b : S1536x1024.Idx))).trans (congrArg _ (funext fun d => Fin.ext (match d with
    | ⟨0, _⟩ => ?_ | ⟨1, _⟩ => ?_)))
  · show win0_1.index t (1 : Fin 2) * 1024 + 1 * b.val = s.val
    omega
  · show win0_1.index t (0 : Fin 2) * 1536 + 1 * a.val = r.val
    omega

/-- The kernel's result, the whole sum. -/
def whole (a : FVec Ideal S4096x4608 .f32) (b : FVec Ideal S1024x4608 .f32) (i : S4096x1024.Idx) : EReal :=
  ∑ k : Fin 4608, a (ix2 (i 0 : Fin 4096) k : S4096x4608.Idx) * b (ix2 (i 1 : Fin 1024) k : S1024x4608.Idx)

/-- The accumulator at the last of a block's points. -/
theorem total (i : S4096x1024.Idx) (t : Fin cfg0.N) (ht : t.val = 3 * ((i 0).val / 1024) + 2) (y : S1024x1024.Idx) (hy0 : (y 0).val = (i 0).val % 1024) (hy1 : (y 1).val = (i 1).val) :
    (outsAt0 m c t.val t.isLt).2 y = whole (m (c, main_arg2)) (m (c, main_arg1)) i := by
  refine (Pipeline.eq_sum_fin_of_reset_step_apply_of_flush (fun n hn => (outsAt0 m c n hn).2) 3 (fun _ => (0 : EReal)) (fun t => term (iblk m c 0 t) (iblk m c 1 t))
    (first m c) (later m c) t (by omega) y).trans ?_
  refine (zero_add _).trans ?_
  refine Fin.sum_mul_add_congr (S := 3) (n := 1536) (L := 4608) (fun s k hl => ?_)
  have hs : s.val < 3 := s.isLt
  refine congrArg₂ (· * ·) (a_block m c _ _ k (i 0) ⟨s.val * 1536 + k.val, hl⟩ ?_ ?_) (b_block m c _ k _ ⟨s.val * 1536 + k.val, hl⟩ (i 1) ?_ ?_)
  · show (i 0).val = 1024 * ((3 * (t.val / 3) + s.val) / 3) + (y 0).val
    omega
  · show s.val * 1536 + k.val = 1536 * ((3 * (t.val / 3) + s.val) % 3) + k.val
    omega
  · show s.val * 1536 + k.val = 1536 * ((3 * (t.val / 3) + s.val) % 3) + k.val
    omega
  · show (i 1).val = 1024 * (0) + (y 1).val
    omega

theorem point (i : S4096x1024.Idx) : 3 * (1 * ((i 0).val / 1024 - 0) + 1 * ((i 1).val / 1024 - 0)) + 2 = 3 * ((i 0).val / 1024) + 2 := by
  have h1 : (i 1).val < 1024 := (i 1).isLt
  omega

theorem result2 : G2 m c = whole (m (c, main_arg2)) (m (c, main_arg1)) := by
  funext i
  have h0 : (i 0).val < 4096 := (i 0).isLt
  have hN : cfg0.N = 12 := N_0
  have hp : pt2Of i = 3 * ((i 0).val / 1024) + 2 := point i
  have h : pt2Of i < cfg0.N := by omega
  unfold G2
  rw [dif_pos h]
  refine (congrArg (fun z : Vec Ideal S1024x1024 .f32 × Vec Ideal S1024x1024 .f32 => z.1 (loc2Of i)) (outsAt0_sweep m c (pt2Of i) h).symm).trans ?_
  refine (congrFun (written2 m c ⟨pt2Of i, h⟩ (by show pt2Of i % 3 = 2; omega)) (loc2Of i)).trans ?_
  exact total m c i ⟨pt2Of i, h⟩ hp _ rfl (Nat.mod_eq_of_lt (i 1).isLt)

end Cert.InDxIdeal.M

namespace Cert.InDxReferenceIdeal.M

open Cert.InDxReferenceIdeal Cert.InDxReferenceIdeal.Gen Idealize.ShloMosaic Idealize.ShloMosaic.TcCoe Idealize.SL Idealize.SL.Sem
open Idealize.ShloMosaic.ValueIdx hiding ix2 ix3 ix4

/-- The reference's product is the same sum. -/
theorem value (a : FVec Ideal S4096x4608 .f32) (b : FVec Ideal S1024x4608 .f32) :
    (Host.dotGeneral dot_S4096x4608_S1024x4608_S4096x1024_1_1_0_0_n_n none a b : FVec Ideal S4096x1024 .f32) = Cert.InDxIdeal.M.whole a b :=
  funext fun i => Cert.M.Dots.rows_dot a b i

end Cert.InDxReferenceIdeal.M

namespace Cert.InDx.M

open Idealize.ShloMosaic Idealize.ShloMosaic.TcCoe Idealize.SL.Sem

/-- The kernel's gradient of the input projection's input is the reference's, at every argument. -/
theorem algebraic : Cert.algebraic_InDxIdeal_InDxReferenceIdeal := by
  intro m g m' g' _ hsame
  refine ⟨fun c => Cert.InDxIdeal.M.whole (m (c, Cert.InDxIdeal.main_arg2)) (m (c, Cert.InDxIdeal.main_arg1)),
    (θ_run _ _ _).mono (fun r h c => ⟨(h c).1.trans (Cert.InDxIdeal.M.result2 m c), (h c).2⟩) (Cert.InDxIdeal.Value.run m g),
    (θ_run _ _ _).mono (fun r h c => ⟨(h c).1.trans ?_, (h c).2⟩) (Cert.InDxReferenceIdeal.Value.run m' g')⟩
  · obtain ⟨e0, e1, e2⟩ := hsame c
    rw [e2, e1]
    exact Cert.InDxReferenceIdeal.M.value _ _

end Cert.InDx.M

end
-- ==== Proof.M.InDw.lean ====
module

public import proofs.«01_k».proof.Defs
public import proofs.«01_k».proof.Proof.Gen.InDwIdeal.Value
public import proofs.«01_k».proof.Proof.Gen.InDwReferenceIdeal.Run
public import proofs.«01_k».proof.Proof.M.Dots

@[expose] public section

set_option maxRecDepth 16384

noncomputable section

/-! The kernel's gradient of the input projection's weight: the cotangent's product with the input, summed over two blocks of 2048 rows. -/

namespace Cert.InDwIdeal.M

open Cert.InDwIdeal Cert.InDwIdeal.Gen Cert.InDwIdeal.Value Idealize.ShloMosaic Idealize.ShloMosaic.TcCoe Idealize.SL Idealize.SL.Sem
open Idealize.ShloMosaic.ValueIdx hiding ix2 ix3 ix4

/-- The product of two staged blocks. -/
def term (a : FVec Ideal S2048x1536 .bf16) (b : FVec Ideal S2048x1024 .bf16) (i : S1536x1024.Idx) : EReal :=
  ∑ k : Fin 2048, a (ix2 k (i 0 : Fin 1536) : S2048x1536.Idx) * b (ix2 k (i 1 : Fin 1024) : S2048x1024.Idx)

theorem pay2_at (acc : FVec Ideal S1536x1024 .f32) (a : FVec Ideal S2048x1536 .bf16) (b : FVec Ideal S2048x1024 .bf16) (i : S1536x1024.Idx) :
    k0_pay2 (F := Ideal) acc a b i = acc i + term a b i := by
  unfold k0_pay2
  refine (congrFun (shapeCast_self _ _) i).trans ?_
  refine congrArg (fun z : EReal => acc i + z) ((Cert.M.Dots.cols_mm _ _ i).trans ?_)
  exact Finset.sum_congr rfl fun k _ => congrArg₂ (· * ·) (congrFun (shapeCast_self _ _) _) (congrFun (shapeCast_self _ _) _)

theorem pay1_at (i : S1536x1024.Idx) : k0_pay1 (F := Ideal) i = (0 : EReal) := by
  unfold k0_pay1
  exact (congrFun (shapeCast_self _ _) i).trans Cert.M.Dots.zero_bits

variable (m : (ℓ : Loc nD τ sig) → Buf (Elt Ideal) ℓ) (c : Dev nD)

/-- The accumulator read back is what the point before left. -/
theorem kept_at (h : (Memref.whole cc0_scratch0 : Memref sig .tc .vmem S1536x1024 .f32).IsWhole) (x : Vec Ideal S1536x1024 .f32) (a : FVec Ideal S2048x1536 .bf16) (b : FVec Ideal S2048x1024 .bf16) :
    k0_pay2 (F := Ideal) (View.read (Elt Ideal) (View.whole cc0_scratch0) (h.unread x)) a b = k0_pay2 x a b :=
  congrArg (fun z => k0_pay2 (F := Ideal) z a b) (h.read_unread x)

theorem first (t : Fin cfg0.N) (h0 : t.val % 2 = 0) (i : S1536x1024.Idx) :
    (outsAt0 m c t.val t.isLt).2 i = 0 + term (iblk m c 0 t) (iblk m c 1 t) i := by
  have e : (outsAt0 m c t.val t.isLt).2 = k0_pay2 (k0_pay1 (F := Ideal)) (iblk m c 0 t) (iblk m c 1 t) := by
    rw [outsAt0_A m c t h0 (by omega)]; frame_out
  exact (congrFun e i).trans ((pay2_at _ _ _ i).trans (congrArg (· + term (iblk m c 0 t) (iblk m c 1 t) i) (pay1_at i)))

theorem acc_later (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 (by omega)]; frame_out; exact kept_at _ _ _ _

theorem later (t : Fin cfg0.N) (h0 : ¬t.val % 2 = 0) (i : S1536x1024.Idx) :
    (outsAt0 m c t.val t.isLt).2 i = (outsAt0 m c (t.val - 1) (Nat.lt_of_le_of_lt (Nat.sub_le _ _) t.isLt)).2 i + term (iblk m c 0 t) (iblk m c 1 t) i :=
  (congrFun (acc_later m c t h0) i).trans (pay2_at _ _ _ i)

/-- The block written back is the accumulator. -/
theorem written2 (t : Fin cfg0.N) (h1 : t.val % 2 = 1) : (outsAt0 m c t.val t.isLt).1 = (outsAt0 m c t.val t.isLt).2 := by
  rw [acc_later m c t (by omega), outsAt0_B m c t (by omega) h1]; frame_out; exact kept_at _ _ _ _

/-! The blocks a grid point reads. -/

theorem V_v0 : V m c main_v0 = truncf (F := Ideal) .bf16 (m (c, main_arg2) : (⟨S4096x4608, .f32⟩ : BufTy).Contents (Elt Ideal)) bitsLt_bf16_f32 := by
  unfold V
  simp only [hostOps0]
  after_results_simp <;> rfl

theorem arr0 (i : S4096x4608.Idx) : V m c main_v0 i = (m (c, main_arg2) : FVec Ideal S4096x4608 .f32) i := by
  rw [V_v0]
  exact rfl

theorem V_v1 : V m c main_v1 = truncf (F := Ideal) .bf16 (m (c, main_arg0) : (⟨S4096x1024, .f32⟩ : BufTy).Contents (Elt Ideal)) bitsLt_bf16_f32 := by
  unfold V
  simp only [hostOps0]
  after_results_simp <;> rfl

theorem arr1 (i : S4096x1024.Idx) : V m c main_v1 i = (m (c, main_arg0) : FVec Ideal S4096x1024 .f32) i := by
  rw [V_v1]
  exact rfl

theorem idx0 : ∀ t : Fin cfg0.N, win0_0.index t (0 : Fin 2) = t.val % 2 ∧ win0_0.index t (1 : Fin 2) = t.val / 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)

theorem a_block (t : Fin cfg0.N) (a : Fin 2048) (b : Fin 1536) (r : Fin 4096) (s : Fin 4608) (hr : r.val = 2048 * (t.val % 2) + a.val) (hs : s.val = 1536 * (t.val / 2) + b.val) :
    (iblk m c 0 t : FVec Ideal S2048x1536 .bf16) (ix2 a b : S2048x1536.Idx) = (m (c, main_arg2) : FVec Ideal S4096x4608 .f32) (ix2 r s : S4096x4608.Idx) := by
  obtain ⟨a0, a1⟩ := idx0 t
  refine (arr0 m c (((cfg0.win 0).blk t).view.emb (ix2 a b : S2048x1536.Idx))).trans (congrArg _ (funext fun d => Fin.ext (match d with
    | ⟨0, _⟩ => ?_ | ⟨1, _⟩ => ?_)))
  · show win0_0.index t (0 : Fin 2) * 2048 + 1 * a.val = r.val
    omega
  · show win0_0.index t (1 : Fin 2) * 1536 + 1 * b.val = s.val
    omega

theorem b_block (t : Fin cfg0.N) (a : Fin 2048) (b : Fin 1024) (r : Fin 4096) (s : Fin 1024) (hr : r.val = 2048 * (t.val % 2) + a.val) (hs : s.val = 1024 * (0) + b.val) :
    (iblk m c 1 t : FVec Ideal S2048x1024 .bf16) (ix2 a b : S2048x1024.Idx) = (m (c, main_arg0) : FVec Ideal S4096x1024 .f32) (ix2 r s : S4096x1024.Idx) := by
  obtain ⟨a0, a1⟩ := idx1 t
  refine (arr1 m c (((cfg0.win 1).blk t).view.emb (ix2 a b : S2048x1024.Idx))).trans (congrArg _ (funext fun d => Fin.ext (match d with
    | ⟨0, _⟩ => ?_ | ⟨1, _⟩ => ?_)))
  · show win0_1.index t (0 : Fin 2) * 2048 + 1 * a.val = r.val
    omega
  · show win0_1.index t (1 : Fin 2) * 1024 + 1 * b.val = s.val
    omega

/-- The kernel's result, the whole sum. -/
def whole (a : FVec Ideal S4096x4608 .f32) (b : FVec Ideal S4096x1024 .f32) (i : S4608x1024.Idx) : EReal :=
  ∑ k : Fin 4096, a (ix2 k (i 0 : Fin 4608) : S4096x4608.Idx) * b (ix2 k (i 1 : Fin 1024) : S4096x1024.Idx)

/-- The accumulator at the last of a block's points. -/
theorem total (i : S4608x1024.Idx) (t : Fin cfg0.N) (ht : t.val = 2 * ((i 0).val / 1536) + 1) (y : S1536x1024.Idx) (hy0 : (y 0).val = (i 0).val % 1536) (hy1 : (y 1).val = (i 1).val) :
    (outsAt0 m c t.val t.isLt).2 y = whole (m (c, main_arg2)) (m (c, main_arg0)) i := by
  refine (Pipeline.eq_sum_fin_of_reset_step_apply_of_flush (fun n hn => (outsAt0 m c n hn).2) 2 (fun _ => (0 : EReal)) (fun t => term (iblk m c 0 t) (iblk m c 1 t))
    (first m c) (later m c) t (by omega) y).trans ?_
  refine (zero_add _).trans ?_
  refine Fin.sum_mul_add_congr (S := 2) (n := 2048) (L := 4096) (fun s k hl => ?_)
  have hs : s.val < 2 := s.isLt
  refine congrArg₂ (· * ·) (a_block m c _ k _ ⟨s.val * 2048 + k.val, hl⟩ (i 0) ?_ ?_) (b_block m c _ k _ ⟨s.val * 2048 + k.val, hl⟩ (i 1) ?_ ?_)
  · show s.val * 2048 + k.val = 2048 * ((2 * (t.val / 2) + s.val) % 2) + k.val
    omega
  · show (i 0).val = 1536 * ((2 * (t.val / 2) + s.val) / 2) + (y 0).val
    omega
  · show s.val * 2048 + k.val = 2048 * ((2 * (t.val / 2) + s.val) % 2) + k.val
    omega
  · show (i 1).val = 1024 * (0) + (y 1).val
    omega

theorem point (i : S4608x1024.Idx) : 2 * (1 * ((i 0).val / 1536 - 0) + 1 * ((i 1).val / 1024 - 0)) + 1 = 2 * ((i 0).val / 1536) + 1 := by
  have h1 : (i 1).val < 1024 := (i 1).isLt
  omega

theorem result2 : G2 m c = whole (m (c, main_arg2)) (m (c, main_arg0)) := by
  funext i
  have h0 : (i 0).val < 4608 := (i 0).isLt
  have hN : cfg0.N = 6 := N_0
  have hp : pt2Of i = 2 * ((i 0).val / 1536) + 1 := point i
  have h : pt2Of i < cfg0.N := by omega
  unfold G2
  rw [dif_pos h]
  refine (congrArg (fun z : Vec Ideal S1536x1024 .f32 × Vec Ideal S1536x1024 .f32 => z.1 (loc2Of i)) (outsAt0_sweep m c (pt2Of i) h).symm).trans ?_
  refine (congrFun (written2 m c ⟨pt2Of i, h⟩ (by show pt2Of i % 2 = 1; omega)) (loc2Of i)).trans ?_
  exact total m c i ⟨pt2Of i, h⟩ hp _ rfl (Nat.mod_eq_of_lt (i 1).isLt)

end Cert.InDwIdeal.M

namespace Cert.InDwReferenceIdeal.M

open Cert.InDwReferenceIdeal Cert.InDwReferenceIdeal.Gen Idealize.ShloMosaic Idealize.ShloMosaic.TcCoe Idealize.SL Idealize.SL.Sem
open Idealize.ShloMosaic.ValueIdx hiding ix2 ix3 ix4

/-- The reference's product, transposed twice, is the same sum. -/
theorem value (a : FVec Ideal S4096x4608 .f32) (b : FVec Ideal S4096x1024 .f32) :
    transpose S4608x1024 [1, 0] (transpose S1024x4608 [1, 0] (Host.dotGeneral dot_S4096x4608_S4096x1024_S4608x1024_0_0_1_1_n_n none a b : FVec Ideal S4608x1024 .f32) transposes_S4608x1024_S1024x4608_1_0) transposes_S1024x4608_S4608x1024_1_0 = Cert.InDwIdeal.M.whole a b :=
  funext fun i => (transpose_apply [1, 0] _ transposes_S1024x4608_S4608x1024_1_0 i (ix2 (i 1 : Fin 1024) (i 0 : Fin 4608) : S1024x4608.Idx) (fun b => match b with
    | ⟨0, _⟩ => rfl | ⟨1, _⟩ => rfl)).trans ((transpose_apply [1, 0] _ transposes_S4608x1024_S1024x4608_1_0 _ i (fun b => match b with
    | ⟨0, _⟩ => rfl | ⟨1, _⟩ => rfl)).trans (Cert.M.Dots.cols_dot a b i))

end Cert.InDwReferenceIdeal.M

namespace Cert.InDw.M

open Idealize.ShloMosaic Idealize.ShloMosaic.TcCoe Idealize.SL.Sem

/-- The kernel's gradient of the input projection's weight is the reference's, at every argument. -/
theorem algebraic : Cert.algebraic_InDwIdeal_InDwReferenceIdeal := by
  intro m g m' g' _ hsame
  refine ⟨fun c => Cert.InDwIdeal.M.whole (m (c, Cert.InDwIdeal.main_arg2)) (m (c, Cert.InDwIdeal.main_arg0)),
    (θ_run _ _ _).mono (fun r h c => ⟨(h c).1.trans (Cert.InDwIdeal.M.result2 m c), (h c).2⟩) (Cert.InDwIdeal.Value.run m g),
    (θ_run _ _ _).mono (fun r h c => ⟨(h c).1.trans ?_, (h c).2⟩) (Cert.InDwReferenceIdeal.Value.run m' g')⟩
  · obtain ⟨e0, e1, e2⟩ := hsame c
    rw [e2, e0]
    exact Cert.InDwReferenceIdeal.M.value _ _

end Cert.InDw.M

end
-- ==== Proof.M.OutDx.lean ====
module

public import proofs.«01_k».proof.Defs
public import proofs.«01_k».proof.Proof.Gen.OutDxIdeal.Value
public import proofs.«01_k».proof.Proof.Gen.OutDxReferenceIdeal.Run
public import proofs.«01_k».proof.Proof.M.Dots
public import Idealize.ShloMosaic.Lib.Pipeline.ValueKit

@[expose] public section

set_option maxRecDepth 16384

noncomputable section

/-! The kernel's gradient of the output projection's input: each block of the result is a product of 512 rows of the cotangent with the weight. -/

namespace Cert.OutDxIdeal.M

open Cert.OutDxIdeal Cert.OutDxIdeal.Gen Cert.OutDxIdeal.Value Idealize.ShloMosaic Idealize.ShloMosaic.TcCoe Idealize.SL Idealize.SL.Sem
open Idealize.ShloMosaic.ValueIdx hiding ix2 ix3 ix4

theorem pay1_at (a : FVec Ideal S512x1024 .f32) (b : FVec Ideal S1024x1024 .bf16) (i : S512x1024.Idx) :
    k0_pay1 (F := Ideal) a b i = ∑ k : Fin 1024, a (ix2 (i 0 : Fin 512) k : S512x1024.Idx) * b (ix2 (i 1 : Fin 1024) k : S1024x1024.Idx) := by
  unfold k0_pay1
  refine (Cert.M.Dots.rows_mm _ _ i).trans ?_
  exact Finset.sum_congr rfl fun k _ => congrArg₂ (· * ·) rfl (congrFun (shapeCast_self _ _) _)

variable (m : (ℓ : Loc nD τ sig) → Buf (Elt Ideal) ℓ) (c : Dev nD)

theorem arr0 (i : S4096x1024.Idx) : V m c main_arg2 i = (m (c, main_arg2) : FVec Ideal S4096x1024 .f32) i := congrFun (V_main_arg2 m c) i

theorem V_v0 : V m c main_v0 = truncf (F := Ideal) .bf16 (m (c, main_arg1) : (⟨S1024x1024, .f32⟩ : BufTy).Contents (Elt Ideal)) bitsLt_bf16_f32 := by
  unfold V
  simp only [hostOps0]
  after_results_simp <;> rfl

theorem arr1 (i : S1024x1024.Idx) : V m c main_v0 i = (m (c, main_arg1) : FVec Ideal S1024x1024 .f32) i := by
  rw [V_v0]
  exact rfl

theorem idxs : ∀ t : Fin cfg0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0 :=
  (by decide +kernel : ∀ t : Fin grid0.N, _)

theorem a_block (t : Fin cfg0.N) (a : Fin 512) (k : Fin 1024) (r : Fin 4096) (hr : r.val = win0_2.index t (0 : Fin 2) * 512 + a.val) :
    (iblk m c 0 t : FVec Ideal S512x1024 .f32) (ix2 a k : S512x1024.Idx) = (m (c, main_arg2) : FVec Ideal S4096x1024 .f32) (ix2 r k : S4096x1024.Idx) := by
  obtain ⟨a0, a1, _, _⟩ := idxs t
  refine (arr0 m c (((cfg0.win 0).blk t).view.emb (ix2 a k : S512x1024.Idx))).trans (congrArg _ (funext fun d => Fin.ext (match d with
    | ⟨0, _⟩ => ?_ | ⟨1, _⟩ => ?_)))
  · show win0_0.index t (0 : Fin 2) * 512 + 1 * a.val = r.val
    omega
  · show win0_0.index t (1 : Fin 2) * 1024 + 1 * k.val = k.val
    omega

theorem b_block (t : Fin cfg0.N) (b : Fin 1024) (k : Fin 1024) (s : Fin 1024) (hs : s.val = win0_2.index t (1 : Fin 2) * 1024 + b.val) :
    (iblk m c 1 t : FVec Ideal S1024x1024 .bf16) (ix2 b k : S1024x1024.Idx) = (m (c, main_arg1) : FVec Ideal S1024x1024 .f32) (ix2 s k : S1024x1024.Idx) := by
  obtain ⟨_, _, a0, a1⟩ := idxs t
  refine (arr1 m c (((cfg0.win 1).blk t).view.emb (ix2 b k : S1024x1024.Idx))).trans (congrArg _ (funext fun d => Fin.ext (match d with
    | ⟨0, _⟩ => ?_ | ⟨1, _⟩ => ?_)))
  · show win0_1.index t (0 : Fin 2) * 1024 + 1 * b.val = s.val
    omega
  · show win0_1.index t (1 : Fin 2) * 1024 + 1 * k.val = k.val
    omega

/-- The kernel's result. -/
def whole (a : FVec Ideal S4096x1024 .f32) (b : FVec Ideal S1024x1024 .f32) (i : S4096x1024.Idx) : EReal :=
  ∑ k : Fin 1024, a (ix2 (i 0 : Fin 4096) k : S4096x1024.Idx) * b (ix2 (i 1 : Fin 1024) k : S1024x1024.Idx)

theorem result : (dats m 0 c).arrAt 2 cfg0.N = whole (m (c, main_arg2)) (m (c, main_arg1)) := by
  refine (dats m 0 c).arrAt_eq_of_covers 2 _ (by decide +kernel) fun t hf y => ?_
  blk_simp
  rw [after0_2]
  frame_out
  refine (pay1_at _ _ y).trans ?_
  refine Finset.sum_congr rfl fun k _ => congrArg₂ (· * ·) (a_block m c t (y 0) k _ ?_) (b_block m c t (y 1) k _ ?_)
  · show win0_2.index t (0 : Fin 2) * 512 + 1 * (y 0).val = _
    omega
  · show win0_2.index t (1 : Fin 2) * 1024 + 1 * (y 1).val = _
    omega

end Cert.OutDxIdeal.M

namespace Cert.OutDxReferenceIdeal.M

open Cert.OutDxReferenceIdeal Cert.OutDxReferenceIdeal.Gen Idealize.ShloMosaic Idealize.ShloMosaic.TcCoe Idealize.SL Idealize.SL.Sem
open Idealize.ShloMosaic.ValueIdx hiding ix2 ix3 ix4

/-- The reference's product is the same sum. -/
theorem value (a : FVec Ideal S4096x1024 .f32) (b : FVec Ideal S1024x1024 .f32) :
    (Host.dotGeneral dot_S4096x1024_S1024x1024_S4096x1024_1_1_0_0_n_n none a b : FVec Ideal S4096x1024 .f32) = Cert.OutDxIdeal.M.whole a b :=
  funext fun i => Cert.M.Dots.rows_dot a b i

end Cert.OutDxReferenceIdeal.M

namespace Cert.OutDx.M

open Idealize.ShloMosaic Idealize.ShloMosaic.TcCoe Idealize.SL.Sem

/-- The kernel's gradient of the output projection's input is the reference's, at every argument. -/
theorem algebraic : Cert.algebraic_OutDxIdeal_OutDxReferenceIdeal := by
  intro m g m' g' _ hsame
  refine ⟨fun c => Cert.OutDxIdeal.M.whole (m (c, Cert.OutDxIdeal.main_arg2)) (m (c, Cert.OutDxIdeal.main_arg1)),
    (θ_run _ _ _).mono (fun r h c => ⟨(h c).1.trans (Cert.OutDxIdeal.M.result m c), (h c).2⟩) (Cert.OutDxIdeal.Value.run_blocks m g),
    (θ_run _ _ _).mono (fun r h c => ⟨(h c).1.trans ?_, (h c).2⟩) (Cert.OutDxReferenceIdeal.Value.run m' g')⟩
  · obtain ⟨e0, e1, e2⟩ := hsame c
    rw [e2, e1]
    exact Cert.OutDxReferenceIdeal.M.value _ _

end Cert.OutDx.M

end
-- ==== Proof.M.OutDw.lean ====
module

public import proofs.«01_k».proof.Defs
public import proofs.«01_k».proof.Proof.Gen.OutDwIdeal.Value
public import proofs.«01_k».proof.Proof.Gen.OutDwReferenceIdeal.Run
public import proofs.«01_k».proof.Proof.M.Dots

@[expose] public section

set_option maxRecDepth 16384

noncomputable section

/-! The kernel's gradient of the output projection's weight: the input's product with the cotangent, summed over four blocks of 1024 rows. -/

namespace Cert.OutDwIdeal.M

open Cert.OutDwIdeal Cert.OutDwIdeal.Gen Cert.OutDwIdeal.Value Idealize.ShloMosaic Idealize.ShloMosaic.TcCoe Idealize.SL Idealize.SL.Sem
open Idealize.ShloMosaic.ValueIdx hiding ix2 ix3 ix4

/-- The product of two staged blocks. -/
def term (a : FVec Ideal S1024x1024 .bf16) (b : FVec Ideal S1024x1024 .f32) (i : S1024x1024.Idx) : EReal :=
  ∑ k : Fin 1024, a (ix2 k (i 0 : Fin 1024) : S1024x1024.Idx) * b (ix2 k (i 1 : Fin 1024) : S1024x1024.Idx)

theorem pay2_at (acc : FVec Ideal S1024x1024 .f32) (a : FVec Ideal S1024x1024 .bf16) (b : FVec Ideal S1024x1024 .f32) (i : S1024x1024.Idx) :
    k0_pay2 (F := Ideal) acc a b i = acc i + term a b i := by
  unfold k0_pay2
  refine (congrFun (shapeCast_self _ _) i).trans ?_
  refine congrArg (fun z : EReal => acc i + z) ((Cert.M.Dots.cols_mm _ _ i).trans ?_)
  exact Finset.sum_congr rfl fun k _ => congrArg₂ (· * ·) (congrFun (shapeCast_self _ _) _) rfl

theorem pay1_at (i : S1024x1024.Idx) : k0_pay1 (F := Ideal) i = (0 : EReal) := by
  unfold k0_pay1
  exact (congrFun (shapeCast_self _ _) i).trans Cert.M.Dots.zero_bits

variable (m : (ℓ : Loc nD τ sig) → Buf (Elt Ideal) ℓ) (c : Dev nD)

/-- The accumulator read back is what the point before left. -/
theorem kept_at (h : (Memref.whole cc0_scratch0 : Memref sig .tc .vmem S1024x1024 .f32).IsWhole) (x : Vec Ideal S1024x1024 .f32) (a : FVec Ideal S1024x1024 .bf16) (b : FVec Ideal S1024x1024 .f32) :
    k0_pay2 (F := Ideal) (View.read (Elt Ideal) (View.whole cc0_scratch0) (h.unread x)) a b = k0_pay2 x a b :=
  congrArg (fun z => k0_pay2 (F := Ideal) z a b) (h.read_unread x)

theorem first (t : Fin cfg0.N) (h0 : t.val % 4 = 0) (i : S1024x1024.Idx) :
    (outsAt0 m c t.val t.isLt).2.2 i = 0 + term (iblk m c 0 t) (iblk m c 1 t) i := by
  have e : (outsAt0 m c t.val t.isLt).2.2 = k0_pay2 (k0_pay1 (F := Ideal)) (iblk m c 0 t) (iblk m c 1 t) := by
    rw [outsAt0_A m c t h0 (by omega)]; frame_out
  exact (congrFun e i).trans ((pay2_at _ _ _ i).trans (congrArg (· + term (iblk m c 0 t) (iblk m c 1 t) i) (pay1_at i)))

theorem acc_later (t : Fin cfg0.N) (h0 : ¬t.val % 4 = 0) :
    (outsAt0 m c t.val t.isLt).2.2 = k0_pay2 (outsAt0 m c (t.val - 1) (Nat.lt_of_le_of_lt (Nat.sub_le _ _) t.isLt)).2.2 (iblk m c 0 t) (iblk m c 1 t) := by
  by_cases h1 : t.val % 4 = 3
  · rw [outsAt0_C m c t h0 h1]; frame_out; exact kept_at _ _ _ _
  · rw [outsAt0_B m c t h0 h1]; frame_out; exact kept_at _ _ _ _

theorem later (t : Fin cfg0.N) (h0 : ¬t.val % 4 = 0) (i : S1024x1024.Idx) :
    (outsAt0 m c t.val t.isLt).2.2 i = (outsAt0 m c (t.val - 1) (Nat.lt_of_le_of_lt (Nat.sub_le _ _) t.isLt)).2.2 i + term (iblk m c 0 t) (iblk m c 1 t) i :=
  (congrFun (acc_later m c t h0) i).trans (pay2_at _ _ _ i)

/-- The block written back is the accumulator. -/
theorem written2 (t : Fin cfg0.N) (h1 : t.val % 4 = 3) : (outsAt0 m c t.val t.isLt).1 = (outsAt0 m c t.val t.isLt).2.2 := by
  rw [acc_later m c t (by omega), outsAt0_C m c t (by omega) h1]; frame_out; exact kept_at _ _ _ _

theorem written3 (t : Fin cfg0.N) (h1 : t.val % 4 = 3) : (outsAt0 m c t.val t.isLt).2.1 = k0_pay3 (outsAt0 m c t.val t.isLt).2.2 := by
  rw [acc_later m c t (by omega), outsAt0_C m c t (by omega) h1]; frame_out; exact congrArg (k0_pay3 (F := Ideal)) (kept_at _ _ _ _)

/-! The blocks a grid point reads. -/

theorem V_v0 : V m c main_v0 = truncf (F := Ideal) .bf16 (m (c, main_arg0) : (⟨S4096x1024, .f32⟩ : BufTy).Contents (Elt Ideal)) bitsLt_bf16_f32 := by
  unfold V
  simp only [hostOps0]
  after_results_simp <;> rfl

theorem arr0 (i : S4096x1024.Idx) : V m c main_v0 i = (m (c, main_arg0) : FVec Ideal S4096x1024 .f32) i := by
  rw [V_v0]
  exact rfl

theorem arr1 (i : S4096x1024.Idx) : V m c main_arg2 i = (m (c, main_arg2) : FVec Ideal S4096x1024 .f32) i :=
  congrFun (V_main_arg2 m c) i

theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem a_block (t : Fin cfg0.N) (a : Fin 1024) (b : Fin 1024) (r : Fin 4096) (s : Fin 1024) (hr : r.val = 1024 * (t.val % 4) + a.val) (hs : s.val = 1024 * (t.val / 4) + b.val) :
    (iblk m c 0 t : FVec Ideal S1024x1024 .bf16) (ix2 a b : S1024x1024.Idx) = (m (c, main_arg0) : FVec Ideal S4096x1024 .f32) (ix2 r s : S4096x1024.Idx) := by
  obtain ⟨a0, a1⟩ := idx0 t
  refine (arr0 m c (((cfg0.win 0).blk t).view.emb (ix2 a b : S1024x1024.Idx))).trans (congrArg _ (funext fun d => Fin.ext (match d with
    | ⟨0, _⟩ => ?_ | ⟨1, _⟩ => ?_)))
  · show win0_0.index t (0 : Fin 2) * 1024 + 1 * a.val = r.val
    omega
  · show win0_0.index t (1 : Fin 2) * 1024 + 1 * b.val = s.val
    omega

theorem b_block (t : Fin cfg0.N) (a : Fin 1024) (b : Fin 1024) (r : Fin 4096) (s : Fin 1024) (hr : r.val = 1024 * (t.val % 4) + a.val) (hs : s.val = 1024 * (0) + b.val) :
    (iblk m c 1 t : FVec Ideal S1024x1024 .f32) (ix2 a b : S1024x1024.Idx) = (m (c, main_arg2) : FVec Ideal S4096x1024 .f32) (ix2 r s : S4096x1024.Idx) := by
  obtain ⟨a0, a1⟩ := idx1 t
  refine (arr1 m c (((cfg0.win 1).blk t).view.emb (ix2 a b : S1024x1024.Idx))).trans (congrArg _ (funext fun d => Fin.ext (match d with
    | ⟨0, _⟩ => ?_ | ⟨1, _⟩ => ?_)))
  · show win0_1.index t (0 : Fin 2) * 1024 + 1 * a.val = r.val
    omega
  · show win0_1.index t (1 : Fin 2) * 1024 + 1 * b.val = s.val
    omega

/-- The kernel's result, the whole sum. -/
def whole (a : FVec Ideal S4096x1024 .f32) (b : FVec Ideal S4096x1024 .f32) (i : S1024x1024.Idx) : EReal :=
  ∑ k : Fin 4096, a (ix2 k (i 0 : Fin 1024) : S4096x1024.Idx) * b (ix2 k (i 1 : Fin 1024) : S4096x1024.Idx)

/-- The accumulator at the last of a block's points. -/
theorem total (i : S1024x1024.Idx) (t : Fin cfg0.N) (ht : t.val = 4 * ((i 0).val / 1024) + 3) (y : S1024x1024.Idx) (hy0 : (y 0).val = (i 0).val % 1024) (hy1 : (y 1).val = (i 1).val) :
    (outsAt0 m c t.val t.isLt).2.2 y = whole (m (c, main_arg0)) (m (c, main_arg2)) i := by
  refine (Pipeline.eq_sum_fin_of_reset_step_apply_of_flush (fun n hn => (outsAt0 m c n hn).2.2) 4 (fun _ => (0 : EReal)) (fun t => term (iblk m c 0 t) (iblk m c 1 t))
    (first m c) (later m c) t (by omega) y).trans ?_
  refine (zero_add _).trans ?_
  refine Fin.sum_mul_add_congr (S := 4) (n := 1024) (L := 4096) (fun s k hl => ?_)
  have hs : s.val < 4 := s.isLt
  refine congrArg₂ (· * ·) (a_block m c _ k _ ⟨s.val * 1024 + k.val, hl⟩ (i 0) ?_ ?_) (b_block m c _ k _ ⟨s.val * 1024 + k.val, hl⟩ (i 1) ?_ ?_)
  · show s.val * 1024 + k.val = 1024 * ((4 * (t.val / 4) + s.val) % 4) + k.val
    omega
  · show (i 0).val = 1024 * ((4 * (t.val / 4) + s.val) / 4) + (y 0).val
    omega
  · show s.val * 1024 + k.val = 1024 * ((4 * (t.val / 4) + s.val) % 4) + k.val
    omega
  · show (i 1).val = 1024 * (0) + (y 1).val
    omega

theorem point (i : S1024x1024.Idx) : 4 * (1 * ((i 0).val / 1024 - 0) + 1 * ((i 1).val / 1024 - 0)) + 3 = 4 * ((i 0).val / 1024) + 3 := by
  have h1 : (i 1).val < 1024 := (i 1).isLt
  omega

theorem result2 : G2 m c = whole (m (c, main_arg0)) (m (c, main_arg2)) := by
  funext i
  have h0 : (i 0).val < 1024 := (i 0).isLt
  have hN : cfg0.N = 4 := N_0
  have hp : pt2Of i = 4 * ((i 0).val / 1024) + 3 := point i
  have h : pt2Of i < cfg0.N := by omega
  unfold G2
  rw [dif_pos h]
  refine (congrArg (fun z : Vec Ideal S1024x1024 .f32 × Vec Ideal S1024x1024 .bf16 × Vec Ideal S1024x1024 .f32 => z.1 (loc2Of i)) (outsAt0_sweep m c (pt2Of i) h).symm).trans ?_
  refine (congrFun (written2 m c ⟨pt2Of i, h⟩ (by show pt2Of i % 4 = 3; omega)) (loc2Of i)).trans ?_
  exact total m c i ⟨pt2Of i, h⟩ hp _ rfl (Nat.mod_eq_of_lt (i 1).isLt)

theorem result3 : G3 m c = whole (m (c, main_arg0)) (m (c, main_arg2)) := by
  funext i
  have h0 : (i 0).val < 1024 := (i 0).isLt
  have hN : cfg0.N = 4 := N_0
  have hp : pt3Of i = 4 * ((i 0).val / 1024) + 3 := point i
  have h : pt3Of i < cfg0.N := by omega
  unfold G3
  rw [dif_pos h]
  refine (congrArg (fun z : Vec Ideal S1024x1024 .f32 × Vec Ideal S1024x1024 .bf16 × Vec Ideal S1024x1024 .f32 => z.2.1 (loc3Of i)) (outsAt0_sweep m c (pt3Of i) h).symm).trans ?_
  refine (congrFun (written3 m c ⟨pt3Of i, h⟩ (by show pt3Of i % 4 = 3; omega)) (loc3Of i)).trans ?_
  exact total m c i ⟨pt3Of i, h⟩ hp _ rfl (Nat.mod_eq_of_lt (i 1).isLt)

end Cert.OutDwIdeal.M

namespace Cert.OutDwReferenceIdeal.M

open Cert.OutDwReferenceIdeal Cert.OutDwReferenceIdeal.Gen Idealize.ShloMosaic Idealize.ShloMosaic.TcCoe Idealize.SL Idealize.SL.Sem
open Idealize.ShloMosaic.ValueIdx hiding ix2 ix3 ix4

/-- The reference's product, transposed, is the same sum. -/
theorem value (a : FVec Ideal S4096x1024 .f32) (b : FVec Ideal S4096x1024 .f32) :
    transpose S1024x1024 [1, 0] (Host.dotGeneral dot_S4096x1024_S4096x1024_S1024x1024_0_0_1_1_n_n none b a : FVec Ideal S1024x1024 .f32) transposes_S1024x1024_S1024x1024_1_0 = Cert.OutDwIdeal.M.whole a b :=
  funext fun i => (transpose_apply [1, 0] _ transposes_S1024x1024_S1024x1024_1_0 i (ix2 (i 1 : Fin 1024) (i 0 : Fin 1024) : S1024x1024.Idx) (fun b => match b with
    | ⟨0, _⟩ => rfl | ⟨1, _⟩ => rfl)).trans ((Cert.M.Dots.cols_dot b a _).trans (Finset.sum_congr rfl fun k _ => mul_comm _ _))

end Cert.OutDwReferenceIdeal.M

namespace Cert.OutDw.M

open Idealize.ShloMosaic Idealize.ShloMosaic.TcCoe Idealize.SL.Sem

/-- The kernel's gradient of the output projection's weight and its copy are the reference's, at every argument. -/
theorem algebraic : Cert.algebraic_OutDwIdeal_OutDwReferenceIdeal := by
  intro m g m' g' _ hsame
  refine ⟨fun c => Cert.OutDwIdeal.M.whole (m (c, Cert.OutDwIdeal.main_arg0)) (m (c, Cert.OutDwIdeal.main_arg2)), fun c => Cert.OutDwIdeal.M.whole (m (c, Cert.OutDwIdeal.main_arg0)) (m (c, Cert.OutDwIdeal.main_arg2)),
    (θ_run _ _ _).mono (fun r h c => ⟨(h c).1.trans (Cert.OutDwIdeal.M.result2 m c), (h c).2.1.trans (Cert.OutDwIdeal.M.result3 m c), (h c).2.2⟩) (Cert.OutDwIdeal.Value.run m g),
    (θ_run _ _ _).mono (fun r h c => ⟨(h c).1.trans ?_, (h c).2.1.trans ?_, (h c).2.2⟩) (Cert.OutDwReferenceIdeal.Value.run m' g')⟩
  · obtain ⟨e0, e1, e2⟩ := hsame c
    rw [e0, e2]
    exact Cert.OutDwReferenceIdeal.M.value _ _
  · obtain ⟨e0, e1, e2⟩ := hsame c
    rw [e0, e2]
    exact Cert.OutDwReferenceIdeal.M.value _ _

end Cert.OutDw.M

end
-- ==== Proof.M.InFwd.lean ====
module

public import proofs.«01_k».proof.Defs
public import proofs.«01_k».proof.Proof.Gen.InFwdIdeal.Value
public import proofs.«01_k».proof.Proof.Gen.InFwdReferenceIdeal.Run
public import proofs.«01_k».proof.Proof.M.Dots
public import Idealize.ShloMosaic.Lib.Pipeline.ValueKit

@[expose] public section

set_option maxRecDepth 16384

noncomputable section

/-! The kernel's input projection: each block of the result is a product of 1024 rows of the input with 1536 columns of the weight. -/

namespace Cert.InFwdIdeal.M

open Cert.InFwdIdeal Cert.InFwdIdeal.Gen Cert.InFwdIdeal.Value Idealize.ShloMosaic Idealize.ShloMosaic.TcCoe Idealize.SL Idealize.SL.Sem
open Idealize.ShloMosaic.ValueIdx hiding ix2 ix3 ix4

theorem pay1_at (a : FVec Ideal S1024x1024 .bf16) (b : FVec Ideal S1536x1024 .bf16) (i : S1024x1536.Idx) :
    k0_pay1 (F := Ideal) a b i = ∑ k : Fin 1024, a (ix2 (i 0 : Fin 1024) k : S1024x1024.Idx) * b (ix2 (i 1 : Fin 1536) k : S1536x1024.Idx) := by
  unfold k0_pay1
  refine (Cert.M.Dots.rows_mm _ _ i).trans ?_
  exact Finset.sum_congr rfl fun k _ => congrArg₂ (· * ·) (congrFun (shapeCast_self _ _) _) (congrFun (shapeCast_self _ _) _)

variable (m : (ℓ : Loc nD τ sig) → Buf (Elt Ideal) ℓ) (c : Dev nD)

theorem V_v0 : V m c main_v0 = truncf (F := Ideal) .bf16 (m (c, main_arg0) : (⟨S4096x1024, .f32⟩ : BufTy).Contents (Elt Ideal)) bitsLt_bf16_f32 := by
  unfold V
  simp only [hostOps0]
  after_results_simp <;> rfl

theorem arr0 (i : S4096x1024.Idx) : V m c main_v0 i = (m (c, main_arg0) : FVec Ideal S4096x1024 .f32) i := by
  rw [V_v0]
  exact rfl

theorem V_v2 : V m c main_v2 = truncf (F := Ideal) .bf16 (transpose S4608x1024 [1, 0] (m (c, main_arg1) : (⟨S1024x4608, .f32⟩ : BufTy).Contents (Elt Ideal)) transposes_S1024x4608_S4608x1024_1_0) bitsLt_bf16_f32 := by
  unfold V
  simp only [hostOps0]
  after_results_simp <;> rfl

theorem arr1 (i : S4608x1024.Idx) : V m c main_v2 i = (m (c, main_arg1) : FVec Ideal S1024x4608 .f32) (ix2 (i 1 : Fin 1024) (i 0 : Fin 4608) : S1024x4608.Idx) := by
  rw [V_v2]
  exact transpose_apply [1, 0] _ transposes_S1024x4608_S4608x1024_1_0 i _ (fun b => match b with
    | ⟨0, _⟩ => rfl | ⟨1, _⟩ => rfl)

theorem idxs : ∀ t : Fin cfg0.N, win0_0.index t (0 : Fin 2) = win0_2.index t (0 : Fin 2) ∧ win0_0.index t (1 : Fin 2) = 0 ∧ win0_1.index t (0 : Fin 2) = win0_2.index t (1 : Fin 2) ∧ win0_1.index t (1 : Fin 2) = 0 :=
  (by decide +kernel : ∀ t : Fin grid0.N, _)

theorem a_block (t : Fin cfg0.N) (a : Fin 1024) (k : Fin 1024) (r : Fin 4096) (hr : r.val = win0_2.index t (0 : Fin 2) * 1024 + a.val) :
    (iblk m c 0 t : FVec Ideal S1024x1024 .bf16) (ix2 a k : S1024x1024.Idx) = (m (c, main_arg0) : FVec Ideal S4096x1024 .f32) (ix2 r k : S4096x1024.Idx) := by
  obtain ⟨a0, a1, _, _⟩ := idxs t
  refine (arr0 m c (((cfg0.win 0).blk t).view.emb (ix2 a k : S1024x1024.Idx))).trans (congrArg _ (funext fun d => Fin.ext (match d with
    | ⟨0, _⟩ => ?_ | ⟨1, _⟩ => ?_)))
  · show win0_0.index t (0 : Fin 2) * 1024 + 1 * a.val = r.val
    omega
  · show win0_0.index t (1 : Fin 2) * 1024 + 1 * k.val = k.val
    omega

theorem b_block (t : Fin cfg0.N) (b : Fin 1536) (k : Fin 1024) (s : Fin 4608) (hs : s.val = win0_2.index t (1 : Fin 2) * 1536 + b.val) :
    (iblk m c 1 t : FVec Ideal S1536x1024 .bf16) (ix2 b k : S1536x1024.Idx) = (m (c, main_arg1) : FVec Ideal S1024x4608 .f32) (ix2 k s : S1024x4608.Idx) := by
  obtain ⟨_, _, a0, a1⟩ := idxs t
  refine (arr1 m c (((cfg0.win 1).blk t).view.emb (ix2 b k : S1536x1024.Idx))).trans (congrArg _ (funext fun d => Fin.ext (match d with
    | ⟨0, _⟩ => ?_ | ⟨1, _⟩ => ?_)))
  · show win0_1.index t (1 : Fin 2) * 1024 + 1 * k.val = k.val
    omega
  · show win0_1.index t (0 : Fin 2) * 1536 + 1 * b.val = s.val
    omega

/-- The kernel's result. -/
def whole (a : FVec Ideal S4096x1024 .f32) (b : FVec Ideal S1024x4608 .f32) (i : S4096x4608.Idx) : EReal :=
  ∑ k : Fin 1024, a (ix2 (i 0 : Fin 4096) k : S4096x1024.Idx) * b (ix2 k (i 1 : Fin 4608) : S1024x4608.Idx)

theorem result : (dats m 0 c).arrAt 2 cfg0.N = whole (m (c, main_arg0)) (m (c, main_arg1)) := by
  refine (dats m 0 c).arrAt_eq_of_covers 2 _ (by decide +kernel) fun t hf y => ?_
  blk_simp
  rw [after0_2]
  frame_out
  refine (pay1_at _ _ y).trans ?_
  refine Finset.sum_congr rfl fun k _ => congrArg₂ (· * ·) (a_block m c t (y 0) k _ ?_) (b_block m c t (y 1) k _ ?_)
  · show win0_2.index t (0 : Fin 2) * 1024 + 1 * (y 0).val = _
    omega
  · show win0_2.index t (1 : Fin 2) * 1536 + 1 * (y 1).val = _
    omega

end Cert.InFwdIdeal.M

namespace Cert.InFwdReferenceIdeal.M

open Cert.InFwdReferenceIdeal Cert.InFwdReferenceIdeal.Gen Idealize.ShloMosaic Idealize.ShloMosaic.TcCoe Idealize.SL Idealize.SL.Sem
open Idealize.ShloMosaic.ValueIdx hiding ix2 ix3 ix4

/-- The reference's product is the same sum. -/
theorem value (a : FVec Ideal S4096x1024 .f32) (b : FVec Ideal S1024x4608 .f32) :
    (Host.dotGeneral dot_S4096x1024_S1024x4608_S4096x4608_1_0_0_1_n_n none a b : FVec Ideal S4096x4608 .f32) = Cert.InFwdIdeal.M.whole a b :=
  funext fun i => Cert.M.Dots.plain_dot a b i

end Cert.InFwdReferenceIdeal.M

namespace Cert.InFwd.M

open Idealize.ShloMosaic Idealize.ShloMosaic.TcCoe Idealize.SL.Sem

/-- The kernel's input projection is the reference's, at every argument. -/
theorem algebraic : Cert.algebraic_InFwdIdeal_InFwdReferenceIdeal := by
  intro m g m' g' _ hsame
  refine ⟨fun c => Cert.InFwdIdeal.M.whole (m (c, Cert.InFwdIdeal.main_arg0)) (m (c, Cert.InFwdIdeal.main_arg1)),
    (θ_run _ _ _).mono (fun r h c => ⟨(h c).1.trans (Cert.InFwdIdeal.M.result m c), (h c).2⟩) (Cert.InFwdIdeal.Value.run_blocks m g),
    (θ_run _ _ _).mono (fun r h c => ⟨(h c).1.trans ?_, (h c).2⟩) (Cert.InFwdReferenceIdeal.Value.run m' g')⟩
  · obtain ⟨e0, e1⟩ := hsame c
    rw [e0, e1]
    exact Cert.InFwdReferenceIdeal.M.value _ _

end Cert.InFwd.M

end
-- ==== Proof.M.UpFwd.lean ====
module

public import proofs.«01_k».proof.Defs
public import proofs.«01_k».proof.Proof.Gen.UpFwdIdeal.Value
public import proofs.«01_k».proof.Proof.Gen.UpFwdReferenceIdeal.Run
public import proofs.«01_k».proof.Proof.M.Dots
public import Idealize.ShloMosaic.Lib.Pipeline.ValueKit

@[expose] public section

set_option maxRecDepth 16384

noncomputable section

/-! The kernel's up-projection, its result in two halves by columns: each block is a product of 1024 rows of the input with one chip's 1408 columns of the weight. -/

namespace Cert.UpFwdIdeal.M

open Cert.UpFwdIdeal Cert.UpFwdIdeal.Gen Cert.UpFwdIdeal.Value Idealize.ShloMosaic Idealize.ShloMosaic.TcCoe Idealize.SL Idealize.SL.Sem
open Idealize.ShloMosaic.ValueIdx hiding ix2 ix3 ix4

/-- A block without its leading axis of length one. -/
theorem drop1 (x : FVec Ideal S1x1024x1408 .bf16) (k : Fin 1024) (b : Fin 1408) :
    shapeCast S1024x1408 x shapeCasts_S1x1024x1408_S1024x1408 (ix2 k b : S1024x1408.Idx) = x (ix3 (0 : Fin 1) k b : S1x1024x1408.Idx) :=
  shapeCast_apply _ shapeCasts_S1x1024x1408_S1024x1408 _ _ (by
    rewrite [Shape.rowMajor_val_three, Shape.rowMajor_val_two]
    show (0 * 1024 + k.val) * 1408 + b.val = k.val * 1408 + b.val
    omega)

/-- A block with a leading axis of length one. -/
theorem add1 (x : FVec Ideal S1024x1408 .f32) (y : S1x1024x1408.Idx) :
    shapeCast S1x1024x1408 x shapeCasts_S1024x1408_S1x1024x1408 y = x (ix2 (y 1 : Fin 1024) (y 2 : Fin 1408) : S1024x1408.Idx) :=
  shapeCast_apply _ shapeCasts_S1024x1408_S1x1024x1408 _ _ (by
    have h0 : (y 0).val < 1 := (y 0).isLt
    rewrite [Shape.rowMajor_val_three, Shape.rowMajor_val_two]
    show (y 1).val * 1408 + (y 2).val = ((y 0).val * 1024 + (y 1).val) * 1408 + (y 2).val
    omega)

theorem pay1_at (a : FVec Ideal S1024x1024 .bf16) (b : FVec Ideal S1x1024x1408 .bf16) (y : S1x1024x1408.Idx) :
    k0_pay1 (F := Ideal) a b y = ∑ k : Fin 1024, a (ix2 (y 1 : Fin 1024) k : S1024x1024.Idx) * b (ix3 (0 : Fin 1) k (y 2 : Fin 1408) : S1x1024x1408.Idx) := by
  unfold k0_pay1
  refine (add1 _ y).trans ((Cert.M.Dots.plain_mm _ _ _).trans ?_)
  exact Finset.sum_congr rfl fun k _ => congrArg₂ (· * ·) (congrFun (shapeCast_self _ _) _) (drop1 b k _)

variable (m : (ℓ : Loc nD τ sig) → Buf (Elt Ideal) ℓ) (c : Dev nD)

theorem V_v0 : V m c main_v0 = truncf (F := Ideal) .bf16 (m (c, main_arg0) : (⟨S4096x1024, .f32⟩ : BufTy).Contents (Elt Ideal)) bitsLt_bf16_f32 := by
  unfold V
  simp only [hostOps0]
  after_results_simp <;> rfl

theorem arr0 (i : S4096x1024.Idx) : V m c main_v0 i = (m (c, main_arg0) : FVec Ideal S4096x1024 .f32) i := by
  rw [V_v0]
  exact rfl

theorem V_v3 : V m c main_v3 = truncf (F := Ideal) .bf16 (transpose S4x1024x1408 [1, 0, 2] (shapeCast S1024x4x1408 (m (c, main_arg1) : (⟨S1024x5632, .f32⟩ : BufTy).Contents (Elt Ideal)) shapeCasts_S1024x5632_S1024x4x1408) transposes_S1024x4x1408_S4x1024x1408_1_0_2) bitsLt_bf16_f32 := by
  unfold V
  simp only [hostOps0]
  after_results_simp <;> rfl

/-- The weight cut by chips. -/
theorem chips_at (x : FVec Ideal S1024x5632 .f32) (i : S4x1024x1408.Idx) (k : Fin 5632) (hk : k.val = 1408 * (i 0).val + (i 2).val) :
    transpose S4x1024x1408 [1, 0, 2] (shapeCast S1024x4x1408 x shapeCasts_S1024x5632_S1024x4x1408) transposes_S1024x4x1408_S4x1024x1408_1_0_2 i = x (ix2 (i 1 : Fin 1024) k : S1024x5632.Idx) := by
  refine (transpose_apply [1, 0, 2] _ transposes_S1024x4x1408_S4x1024x1408_1_0_2 i (ix3 (i 1 : Fin 1024) (i 0 : Fin 4) (i 2 : Fin 1408) : S1024x4x1408.Idx) (fun b => match b with
    | ⟨0, _⟩ => rfl | ⟨1, _⟩ => rfl | ⟨2, _⟩ => rfl)).trans ?_
  refine shapeCast_apply _ shapeCasts_S1024x5632_S1024x4x1408 _ _ ?_
  rewrite [Shape.rowMajor_val_three, Shape.rowMajor_val_two]
  show (i 1).val * 5632 + k.val = ((i 1).val * 4 + (i 0).val) * 1408 + (i 2).val
  omega

theorem arr1 (i : S4x1024x1408.Idx) (k : Fin 5632) (hk : k.val = 1408 * (i 0).val + (i 2).val) :
    V m c main_v3 i = (m (c, main_arg1) : FVec Ideal S1024x5632 .f32) (ix2 (i 1 : Fin 1024) k : S1024x5632.Idx) := by
  rw [V_v3]
  exact chips_at _ i k hk

theorem idxs : ∀ t : Fin cfg0.N, win0_0.index t (0 : Fin 2) = win0_2.index t (1 : Fin 3) ∧ win0_0.index t (1 : Fin 2) = 0 ∧ win0_1.index t (0 : Fin 3) = 2 * win0_2.index t (0 : Fin 3) + win0_2.index t (2 : Fin 3) ∧ win0_1.index t (1 : Fin 3) = 0 ∧ win0_1.index t (2 : Fin 3) = 0 :=
  (by decide +kernel : ∀ t : Fin grid0.N, _)

theorem a_block (t : Fin cfg0.N) (a : Fin 1024) (k : Fin 1024) (r : Fin 4096) (hr : r.val = win0_2.index t (1 : Fin 3) * 1024 + a.val) :
    (iblk m c 0 t : FVec Ideal S1024x1024 .bf16) (ix2 a k : S1024x1024.Idx) = (m (c, main_arg0) : FVec Ideal S4096x1024 .f32) (ix2 r k : S4096x1024.Idx) := by
  obtain ⟨a0, a1, _⟩ := idxs t
  refine (arr0 m c (((cfg0.win 0).blk t).view.emb (ix2 a k : S1024x1024.Idx))).trans (congrArg _ (funext fun d => Fin.ext (match d with
    | ⟨0, _⟩ => ?_ | ⟨1, _⟩ => ?_)))
  · show win0_0.index t (0 : Fin 2) * 1024 + 1 * a.val = r.val
    omega
  · show win0_0.index t (1 : Fin 2) * 1024 + 1 * k.val = k.val
    omega

theorem b_block (t : Fin cfg0.N) (k : Fin 1024) (b : Fin 1408) (s : Fin 5632) (hs : s.val = 2816 * win0_2.index t (0 : Fin 3) + win0_2.index t (2 : Fin 3) * 1408 + b.val) :
    (iblk m c 1 t : FVec Ideal S1x1024x1408 .bf16) (ix3 (0 : Fin 1) k b : S1x1024x1408.Idx) = (m (c, main_arg1) : FVec Ideal S1024x5632 .f32) (ix2 k s : S1024x5632.Idx) := by
  obtain ⟨_, _, a0, a1, a2⟩ := idxs t
  refine (arr1 m c (((cfg0.win 1).blk t).view.emb (ix3 (0 : Fin 1) k b : S1x1024x1408.Idx)) s ?_).trans (congrArg _ (funext fun d => Fin.ext (match d with
    | ⟨0, _⟩ => ?_ | ⟨1, _⟩ => rfl)))
  · show s.val = 1408 * (win0_1.index t (0 : Fin 3) * 1 + 1 * 0) + (win0_1.index t (2 : Fin 3) * 1408 + 1 * b.val)
    omega
  · show win0_1.index t (1 : Fin 3) * 1024 + 1 * k.val = k.val
    omega

/-- The weight's column an element of the halves is of. -/
def col (i : S2x4096x2816.Idx) : Fin 5632 :=
  ⟨2816 * (i 0).val + (i 2).val, by
    have h0 : (i 0).val < 2 := (i 0).isLt
    have h2 : (i 2).val < 2816 := (i 2).isLt
    omega⟩

/-- The kernel's result. -/
def whole (a : FVec Ideal S4096x1024 .f32) (b : FVec Ideal S1024x5632 .f32) (i : S2x4096x2816.Idx) : EReal :=
  ∑ k : Fin 1024, a (ix2 (i 1 : Fin 4096) k : S4096x1024.Idx) * b (ix2 k (col i) : S1024x5632.Idx)

theorem result : (dats m 0 c).arrAt 2 cfg0.N = whole (m (c, main_arg0)) (m (c, main_arg1)) := by
  refine (dats m 0 c).arrAt_eq_of_covers 2 _ (by decide +kernel) fun t hf y => ?_
  blk_simp
  rw [after0_2]
  frame_out
  refine (pay1_at _ _ y).trans ?_
  refine Finset.sum_congr rfl fun k _ => congrArg₂ (· * ·) (a_block m c t (y 1) k _ ?_) (b_block m c t k (y 2) _ ?_)
  · show win0_2.index t (1 : Fin 3) * 1024 + 1 * (y 1).val = _
    omega
  · have h0 : (y 0).val < 1 := (y 0).isLt
    show 2816 * (win0_2.index t (0 : Fin 3) * 1 + 1 * (y 0).val) + (win0_2.index t (2 : Fin 3) * 1408 + 1 * (y 2).val) = _
    omega

end Cert.UpFwdIdeal.M

namespace Cert.UpFwdReferenceIdeal.M

open Cert.UpFwdReferenceIdeal Cert.UpFwdReferenceIdeal.Gen Idealize.ShloMosaic Idealize.ShloMosaic.TcCoe Idealize.SL Idealize.SL.Sem
open Idealize.ShloMosaic.ValueIdx hiding ix2 ix3 ix4

/-- The reference's product, cut in two halves by columns, is the same sum. -/
theorem value (a : FVec Ideal S4096x1024 .f32) (b : FVec Ideal S1024x5632 .f32) :
    transpose S2x4096x2816 [1, 0, 2] (shapeCast S4096x2x2816 (Host.dotGeneral dot_S4096x1024_S1024x5632_S4096x5632_1_0_0_1_n_n none a b : FVec Ideal S4096x5632 .f32) shapeCasts_S4096x5632_S4096x2x2816) transposes_S4096x2x2816_S2x4096x2816_1_0_2 = Cert.UpFwdIdeal.M.whole a b := by
  funext i
  refine (transpose_apply [1, 0, 2] _ transposes_S4096x2x2816_S2x4096x2816_1_0_2 i (ix3 (i 1 : Fin 4096) (i 0 : Fin 2) (i 2 : Fin 2816) : S4096x2x2816.Idx) (fun b => match b with
    | ⟨0, _⟩ => rfl | ⟨1, _⟩ => rfl | ⟨2, _⟩ => rfl)).trans ?_
  refine (shapeCast_apply _ shapeCasts_S4096x5632_S4096x2x2816 _ (ix2 (i 1 : Fin 4096) (Cert.UpFwdIdeal.M.col i) : S4096x5632.Idx) ?_).trans (Cert.M.Dots.plain_dot a b _)
  rewrite [Shape.rowMajor_val_three, Shape.rowMajor_val_two]
  show (i 1).val * 5632 + (2816 * (i 0).val + (i 2).val) = ((i 1).val * 2 + (i 0).val) * 2816 + (i 2).val
  omega

end Cert.UpFwdReferenceIdeal.M

namespace Cert.UpFwd.M

open Idealize.ShloMosaic Idealize.ShloMosaic.TcCoe Idealize.SL.Sem

/-- The kernel's up-projection is the reference's, at every argument. -/
theorem algebraic : Cert.algebraic_UpFwdIdeal_UpFwdReferenceIdeal := by
  intro m g m' g' _ hsame
  refine ⟨fun c => Cert.UpFwdIdeal.M.whole (m (c, Cert.UpFwdIdeal.main_arg0)) (m (c, Cert.UpFwdIdeal.main_arg1)),
    (θ_run _ _ _).mono (fun r h c => ⟨(h c).1.trans (Cert.UpFwdIdeal.M.result m c), (h c).2⟩) (Cert.UpFwdIdeal.Value.run_blocks m g),
    (θ_run _ _ _).mono (fun r h c => ⟨(h c).1.trans ?_, (h c).2⟩) (Cert.UpFwdReferenceIdeal.Value.run m' g')⟩
  · obtain ⟨e0, e1⟩ := hsame c
    rw [e0, e1]
    exact Cert.UpFwdReferenceIdeal.M.value _ _

end Cert.UpFwd.M

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.UpDx
public import proofs.«01_k».proof.Proof.Gen.UpDw
public import proofs.«01_k».proof.Proof.Gen.UpDxIdeal.Value
public import proofs.«01_k».proof.Proof.Gen.UpDxReferenceIdeal.Run
public import proofs.«01_k».proof.Proof.Gen.UpDwIdeal.Value
public import proofs.«01_k».proof.Proof.Gen.UpDwReferenceIdeal.Run
public import proofs.«01_k».proof.Proof.Gen.DownDx
public import proofs.«01_k».proof.Proof.Gen.DownDxIdeal.Value
public import proofs.«01_k».proof.Proof.Gen.DownDxReferenceIdeal.Run
public import proofs.«01_k».proof.Proof.Gen.DownDw
public import proofs.«01_k».proof.Proof.Gen.DownDwIdeal.Value
public import proofs.«01_k».proof.Proof.Gen.DownDwReferenceIdeal.Run
public import proofs.«01_k».proof.Proof.Gen.InDx
public import proofs.«01_k».proof.Proof.Gen.InDxIdeal.Value
public import proofs.«01_k».proof.Proof.Gen.InDxReferenceIdeal.Run
public import proofs.«01_k».proof.Proof.Gen.InDw
public import proofs.«01_k».proof.Proof.Gen.InDwIdeal.Value
public import proofs.«01_k».proof.Proof.Gen.InDwReferenceIdeal.Run
public import proofs.«01_k».proof.Proof.Gen.OutDx
public import proofs.«01_k».proof.Proof.Gen.OutDxIdeal.Value
public import proofs.«01_k».proof.Proof.Gen.OutDxReferenceIdeal.Run
public import proofs.«01_k».proof.Proof.Gen.OutDw
public import proofs.«01_k».proof.Proof.Gen.OutDwIdeal.Value
public import proofs.«01_k».proof.Proof.Gen.OutDwReferenceIdeal.Run
public import proofs.«01_k».proof.Proof.Gen.InFwd
public import proofs.«01_k».proof.Proof.Gen.InFwdIdeal.Value
public import proofs.«01_k».proof.Proof.Gen.InFwdReferenceIdeal.Run
public import proofs.«01_k».proof.Proof.Gen.UpFwd
public import proofs.«01_k».proof.Proof.Gen.UpFwdIdeal.Value
public import proofs.«01_k».proof.Proof.Gen.UpFwdReferenceIdeal.Run
public import proofs.«01_k».proof.Proof.A.Frames
public import proofs.«01_k».proof.Proof.R.Ref
public import proofs.«01_k».proof.Proof.V.Final
public import proofs.«01_k».proof.Proof.M.Frames
public import proofs.«01_k».proof.Proof.M.UpDx
public import proofs.«01_k».proof.Proof.M.UpDw
public import proofs.«01_k».proof.Proof.M.DownDx
public import proofs.«01_k».proof.Proof.M.DownDw
public import proofs.«01_k».proof.Proof.M.InDx
public import proofs.«01_k».proof.Proof.M.InDw
public import proofs.«01_k».proof.Proof.M.OutDx
public import proofs.«01_k».proof.Proof.M.OutDw
public import proofs.«01_k».proof.Proof.M.InFwd
public import proofs.«01_k».proof.Proof.M.UpFwd

@[expose] public section

namespace Cert.Proof

/-- Everything the certificate claims. -/
theorem claim : Cert.Claim :=
  ⟨Cert.Kernel.Gen.facts, Cert.KernelIdeal.Gen.facts, Cert.ReferenceIdeal.Gen.facts,
    Cert.UpDx.Gen.facts, Cert.UpDxIdeal.Gen.facts, Cert.UpDxReferenceIdeal.Gen.facts,
    Cert.UpDw.Gen.facts, Cert.UpDwIdeal.Gen.facts, Cert.UpDwReferenceIdeal.Gen.facts,
    Cert.DownDx.Gen.facts, Cert.DownDxIdeal.Gen.facts, Cert.DownDxReferenceIdeal.Gen.facts,
    Cert.DownDw.Gen.facts, Cert.DownDwIdeal.Gen.facts, Cert.DownDwReferenceIdeal.Gen.facts,
    Cert.InDx.Gen.facts, Cert.InDxIdeal.Gen.facts, Cert.InDxReferenceIdeal.Gen.facts,
    Cert.InDw.Gen.facts, Cert.InDwIdeal.Gen.facts, Cert.InDwReferenceIdeal.Gen.facts,
    Cert.OutDx.Gen.facts, Cert.OutDxIdeal.Gen.facts, Cert.OutDxReferenceIdeal.Gen.facts,
    Cert.OutDw.Gen.facts, Cert.OutDwIdeal.Gen.facts, Cert.OutDwReferenceIdeal.Gen.facts,
    Cert.InFwd.Gen.facts, Cert.InFwdIdeal.Gen.facts, Cert.InFwdReferenceIdeal.Gen.facts,
    Cert.UpFwd.Gen.facts, Cert.UpFwdIdeal.Gen.facts, Cert.UpFwdReferenceIdeal.Gen.facts,
    Cert.Finite.facts,
    Cert.KernelIdeal.A.frame_kernel, Cert.KernelIdeal.A.frame_kernelIdeal, Cert.Finite.frame_kernelIdeal,
    Cert.ReferenceIdeal.R.frame_reference, fun m g _ => Cert.ReferenceIdeal.R.frame_reference m g trivial,
    Cert.UpDx.M.frame, fun m g _ => Cert.UpDxIdeal.Gen.frame m g, Cert.UpDx.M.frame_reference,
    Cert.UpDw.M.frame, fun m g _ => Cert.UpDwIdeal.Gen.frame m g, Cert.UpDw.M.frame_reference,
    Cert.DownDx.M.frame, fun m g _ => Cert.DownDxIdeal.Gen.frame m g, Cert.DownDx.M.frame_reference,
    Cert.DownDw.M.frame, fun m g _ => Cert.DownDwIdeal.Gen.frame m g, Cert.DownDw.M.frame_reference,
    Cert.InDx.M.frame, fun m g _ => Cert.InDxIdeal.Gen.frame m g, Cert.InDx.M.frame_reference,
    Cert.InDw.M.frame, fun m g _ => Cert.InDwIdeal.Gen.frame m g, Cert.InDw.M.frame_reference,
    Cert.OutDx.M.frame, fun m g _ => Cert.OutDxIdeal.Gen.frame m g, Cert.OutDx.M.frame_reference,
    Cert.OutDw.M.frame, fun m g _ => Cert.OutDwIdeal.Gen.frame m g, Cert.OutDw.M.frame_reference,
    Cert.InFwd.M.frame, fun m g _ => Cert.InFwdIdeal.Gen.frame m g, Cert.InFwd.M.frame_reference,
    Cert.UpFwd.M.frame, fun m g _ => Cert.UpFwdIdeal.Gen.frame m g, Cert.UpFwd.M.frame_reference,
    trivial, Cert.Finite.algebraic, trivial, Cert.UpDx.M.algebraic, trivial, Cert.UpDw.M.algebraic,
    trivial, Cert.DownDx.M.algebraic,
    trivial, Cert.DownDw.M.algebraic,
    trivial, Cert.InDx.M.algebraic,
    trivial, Cert.InDw.M.algebraic,
    trivial, Cert.OutDx.M.algebraic,
    trivial, Cert.OutDw.M.algebraic,
    trivial, Cert.InFwd.M.algebraic,
    trivial, Cert.UpFwd.M.algebraic⟩

end Cert.Proof
end
